-- ==== Defs.lean ====
def Pre_Out2 (m : (ℓ : Loc Cert.Out2.nD Cert.Out2.τ Cert.Out2.sig) → Buf (Elt Bits) ℓ) : Prop :=
  True

def Pre_Out2Ideal (m : (ℓ : Loc Cert.Out2Ideal.nD Cert.Out2Ideal.τ Cert.Out2Ideal.sig) → Buf (Elt Ideal) ℓ) : Prop :=
  True

def Pre_Out2RefIdeal (m : (ℓ : Loc Cert.Out2RefIdeal.nD Cert.Out2RefIdeal.τ Cert.Out2RefIdeal.sig) → Buf (Elt Ideal) ℓ) : Prop :=
  True

def Pre_Qkv2 (m : (ℓ : Loc Cert.Qkv2.nD Cert.Qkv2.τ Cert.Qkv2.sig) → Buf (Elt Bits) ℓ) : Prop :=
  True

def Pre_Qkv2Ideal (m : (ℓ : Loc Cert.Qkv2Ideal.nD Cert.Qkv2Ideal.τ Cert.Qkv2Ideal.sig) → Buf (Elt Ideal) ℓ) : Prop :=
  True

def Pre_Qkv2RefIdeal (m : (ℓ : Loc Cert.Qkv2RefIdeal.nD Cert.Qkv2RefIdeal.τ Cert.Qkv2RefIdeal.sig) → Buf (Elt Ideal) ℓ) : Prop :=
  True

def Pre_Out1 (m : (ℓ : Loc Cert.Out1.nD Cert.Out1.τ Cert.Out1.sig) → Buf (Elt Bits) ℓ) : Prop :=
  True

def Pre_Out1Ideal (m : (ℓ : Loc Cert.Out1Ideal.nD Cert.Out1Ideal.τ Cert.Out1Ideal.sig) → Buf (Elt Ideal) ℓ) : Prop :=
  True

def Pre_Out1RefIdeal (m : (ℓ : Loc Cert.Out1RefIdeal.nD Cert.Out1RefIdeal.τ Cert.Out1RefIdeal.sig) → Buf (Elt Ideal) ℓ) : Prop :=
  True

def Pre_Qkv1 (m : (ℓ : Loc Cert.Qkv1.nD Cert.Qkv1.τ Cert.Qkv1.sig) → Buf (Elt Bits) ℓ) : Prop :=
  True

def Pre_Qkv1Ideal (m : (ℓ : Loc Cert.Qkv1Ideal.nD Cert.Qkv1Ideal.τ Cert.Qkv1Ideal.sig) → Buf (Elt Ideal) ℓ) : Prop :=
  True

def Pre_Qkv1RefIdeal (m : (ℓ : Loc Cert.Qkv1RefIdeal.nD Cert.Qkv1RefIdeal.τ Cert.Qkv1RefIdeal.sig) → Buf (Elt Ideal) ℓ) : Prop :=
  True

def quiescent_Out2 [hOut2 : Cert.Out2.Facts] : Prop :=
  ∀ (m : (ℓ : Loc Cert.Out2.nD Cert.Out2.τ Cert.Out2.sig) → Buf (Elt Bits) ℓ) (g : Dev Cert.Out2.nD → PrngReg), Pre_Out2 m →
    θ_run (Cert.Out2.defs (F := Bits)) (onTc (τ := Cert.Out2.τ) (Cert.Out2.main (F := Bits))) ⟨m, fun _ => 0, g⟩ (fun r => (∀ c : Dev Cert.Out2.nD,
      r.2.mem ((c.tc : Thread Cert.Out2.nD Cert.Out2.τ).loc Cert.Out2.main_arg0) = m ((c.tc : Thread Cert.Out2.nD Cert.Out2.τ).loc Cert.Out2.main_arg0)
      ∧ r.2.mem ((c.tc : Thread Cert.Out2.nD Cert.Out2.τ).loc Cert.Out2.main_arg1) = m ((c.tc : Thread Cert.Out2.nD Cert.Out2.τ).loc Cert.Out2.main_arg1)
      ∧ r.2.mem ((c.tc : Thread Cert.Out2.nD Cert.Out2.τ).loc Cert.Out2.main_arg2) = m ((c.tc : Thread Cert.Out2.nD Cert.Out2.τ).loc Cert.Out2.main_arg2)
      ∧ r.2.mem ((c.tc : Thread Cert.Out2.nD Cert.Out2.τ).loc Cert.Out2.main_arg3) = m ((c.tc : Thread Cert.Out2.nD Cert.Out2.τ).loc Cert.Out2.main_arg3)
      ∧ r.2.mem ((c.tc : Thread Cert.Out2.nD Cert.Out2.τ).loc Cert.Out2.main_arg4) = m ((c.tc : Thread Cert.Out2.nD Cert.Out2.τ).loc Cert.Out2.main_arg4))
      ∧ r.2.sem = fun _ => 0)

def quiescent_Out2Ideal [hOut2Ideal : Cert.Out2Ideal.Facts] : Prop :=
  ∀ (m : (ℓ : Loc Cert.Out2Ideal.nD Cert.Out2Ideal.τ Cert.Out2Ideal.sig) → Buf (Elt Ideal) ℓ) (g : Dev Cert.Out2Ideal.nD → PrngReg), Pre_Out2Ideal m →
    θ_run (Cert.Out2Ideal.defs (F := Ideal)) (onTc (τ := Cert.Out2Ideal.τ) (Cert.Out2Ideal.main (F := Ideal))) ⟨m, fun _ => 0, g⟩ (fun r => (∀ c : Dev Cert.Out2Ideal.nD,
      r.2.mem ((c.tc : Thread Cert.Out2Ideal.nD Cert.Out2Ideal.τ).loc Cert.Out2Ideal.main_arg0) = m ((c.tc : Thread Cert.Out2Ideal.nD Cert.Out2Ideal.τ).loc Cert.Out2Ideal.main_arg0)
      ∧ r.2.mem ((c.tc : Thread Cert.Out2Ideal.nD Cert.Out2Ideal.τ).loc Cert.Out2Ideal.main_arg1) = m ((c.tc : Thread Cert.Out2Ideal.nD Cert.Out2Ideal.τ).loc Cert.Out2Ideal.main_arg1)
      ∧ r.2.mem ((c.tc : Thread Cert.Out2Ideal.nD Cert.Out2Ideal.τ).loc Cert.Out2Ideal.main_arg2) = m ((c.tc : Thread Cert.Out2Ideal.nD Cert.Out2Ideal.τ).loc Cert.Out2Ideal.main_arg2)
      ∧ r.2.mem ((c.tc : Thread Cert.Out2Ideal.nD Cert.Out2Ideal.τ).loc Cert.Out2Ideal.main_arg3) = m ((c.tc : Thread Cert.Out2Ideal.nD Cert.Out2Ideal.τ).loc Cert.Out2Ideal.main_arg3)
      ∧ r.2.mem ((c.tc : Thread Cert.Out2Ideal.nD Cert.Out2Ideal.τ).loc Cert.Out2Ideal.main_arg4) = m ((c.tc : Thread Cert.Out2Ideal.nD Cert.Out2Ideal.τ).loc Cert.Out2Ideal.main_arg4))
      ∧ r.2.sem = fun _ => 0)

def quiescent_Out2RefIdeal [hOut2RefIdeal : Cert.Out2RefIdeal.Facts] : Prop :=
  ∀ (m : (ℓ : Loc Cert.Out2RefIdeal.nD Cert.Out2RefIdeal.τ Cert.Out2RefIdeal.sig) → Buf (Elt Ideal) ℓ) (g : Dev Cert.Out2RefIdeal.nD → PrngReg), Pre_Out2RefIdeal m →
    θ_run (Cert.Out2RefIdeal.defs (F := Ideal)) (onTc (τ := Cert.Out2RefIdeal.τ) (Cert.Out2RefIdeal.main (F := Ideal))) ⟨m, fun _ => 0, g⟩ (fun r => (∀ c : Dev Cert.Out2RefIdeal.nD,
      r.2.mem ((c.tc : Thread Cert.Out2RefIdeal.nD Cert.Out2RefIdeal.τ).loc Cert.Out2RefIdeal.main_arg0) = m ((c.tc : Thread Cert.Out2RefIdeal.nD Cert.Out2RefIdeal.τ).loc Cert.Out2RefIdeal.main_arg0)
      ∧ r.2.mem ((c.tc : Thread Cert.Out2RefIdeal.nD Cert.Out2RefIdeal.τ).loc Cert.Out2RefIdeal.main_arg1) = m ((c.tc : Thread Cert.Out2RefIdeal.nD Cert.Out2RefIdeal.τ).loc Cert.Out2RefIdeal.main_arg1)
      ∧ r.2.mem ((c.tc : Thread Cert.Out2RefIdeal.nD Cert.Out2RefIdeal.τ).loc Cert.Out2RefIdeal.main_arg2) = m ((c.tc : Thread Cert.Out2RefIdeal.nD Cert.Out2RefIdeal.τ).loc Cert.Out2RefIdeal.main_arg2)
      ∧ r.2.mem ((c.tc : Thread Cert.Out2RefIdeal.nD Cert.Out2RefIdeal.τ).loc Cert.Out2RefIdeal.main_arg3) = m ((c.tc : Thread Cert.Out2RefIdeal.nD Cert.Out2RefIdeal.τ).loc Cert.Out2RefIdeal.main_arg3)
      ∧ r.2.mem ((c.tc : Thread Cert.Out2RefIdeal.nD Cert.Out2RefIdeal.τ).loc Cert.Out2RefIdeal.main_arg4) = m ((c.tc : Thread Cert.Out2RefIdeal.nD Cert.Out2RefIdeal.τ).loc Cert.Out2RefIdeal.main_arg4))
      ∧ r.2.sem = fun _ => 0)

def quiescent_Qkv2 [hQkv2 : Cert.Qkv2.Facts] : Prop :=
  ∀ (m : (ℓ : Loc Cert.Qkv2.nD Cert.Qkv2.τ Cert.Qkv2.sig) → Buf (Elt Bits) ℓ) (g : Dev Cert.Qkv2.nD → PrngReg), Pre_Qkv2 m →
    θ_run (Cert.Qkv2.defs (F := Bits)) (onTc (τ := Cert.Qkv2.τ) (Cert.Qkv2.main (F := Bits))) ⟨m, fun _ => 0, g⟩ (fun r => (∀ c : Dev Cert.Qkv2.nD,
      r.2.mem ((c.tc : Thread Cert.Qkv2.nD Cert.Qkv2.τ).loc Cert.Qkv2.main_arg0) = m ((c.tc : Thread Cert.Qkv2.nD Cert.Qkv2.τ).loc Cert.Qkv2.main_arg0)
      ∧ r.2.mem ((c.tc : Thread Cert.Qkv2.nD Cert.Qkv2.τ).loc Cert.Qkv2.main_arg1) = m ((c.tc : Thread Cert.Qkv2.nD Cert.Qkv2.τ).loc Cert.Qkv2.main_arg1)
      ∧ r.2.mem ((c.tc : Thread Cert.Qkv2.nD Cert.Qkv2.τ).loc Cert.Qkv2.main_arg2) = m ((c.tc : Thread Cert.Qkv2.nD Cert.Qkv2.τ).loc Cert.Qkv2.main_arg2)
      ∧ r.2.mem ((c.tc : Thread Cert.Qkv2.nD Cert.Qkv2.τ).loc Cert.Qkv2.main_arg3) = m ((c.tc : Thread Cert.Qkv2.nD Cert.Qkv2.τ).loc Cert.Qkv2.main_arg3)
      ∧ r.2.mem ((c.tc : Thread Cert.Qkv2.nD Cert.Qkv2.τ).loc Cert.Qkv2.main_arg4) = m ((c.tc : Thread Cert.Qkv2.nD Cert.Qkv2.τ).loc Cert.Qkv2.main_arg4))
      ∧ r.2.sem = fun _ => 0)

def quiescent_Qkv2Ideal [hQkv2Ideal : Cert.Qkv2Ideal.Facts] : Prop :=
  ∀ (m : (ℓ : Loc Cert.Qkv2Ideal.nD Cert.Qkv2Ideal.τ Cert.Qkv2Ideal.sig) → Buf (Elt Ideal) ℓ) (g : Dev Cert.Qkv2Ideal.nD → PrngReg), Pre_Qkv2Ideal m →
    θ_run (Cert.Qkv2Ideal.defs (F := Ideal)) (onTc (τ := Cert.Qkv2Ideal.τ) (Cert.Qkv2Ideal.main (F := Ideal))) ⟨m, fun _ => 0, g⟩ (fun r => (∀ c : Dev Cert.Qkv2Ideal.nD,
      r.2.mem ((c.tc : Thread Cert.Qkv2Ideal.nD Cert.Qkv2Ideal.τ).loc Cert.Qkv2Ideal.main_arg0) = m ((c.tc : Thread Cert.Qkv2Ideal.nD Cert.Qkv2Ideal.τ).loc Cert.Qkv2Ideal.main_arg0)
      ∧ r.2.mem ((c.tc : Thread Cert.Qkv2Ideal.nD Cert.Qkv2Ideal.τ).loc Cert.Qkv2Ideal.main_arg1) = m ((c.tc : Thread Cert.Qkv2Ideal.nD Cert.Qkv2Ideal.τ).loc Cert.Qkv2Ideal.main_arg1)
      ∧ r.2.mem ((c.tc : Thread Cert.Qkv2Ideal.nD Cert.Qkv2Ideal.τ).loc Cert.Qkv2Ideal.main_arg2) = m ((c.tc : Thread Cert.Qkv2Ideal.nD Cert.Qkv2Ideal.τ).loc Cert.Qkv2Ideal.main_arg2)
      ∧ r.2.mem ((c.tc : Thread Cert.Qkv2Ideal.nD Cert.Qkv2Ideal.τ).loc Cert.Qkv2Ideal.main_arg3) = m ((c.tc : Thread Cert.Qkv2Ideal.nD Cert.Qkv2Ideal.τ).loc Cert.Qkv2Ideal.main_arg3)
      ∧ r.2.mem ((c.tc : Thread Cert.Qkv2Ideal.nD Cert.Qkv2Ideal.τ).loc Cert.Qkv2Ideal.main_arg4) = m ((c.tc : Thread Cert.Qkv2Ideal.nD Cert.Qkv2Ideal.τ).loc Cert.Qkv2Ideal.main_arg4))
      ∧ r.2.sem = fun _ => 0)

def quiescent_Qkv2RefIdeal [hQkv2RefIdeal : Cert.Qkv2RefIdeal.Facts] : Prop :=
  ∀ (m : (ℓ : Loc Cert.Qkv2RefIdeal.nD Cert.Qkv2RefIdeal.τ Cert.Qkv2RefIdeal.sig) → Buf (Elt Ideal) ℓ) (g : Dev Cert.Qkv2RefIdeal.nD → PrngReg), Pre_Qkv2RefIdeal m →
    θ_run (Cert.Qkv2RefIdeal.defs (F := Ideal)) (onTc (τ := Cert.Qkv2RefIdeal.τ) (Cert.Qkv2RefIdeal.main (F := Ideal))) ⟨m, fun _ => 0, g⟩ (fun r => (∀ c : Dev Cert.Qkv2RefIdeal.nD,
      r.2.mem ((c.tc : Thread Cert.Qkv2RefIdeal.nD Cert.Qkv2RefIdeal.τ).loc Cert.Qkv2RefIdeal.main_arg0) = m ((c.tc : Thread Cert.Qkv2RefIdeal.nD Cert.Qkv2RefIdeal.τ).loc Cert.Qkv2RefIdeal.main_arg0)
      ∧ r.2.mem ((c.tc : Thread Cert.Qkv2RefIdeal.nD Cert.Qkv2RefIdeal.τ).loc Cert.Qkv2RefIdeal.main_arg1) = m ((c.tc : Thread Cert.Qkv2RefIdeal.nD Cert.Qkv2RefIdeal.τ).loc Cert.Qkv2RefIdeal.main_arg1)
      ∧ r.2.mem ((c.tc : Thread Cert.Qkv2RefIdeal.nD Cert.Qkv2RefIdeal.τ).loc Cert.Qkv2RefIdeal.main_arg2) = m ((c.tc : Thread Cert.Qkv2RefIdeal.nD Cert.Qkv2RefIdeal.τ).loc Cert.Qkv2RefIdeal.main_arg2)
      ∧ r.2.mem ((c.tc : Thread Cert.Qkv2RefIdeal.nD Cert.Qkv2RefIdeal.τ).loc Cert.Qkv2RefIdeal.main_arg3) = m ((c.tc : Thread Cert.Qkv2RefIdeal.nD Cert.Qkv2RefIdeal.τ).loc Cert.Qkv2RefIdeal.main_arg3)
      ∧ r.2.mem ((c.tc : Thread Cert.Qkv2RefIdeal.nD Cert.Qkv2RefIdeal.τ).loc Cert.Qkv2RefIdeal.main_arg4) = m ((c.tc : Thread Cert.Qkv2RefIdeal.nD Cert.Qkv2RefIdeal.τ).loc Cert.Qkv2RefIdeal.main_arg4))
      ∧ r.2.sem = fun _ => 0)

def quiescent_Out1 [hOut1 : Cert.Out1.Facts] : Prop :=
  ∀ (m : (ℓ : Loc Cert.Out1.nD Cert.Out1.τ Cert.Out1.sig) → Buf (Elt Bits) ℓ) (g : Dev Cert.Out1.nD → PrngReg), Pre_Out1 m →
    θ_run (Cert.Out1.defs (F := Bits)) (onTc (τ := Cert.Out1.τ) (Cert.Out1.main (F := Bits))) ⟨m, fun _ => 0, g⟩ (fun r => (∀ c : Dev Cert.Out1.nD,
      r.2.mem ((c.tc : Thread Cert.Out1.nD Cert.Out1.τ).loc Cert.Out1.main_arg0) = m ((c.tc : Thread Cert.Out1.nD Cert.Out1.τ).loc Cert.Out1.main_arg0)
      ∧ r.2.mem ((c.tc : Thread Cert.Out1.nD Cert.Out1.τ).loc Cert.Out1.main_arg1) = m ((c.tc : Thread Cert.Out1.nD Cert.Out1.τ).loc Cert.Out1.main_arg1)
      ∧ r.2.mem ((c.tc : Thread Cert.Out1.nD Cert.Out1.τ).loc Cert.Out1.main_arg2) = m ((c.tc : Thread Cert.Out1.nD Cert.Out1.τ).loc Cert.Out1.main_arg2)
      ∧ r.2.mem ((c.tc : Thread Cert.Out1.nD Cert.Out1.τ).loc Cert.Out1.main_arg3) = m ((c.tc : Thread Cert.Out1.nD Cert.Out1.τ).loc Cert.Out1.main_arg3)
      ∧ r.2.mem ((c.tc : Thread Cert.Out1.nD Cert.Out1.τ).loc Cert.Out1.main_arg4) = m ((c.tc : Thread Cert.Out1.nD Cert.Out1.τ).loc Cert.Out1.main_arg4)
      ∧ r.2.mem ((c.tc : Thread Cert.Out1.nD Cert.Out1.τ).loc Cert.Out1.main_arg5) = m ((c.tc : Thread Cert.Out1.nD Cert.Out1.τ).loc Cert.Out1.main_arg5))
      ∧ r.2.sem = fun _ => 0)

def quiescent_Out1Ideal [hOut1Ideal : Cert.Out1Ideal.Facts] : Prop :=
  ∀ (m : (ℓ : Loc Cert.Out1Ideal.nD Cert.Out1Ideal.τ Cert.Out1Ideal.sig) → Buf (Elt Ideal) ℓ) (g : Dev Cert.Out1Ideal.nD → PrngReg), Pre_Out1Ideal m →
    θ_run (Cert.Out1Ideal.defs (F := Ideal)) (onTc (τ := Cert.Out1Ideal.τ) (Cert.Out1Ideal.main (F := Ideal))) ⟨m, fun _ => 0, g⟩ (fun r => (∀ c : Dev Cert.Out1Ideal.nD,
      r.2.mem ((c.tc : Thread Cert.Out1Ideal.nD Cert.Out1Ideal.τ).loc Cert.Out1Ideal.main_arg0) = m ((c.tc : Thread Cert.Out1Ideal.nD Cert.Out1Ideal.τ).loc Cert.Out1Ideal.main_arg0)
      ∧ r.2.mem ((c.tc : Thread Cert.Out1Ideal.nD Cert.Out1Ideal.τ).loc Cert.Out1Ideal.main_arg1) = m ((c.tc : Thread Cert.Out1Ideal.nD Cert.Out1Ideal.τ).loc Cert.Out1Ideal.main_arg1)
      ∧ r.2.mem ((c.tc : Thread Cert.Out1Ideal.nD Cert.Out1Ideal.τ).loc Cert.Out1Ideal.main_arg2) = m ((c.tc : Thread Cert.Out1Ideal.nD Cert.Out1Ideal.τ).loc Cert.Out1Ideal.main_arg2)
      ∧ r.2.mem ((c.tc : Thread Cert.Out1Ideal.nD Cert.Out1Ideal.τ).loc Cert.Out1Ideal.main_arg3) = m ((c.tc : Thread Cert.Out1Ideal.nD Cert.Out1Ideal.τ).loc Cert.Out1Ideal.main_arg3)
      ∧ r.2.mem ((c.tc : Thread Cert.Out1Ideal.nD Cert.Out1Ideal.τ).loc Cert.Out1Ideal.main_arg4) = m ((c.tc : Thread Cert.Out1Ideal.nD Cert.Out1Ideal.τ).loc Cert.Out1Ideal.main_arg4)
      ∧ r.2.mem ((c.tc : Thread Cert.Out1Ideal.nD Cert.Out1Ideal.τ).loc Cert.Out1Ideal.main_arg5) = m ((c.tc : Thread Cert.Out1Ideal.nD Cert.Out1Ideal.τ).loc Cert.Out1Ideal.main_arg5))
      ∧ r.2.sem = fun _ => 0)

def quiescent_Out1RefIdeal [hOut1RefIdeal : Cert.Out1RefIdeal.Facts] : Prop :=
  ∀ (m : (ℓ : Loc Cert.Out1RefIdeal.nD Cert.Out1RefIdeal.τ Cert.Out1RefIdeal.sig) → Buf (Elt Ideal) ℓ) (g : Dev Cert.Out1RefIdeal.nD → PrngReg), Pre_Out1RefIdeal m →
    θ_run (Cert.Out1RefIdeal.defs (F := Ideal)) (onTc (τ := Cert.Out1RefIdeal.τ) (Cert.Out1RefIdeal.main (F := Ideal))) ⟨m, fun _ => 0, g⟩ (fun r => (∀ c : Dev Cert.Out1RefIdeal.nD,
      r.2.mem ((c.tc : Thread Cert.Out1RefIdeal.nD Cert.Out1RefIdeal.τ).loc Cert.Out1RefIdeal.main_arg0) = m ((c.tc : Thread Cert.Out1RefIdeal.nD Cert.Out1RefIdeal.τ).loc Cert.Out1RefIdeal.main_arg0)
      ∧ r.2.mem ((c.tc : Thread Cert.Out1RefIdeal.nD Cert.Out1RefIdeal.τ).loc Cert.Out1RefIdeal.main_arg1) = m ((c.tc : Thread Cert.Out1RefIdeal.nD Cert.Out1RefIdeal.τ).loc Cert.Out1RefIdeal.main_arg1)
      ∧ r.2.mem ((c.tc : Thread Cert.Out1RefIdeal.nD Cert.Out1RefIdeal.τ).loc Cert.Out1RefIdeal.main_arg2) = m ((c.tc : Thread Cert.Out1RefIdeal.nD Cert.Out1RefIdeal.τ).loc Cert.Out1RefIdeal.main_arg2)
      ∧ r.2.mem ((c.tc : Thread Cert.Out1RefIdeal.nD Cert.Out1RefIdeal.τ).loc Cert.Out1RefIdeal.main_arg3) = m ((c.tc : Thread Cert.Out1RefIdeal.nD Cert.Out1RefIdeal.τ).loc Cert.Out1RefIdeal.main_arg3)
      ∧ r.2.mem ((c.tc : Thread Cert.Out1RefIdeal.nD Cert.Out1RefIdeal.τ).loc Cert.Out1RefIdeal.main_arg4) = m ((c.tc : Thread Cert.Out1RefIdeal.nD Cert.Out1RefIdeal.τ).loc Cert.Out1RefIdeal.main_arg4)
      ∧ r.2.mem ((c.tc : Thread Cert.Out1RefIdeal.nD Cert.Out1RefIdeal.τ).loc Cert.Out1RefIdeal.main_arg5) = m ((c.tc : Thread Cert.Out1RefIdeal.nD Cert.Out1RefIdeal.τ).loc Cert.Out1RefIdeal.main_arg5))
      ∧ r.2.sem = fun _ => 0)

def quiescent_Qkv1 [hQkv1 : Cert.Qkv1.Facts] : Prop :=
  ∀ (m : (ℓ : Loc Cert.Qkv1.nD Cert.Qkv1.τ Cert.Qkv1.sig) → Buf (Elt Bits) ℓ) (g : Dev Cert.Qkv1.nD → PrngReg), Pre_Qkv1 m →
    θ_run (Cert.Qkv1.defs (F := Bits)) (onTc (τ := Cert.Qkv1.τ) (Cert.Qkv1.main (F := Bits))) ⟨m, fun _ => 0, g⟩ (fun r => (∀ c : Dev Cert.Qkv1.nD,
      r.2.mem ((c.tc : Thread Cert.Qkv1.nD Cert.Qkv1.τ).loc Cert.Qkv1.main_arg0) = m ((c.tc : Thread Cert.Qkv1.nD Cert.Qkv1.τ).loc Cert.Qkv1.main_arg0)
      ∧ r.2.mem ((c.tc : Thread Cert.Qkv1.nD Cert.Qkv1.τ).loc Cert.Qkv1.main_arg1) = m ((c.tc : Thread Cert.Qkv1.nD Cert.Qkv1.τ).loc Cert.Qkv1.main_arg1)
      ∧ r.2.mem ((c.tc : Thread Cert.Qkv1.nD Cert.Qkv1.τ).loc Cert.Qkv1.main_arg2) = m ((c.tc : Thread Cert.Qkv1.nD Cert.Qkv1.τ).loc Cert.Qkv1.main_arg2)
      ∧ r.2.mem ((c.tc : Thread Cert.Qkv1.nD Cert.Qkv1.τ).loc Cert.Qkv1.main_arg3) = m ((c.tc : Thread Cert.Qkv1.nD Cert.Qkv1.τ).loc Cert.Qkv1.main_arg3)
      ∧ r.2.mem ((c.tc : Thread Cert.Qkv1.nD Cert.Qkv1.τ).loc Cert.Qkv1.main_arg4) = m ((c.tc : Thread Cert.Qkv1.nD Cert.Qkv1.τ).loc Cert.Qkv1.main_arg4)
      ∧ r.2.mem ((c.tc : Thread Cert.Qkv1.nD Cert.Qkv1.τ).loc Cert.Qkv1.main_arg5) = m ((c.tc : Thread Cert.Qkv1.nD Cert.Qkv1.τ).loc Cert.Qkv1.main_arg5))
      ∧ r.2.sem = fun _ => 0)

def quiescent_Qkv1Ideal [hQkv1Ideal : Cert.Qkv1Ideal.Facts] : Prop :=
  ∀ (m : (ℓ : Loc Cert.Qkv1Ideal.nD Cert.Qkv1Ideal.τ Cert.Qkv1Ideal.sig) → Buf (Elt Ideal) ℓ) (g : Dev Cert.Qkv1Ideal.nD → PrngReg), Pre_Qkv1Ideal m →
    θ_run (Cert.Qkv1Ideal.defs (F := Ideal)) (onTc (τ := Cert.Qkv1Ideal.τ) (Cert.Qkv1Ideal.main (F := Ideal))) ⟨m, fun _ => 0, g⟩ (fun r => (∀ c : Dev Cert.Qkv1Ideal.nD,
      r.2.mem ((c.tc : Thread Cert.Qkv1Ideal.nD Cert.Qkv1Ideal.τ).loc Cert.Qkv1Ideal.main_arg0) = m ((c.tc : Thread Cert.Qkv1Ideal.nD Cert.Qkv1Ideal.τ).loc Cert.Qkv1Ideal.main_arg0)
      ∧ r.2.mem ((c.tc : Thread Cert.Qkv1Ideal.nD Cert.Qkv1Ideal.τ).loc Cert.Qkv1Ideal.main_arg1) = m ((c.tc : Thread Cert.Qkv1Ideal.nD Cert.Qkv1Ideal.τ).loc Cert.Qkv1Ideal.main_arg1)
      ∧ r.2.mem ((c.tc : Thread Cert.Qkv1Ideal.nD Cert.Qkv1Ideal.τ).loc Cert.Qkv1Ideal.main_arg2) = m ((c.tc : Thread Cert.Qkv1Ideal.nD Cert.Qkv1Ideal.τ).loc Cert.Qkv1Ideal.main_arg2)
      ∧ r.2.mem ((c.tc : Thread Cert.Qkv1Ideal.nD Cert.Qkv1Ideal.τ).loc Cert.Qkv1Ideal.main_arg3) = m ((c.tc : Thread Cert.Qkv1Ideal.nD Cert.Qkv1Ideal.τ).loc Cert.Qkv1Ideal.main_arg3)
      ∧ r.2.mem ((c.tc : Thread Cert.Qkv1Ideal.nD Cert.Qkv1Ideal.τ).loc Cert.Qkv1Ideal.main_arg4) = m ((c.tc : Thread Cert.Qkv1Ideal.nD Cert.Qkv1Ideal.τ).loc Cert.Qkv1Ideal.main_arg4)
      ∧ r.2.mem ((c.tc : Thread Cert.Qkv1Ideal.nD Cert.Qkv1Ideal.τ).loc Cert.Qkv1Ideal.main_arg5) = m ((c.tc : Thread Cert.Qkv1Ideal.nD Cert.Qkv1Ideal.τ).loc Cert.Qkv1Ideal.main_arg5))
      ∧ r.2.sem = fun _ => 0)

def quiescent_Qkv1RefIdeal [hQkv1RefIdeal : Cert.Qkv1RefIdeal.Facts] : Prop :=
  ∀ (m : (ℓ : Loc Cert.Qkv1RefIdeal.nD Cert.Qkv1RefIdeal.τ Cert.Qkv1RefIdeal.sig) → Buf (Elt Ideal) ℓ) (g : Dev Cert.Qkv1RefIdeal.nD → PrngReg), Pre_Qkv1RefIdeal m →
    θ_run (Cert.Qkv1RefIdeal.defs (F := Ideal)) (onTc (τ := Cert.Qkv1RefIdeal.τ) (Cert.Qkv1RefIdeal.main (F := Ideal))) ⟨m, fun _ => 0, g⟩ (fun r => (∀ c : Dev Cert.Qkv1RefIdeal.nD,
      r.2.mem ((c.tc : Thread Cert.Qkv1RefIdeal.nD Cert.Qkv1RefIdeal.τ).loc Cert.Qkv1RefIdeal.main_arg0) = m ((c.tc : Thread Cert.Qkv1RefIdeal.nD Cert.Qkv1RefIdeal.τ).loc Cert.Qkv1RefIdeal.main_arg0)
      ∧ r.2.mem ((c.tc : Thread Cert.Qkv1RefIdeal.nD Cert.Qkv1RefIdeal.τ).loc Cert.Qkv1RefIdeal.main_arg1) = m ((c.tc : Thread Cert.Qkv1RefIdeal.nD Cert.Qkv1RefIdeal.τ).loc Cert.Qkv1RefIdeal.main_arg1)
      ∧ r.2.mem ((c.tc : Thread Cert.Qkv1RefIdeal.nD Cert.Qkv1RefIdeal.τ).loc Cert.Qkv1RefIdeal.main_arg2) = m ((c.tc : Thread Cert.Qkv1RefIdeal.nD Cert.Qkv1RefIdeal.τ).loc Cert.Qkv1RefIdeal.main_arg2)
      ∧ r.2.mem ((c.tc : Thread Cert.Qkv1RefIdeal.nD Cert.Qkv1RefIdeal.τ).loc Cert.Qkv1RefIdeal.main_arg3) = m ((c.tc : Thread Cert.Qkv1RefIdeal.nD Cert.Qkv1RefIdeal.τ).loc Cert.Qkv1RefIdeal.main_arg3)
      ∧ r.2.mem ((c.tc : Thread Cert.Qkv1RefIdeal.nD Cert.Qkv1RefIdeal.τ).loc Cert.Qkv1RefIdeal.main_arg4) = m ((c.tc : Thread Cert.Qkv1RefIdeal.nD Cert.Qkv1RefIdeal.τ).loc Cert.Qkv1RefIdeal.main_arg4)
      ∧ r.2.mem ((c.tc : Thread Cert.Qkv1RefIdeal.nD Cert.Qkv1RefIdeal.τ).loc Cert.Qkv1RefIdeal.main_arg5) = m ((c.tc : Thread Cert.Qkv1RefIdeal.nD Cert.Qkv1RefIdeal.τ).loc Cert.Qkv1RefIdeal.main_arg5))
      ∧ r.2.sem = fun _ => 0)

def preserves_Out2_Out2Ideal : Prop :=
  True

def algebraic_Out2Ideal_Out2RefIdeal [hOut2Ideal : Cert.Out2Ideal.Facts] [hOut2RefIdeal : Cert.Out2RefIdeal.Facts] : Prop :=
  ∀ (m : (ℓ : Loc Cert.Out2Ideal.nD Cert.Out2Ideal.τ Cert.Out2Ideal.sig) → Buf (Elt Ideal) ℓ) (g : Dev Cert.Out2Ideal.nD → PrngReg)
    (m' : (ℓ : Loc Cert.Out2RefIdeal.nD Cert.Out2RefIdeal.τ Cert.Out2RefIdeal.sig) → Buf (Elt Ideal) ℓ) (g' : Dev Cert.Out2RefIdeal.nD → PrngReg), Pre_Out2Ideal m →
    (∀ c : Dev Cert.Out2Ideal.nD,
      m' ((c.tc : Thread Cert.Out2RefIdeal.nD Cert.Out2RefIdeal.τ).loc Cert.Out2RefIdeal.main_arg0) = m ((c.tc : Thread Cert.Out2Ideal.nD Cert.Out2Ideal.τ).loc Cert.Out2Ideal.main_arg0)
      ∧ m' ((c.tc : Thread Cert.Out2RefIdeal.nD Cert.Out2RefIdeal.τ).loc Cert.Out2RefIdeal.main_arg1) = m ((c.tc : Thread Cert.Out2Ideal.nD Cert.Out2Ideal.τ).loc Cert.Out2Ideal.main_arg1)
      ∧ m' ((c.tc : Thread Cert.Out2RefIdeal.nD Cert.Out2RefIdeal.τ).loc Cert.Out2RefIdeal.main_arg2) = m ((c.tc : Thread Cert.Out2Ideal.nD Cert.Out2Ideal.τ).loc Cert.Out2Ideal.main_arg2)
      ∧ m' ((c.tc : Thread Cert.Out2RefIdeal.nD Cert.Out2RefIdeal.τ).loc Cert.Out2RefIdeal.main_arg3) = m ((c.tc : Thread Cert.Out2Ideal.nD Cert.Out2Ideal.τ).loc Cert.Out2Ideal.main_arg3)
      ∧ m' ((c.tc : Thread Cert.Out2RefIdeal.nD Cert.Out2RefIdeal.τ).loc Cert.Out2RefIdeal.main_arg4) = m ((c.tc : Thread Cert.Out2Ideal.nD Cert.Out2Ideal.τ).loc Cert.Out2Ideal.main_arg4)) →
    ∃ (v0 : (c : Dev Cert.Out2Ideal.nD) → Buf (Elt Ideal) ((c.tc : Thread Cert.Out2Ideal.nD Cert.Out2Ideal.τ).loc Cert.Out2Ideal.main_v0)),
      θ_run (Cert.Out2Ideal.defs (F := Ideal)) (onTc (τ := Cert.Out2Ideal.τ) (Cert.Out2Ideal.main (F := Ideal))) ⟨m, fun _ => 0, g⟩ (fun r => ∀ c : Dev Cert.Out2Ideal.nD,
          r.2.mem ((c.tc : Thread Cert.Out2Ideal.nD Cert.Out2Ideal.τ).loc Cert.Out2Ideal.main_v0) = v0 c
          ∧ r.2.mem ((c.tc : Thread Cert.Out2Ideal.nD Cert.Out2Ideal.τ).loc Cert.Out2Ideal.main_arg0) = m ((c.tc : Thread Cert.Out2Ideal.nD Cert.Out2Ideal.τ).loc Cert.Out2Ideal.main_arg0)
          ∧ r.2.mem ((c.tc : Thread Cert.Out2Ideal.nD Cert.Out2Ideal.τ).loc Cert.Out2Ideal.main_arg1) = m ((c.tc : Thread Cert.Out2Ideal.nD Cert.Out2Ideal.τ).loc Cert.Out2Ideal.main_arg1)
          ∧ r.2.mem ((c.tc : Thread Cert.Out2Ideal.nD Cert.Out2Ideal.τ).loc Cert.Out2Ideal.main_arg2) = m ((c.tc : Thread Cert.Out2Ideal.nD Cert.Out2Ideal.τ).loc Cert.Out2Ideal.main_arg2)
          ∧ r.2.mem ((c.tc : Thread Cert.Out2Ideal.nD Cert.Out2Ideal.τ).loc Cert.Out2Ideal.main_arg3) = m ((c.tc : Thread Cert.Out2Ideal.nD Cert.Out2Ideal.τ).loc Cert.Out2Ideal.main_arg3)
          ∧ r.2.mem ((c.tc : Thread Cert.Out2Ideal.nD Cert.Out2Ideal.τ).loc Cert.Out2Ideal.main_arg4) = m ((c.tc : Thread Cert.Out2Ideal.nD Cert.Out2Ideal.τ).loc Cert.Out2Ideal.main_arg4))
      ∧ θ_run (Cert.Out2RefIdeal.defs (F := Ideal)) (onTc (τ := Cert.Out2RefIdeal.τ) (Cert.Out2RefIdeal.main (F := Ideal))) ⟨m', fun _ => 0, g'⟩ (fun r => ∀ c : Dev Cert.Out2RefIdeal.nD,
          r.2.mem ((c.tc : Thread Cert.Out2RefIdeal.nD Cert.Out2RefIdeal.τ).loc Cert.Out2RefIdeal.main_v0) = v0 c
          ∧ r.2.mem ((c.tc : Thread Cert.Out2RefIdeal.nD Cert.Out2RefIdeal.τ).loc Cert.Out2RefIdeal.main_arg0) = m' ((c.tc : Thread Cert.Out2RefIdeal.nD Cert.Out2RefIdeal.τ).loc Cert.Out2RefIdeal.main_arg0)
          ∧ r.2.mem ((c.tc : Thread Cert.Out2RefIdeal.nD Cert.Out2RefIdeal.τ).loc Cert.Out2RefIdeal.main_arg1) = m' ((c.tc : Thread Cert.Out2RefIdeal.nD Cert.Out2RefIdeal.τ).loc Cert.Out2RefIdeal.main_arg1)
          ∧ r.2.mem ((c.tc : Thread Cert.Out2RefIdeal.nD Cert.Out2RefIdeal.τ).loc Cert.Out2RefIdeal.main_arg2) = m' ((c.tc : Thread Cert.Out2RefIdeal.nD Cert.Out2RefIdeal.τ).loc Cert.Out2RefIdeal.main_arg2)
          ∧ r.2.mem ((c.tc : Thread Cert.Out2RefIdeal.nD Cert.Out2RefIdeal.τ).loc Cert.Out2RefIdeal.main_arg3) = m' ((c.tc : Thread Cert.Out2RefIdeal.nD Cert.Out2RefIdeal.τ).loc Cert.Out2RefIdeal.main_arg3)
          ∧ r.2.mem ((c.tc : Thread Cert.Out2RefIdeal.nD Cert.Out2RefIdeal.τ).loc Cert.Out2RefIdeal.main_arg4) = m' ((c.tc : Thread Cert.Out2RefIdeal.nD Cert.Out2RefIdeal.τ).loc Cert.Out2RefIdeal.main_arg4))

def preserves_Qkv2_Qkv2Ideal : Prop :=
  True

def algebraic_Qkv2Ideal_Qkv2RefIdeal [hQkv2Ideal : Cert.Qkv2Ideal.Facts] [hQkv2RefIdeal : Cert.Qkv2RefIdeal.Facts] : Prop :=
  ∀ (m : (ℓ : Loc Cert.Qkv2Ideal.nD Cert.Qkv2Ideal.τ Cert.Qkv2Ideal.sig) → Buf (Elt Ideal) ℓ) (g : Dev Cert.Qkv2Ideal.nD → PrngReg)
    (m' : (ℓ : Loc Cert.Qkv2RefIdeal.nD Cert.Qkv2RefIdeal.τ Cert.Qkv2RefIdeal.sig) → Buf (Elt Ideal) ℓ) (g' : Dev Cert.Qkv2RefIdeal.nD → PrngReg), Pre_Qkv2Ideal m →
    (∀ c : Dev Cert.Qkv2Ideal.nD,
      m' ((c.tc : Thread Cert.Qkv2RefIdeal.nD Cert.Qkv2RefIdeal.τ).loc Cert.Qkv2RefIdeal.main_arg0) = m ((c.tc : Thread Cert.Qkv2Ideal.nD Cert.Qkv2Ideal.τ).loc Cert.Qkv2Ideal.main_arg0)
      ∧ m' ((c.tc : Thread Cert.Qkv2RefIdeal.nD Cert.Qkv2RefIdeal.τ).loc Cert.Qkv2RefIdeal.main_arg1) = m ((c.tc : Thread Cert.Qkv2Ideal.nD Cert.Qkv2Ideal.τ).loc Cert.Qkv2Ideal.main_arg1)
      ∧ m' ((c.tc : Thread Cert.Qkv2RefIdeal.nD Cert.Qkv2RefIdeal.τ).loc Cert.Qkv2RefIdeal.main_arg2) = m ((c.tc : Thread Cert.Qkv2Ideal.nD Cert.Qkv2Ideal.τ).loc Cert.Qkv2Ideal.main_arg2)
      ∧ m' ((c.tc : Thread Cert.Qkv2RefIdeal.nD Cert.Qkv2RefIdeal.τ).loc Cert.Qkv2RefIdeal.main_arg3) = m ((c.tc : Thread Cert.Qkv2Ideal.nD Cert.Qkv2Ideal.τ).loc Cert.Qkv2Ideal.main_arg3)
      ∧ m' ((c.tc : Thread Cert.Qkv2RefIdeal.nD Cert.Qkv2RefIdeal.τ).loc Cert.Qkv2RefIdeal.main_arg4) = m ((c.tc : Thread Cert.Qkv2Ideal.nD Cert.Qkv2Ideal.τ).loc Cert.Qkv2Ideal.main_arg4)) →
    ∃ (v0 : (c : Dev Cert.Qkv2Ideal.nD) → Buf (Elt Ideal) ((c.tc : Thread Cert.Qkv2Ideal.nD Cert.Qkv2Ideal.τ).loc Cert.Qkv2Ideal.main_v0_0)) (v1 : (c : Dev Cert.Qkv2Ideal.nD) → Buf (Elt Ideal) ((c.tc : Thread Cert.Qkv2Ideal.nD Cert.Qkv2Ideal.τ).loc Cert.Qkv2Ideal.main_v0_1)) (v2 : (c : Dev Cert.Qkv2Ideal.nD) → Buf (Elt Ideal) ((c.tc : Thread Cert.Qkv2Ideal.nD Cert.Qkv2Ideal.τ).loc Cert.Qkv2Ideal.main_v0_2)) (v3 : (c : Dev Cert.Qkv2Ideal.nD) → Buf (Elt Ideal) ((c.tc : Thread Cert.Qkv2Ideal.nD Cert.Qkv2Ideal.τ).loc Cert.Qkv2Ideal.main_v0_3)) (v4 : (c : Dev Cert.Qkv2Ideal.nD) → Buf (Elt Ideal) ((c.tc : Thread Cert.Qkv2Ideal.nD Cert.Qkv2Ideal.τ).loc Cert.Qkv2Ideal.main_v0_4)) (v5 : (c : Dev Cert.Qkv2Ideal.nD) → Buf (Elt Ideal) ((c.tc : Thread Cert.Qkv2Ideal.nD Cert.Qkv2Ideal.τ).loc Cert.Qkv2Ideal.main_v0_5)),
      θ_run (Cert.Qkv2Ideal.defs (F := Ideal)) (onTc (τ := Cert.Qkv2Ideal.τ) (Cert.Qkv2Ideal.main (F := Ideal))) ⟨m, fun _ => 0, g⟩ (fun r => ∀ c : Dev Cert.Qkv2Ideal.nD,
          r.2.mem ((c.tc : Thread Cert.Qkv2Ideal.nD Cert.Qkv2Ideal.τ).loc Cert.Qkv2Ideal.main_v0_0) = v0 c
          ∧ r.2.mem ((c.tc : Thread Cert.Qkv2Ideal.nD Cert.Qkv2Ideal.τ).loc Cert.Qkv2Ideal.main_v0_1) = v1 c
          ∧ r.2.mem ((c.tc : Thread Cert.Qkv2Ideal.nD Cert.Qkv2Ideal.τ).loc Cert.Qkv2Ideal.main_v0_2) = v2 c
          ∧ r.2.mem ((c.tc : Thread Cert.Qkv2Ideal.nD Cert.Qkv2Ideal.τ).loc Cert.Qkv2Ideal.main_v0_3) = v3 c
          ∧ r.2.mem ((c.tc : Thread Cert.Qkv2Ideal.nD Cert.Qkv2Ideal.τ).loc Cert.Qkv2Ideal.main_v0_4) = v4 c
          ∧ r.2.mem ((c.tc : Thread Cert.Qkv2Ideal.nD Cert.Qkv2Ideal.τ).loc Cert.Qkv2Ideal.main_v0_5) = v5 c
          ∧ r.2.mem ((c.tc : Thread Cert.Qkv2Ideal.nD Cert.Qkv2Ideal.τ).loc Cert.Qkv2Ideal.main_arg0) = m ((c.tc : Thread Cert.Qkv2Ideal.nD Cert.Qkv2Ideal.τ).loc Cert.Qkv2Ideal.main_arg0)
          ∧ r.2.mem ((c.tc : Thread Cert.Qkv2Ideal.nD Cert.Qkv2Ideal.τ).loc Cert.Qkv2Ideal.main_arg1) = m ((c.tc : Thread Cert.Qkv2Ideal.nD Cert.Qkv2Ideal.τ).loc Cert.Qkv2Ideal.main_arg1)
          ∧ r.2.mem ((c.tc : Thread Cert.Qkv2Ideal.nD Cert.Qkv2Ideal.τ).loc Cert.Qkv2Ideal.main_arg2) = m ((c.tc : Thread Cert.Qkv2Ideal.nD Cert.Qkv2Ideal.τ).loc Cert.Qkv2Ideal.main_arg2)
          ∧ r.2.mem ((c.tc : Thread Cert.Qkv2Ideal.nD Cert.Qkv2Ideal.τ).loc Cert.Qkv2Ideal.main_arg3) = m ((c.tc : Thread Cert.Qkv2Ideal.nD Cert.Qkv2Ideal.τ).loc Cert.Qkv2Ideal.main_arg3)
          ∧ r.2.mem ((c.tc : Thread Cert.Qkv2Ideal.nD Cert.Qkv2Ideal.τ).loc Cert.Qkv2Ideal.main_arg4) = m ((c.tc : Thread Cert.Qkv2Ideal.nD Cert.Qkv2Ideal.τ).loc Cert.Qkv2Ideal.main_arg4))
      ∧ θ_run (Cert.Qkv2RefIdeal.defs (F := Ideal)) (onTc (τ := Cert.Qkv2RefIdeal.τ) (Cert.Qkv2RefIdeal.main (F := Ideal))) ⟨m', fun _ => 0, g'⟩ (fun r => ∀ c : Dev Cert.Qkv2RefIdeal.nD,
          r.2.mem ((c.tc : Thread Cert.Qkv2RefIdeal.nD Cert.Qkv2RefIdeal.τ).loc Cert.Qkv2RefIdeal.main_v0_0) = v0 c
          ∧ r.2.mem ((c.tc : Thread Cert.Qkv2RefIdeal.nD Cert.Qkv2RefIdeal.τ).loc Cert.Qkv2RefIdeal.main_v0_1) = v1 c
          ∧ r.2.mem ((c.tc : Thread Cert.Qkv2RefIdeal.nD Cert.Qkv2RefIdeal.τ).loc Cert.Qkv2RefIdeal.main_v0_2) = v2 c
          ∧ r.2.mem ((c.tc : Thread Cert.Qkv2RefIdeal.nD Cert.Qkv2RefIdeal.τ).loc Cert.Qkv2RefIdeal.main_v0_3) = v3 c
          ∧ r.2.mem ((c.tc : Thread Cert.Qkv2RefIdeal.nD Cert.Qkv2RefIdeal.τ).loc Cert.Qkv2RefIdeal.main_v0_4) = v4 c
          ∧ r.2.mem ((c.tc : Thread Cert.Qkv2RefIdeal.nD Cert.Qkv2RefIdeal.τ).loc Cert.Qkv2RefIdeal.main_v0_5) = v5 c
          ∧ r.2.mem ((c.tc : Thread Cert.Qkv2RefIdeal.nD Cert.Qkv2RefIdeal.τ).loc Cert.Qkv2RefIdeal.main_arg0) = m' ((c.tc : Thread Cert.Qkv2RefIdeal.nD Cert.Qkv2RefIdeal.τ).loc Cert.Qkv2RefIdeal.main_arg0)
          ∧ r.2.mem ((c.tc : Thread Cert.Qkv2RefIdeal.nD Cert.Qkv2RefIdeal.τ).loc Cert.Qkv2RefIdeal.main_arg1) = m' ((c.tc : Thread Cert.Qkv2RefIdeal.nD Cert.Qkv2RefIdeal.τ).loc Cert.Qkv2RefIdeal.main_arg1)
          ∧ r.2.mem ((c.tc : Thread Cert.Qkv2RefIdeal.nD Cert.Qkv2RefIdeal.τ).loc Cert.Qkv2RefIdeal.main_arg2) = m' ((c.tc : Thread Cert.Qkv2RefIdeal.nD Cert.Qkv2RefIdeal.τ).loc Cert.Qkv2RefIdeal.main_arg2)
          ∧ r.2.mem ((c.tc : Thread Cert.Qkv2RefIdeal.nD Cert.Qkv2RefIdeal.τ).loc Cert.Qkv2RefIdeal.main_arg3) = m' ((c.tc : Thread Cert.Qkv2RefIdeal.nD Cert.Qkv2RefIdeal.τ).loc Cert.Qkv2RefIdeal.main_arg3)
          ∧ r.2.mem ((c.tc : Thread Cert.Qkv2RefIdeal.nD Cert.Qkv2RefIdeal.τ).loc Cert.Qkv2RefIdeal.main_arg4) = m' ((c.tc : Thread Cert.Qkv2RefIdeal.nD Cert.Qkv2RefIdeal.τ).loc Cert.Qkv2RefIdeal.main_arg4))

def preserves_Out1_Out1Ideal : Prop :=
  IdealRules.named_const.Statement Cert.Out1Ideal.κ "inv_d" .f32 0x394CCCCD#32 ((1 / 5120 : ℝ) : EReal)

def algebraic_Out1Ideal_Out1RefIdeal [hOut1Ideal : Cert.Out1Ideal.Facts] [hOut1RefIdeal : Cert.Out1RefIdeal.Facts] : Prop :=
  ∀ (m : (ℓ : Loc Cert.Out1Ideal.nD Cert.Out1Ideal.τ Cert.Out1Ideal.sig) → Buf (Elt Ideal) ℓ) (g : Dev Cert.Out1Ideal.nD → PrngReg)
    (m' : (ℓ : Loc Cert.Out1RefIdeal.nD Cert.Out1RefIdeal.τ Cert.Out1RefIdeal.sig) → Buf (Elt Ideal) ℓ) (g' : Dev Cert.Out1RefIdeal.nD → PrngReg), Pre_Out1Ideal m →
    (∀ c : Dev Cert.Out1Ideal.nD,
      m' ((c.tc : Thread Cert.Out1RefIdeal.nD Cert.Out1RefIdeal.τ).loc Cert.Out1RefIdeal.main_arg0) = m ((c.tc : Thread Cert.Out1Ideal.nD Cert.Out1Ideal.τ).loc Cert.Out1Ideal.main_arg0)
      ∧ m' ((c.tc : Thread Cert.Out1RefIdeal.nD Cert.Out1RefIdeal.τ).loc Cert.Out1RefIdeal.main_arg1) = m ((c.tc : Thread Cert.Out1Ideal.nD Cert.Out1Ideal.τ).loc Cert.Out1Ideal.main_arg1)
      ∧ m' ((c.tc : Thread Cert.Out1RefIdeal.nD Cert.Out1RefIdeal.τ).loc Cert.Out1RefIdeal.main_arg2) = m ((c.tc : Thread Cert.Out1Ideal.nD Cert.Out1Ideal.τ).loc Cert.Out1Ideal.main_arg2)
      ∧ m' ((c.tc : Thread Cert.Out1RefIdeal.nD Cert.Out1RefIdeal.τ).loc Cert.Out1RefIdeal.main_arg3) = m ((c.tc : Thread Cert.Out1Ideal.nD Cert.Out1Ideal.τ).loc Cert.Out1Ideal.main_arg3)
      ∧ m' ((c.tc : Thread Cert.Out1RefIdeal.nD Cert.Out1RefIdeal.τ).loc Cert.Out1RefIdeal.main_arg4) = m ((c.tc : Thread Cert.Out1Ideal.nD Cert.Out1Ideal.τ).loc Cert.Out1Ideal.main_arg4)
      ∧ m' ((c.tc : Thread Cert.Out1RefIdeal.nD Cert.Out1RefIdeal.τ).loc Cert.Out1RefIdeal.main_arg5) = m ((c.tc : Thread Cert.Out1Ideal.nD Cert.Out1Ideal.τ).loc Cert.Out1Ideal.main_arg5)) →
    ∃ (v0 : (c : Dev Cert.Out1Ideal.nD) → Buf (Elt Ideal) ((c.tc : Thread Cert.Out1Ideal.nD Cert.Out1Ideal.τ).loc Cert.Out1Ideal.main_v0_0)) (v1 : (c : Dev Cert.Out1Ideal.nD) → Buf (Elt Ideal) ((c.tc : Thread Cert.Out1Ideal.nD Cert.Out1Ideal.τ).loc Cert.Out1Ideal.main_v0_1)) (v2 : (c : Dev Cert.Out1Ideal.nD) → Buf (Elt Ideal) ((c.tc : Thread Cert.Out1Ideal.nD Cert.Out1Ideal.τ).loc Cert.Out1Ideal.main_v0_2)),
      θ_run (Cert.Out1Ideal.defs (F := Ideal)) (onTc (τ := Cert.Out1Ideal.τ) (Cert.Out1Ideal.main (F := Ideal))) ⟨m, fun _ => 0, g⟩ (fun r => ∀ c : Dev Cert.Out1Ideal.nD,
          r.2.mem ((c.tc : Thread Cert.Out1Ideal.nD Cert.Out1Ideal.τ).loc Cert.Out1Ideal.main_v0_0) = v0 c
          ∧ r.2.mem ((c.tc : Thread Cert.Out1Ideal.nD Cert.Out1Ideal.τ).loc Cert.Out1Ideal.main_v0_1) = v1 c
          ∧ r.2.mem ((c.tc : Thread Cert.Out1Ideal.nD Cert.Out1Ideal.τ).loc Cert.Out1Ideal.main_v0_2) = v2 c
          ∧ r.2.mem ((c.tc : Thread Cert.Out1Ideal.nD Cert.Out1Ideal.τ).loc Cert.Out1Ideal.main_arg0) = m ((c.tc : Thread Cert.Out1Ideal.nD Cert.Out1Ideal.τ).loc Cert.Out1Ideal.main_arg0)
          ∧ r.2.mem ((c.tc : Thread Cert.Out1Ideal.nD Cert.Out1Ideal.τ).loc Cert.Out1Ideal.main_arg1) = m ((c.tc : Thread Cert.Out1Ideal.nD Cert.Out1Ideal.τ).loc Cert.Out1Ideal.main_arg1)
          ∧ r.2.mem ((c.tc : Thread Cert.Out1Ideal.nD Cert.Out1Ideal.τ).loc Cert.Out1Ideal.main_arg2) = m ((c.tc : Thread Cert.Out1Ideal.nD Cert.Out1Ideal.τ).loc Cert.Out1Ideal.main_arg2)
          ∧ r.2.mem ((c.tc : Thread Cert.Out1Ideal.nD Cert.Out1Ideal.τ).loc Cert.Out1Ideal.main_arg3) = m ((c.tc : Thread Cert.Out1Ideal.nD Cert.Out1Ideal.τ).loc Cert.Out1Ideal.main_arg3)
          ∧ r.2.mem ((c.tc : Thread Cert.Out1Ideal.nD Cert.Out1Ideal.τ).loc Cert.Out1Ideal.main_arg4) = m ((c.tc : Thread Cert.Out1Ideal.nD Cert.Out1Ideal.τ).loc Cert.Out1Ideal.main_arg4)
          ∧ r.2.mem ((c.tc : Thread Cert.Out1Ideal.nD Cert.Out1Ideal.τ).loc Cert.Out1Ideal.main_arg5) = m ((c.tc : Thread Cert.Out1Ideal.nD Cert.Out1Ideal.τ).loc Cert.Out1Ideal.main_arg5))
      ∧ θ_run (Cert.Out1RefIdeal.defs (F := Ideal)) (onTc (τ := Cert.Out1RefIdeal.τ) (Cert.Out1RefIdeal.main (F := Ideal))) ⟨m', fun _ => 0, g'⟩ (fun r => ∀ c : Dev Cert.Out1RefIdeal.nD,
          r.2.mem ((c.tc : Thread Cert.Out1RefIdeal.nD Cert.Out1RefIdeal.τ).loc Cert.Out1RefIdeal.main_v0_0) = v0 c
          ∧ r.2.mem ((c.tc : Thread Cert.Out1RefIdeal.nD Cert.Out1RefIdeal.τ).loc Cert.Out1RefIdeal.main_v0_1) = v1 c
          ∧ r.2.mem ((c.tc : Thread Cert.Out1RefIdeal.nD Cert.Out1RefIdeal.τ).loc Cert.Out1RefIdeal.main_v0_2) = v2 c
          ∧ r.2.mem ((c.tc : Thread Cert.Out1RefIdeal.nD Cert.Out1RefIdeal.τ).loc Cert.Out1RefIdeal.main_arg0) = m' ((c.tc : Thread Cert.Out1RefIdeal.nD Cert.Out1RefIdeal.τ).loc Cert.Out1RefIdeal.main_arg0)
          ∧ r.2.mem ((c.tc : Thread Cert.Out1RefIdeal.nD Cert.Out1RefIdeal.τ).loc Cert.Out1RefIdeal.main_arg1) = m' ((c.tc : Thread Cert.Out1RefIdeal.nD Cert.Out1RefIdeal.τ).loc Cert.Out1RefIdeal.main_arg1)
          ∧ r.2.mem ((c.tc : Thread Cert.Out1RefIdeal.nD Cert.Out1RefIdeal.τ).loc Cert.Out1RefIdeal.main_arg2) = m' ((c.tc : Thread Cert.Out1RefIdeal.nD Cert.Out1RefIdeal.τ).loc Cert.Out1RefIdeal.main_arg2)
          ∧ r.2.mem ((c.tc : Thread Cert.Out1RefIdeal.nD Cert.Out1RefIdeal.τ).loc Cert.Out1RefIdeal.main_arg3) = m' ((c.tc : Thread Cert.Out1RefIdeal.nD Cert.Out1RefIdeal.τ).loc Cert.Out1RefIdeal.main_arg3)
          ∧ r.2.mem ((c.tc : Thread Cert.Out1RefIdeal.nD Cert.Out1RefIdeal.τ).loc Cert.Out1RefIdeal.main_arg4) = m' ((c.tc : Thread Cert.Out1RefIdeal.nD Cert.Out1RefIdeal.τ).loc Cert.Out1RefIdeal.main_arg4)
          ∧ r.2.mem ((c.tc : Thread Cert.Out1RefIdeal.nD Cert.Out1RefIdeal.τ).loc Cert.Out1RefIdeal.main_arg5) = m' ((c.tc : Thread Cert.Out1RefIdeal.nD Cert.Out1RefIdeal.τ).loc Cert.Out1RefIdeal.main_arg5))

def preserves_Qkv1_Qkv1Ideal : Prop :=
  IdealRules.named_const.Statement Cert.Qkv1Ideal.κ "inv_d" .f32 0x394CCCCD#32 ((1 / 5120 : ℝ) : EReal)

def algebraic_Qkv1Ideal_Qkv1RefIdeal [hQkv1Ideal : Cert.Qkv1Ideal.Facts] [hQkv1RefIdeal : Cert.Qkv1RefIdeal.Facts] : Prop :=
  ∀ (m : (ℓ : Loc Cert.Qkv1Ideal.nD Cert.Qkv1Ideal.τ Cert.Qkv1Ideal.sig) → Buf (Elt Ideal) ℓ) (g : Dev Cert.Qkv1Ideal.nD → PrngReg)
    (m' : (ℓ : Loc Cert.Qkv1RefIdeal.nD Cert.Qkv1RefIdeal.τ Cert.Qkv1RefIdeal.sig) → Buf (Elt Ideal) ℓ) (g' : Dev Cert.Qkv1RefIdeal.nD → PrngReg), Pre_Qkv1Ideal m →
    (∀ c : Dev Cert.Qkv1Ideal.nD,
      m' ((c.tc : Thread Cert.Qkv1RefIdeal.nD Cert.Qkv1RefIdeal.τ).loc Cert.Qkv1RefIdeal.main_arg0) = m ((c.tc : Thread Cert.Qkv1Ideal.nD Cert.Qkv1Ideal.τ).loc Cert.Qkv1Ideal.main_arg0)
      ∧ m' ((c.tc : Thread Cert.Qkv1RefIdeal.nD Cert.Qkv1RefIdeal.τ).loc Cert.Qkv1RefIdeal.main_arg1) = m ((c.tc : Thread Cert.Qkv1Ideal.nD Cert.Qkv1Ideal.τ).loc Cert.Qkv1Ideal.main_arg1)
      ∧ m' ((c.tc : Thread Cert.Qkv1RefIdeal.nD Cert.Qkv1RefIdeal.τ).loc Cert.Qkv1RefIdeal.main_arg2) = m ((c.tc : Thread Cert.Qkv1Ideal.nD Cert.Qkv1Ideal.τ).loc Cert.Qkv1Ideal.main_arg2)
      ∧ m' ((c.tc : Thread Cert.Qkv1RefIdeal.nD Cert.Qkv1RefIdeal.τ).loc Cert.Qkv1RefIdeal.main_arg3) = m ((c.tc : Thread Cert.Qkv1Ideal.nD Cert.Qkv1Ideal.τ).loc Cert.Qkv1Ideal.main_arg3)
      ∧ m' ((c.tc : Thread Cert.Qkv1RefIdeal.nD Cert.Qkv1RefIdeal.τ).loc Cert.Qkv1RefIdeal.main_arg4) = m ((c.tc : Thread Cert.Qkv1Ideal.nD Cert.Qkv1Ideal.τ).loc Cert.Qkv1Ideal.main_arg4)
      ∧ m' ((c.tc : Thread Cert.Qkv1RefIdeal.nD Cert.Qkv1RefIdeal.τ).loc Cert.Qkv1RefIdeal.main_arg5) = m ((c.tc : Thread Cert.Qkv1Ideal.nD Cert.Qkv1Ideal.τ).loc Cert.Qkv1Ideal.main_arg5)) →
    ∃ (v0 : (c : Dev Cert.Qkv1Ideal.nD) → Buf (Elt Ideal) ((c.tc : Thread Cert.Qkv1Ideal.nD Cert.Qkv1Ideal.τ).loc Cert.Qkv1Ideal.main_v0_0)) (v1 : (c : Dev Cert.Qkv1Ideal.nD) → Buf (Elt Ideal) ((c.tc : Thread Cert.Qkv1Ideal.nD Cert.Qkv1Ideal.τ).loc Cert.Qkv1Ideal.main_v0_1)) (v2 : (c : Dev Cert.Qkv1Ideal.nD) → Buf (Elt Ideal) ((c.tc : Thread Cert.Qkv1Ideal.nD Cert.Qkv1Ideal.τ).loc Cert.Qkv1Ideal.main_v0_2)) (v3 : (c : Dev Cert.Qkv1Ideal.nD) → Buf (Elt Ideal) ((c.tc : Thread Cert.Qkv1Ideal.nD Cert.Qkv1Ideal.τ).loc Cert.Qkv1Ideal.main_v0_3)) (v4 : (c : Dev Cert.Qkv1Ideal.nD) → Buf (Elt Ideal) ((c.tc : Thread Cert.Qkv1Ideal.nD Cert.Qkv1Ideal.τ).loc Cert.Qkv1Ideal.main_v0_4)) (v5 : (c : Dev Cert.Qkv1Ideal.nD) → Buf (Elt Ideal) ((c.tc : Thread Cert.Qkv1Ideal.nD Cert.Qkv1Ideal.τ).loc Cert.Qkv1Ideal.main_v0_5)),
      θ_run (Cert.Qkv1Ideal.defs (F := Ideal)) (onTc (τ := Cert.Qkv1Ideal.τ) (Cert.Qkv1Ideal.main (F := Ideal))) ⟨m, fun _ => 0, g⟩ (fun r => ∀ c : Dev Cert.Qkv1Ideal.nD,
          r.2.mem ((c.tc : Thread Cert.Qkv1Ideal.nD Cert.Qkv1Ideal.τ).loc Cert.Qkv1Ideal.main_v0_0) = v0 c
          ∧ r.2.mem ((c.tc : Thread Cert.Qkv1Ideal.nD Cert.Qkv1Ideal.τ).loc Cert.Qkv1Ideal.main_v0_1) = v1 c
          ∧ r.2.mem ((c.tc : Thread Cert.Qkv1Ideal.nD Cert.Qkv1Ideal.τ).loc Cert.Qkv1Ideal.main_v0_2) = v2 c
          ∧ r.2.mem ((c.tc : Thread Cert.Qkv1Ideal.nD Cert.Qkv1Ideal.τ).loc Cert.Qkv1Ideal.main_v0_3) = v3 c
          ∧ r.2.mem ((c.tc : Thread Cert.Qkv1Ideal.nD Cert.Qkv1Ideal.τ).loc Cert.Qkv1Ideal.main_v0_4) = v4 c
          ∧ r.2.mem ((c.tc : Thread Cert.Qkv1Ideal.nD Cert.Qkv1Ideal.τ).loc Cert.Qkv1Ideal.main_v0_5) = v5 c
          ∧ r.2.mem ((c.tc : Thread Cert.Qkv1Ideal.nD Cert.Qkv1Ideal.τ).loc Cert.Qkv1Ideal.main_arg0) = m ((c.tc : Thread Cert.Qkv1Ideal.nD Cert.Qkv1Ideal.τ).loc Cert.Qkv1Ideal.main_arg0)
          ∧ r.2.mem ((c.tc : Thread Cert.Qkv1Ideal.nD Cert.Qkv1Ideal.τ).loc Cert.Qkv1Ideal.main_arg1) = m ((c.tc : Thread Cert.Qkv1Ideal.nD Cert.Qkv1Ideal.τ).loc Cert.Qkv1Ideal.main_arg1)
          ∧ r.2.mem ((c.tc : Thread Cert.Qkv1Ideal.nD Cert.Qkv1Ideal.τ).loc Cert.Qkv1Ideal.main_arg2) = m ((c.tc : Thread Cert.Qkv1Ideal.nD Cert.Qkv1Ideal.τ).loc Cert.Qkv1Ideal.main_arg2)
          ∧ r.2.mem ((c.tc : Thread Cert.Qkv1Ideal.nD Cert.Qkv1Ideal.τ).loc Cert.Qkv1Ideal.main_arg3) = m ((c.tc : Thread Cert.Qkv1Ideal.nD Cert.Qkv1Ideal.τ).loc Cert.Qkv1Ideal.main_arg3)
          ∧ r.2.mem ((c.tc : Thread Cert.Qkv1Ideal.nD Cert.Qkv1Ideal.τ).loc Cert.Qkv1Ideal.main_arg4) = m ((c.tc : Thread Cert.Qkv1Ideal.nD Cert.Qkv1Ideal.τ).loc Cert.Qkv1Ideal.main_arg4)
          ∧ r.2.mem ((c.tc : Thread Cert.Qkv1Ideal.nD Cert.Qkv1Ideal.τ).loc Cert.Qkv1Ideal.main_arg5) = m ((c.tc : Thread Cert.Qkv1Ideal.nD Cert.Qkv1Ideal.τ).loc Cert.Qkv1Ideal.main_arg5))
      ∧ θ_run (Cert.Qkv1RefIdeal.defs (F := Ideal)) (onTc (τ := Cert.Qkv1RefIdeal.τ) (Cert.Qkv1RefIdeal.main (F := Ideal))) ⟨m', fun _ => 0, g'⟩ (fun r => ∀ c : Dev Cert.Qkv1RefIdeal.nD,
          r.2.mem ((c.tc : Thread Cert.Qkv1RefIdeal.nD Cert.Qkv1RefIdeal.τ).loc Cert.Qkv1RefIdeal.main_v0_0) = v0 c
          ∧ r.2.mem ((c.tc : Thread Cert.Qkv1RefIdeal.nD Cert.Qkv1RefIdeal.τ).loc Cert.Qkv1RefIdeal.main_v0_1) = v1 c
          ∧ r.2.mem ((c.tc : Thread Cert.Qkv1RefIdeal.nD Cert.Qkv1RefIdeal.τ).loc Cert.Qkv1RefIdeal.main_v0_2) = v2 c
          ∧ r.2.mem ((c.tc : Thread Cert.Qkv1RefIdeal.nD Cert.Qkv1RefIdeal.τ).loc Cert.Qkv1RefIdeal.main_v0_3) = v3 c
          ∧ r.2.mem ((c.tc : Thread Cert.Qkv1RefIdeal.nD Cert.Qkv1RefIdeal.τ).loc Cert.Qkv1RefIdeal.main_v0_4) = v4 c
          ∧ r.2.mem ((c.tc : Thread Cert.Qkv1RefIdeal.nD Cert.Qkv1RefIdeal.τ).loc Cert.Qkv1RefIdeal.main_v0_5) = v5 c
          ∧ r.2.mem ((c.tc : Thread Cert.Qkv1RefIdeal.nD Cert.Qkv1RefIdeal.τ).loc Cert.Qkv1RefIdeal.main_arg0) = m' ((c.tc : Thread Cert.Qkv1RefIdeal.nD Cert.Qkv1RefIdeal.τ).loc Cert.Qkv1RefIdeal.main_arg0)
          ∧ r.2.mem ((c.tc : Thread Cert.Qkv1RefIdeal.nD Cert.Qkv1RefIdeal.τ).loc Cert.Qkv1RefIdeal.main_arg1) = m' ((c.tc : Thread Cert.Qkv1RefIdeal.nD Cert.Qkv1RefIdeal.τ).loc Cert.Qkv1RefIdeal.main_arg1)
          ∧ r.2.mem ((c.tc : Thread Cert.Qkv1RefIdeal.nD Cert.Qkv1RefIdeal.τ).loc Cert.Qkv1RefIdeal.main_arg2) = m' ((c.tc : Thread Cert.Qkv1RefIdeal.nD Cert.Qkv1RefIdeal.τ).loc Cert.Qkv1RefIdeal.main_arg2)
          ∧ r.2.mem ((c.tc : Thread Cert.Qkv1RefIdeal.nD Cert.Qkv1RefIdeal.τ).loc Cert.Qkv1RefIdeal.main_arg3) = m' ((c.tc : Thread Cert.Qkv1RefIdeal.nD Cert.Qkv1RefIdeal.τ).loc Cert.Qkv1RefIdeal.main_arg3)
          ∧ r.2.mem ((c.tc : Thread Cert.Qkv1RefIdeal.nD Cert.Qkv1RefIdeal.τ).loc Cert.Qkv1RefIdeal.main_arg4) = m' ((c.tc : Thread Cert.Qkv1RefIdeal.nD Cert.Qkv1RefIdeal.τ).loc Cert.Qkv1RefIdeal.main_arg4)
          ∧ r.2.mem ((c.tc : Thread Cert.Qkv1RefIdeal.nD Cert.Qkv1RefIdeal.τ).loc Cert.Qkv1RefIdeal.main_arg5) = m' ((c.tc : Thread Cert.Qkv1RefIdeal.nD Cert.Qkv1RefIdeal.τ).loc Cert.Qkv1RefIdeal.main_arg5))

def Claim : Prop :=
  ∃ (hOut2 : Cert.Out2.Facts) (hOut2Ideal : Cert.Out2Ideal.Facts) (hOut2RefIdeal : Cert.Out2RefIdeal.Facts) (hQkv2 : Cert.Qkv2.Facts) (hQkv2Ideal : Cert.Qkv2Ideal.Facts) (hQkv2RefIdeal : Cert.Qkv2RefIdeal.Facts) (hOut1 : Cert.Out1.Facts) (hOut1Ideal : Cert.Out1Ideal.Facts) (hOut1RefIdeal : Cert.Out1RefIdeal.Facts) (hQkv1 : Cert.Qkv1.Facts) (hQkv1Ideal : Cert.Qkv1Ideal.Facts) (hQkv1RefIdeal : Cert.Qkv1RefIdeal.Facts),
    quiescent_Out2 (hOut2 := hOut2)
    ∧ quiescent_Out2Ideal (hOut2Ideal := hOut2Ideal)
    ∧ quiescent_Out2RefIdeal (hOut2RefIdeal := hOut2RefIdeal)
    ∧ quiescent_Qkv2 (hQkv2 := hQkv2)
    ∧ quiescent_Qkv2Ideal (hQkv2Ideal := hQkv2Ideal)
    ∧ quiescent_Qkv2RefIdeal (hQkv2RefIdeal := hQkv2RefIdeal)
    ∧ quiescent_Out1 (hOut1 := hOut1)
    ∧ quiescent_Out1Ideal (hOut1Ideal := hOut1Ideal)
    ∧ quiescent_Out1RefIdeal (hOut1RefIdeal := hOut1RefIdeal)
    ∧ quiescent_Qkv1 (hQkv1 := hQkv1)
    ∧ quiescent_Qkv1Ideal (hQkv1Ideal := hQkv1Ideal)
    ∧ quiescent_Qkv1RefIdeal (hQkv1RefIdeal := hQkv1RefIdeal)
    ∧ preserves_Out2_Out2Ideal
    ∧ algebraic_Out2Ideal_Out2RefIdeal (hOut2Ideal := hOut2Ideal) (hOut2RefIdeal := hOut2RefIdeal)
    ∧ preserves_Qkv2_Qkv2Ideal
    ∧ algebraic_Qkv2Ideal_Qkv2RefIdeal (hQkv2Ideal := hQkv2Ideal) (hQkv2RefIdeal := hQkv2RefIdeal)
    ∧ preserves_Out1_Out1Ideal
    ∧ algebraic_Out1Ideal_Out1RefIdeal (hOut1Ideal := hOut1Ideal) (hOut1RefIdeal := hOut1RefIdeal)
    ∧ preserves_Qkv1_Qkv1Ideal
    ∧ algebraic_Qkv1Ideal_Qkv1RefIdeal (hQkv1Ideal := hQkv1Ideal) (hQkv1RefIdeal := hQkv1RefIdeal)
-- ==== Out2.lean ====
abbrev S16384x2560 : Shape := ⟨2, ![16384, 2560]⟩
abbrev S2x1x8192 : Shape := ⟨3, ![2, 1, 8192]⟩
abbrev S2560x5120 : Shape := ⟨2, ![2560, 5120]⟩
abbrev S1x5120 : Shape := ⟨2, ![1, 5120]⟩
abbrev S16384x5120 : Shape := ⟨2, ![16384, 5120]⟩
abbrev S256x2560 : Shape := ⟨2, ![256, 2560]⟩
abbrev S1x1x256 : Shape := ⟨3, ![1, 1, 256]⟩
abbrev S256x5120 : Shape := ⟨2, ![256, 5120]⟩
abbrev S256x128 : Shape := ⟨2, ![256, 128]⟩
abbrev S1x256 : Shape := ⟨2, ![1, 256]⟩
abbrev S128x256 : Shape := ⟨2, ![128, 256]⟩
abbrev S2560x256 : Shape := ⟨2, ![2560, 256]⟩
abbrev S256x256 : Shape := ⟨2, ![256, 256]⟩

abbrev nBuf : Space → Nat
  | .hbm => 6
  | .vmem => 11
  | .smem => 0
  | _ => 0

abbrev bufTy : (tb : Table) → Fin (tcTables nBuf tb) → BufTy
  | .hbm, ⟨0, _⟩ => ⟨S16384x2560, .fp8e4m3⟩
  | .hbm, ⟨1, _⟩ => ⟨S2x1x8192, .f32⟩
  | .hbm, ⟨2, _⟩ => ⟨S2560x5120, .fp8e4m3⟩
  | .hbm, ⟨3, _⟩ => ⟨S1x5120, .f32⟩
  | .hbm, ⟨4, _⟩ => ⟨S16384x5120, .f32⟩
  | .hbm, ⟨5, _⟩ => ⟨S16384x5120, .bf16⟩
  | .local _ .vmem, ⟨0, _⟩ => ⟨S256x2560, .fp8e4m3⟩
  | .local _ .vmem, ⟨1, _⟩ => ⟨S256x2560, .fp8e4m3⟩
  | .local _ .vmem, ⟨2, _⟩ => ⟨S1x1x256, .f32⟩
  | .local _ .vmem, ⟨3, _⟩ => ⟨S1x1x256, .f32⟩
  | .local _ .vmem, ⟨4, _⟩ => ⟨S2560x5120, .fp8e4m3⟩
  | .local _ .vmem, ⟨5, _⟩ => ⟨S1x5120, .f32⟩
  | .local _ .vmem, ⟨6, _⟩ => ⟨S256x5120, .f32⟩
  | .local _ .vmem, ⟨7, _⟩ => ⟨S256x5120, .f32⟩
  | .local _ .vmem, ⟨8, _⟩ => ⟨S256x5120, .bf16⟩
  | .local _ .vmem, ⟨9, _⟩ => ⟨S256x5120, .bf16⟩
  | .local _ .vmem, ⟨10, _⟩ => ⟨S256x128, .f32⟩
  | _, _ => ⟨S16384x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x2560 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2560x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x5120 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x5120 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Out2RefIdeal.lean ====
abbrev S16384x2560 : Shape := ⟨2, ![16384, 2560]⟩
abbrev S2x1x8192 : Shape := ⟨3, ![2, 1, 8192]⟩
abbrev S2560x5120 : Shape := ⟨2, ![2560, 5120]⟩
abbrev S1x5120 : Shape := ⟨2, ![1, 5120]⟩
abbrev S16384x5120 : Shape := ⟨2, ![16384, 5120]⟩
abbrev S16384x1 : Shape := ⟨2, ![16384, 1]⟩

abbrev nBuf : Space → Nat
  | .hbm => 6
  | .vmem => 6
  | .smem => 0
  | _ => 0

abbrev bufTy : (tb : Table) → Fin (tcTables nBuf tb) → BufTy
  | .hbm, ⟨0, _⟩ => ⟨S16384x2560, .fp8e4m3⟩
  | .hbm, ⟨1, _⟩ => ⟨S2x1x8192, .f32⟩
  | .hbm, ⟨2, _⟩ => ⟨S2560x5120, .fp8e4m3⟩
  | .hbm, ⟨3, _⟩ => ⟨S1x5120, .f32⟩
  | .hbm, ⟨4, _⟩ => ⟨S16384x5120, .f32⟩
  | .hbm, ⟨5, _⟩ => ⟨S16384x5120, .bf16⟩
  | .local _ .vmem, ⟨0, _⟩ => ⟨S16384x2560, .fp8e4m3⟩
  | .local _ .vmem, ⟨1, _⟩ => ⟨S2x1x8192, .f32⟩
  | .local _ .vmem, ⟨2, _⟩ => ⟨S2560x5120, .fp8e4m3⟩
  | .local _ .vmem, ⟨3, _⟩ => ⟨S1x5120, .f32⟩
  | .local _ .vmem, ⟨4, _⟩ => ⟨S16384x5120, .f32⟩
  | .local _ .vmem, ⟨5, _⟩ => ⟨S16384x5120, .bf16⟩
  | _, _ => ⟨S16384x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S16384x2560 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2560x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Qkv2.lean ====
abbrev S16384x5120 : Shape := ⟨2, ![16384, 5120]⟩
abbrev S2x1x8192 : Shape := ⟨3, ![2, 1, 8192]⟩
abbrev S5120x3584 : Shape := ⟨2, ![5120, 3584]⟩
abbrev S1x3584 : Shape := ⟨2, ![1, 3584]⟩
abbrev S2x2560x8192 : Shape := ⟨3, ![2, 2560, 8192]⟩
abbrev S16384x512 : Shape := ⟨2, ![16384, 512]⟩
abbrev S16384x4 : Shape := ⟨2, ![16384, 4]⟩
abbrev S2x512x8192 : Shape := ⟨3, ![2, 512, 8192]⟩
abbrev S2x16x8x128 : Shape := ⟨4, ![2, 16, 8, 128]⟩
abbrev S512x5120 : Shape := ⟨2, ![512, 5120]⟩
abbrev S1x1x512 : Shape := ⟨3, ![1, 1, 512]⟩
abbrev S1x2560x512 : Shape := ⟨3, ![1, 2560, 512]⟩
abbrev S512x512 : Shape := ⟨2, ![512, 512]⟩
abbrev S512x4 : Shape := ⟨2, ![512, 4]⟩
abbrev S1x512x512 : Shape := ⟨3, ![1, 512, 512]⟩
abbrev S1x1x8x128 : Shape := ⟨4, ![1, 1, 8, 128]⟩
abbrev S512x128 : Shape := ⟨2, ![512, 128]⟩
abbrev S1x512 : Shape := ⟨2, ![1, 512]⟩
abbrev S128x512 : Shape := ⟨2, ![128, 512]⟩
abbrev S512x1 : Shape := ⟨2, ![512, 1]⟩
abbrev S5120x256 : Shape := ⟨2, ![5120, 256]⟩
abbrev S512x256 : Shape := ⟨2, ![512, 256]⟩
abbrev S1x128 : Shape := ⟨2, ![1, 128]⟩
abbrev S512 : Shape := ⟨1, ![512]⟩
abbrev S1x128x512 : Shape := ⟨3, ![1, 128, 512]⟩
abbrev S1 : Shape := ⟨1, ![1]⟩
abbrev S1x1 : Shape := ⟨2, ![1, 1]⟩
abbrev S8x128 : Shape := ⟨2, ![8, 128]⟩

abbrev nBuf : Space → Nat
  | .hbm => 13
  | .vmem => 26
  | .smem => 0
  | _ => 0

abbrev bufTy : (tb : Table) → Fin (tcTables nBuf tb) → BufTy
  | .hbm, ⟨0, _⟩ => ⟨S16384x5120, .fp8e4m3⟩
  | .hbm, ⟨1, _⟩ => ⟨S2x1x8192, .f32⟩
  | .hbm, ⟨2, _⟩ => ⟨S5120x3584, .fp8e4m3⟩
  | .hbm, ⟨3, _⟩ => ⟨S1x3584, .f32⟩
  | .hbm, ⟨4, _⟩ => ⟨S2x1x8192, .i32⟩
  | .hbm, ⟨5, _⟩ => ⟨S2x2560x8192, .bf16⟩
  | .hbm, ⟨6, _⟩ => ⟨S16384x512, .fp8e4m3⟩
  | .hbm, ⟨7, _⟩ => ⟨S16384x4, .f32⟩
  | .hbm, ⟨8, _⟩ => ⟨S16384x512, .fp8e4m3⟩
  | .hbm, ⟨9, _⟩ => ⟨S16384x4, .f32⟩
  | .hbm, ⟨10, _⟩ => ⟨S2x512x8192, .fp8e4m3⟩
  | .hbm, ⟨11, _⟩ => ⟨S2x16x8x128, .f32⟩
  | .hbm, ⟨12, _⟩ => ⟨S2x16x8x128, .f32⟩
  | .local _ .vmem, ⟨0, _⟩ => ⟨S512x5120, .fp8e4m3⟩
  | .local _ .vmem, ⟨1, _⟩ => ⟨S512x5120, .fp8e4m3⟩
  | .local _ .vmem, ⟨2, _⟩ => ⟨S1x1x512, .f32⟩
  | .local _ .vmem, ⟨3, _⟩ => ⟨S1x1x512, .f32⟩
  | .local _ .vmem, ⟨4, _⟩ => ⟨S5120x3584, .fp8e4m3⟩
  | .local _ .vmem, ⟨5, _⟩ => ⟨S1x3584, .f32⟩
  | .local _ .vmem, ⟨6, _⟩ => ⟨S1x1x512, .i32⟩
  | .local _ .vmem, ⟨7, _⟩ => ⟨S1x1x512, .i32⟩
  | .local _ .vmem, ⟨8, _⟩ => ⟨S1x2560x512, .bf16⟩
  | .local _ .vmem, ⟨9, _⟩ => ⟨S1x2560x512, .bf16⟩
  | .local _ .vmem, ⟨10, _⟩ => ⟨S512x512, .fp8e4m3⟩
  | .local _ .vmem, ⟨11, _⟩ => ⟨S512x512, .fp8e4m3⟩
  | .local _ .vmem, ⟨12, _⟩ => ⟨S512x4, .f32⟩
  | .local _ .vmem, ⟨13, _⟩ => ⟨S512x4, .f32⟩
  | .local _ .vmem, ⟨14, _⟩ => ⟨S512x512, .fp8e4m3⟩
  | .local _ .vmem, ⟨15, _⟩ => ⟨S512x512, .fp8e4m3⟩
  | .local _ .vmem, ⟨16, _⟩ => ⟨S512x4, .f32⟩
  | .local _ .vmem, ⟨17, _⟩ => ⟨S512x4, .f32⟩
  | .local _ .vmem, ⟨18, _⟩ => ⟨S1x512x512, .fp8e4m3⟩
  | .local _ .vmem, ⟨19, _⟩ => ⟨S1x512x512, .fp8e4m3⟩
  | .local _ .vmem, ⟨20, _⟩ => ⟨S1x1x8x128, .f32⟩
  | .local _ .vmem, ⟨21, _⟩ => ⟨S1x1x8x128, .f32⟩
  | .local _ .vmem, ⟨22, _⟩ => ⟨S1x1x8x128, .f32⟩
  | .local _ .vmem, ⟨23, _⟩ => ⟨S1x1x8x128, .f32⟩
  | .local _ .vmem, ⟨24, _⟩ => ⟨S512x128, .f32⟩
  | .local _ .vmem, ⟨25, _⟩ => ⟨S512x128, .f32⟩
  | _, _ => ⟨S16384x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev main_v0_6 : Ref sig .tc := ⟨.hbm, 11, rfl⟩
abbrev main_v0_7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S512x5120 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S5120x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2560x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x4 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Qkv2RefIdeal.lean ====
abbrev S16384x5120 : Shape := ⟨2, ![16384, 5120]⟩
abbrev S2x1x8192 : Shape := ⟨3, ![2, 1, 8192]⟩
abbrev S5120x3584 : Shape := ⟨2, ![5120, 3584]⟩
abbrev S1x3584 : Shape := ⟨2, ![1, 3584]⟩
abbrev S2x2560x8192 : Shape := ⟨3, ![2, 2560, 8192]⟩
abbrev S16384x512 : Shape := ⟨2, ![16384, 512]⟩
abbrev S16384x4 : Shape := ⟨2, ![16384, 4]⟩
abbrev S2x512x8192 : Shape := ⟨3, ![2, 512, 8192]⟩
abbrev S16384x3584 : Shape := ⟨2, ![16384, 3584]⟩
abbrev S16384x1 : Shape := ⟨2, ![16384, 1]⟩
abbrev S16384x4x128 : Shape := ⟨3, ![16384, 4, 128]⟩
abbrev S16384x2560 : Shape := ⟨2, ![16384, 2560]⟩
abbrev S2x8192x2560 : Shape := ⟨3, ![2, 8192, 2560]⟩
abbrev S16384x4x1 : Shape := ⟨3, ![16384, 4, 1]⟩
abbrev S2x8192x512 : Shape := ⟨3, ![2, 8192, 512]⟩

abbrev nBuf : Space → Nat
  | .hbm => 11
  | .vmem => 11
  | .smem => 0
  | _ => 0

abbrev bufTy : (tb : Table) → Fin (tcTables nBuf tb) → BufTy
  | .hbm, ⟨0, _⟩ => ⟨S16384x5120, .fp8e4m3⟩
  | .hbm, ⟨1, _⟩ => ⟨S2x1x8192, .f32⟩
  | .hbm, ⟨2, _⟩ => ⟨S5120x3584, .fp8e4m3⟩
  | .hbm, ⟨3, _⟩ => ⟨S1x3584, .f32⟩
  | .hbm, ⟨4, _⟩ => ⟨S2x1x8192, .i32⟩
  | .hbm, ⟨5, _⟩ => ⟨S2x2560x8192, .bf16⟩
  | .hbm, ⟨6, _⟩ => ⟨S16384x512, .fp8e4m3⟩
  | .hbm, ⟨7, _⟩ => ⟨S16384x4, .f32⟩
  | .hbm, ⟨8, _⟩ => ⟨S16384x512, .fp8e4m3⟩
  | .hbm, ⟨9, _⟩ => ⟨S16384x4, .f32⟩
  | .hbm, ⟨10, _⟩ => ⟨S2x512x8192, .fp8e4m3⟩
  | .local _ .vmem, ⟨0, _⟩ => ⟨S16384x5120, .fp8e4m3⟩
  | .local _ .vmem, ⟨1, _⟩ => ⟨S2x1x8192, .f32⟩
  | .local _ .vmem, ⟨2, _⟩ => ⟨S5120x3584, .fp8e4m3⟩
  | .local _ .vmem, ⟨3, _⟩ => ⟨S1x3584, .f32⟩
  | .local _ .vmem, ⟨4, _⟩ => ⟨S2x1x8192, .i32⟩
  | .local _ .vmem, ⟨5, _⟩ => ⟨S2x2560x8192, .bf16⟩
  | .local _ .vmem, ⟨6, _⟩ => ⟨S16384x512, .fp8e4m3⟩
  | .local _ .vmem, ⟨7, _⟩ => ⟨S16384x4, .f32⟩
  | .local _ .vmem, ⟨8, _⟩ => ⟨S16384x512, .fp8e4m3⟩
  | .local _ .vmem, ⟨9, _⟩ => ⟨S16384x4, .f32⟩
  | .local _ .vmem, ⟨10, _⟩ => ⟨S2x512x8192, .fp8e4m3⟩
  | _, _ => ⟨S16384x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S16384x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1x8192 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x2560x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x512 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16384x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16384x512 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16384x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x512x8192 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Out1.lean ====
abbrev S16384x2560 : Shape := ⟨2, ![16384, 2560]⟩
abbrev S2x1x8192 : Shape := ⟨3, ![2, 1, 8192]⟩
abbrev S2560x5120 : Shape := ⟨2, ![2560, 5120]⟩
abbrev S1x5120 : Shape := ⟨2, ![1, 5120]⟩
abbrev S16384x5120 : Shape := ⟨2, ![16384, 5120]⟩
abbrev S256x2560 : Shape := ⟨2, ![256, 2560]⟩
abbrev S1x1x256 : Shape := ⟨3, ![1, 1, 256]⟩
abbrev S256x5120 : Shape := ⟨2, ![256, 5120]⟩
abbrev S256x128 : Shape := ⟨2, ![256, 128]⟩
abbrev S1x256 : Shape := ⟨2, ![1, 256]⟩
abbrev S128x256 : Shape := ⟨2, ![128, 256]⟩
abbrev S2560x256 : Shape := ⟨2, ![2560, 256]⟩
abbrev S256x256 : Shape := ⟨2, ![256, 256]⟩
abbrev S32x128 : Shape := ⟨2, ![32, 128]⟩
abbrev S32 : Shape := ⟨1, ![32]⟩
abbrev S32x1 : Shape := ⟨2, ![32, 1]⟩
abbrev S1x128 : Shape := ⟨2, ![1, 128]⟩

abbrev nBuf : Space → Nat
  | .hbm => 9
  | .vmem => 17
  | .smem => 0
  | _ => 0

abbrev bufTy : (tb : Table) → Fin (tcTables nBuf tb) → BufTy
  | .hbm, ⟨0, _⟩ => ⟨S16384x2560, .fp8e4m3⟩
  | .hbm, ⟨1, _⟩ => ⟨S2x1x8192, .f32⟩
  | .hbm, ⟨2, _⟩ => ⟨S2560x5120, .fp8e4m3⟩
  | .hbm, ⟨3, _⟩ => ⟨S1x5120, .f32⟩
  | .hbm, ⟨4, _⟩ => ⟨S16384x5120, .bf16⟩
  | .hbm, ⟨5, _⟩ => ⟨S1x5120, .f32⟩
  | .hbm, ⟨6, _⟩ => ⟨S16384x5120, .f32⟩
  | .hbm, ⟨7, _⟩ => ⟨S16384x5120, .fp8e4m3⟩
  | .hbm, ⟨8, _⟩ => ⟨S2x1x8192, .f32⟩
  | .local _ .vmem, ⟨0, _⟩ => ⟨S256x2560, .fp8e4m3⟩
  | .local _ .vmem, ⟨1, _⟩ => ⟨S256x2560, .fp8e4m3⟩
  | .local _ .vmem, ⟨2, _⟩ => ⟨S1x1x256, .f32⟩
  | .local _ .vmem, ⟨3, _⟩ => ⟨S1x1x256, .f32⟩
  | .local _ .vmem, ⟨4, _⟩ => ⟨S2560x5120, .fp8e4m3⟩
  | .local _ .vmem, ⟨5, _⟩ => ⟨S1x5120, .f32⟩
  | .local _ .vmem, ⟨6, _⟩ => ⟨S256x5120, .bf16⟩
  | .local _ .vmem, ⟨7, _⟩ => ⟨S256x5120, .bf16⟩
  | .local _ .vmem, ⟨8, _⟩ => ⟨S1x5120, .f32⟩
  | .local _ .vmem, ⟨9, _⟩ => ⟨S256x5120, .f32⟩
  | .local _ .vmem, ⟨10, _⟩ => ⟨S256x5120, .f32⟩
  | .local _ .vmem, ⟨11, _⟩ => ⟨S256x5120, .fp8e4m3⟩
  | .local _ .vmem, ⟨12, _⟩ => ⟨S256x5120, .fp8e4m3⟩
  | .local _ .vmem, ⟨13, _⟩ => ⟨S1x1x256, .f32⟩
  | .local _ .vmem, ⟨14, _⟩ => ⟨S1x1x256, .f32⟩
  | .local _ .vmem, ⟨15, _⟩ => ⟨S256x128, .f32⟩
  | .local _ .vmem, ⟨16, _⟩ => ⟨S256x128, .f32⟩
  | _, _ => ⟨S16384x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32 : BitVec 32 := 0#32
  let c8_i32 : BitVec 32 := 8#32
  let v268 : BitVec 32 := Scalar.addi c0_i32 c8_i32
  let c1_i32 : BitVec 32 := 1#32
  ⟨c0_i32, v268, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c32_i32 : BitVec 32 := 32#32
  let v275 : BitVec 32 := Scalar.muli arg13 c32_i32
  v275
def k0_off1 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v275 : BitVec 32 := Scalar.muli arg13 c32_i32
  let v276 : BitVec 32 := v275
  let v278 : Index := Scalar.indexCast v276
  let c0_251 : Index := 0#32
  ![v278.toNat, 0]
def k0_off2 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v275 : BitVec 32 := Scalar.muli arg13 c32_i32
  let v276 : BitVec 32 := v275
  let v283 : Index := Scalar.indexCast v276
  let c128 : Index := 128#32
  ![v283.toNat, 128]
def k0_off3 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v275 : BitVec 32 := Scalar.muli arg13 c32_i32
  let v276 : BitVec 32 := v275
  let v288 : Index := Scalar.indexCast v276
  let c256_252 : Index := 256#32
  ![v288.toNat, 256]
def k0_off4 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v275 : BitVec 32 := Scalar.muli arg13 c32_i32
  let v276 : BitVec 32 := v275
  let v293 : Index := Scalar.indexCast v276
  let c384 : Index := 384#32
  ![v293.toNat, 384]
def k0_off5 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v275 : BitVec 32 := Scalar.muli arg13 c32_i32
  let v276 : BitVec 32 := v275
  let v298 : Index := Scalar.indexCast v276
  let c512_253 : Index := 512#32
  ![v298.toNat, 512]
def k0_off6 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v275 : BitVec 32 := Scalar.muli arg13 c32_i32
  let v276 : BitVec 32 := v275
  let v303 : Index := Scalar.indexCast v276
  let c640 : Index := 640#32
  ![v303.toNat, 640]
def k0_off7 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v275 : BitVec 32 := Scalar.muli arg13 c32_i32
  let v276 : BitVec 32 := v275
  let v308 : Index := Scalar.indexCast v276
  let c768_254 : Index := 768#32
  ![v308.toNat, 768]
def k0_off8 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v275 : BitVec 32 := Scalar.muli arg13 c32_i32
  let v276 : BitVec 32 := v275
  let v313 : Index := Scalar.indexCast v276
  let c896 : Index := 896#32
  ![v313.toNat, 896]
def k0_off9 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v275 : BitVec 32 := Scalar.muli arg13 c32_i32
  let v276 : BitVec 32 := v275
  let v318 : Index := Scalar.indexCast v276
  let c1024_255 : Index := 1024#32
  ![v318.toNat, 1024]
def k0_off10 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v275 : BitVec 32 := Scalar.muli arg13 c32_i32
  let v276 : BitVec 32 := v275
  let v323 : Index := Scalar.indexCast v276
  let c1152 : Index := 1152#32
  ![v323.toNat, 1152]
def k0_off11 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v275 : BitVec 32 := Scalar.muli arg13 c32_i32
  let v276 : BitVec 32 := v275
  let v328 : Index := Scalar.indexCast v276
  let c1280_256 : Index := 1280#32
  ![v328.toNat, 1280]
def k0_off12 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v275 : BitVec 32 := Scalar.muli arg13 c32_i32
  let v276 : BitVec 32 := v275
  let v333 : Index := Scalar.indexCast v276
  let c1408 : Index := 1408#32
  ![v333.toNat, 1408]
def k0_off13 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v275 : BitVec 32 := Scalar.muli arg13 c32_i32
  let v276 : BitVec 32 := v275
  let v338 : Index := Scalar.indexCast v276
  let c1536_257 : Index := 1536#32
  ![v338.toNat, 1536]
def k0_off14 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v275 : BitVec 32 := Scalar.muli arg13 c32_i32
  let v276 : BitVec 32 := v275
  let v343 : Index := Scalar.indexCast v276
  let c1664 : Index := 1664#32
  ![v343.toNat, 1664]
def k0_off15 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v275 : BitVec 32 := Scalar.muli arg13 c32_i32
  let v276 : BitVec 32 := v275
  let v348 : Index := Scalar.indexCast v276
  let c1792_258 : Index := 1792#32
  ![v348.toNat, 1792]
def k0_off16 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v275 : BitVec 32 := Scalar.muli arg13 c32_i32
  let v276 : BitVec 32 := v275
  let v353 : Index := Scalar.indexCast v276
  let c1920 : Index := 1920#32
  ![v353.toNat, 1920]
def k0_off17 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v275 : BitVec 32 := Scalar.muli arg13 c32_i32
  let v276 : BitVec 32 := v275
  let v358 : Index := Scalar.indexCast v276
  let c2048_259 : Index := 2048#32
  ![v358.toNat, 2048]
def k0_off18 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v275 : BitVec 32 := Scalar.muli arg13 c32_i32
  let v276 : BitVec 32 := v275
  let v363 : Index := Scalar.indexCast v276
  let c2176 : Index := 2176#32
  ![v363.toNat, 2176]
def k0_off19 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v275 : BitVec 32 := Scalar.muli arg13 c32_i32
  let v276 : BitVec 32 := v275
  let v368 : Index := Scalar.indexCast v276
  let c2304_260 : Index := 2304#32
  ![v368.toNat, 2304]
def k0_off20 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v275 : BitVec 32 := Scalar.muli arg13 c32_i32
  let v276 : BitVec 32 := v275
  let v373 : Index := Scalar.indexCast v276
  let c2432 : Index := 2432#32
  ![v373.toNat, 2432]
def k0_off21 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v275 : BitVec 32 := Scalar.muli arg13 c32_i32
  let v276 : BitVec 32 := v275
  let v378 : Index := Scalar.indexCast v276
  let c2560_261 : Index := 2560#32
  ![v378.toNat, 2560]
def k0_off22 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v275 : BitVec 32 := Scalar.muli arg13 c32_i32
  let v276 : BitVec 32 := v275
  let v383 : Index := Scalar.indexCast v276
  let c2688 : Index := 2688#32
  ![v383.toNat, 2688]
def k0_off23 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v275 : BitVec 32 := Scalar.muli arg13 c32_i32
  let v276 : BitVec 32 := v275
  let v388 : Index := Scalar.indexCast v276
  let c2816_262 : Index := 2816#32
  ![v388.toNat, 2816]
def k0_off24 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v275 : BitVec 32 := Scalar.muli arg13 c32_i32
  let v276 : BitVec 32 := v275
  let v393 : Index := Scalar.indexCast v276
  let c2944 : Index := 2944#32
  ![v393.toNat, 2944]
def k0_off25 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v275 : BitVec 32 := Scalar.muli arg13 c32_i32
  let v276 : BitVec 32 := v275
  let v398 : Index := Scalar.indexCast v276
  let c3072_263 : Index := 3072#32
  ![v398.toNat, 3072]
def k0_off26 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v275 : BitVec 32 := Scalar.muli arg13 c32_i32
  let v276 : BitVec 32 := v275
  let v403 : Index := Scalar.indexCast v276
  let c3200 : Index := 3200#32
  ![v403.toNat, 3200]
def k0_off27 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v275 : BitVec 32 := Scalar.muli arg13 c32_i32
  let v276 : BitVec 32 := v275
  let v408 : Index := Scalar.indexCast v276
  let c3328_264 : Index := 3328#32
  ![v408.toNat, 3328]
def k0_off28 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v275 : BitVec 32 := Scalar.muli arg13 c32_i32
  let v276 : BitVec 32 := v275
  let v413 : Index := Scalar.indexCast v276
  let c3456 : Index := 3456#32
  ![v413.toNat, 3456]
def k0_off29 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v275 : BitVec 32 := Scalar.muli arg13 c32_i32
  let v276 : BitVec 32 := v275
  let v418 : Index := Scalar.indexCast v276
  let c3584_265 : Index := 3584#32
  ![v418.toNat, 3584]
def k0_off30 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v275 : BitVec 32 := Scalar.muli arg13 c32_i32
  let v276 : BitVec 32 := v275
  let v423 : Index := Scalar.indexCast v276
  let c3712 : Index := 3712#32
  ![v423.toNat, 3712]
def k0_off31 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v275 : BitVec 32 := Scalar.muli arg13 c32_i32
  let v276 : BitVec 32 := v275
  let v428 : Index := Scalar.indexCast v276
  let c3840_266 : Index := 3840#32
  ![v428.toNat, 3840]
def k0_off32 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v275 : BitVec 32 := Scalar.muli arg13 c32_i32
  let v276 : BitVec 32 := v275
  let v433 : Index := Scalar.indexCast v276
  let c3968 : Index := 3968#32
  ![v433.toNat, 3968]
def k0_off33 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v275 : BitVec 32 := Scalar.muli arg13 c32_i32
  let v276 : BitVec 32 := v275
  let v438 : Index := Scalar.indexCast v276
  let c4096_267 : Index := 4096#32
  ![v438.toNat, 4096]
def k0_off34 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v275 : BitVec 32 := Scalar.muli arg13 c32_i32
  let v276 : BitVec 32 := v275
  let v443 : Index := Scalar.indexCast v276
  let c4224 : Index := 4224#32
  ![v443.toNat, 4224]
def k0_off35 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v275 : BitVec 32 := Scalar.muli arg13 c32_i32
  let v276 : BitVec 32 := v275
  let v448 : Index := Scalar.indexCast v276
  let c4352_268 : Index := 4352#32
  ![v448.toNat, 4352]
def k0_off36 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v275 : BitVec 32 := Scalar.muli arg13 c32_i32
  let v276 : BitVec 32 := v275
  let v453 : Index := Scalar.indexCast v276
  let c4480 : Index := 4480#32
  ![v453.toNat, 4480]
def k0_off37 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v275 : BitVec 32 := Scalar.muli arg13 c32_i32
  let v276 : BitVec 32 := v275
  let v458 : Index := Scalar.indexCast v276
  let c4608_269 : Index := 4608#32
  ![v458.toNat, 4608]
def k0_off38 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v275 : BitVec 32 := Scalar.muli arg13 c32_i32
  let v276 : BitVec 32 := v275
  let v463 : Index := Scalar.indexCast v276
  let c4736 : Index := 4736#32
  ![v463.toNat, 4736]
def k0_off39 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v275 : BitVec 32 := Scalar.muli arg13 c32_i32
  let v276 : BitVec 32 := v275
  let v468 : Index := Scalar.indexCast v276
  let c4864_270 : Index := 4864#32
  ![v468.toNat, 4864]
def k0_off40 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v275 : BitVec 32 := Scalar.muli arg13 c32_i32
  let v276 : BitVec 32 := v275
  let v473 : Index := Scalar.indexCast v276
  let c4992 : Index := 4992#32
  ![v473.toNat, 4992]
def k0_off41 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v275 : BitVec 32 := Scalar.muli arg13 c32_i32
  let v276 : BitVec 32 := v275
  let v1464 : Index := Scalar.indexCast v276
  let c0_641 : Index := 0#32
  ![v1464.toNat, 0]
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S256x2560 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2560x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x5120 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x5120 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x5120 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Out1Ideal.lean ====
variable {F : FTy → Type} [FloatOps F] [Named F]
def κ : String → Option EReal := fun
  | "inv_d" => some ((1 / 5120 : ℝ) : EReal)
  | _ => none
-- ==== Out1RefIdeal.lean ====
abbrev S16384x2560 : Shape := ⟨2, ![16384, 2560]⟩
abbrev S2x1x8192 : Shape := ⟨3, ![2, 1, 8192]⟩
abbrev S2560x5120 : Shape := ⟨2, ![2560, 5120]⟩
abbrev S1x5120 : Shape := ⟨2, ![1, 5120]⟩
abbrev S16384x5120 : Shape := ⟨2, ![16384, 5120]⟩
abbrev S16384x1 : Shape := ⟨2, ![16384, 1]⟩
abbrev S16384 : Shape := ⟨1, ![16384]⟩

abbrev nBuf : Space → Nat
  | .hbm => 9
  | .vmem => 9
  | .smem => 0
  | _ => 0

abbrev bufTy : (tb : Table) → Fin (tcTables nBuf tb) → BufTy
  | .hbm, ⟨0, _⟩ => ⟨S16384x2560, .fp8e4m3⟩
  | .hbm, ⟨1, _⟩ => ⟨S2x1x8192, .f32⟩
  | .hbm, ⟨2, _⟩ => ⟨S2560x5120, .fp8e4m3⟩
  | .hbm, ⟨3, _⟩ => ⟨S1x5120, .f32⟩
  | .hbm, ⟨4, _⟩ => ⟨S16384x5120, .bf16⟩
  | .hbm, ⟨5, _⟩ => ⟨S1x5120, .f32⟩
  | .hbm, ⟨6, _⟩ => ⟨S16384x5120, .f32⟩
  | .hbm, ⟨7, _⟩ => ⟨S16384x5120, .fp8e4m3⟩
  | .hbm, ⟨8, _⟩ => ⟨S2x1x8192, .f32⟩
  | .local _ .vmem, ⟨0, _⟩ => ⟨S16384x2560, .fp8e4m3⟩
  | .local _ .vmem, ⟨1, _⟩ => ⟨S2x1x8192, .f32⟩
  | .local _ .vmem, ⟨2, _⟩ => ⟨S2560x5120, .fp8e4m3⟩
  | .local _ .vmem, ⟨3, _⟩ => ⟨S1x5120, .f32⟩
  | .local _ .vmem, ⟨4, _⟩ => ⟨S16384x5120, .bf16⟩
  | .local _ .vmem, ⟨5, _⟩ => ⟨S1x5120, .f32⟩
  | .local _ .vmem, ⟨6, _⟩ => ⟨S16384x5120, .f32⟩
  | .local _ .vmem, ⟨7, _⟩ => ⟨S16384x5120, .fp8e4m3⟩
  | .local _ .vmem, ⟨8, _⟩ => ⟨S2x1x8192, .f32⟩
  | _, _ => ⟨S16384x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S16384x2560 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2560x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x5120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16384x5120 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x1x8192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Qkv1.lean ====
abbrev S16384x5120 : Shape := ⟨2, ![16384, 5120]⟩
abbrev S1x5120 : Shape := ⟨2, ![1, 5120]⟩
abbrev S5120x3584 : Shape := ⟨2, ![5120, 3584]⟩
abbrev S1x3584 : Shape := ⟨2, ![1, 3584]⟩
abbrev S16384x64 : Shape := ⟨2, ![16384, 64]⟩
abbrev S2x1x8192 : Shape := ⟨3, ![2, 1, 8192]⟩
abbrev S2x2560x8192 : Shape := ⟨3, ![2, 2560, 8192]⟩
abbrev S16384x512 : Shape := ⟨2, ![16384, 512]⟩
abbrev S2x512x8192 : Shape := ⟨3, ![2, 512, 8192]⟩
abbrev S512x5120 : Shape := ⟨2, ![512, 5120]⟩
abbrev S512x64 : Shape := ⟨2, ![512, 64]⟩
abbrev S1x1x512 : Shape := ⟨3, ![1, 1, 512]⟩
abbrev S1x2560x512 : Shape := ⟨3, ![1, 2560, 512]⟩
abbrev S512x512 : Shape := ⟨2, ![512, 512]⟩
abbrev S1x512x512 : Shape := ⟨3, ![1, 512, 512]⟩
abbrev S512x128 : Shape := ⟨2, ![512, 128]⟩
abbrev S32x128 : Shape := ⟨2, ![32, 128]⟩
abbrev S32 : Shape := ⟨1, ![32]⟩
abbrev S32x1 : Shape := ⟨2, ![32, 1]⟩
abbrev S1x128 : Shape := ⟨2, ![1, 128]⟩
abbrev S128x512 : Shape := ⟨2, ![128, 512]⟩
abbrev S1x512 : Shape := ⟨2, ![1, 512]⟩
abbrev S512x128x1 : Shape := ⟨3, ![512, 128, 1]⟩
abbrev S5120x256 : Shape := ⟨2, ![5120, 256]⟩
abbrev S512x256 : Shape := ⟨2, ![512, 256]⟩
abbrev S512 : Shape := ⟨1, ![512]⟩
abbrev S512x1 : Shape := ⟨2, ![512, 1]⟩
abbrev S1x128x512 : Shape := ⟨3, ![1, 128, 512]⟩

abbrev nBuf : Space → Nat
  | .hbm => 12
  | .vmem => 22
  | .smem => 0
  | _ => 0

abbrev bufTy : (tb : Table) → Fin (tcTables nBuf tb) → BufTy
  | .hbm, ⟨0, _⟩ => ⟨S16384x5120, .bf16⟩
  | .hbm, ⟨1, _⟩ => ⟨S1x5120, .f32⟩
  | .hbm, ⟨2, _⟩ => ⟨S5120x3584, .fp8e4m3⟩
  | .hbm, ⟨3, _⟩ => ⟨S1x3584, .f32⟩
  | .hbm, ⟨4, _⟩ => ⟨S16384x64, .f32⟩
  | .hbm, ⟨5, _⟩ => ⟨S16384x64, .f32⟩
  | .hbm, ⟨6, _⟩ => ⟨S16384x5120, .fp8e4m3⟩
  | .hbm, ⟨7, _⟩ => ⟨S2x1x8192, .f32⟩
  | .hbm, ⟨8, _⟩ => ⟨S2x2560x8192, .bf16⟩
  | .hbm, ⟨9, _⟩ => ⟨S16384x512, .bf16⟩
  | .hbm, ⟨10, _⟩ => ⟨S16384x512, .bf16⟩
  | .hbm, ⟨11, _⟩ => ⟨S2x512x8192, .bf16⟩
  | .local _ .vmem, ⟨0, _⟩ => ⟨S512x5120, .bf16⟩
  | .local _ .vmem, ⟨1, _⟩ => ⟨S512x5120, .bf16⟩
  | .local _ .vmem, ⟨2, _⟩ => ⟨S1x5120, .f32⟩
  | .local _ .vmem, ⟨3, _⟩ => ⟨S5120x3584, .fp8e4m3⟩
  | .local _ .vmem, ⟨4, _⟩ => ⟨S1x3584, .f32⟩
  | .local _ .vmem, ⟨5, _⟩ => ⟨S512x64, .f32⟩
  | .local _ .vmem, ⟨6, _⟩ => ⟨S512x64, .f32⟩
  | .local _ .vmem, ⟨7, _⟩ => ⟨S512x64, .f32⟩
  | .local _ .vmem, ⟨8, _⟩ => ⟨S512x64, .f32⟩
  | .local _ .vmem, ⟨9, _⟩ => ⟨S512x5120, .fp8e4m3⟩
  | .local _ .vmem, ⟨10, _⟩ => ⟨S512x5120, .fp8e4m3⟩
  | .local _ .vmem, ⟨11, _⟩ => ⟨S1x1x512, .f32⟩
  | .local _ .vmem, ⟨12, _⟩ => ⟨S1x1x512, .f32⟩
  | .local _ .vmem, ⟨13, _⟩ => ⟨S1x2560x512, .bf16⟩
  | .local _ .vmem, ⟨14, _⟩ => ⟨S1x2560x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S1x512x512, .bf16⟩
  | .local _ .vmem, ⟨20, _⟩ => ⟨S1x512x512, .bf16⟩
  | .local _ .vmem, ⟨21, _⟩ => ⟨S512x128, .f32⟩
  | _, _ => ⟨S16384x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg15 : BitVec 32 := Scf.iv c0_i32 c1_i32 k0_t1
  let c32_i32 : BitVec 32 := 32#32
  let v926 : BitVec 32 := Scalar.muli arg15 c32_i32
  v926
def k0_off1 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v926 : BitVec 32 := Scalar.muli arg15 c32_i32
  let v927 : BitVec 32 := v926
  let v929 : Index := Scalar.indexCast v927
  let c0_381 : Index := 0#32
  ![v929.toNat, 0]
def k0_off2 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v926 : BitVec 32 := Scalar.muli arg15 c32_i32
  let v927 : BitVec 32 := v926
  let v934 : Index := Scalar.indexCast v927
  let c128_382 : Index := 128#32
  ![v934.toNat, 128]
def k0_off3 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v926 : BitVec 32 := Scalar.muli arg15 c32_i32
  let v927 : BitVec 32 := v926
  let v939 : Index := Scalar.indexCast v927
  let c256_383 : Index := 256#32
  ![v939.toNat, 256]
def k0_off4 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v926 : BitVec 32 := Scalar.muli arg15 c32_i32
  let v927 : BitVec 32 := v926
  let v944 : Index := Scalar.indexCast v927
  let c384_384 : Index := 384#32
  ![v944.toNat, 384]
def k0_off5 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v926 : BitVec 32 := Scalar.muli arg15 c32_i32
  let v927 : BitVec 32 := v926
  let v949 : Index := Scalar.indexCast v927
  let c512_385 : Index := 512#32
  ![v949.toNat, 512]
def k0_off6 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v926 : BitVec 32 := Scalar.muli arg15 c32_i32
  let v927 : BitVec 32 := v926
  let v954 : Index := Scalar.indexCast v927
  let c640_386 : Index := 640#32
  ![v954.toNat, 640]
def k0_off7 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v926 : BitVec 32 := Scalar.muli arg15 c32_i32
  let v927 : BitVec 32 := v926
  let v959 : Index := Scalar.indexCast v927
  let c768_387 : Index := 768#32
  ![v959.toNat, 768]
def k0_off8 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v926 : BitVec 32 := Scalar.muli arg15 c32_i32
  let v927 : BitVec 32 := v926
  let v964 : Index := Scalar.indexCast v927
  let c896_388 : Index := 896#32
  ![v964.toNat, 896]
def k0_off9 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v926 : BitVec 32 := Scalar.muli arg15 c32_i32
  let v927 : BitVec 32 := v926
  let v969 : Index := Scalar.indexCast v927
  let c1024_389 : Index := 1024#32
  ![v969.toNat, 1024]
def k0_off10 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v926 : BitVec 32 := Scalar.muli arg15 c32_i32
  let v927 : BitVec 32 := v926
  let v974 : Index := Scalar.indexCast v927
  let c1152_390 : Index := 1152#32
  ![v974.toNat, 1152]
def k0_off11 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v926 : BitVec 32 := Scalar.muli arg15 c32_i32
  let v927 : BitVec 32 := v926
  let v979 : Index := Scalar.indexCast v927
  let c1280_391 : Index := 1280#32
  ![v979.toNat, 1280]
def k0_off12 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v926 : BitVec 32 := Scalar.muli arg15 c32_i32
  let v927 : BitVec 32 := v926
  let v984 : Index := Scalar.indexCast v927
  let c1408_392 : Index := 1408#32
  ![v984.toNat, 1408]
def k0_off13 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v926 : BitVec 32 := Scalar.muli arg15 c32_i32
  let v927 : BitVec 32 := v926
  let v989 : Index := Scalar.indexCast v927
  let c1536_393 : Index := 1536#32
  ![v989.toNat, 1536]
def k0_off14 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v926 : BitVec 32 := Scalar.muli arg15 c32_i32
  let v927 : BitVec 32 := v926
  let v994 : Index := Scalar.indexCast v927
  let c1664_394 : Index := 1664#32
  ![v994.toNat, 1664]
def k0_off15 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v926 : BitVec 32 := Scalar.muli arg15 c32_i32
  let v927 : BitVec 32 := v926
  let v999 : Index := Scalar.indexCast v927
  let c1792_395 : Index := 1792#32
  ![v999.toNat, 1792]
def k0_off16 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v926 : BitVec 32 := Scalar.muli arg15 c32_i32
  let v927 : BitVec 32 := v926
  let v1004 : Index := Scalar.indexCast v927
  let c1920_396 : Index := 1920#32
  ![v1004.toNat, 1920]
def k0_off17 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v926 : BitVec 32 := Scalar.muli arg15 c32_i32
  let v927 : BitVec 32 := v926
  let v1009 : Index := Scalar.indexCast v927
  let c2048_397 : Index := 2048#32
  ![v1009.toNat, 2048]
def k0_off18 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v926 : BitVec 32 := Scalar.muli arg15 c32_i32
  let v927 : BitVec 32 := v926
  let v1014 : Index := Scalar.indexCast v927
  let c2176_398 : Index := 2176#32
  ![v1014.toNat, 2176]
def k0_off19 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v926 : BitVec 32 := Scalar.muli arg15 c32_i32
  let v927 : BitVec 32 := v926
  let v1019 : Index := Scalar.indexCast v927
  let c2304_399 : Index := 2304#32
  ![v1019.toNat, 2304]
def k0_off20 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v926 : BitVec 32 := Scalar.muli arg15 c32_i32
  let v927 : BitVec 32 := v926
  let v1024 : Index := Scalar.indexCast v927
  let c2432_400 : Index := 2432#32
  ![v1024.toNat, 2432]
def k0_off21 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v926 : BitVec 32 := Scalar.muli arg15 c32_i32
  let v927 : BitVec 32 := v926
  let v1029 : Index := Scalar.indexCast v927
  let c2560_401 : Index := 2560#32
  ![v1029.toNat, 2560]
def k0_off22 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v926 : BitVec 32 := Scalar.muli arg15 c32_i32
  let v927 : BitVec 32 := v926
  let v1034 : Index := Scalar.indexCast v927
  let c2688_402 : Index := 2688#32
  ![v1034.toNat, 2688]
def k0_off23 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v926 : BitVec 32 := Scalar.muli arg15 c32_i32
  let v927 : BitVec 32 := v926
  let v1039 : Index := Scalar.indexCast v927
  let c2816_403 : Index := 2816#32
  ![v1039.toNat, 2816]
def k0_off24 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v926 : BitVec 32 := Scalar.muli arg15 c32_i32
  let v927 : BitVec 32 := v926
  let v1044 : Index := Scalar.indexCast v927
  let c2944_404 : Index := 2944#32
  ![v1044.toNat, 2944]
def k0_off25 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v926 : BitVec 32 := Scalar.muli arg15 c32_i32
  let v927 : BitVec 32 := v926
  let v1049 : Index := Scalar.indexCast v927
  let c3072_405 : Index := 3072#32
  ![v1049.toNat, 3072]
def k0_off26 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v926 : BitVec 32 := Scalar.muli arg15 c32_i32
  let v927 : BitVec 32 := v926
  let v1054 : Index := Scalar.indexCast v927
  let c3200_406 : Index := 3200#32
  ![v1054.toNat, 3200]
def k0_off27 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v926 : BitVec 32 := Scalar.muli arg15 c32_i32
  let v927 : BitVec 32 := v926
  let v1059 : Index := Scalar.indexCast v927
  let c3328_407 : Index := 3328#32
  ![v1059.toNat, 3328]
def k0_off28 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v926 : BitVec 32 := Scalar.muli arg15 c32_i32
  let v927 : BitVec 32 := v926
  let v1064 : Index := Scalar.indexCast v927
  let c3456_408 : Index := 3456#32
  ![v1064.toNat, 3456]
def k0_off29 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v926 : BitVec 32 := Scalar.muli arg15 c32_i32
  let v927 : BitVec 32 := v926
  let v1069 : Index := Scalar.indexCast v927
  let c3584 : Index := 3584#32
  ![v1069.toNat, 3584]
def k0_off30 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v926 : BitVec 32 := Scalar.muli arg15 c32_i32
  let v927 : BitVec 32 := v926
  let v1074 : Index := Scalar.indexCast v927
  let c3712 : Index := 3712#32
  ![v1074.toNat, 3712]
def k0_off31 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v926 : BitVec 32 := Scalar.muli arg15 c32_i32
  let v927 : BitVec 32 := v926
  let v1079 : Index := Scalar.indexCast v927
  let c3840 : Index := 3840#32
  ![v1079.toNat, 3840]
def k0_off32 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v926 : BitVec 32 := Scalar.muli arg15 c32_i32
  let v927 : BitVec 32 := v926
  let v1084 : Index := Scalar.indexCast v927
  let c3968 : Index := 3968#32
  ![v1084.toNat, 3968]
def k0_off33 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v926 : BitVec 32 := Scalar.muli arg15 c32_i32
  let v927 : BitVec 32 := v926
  let v1089 : Index := Scalar.indexCast v927
  let c4096 : Index := 4096#32
  ![v1089.toNat, 4096]
def k0_off34 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v926 : BitVec 32 := Scalar.muli arg15 c32_i32
  let v927 : BitVec 32 := v926
  let v1094 : Index := Scalar.indexCast v927
  let c4224 : Index := 4224#32
  ![v1094.toNat, 4224]
def k0_off35 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v926 : BitVec 32 := Scalar.muli arg15 c32_i32
  let v927 : BitVec 32 := v926
  let v1099 : Index := Scalar.indexCast v927
  let c4352 : Index := 4352#32
  ![v1099.toNat, 4352]
def k0_off36 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v926 : BitVec 32 := Scalar.muli arg15 c32_i32
  let v927 : BitVec 32 := v926
  let v1104 : Index := Scalar.indexCast v927
  let c4480 : Index := 4480#32
  ![v1104.toNat, 4480]
def k0_off37 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v926 : BitVec 32 := Scalar.muli arg15 c32_i32
  let v927 : BitVec 32 := v926
  let v1109 : Index := Scalar.indexCast v927
  let c4608 : Index := 4608#32
  ![v1109.toNat, 4608]
def k0_off38 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v926 : BitVec 32 := Scalar.muli arg15 c32_i32
  let v927 : BitVec 32 := v926
  let v1114 : Index := Scalar.indexCast v927
  let c4736 : Index := 4736#32
  ![v1114.toNat, 4736]
def k0_off39 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v926 : BitVec 32 := Scalar.muli arg15 c32_i32
  let v927 : BitVec 32 := v926
  let v1119 : Index := Scalar.indexCast v927
  let c4864 : Index := 4864#32
  ![v1119.toNat, 4864]
def k0_off40 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v926 : BitVec 32 := Scalar.muli arg15 c32_i32
  let v927 : BitVec 32 := v926
  let v1124 : Index := Scalar.indexCast v927
  let c4992 : Index := 4992#32
  ![v1124.toNat, 4992]
def k0_off41 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v926 : BitVec 32 := Scalar.muli arg15 c32_i32
  let v927 : BitVec 32 := v926
  let v2115 : Index := Scalar.indexCast v927
  let c0_779 : Index := 0#32
  ![v2115.toNat, 0]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S5120x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x5120 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2560x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Qkv1Ideal.lean ====
variable {F : FTy → Type} [FloatOps F] [Named F]
def κ : String → Option EReal := fun
  | "inv_d" => some ((1 / 5120 : ℝ) : EReal)
  | _ => none
-- ==== Qkv1RefIdeal.lean ====
abbrev S16384x5120 : Shape := ⟨2, ![16384, 5120]⟩
abbrev S1x5120 : Shape := ⟨2, ![1, 5120]⟩
abbrev S5120x3584 : Shape := ⟨2, ![5120, 3584]⟩
abbrev S1x3584 : Shape := ⟨2, ![1, 3584]⟩
abbrev S16384x64 : Shape := ⟨2, ![16384, 64]⟩
abbrev S2x1x8192 : Shape := ⟨3, ![2, 1, 8192]⟩
abbrev S2x2560x8192 : Shape := ⟨3, ![2, 2560, 8192]⟩
abbrev S16384x512 : Shape := ⟨2, ![16384, 512]⟩
abbrev S2x512x8192 : Shape := ⟨3, ![2, 512, 8192]⟩
abbrev S16384 : Shape := ⟨1, ![16384]⟩
abbrev S16384x1 : Shape := ⟨2, ![16384, 1]⟩
abbrev S16384x3584 : Shape := ⟨2, ![16384, 3584]⟩
abbrev S16384x2560 : Shape := ⟨2, ![16384, 2560]⟩
abbrev S16384x20x128 : Shape := ⟨3, ![16384, 20, 128]⟩
abbrev S16384x4x128 : Shape := ⟨3, ![16384, 4, 128]⟩
abbrev S16384x1x64 : Shape := ⟨3, ![16384, 1, 64]⟩
abbrev S16384x20x64x2 : Shape := ⟨4, ![16384, 20, 64, 2]⟩
abbrev S16384x20x64x1 : Shape := ⟨4, ![16384, 20, 64, 1]⟩
abbrev S16384x20x64 : Shape := ⟨3, ![16384, 20, 64]⟩
abbrev S16384x20 : Shape := ⟨2, ![16384, 20]⟩
abbrev S16384x20x1 : Shape := ⟨3, ![16384, 20, 1]⟩
abbrev S16384x4x64x2 : Shape := ⟨4, ![16384, 4, 64, 2]⟩
abbrev S16384x4x64x1 : Shape := ⟨4, ![16384, 4, 64, 1]⟩
abbrev S16384x4x64 : Shape := ⟨3, ![16384, 4, 64]⟩
abbrev S16384x4 : Shape := ⟨2, ![16384, 4]⟩
abbrev S16384x4x1 : Shape := ⟨3, ![16384, 4, 1]⟩
abbrev S2x8192x2560 : Shape := ⟨3, ![2, 8192, 2560]⟩
abbrev S2x8192x512 : Shape := ⟨3, ![2, 8192, 512]⟩

abbrev nBuf : Space → Nat
  | .hbm => 12
  | .vmem => 12
  | .smem => 0
  | _ => 0

abbrev bufTy : (tb : Table) → Fin (tcTables nBuf tb) → BufTy
  | .hbm, ⟨0, _⟩ => ⟨S16384x5120, .bf16⟩
  | .hbm, ⟨1, _⟩ => ⟨S1x5120, .f32⟩
  | .hbm, ⟨2, _⟩ => ⟨S5120x3584, .fp8e4m3⟩
  | .hbm, ⟨3, _⟩ => ⟨S1x3584, .f32⟩
  | .hbm, ⟨4, _⟩ => ⟨S16384x64, .f32⟩
  | .hbm, ⟨5, _⟩ => ⟨S16384x64, .f32⟩
  | .hbm, ⟨6, _⟩ => ⟨S16384x5120, .fp8e4m3⟩
  | .hbm, ⟨7, _⟩ => ⟨S2x1x8192, .f32⟩
  | .hbm, ⟨8, _⟩ => ⟨S2x2560x8192, .bf16⟩
  | .hbm, ⟨9, _⟩ => ⟨S16384x512, .bf16⟩
  | .hbm, ⟨10, _⟩ => ⟨S16384x512, .bf16⟩
  | .hbm, ⟨11, _⟩ => ⟨S2x512x8192, .bf16⟩
  | .local _ .vmem, ⟨0, _⟩ => ⟨S16384x5120, .bf16⟩
  | .local _ .vmem, ⟨1, _⟩ => ⟨S1x5120, .f32⟩
  | .local _ .vmem, ⟨2, _⟩ => ⟨S5120x3584, .fp8e4m3⟩
  | .local _ .vmem, ⟨3, _⟩ => ⟨S1x3584, .f32⟩
  | .local _ .vmem, ⟨4, _⟩ => ⟨S16384x64, .f32⟩
  | .local _ .vmem, ⟨5, _⟩ => ⟨S16384x64, .f32⟩
  | .local _ .vmem, ⟨6, _⟩ => ⟨S16384x5120, .fp8e4m3⟩
  | .local _ .vmem, ⟨7, _⟩ => ⟨S2x1x8192, .f32⟩
  | .local _ .vmem, ⟨8, _⟩ => ⟨S2x2560x8192, .bf16⟩
  | .local _ .vmem, ⟨9, _⟩ => ⟨S16384x512, .bf16⟩
  | .local _ .vmem, ⟨10, _⟩ => ⟨S16384x512, .bf16⟩
  | .local _ .vmem, ⟨11, _⟩ => ⟨S2x512x8192, .bf16⟩
  | _, _ => ⟨S16384x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S16384x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x5120 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x2560x8192 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16384x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16384x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x512x8192 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Out2Value.lean ====
module

public import proofs.«01_k».proof.Proof.Gen.Out2Ideal.Value
public import proofs.«01_k».proof.Proof.Gen.Out2RefIdeal.Value
public import Idealize.ShloMosaic.Lib.Pipeline.ValueKit

@[expose] public section

set_option maxRecDepth 16384

noncomputable section

namespace Cert.Out2Ideal.RefValue

open Idealize.ShloMosaic Idealize.ShloMosaic.TcCoe Idealize.SL.Sem
open Idealize.ShloMosaic.Pipeline (Dat)
open Cert.Out2Ideal Cert.Out2Ideal.Gen

variable (m : (ℓ : Loc nD τ sig) → Buf (Elt Ideal) ℓ)

/-- The grid's 64 points walk the row blocks: point `t` reads rows `256 t … 256 t + 255` of the
    codes and of the residual, and the matching 256 scales of one batch entry. -/
theorem idx : ∀ t : Fin cfg0.N, win0_0.index t = ![t.val, 0] ∧ win0_1.index t = ![t.val / 32, 0, t.val % 32]
    ∧ win0_2.index t = ![0, 0] ∧ win0_3.index t = ![0, 0] ∧ win0_4.index t = ![t.val, 0] ∧ win0_5.index t = ![t.val, 0]
    ∧ t.val < 64 :=
  (by decide +kernel : ∀ t : Fin grid0.N, _)

/-- One block of the result: the residual plus the product of the codes with the weights, scaled by
    the row's and the column's scale. -/
def tile (x0 : FVec Ideal S256x2560 .fp8e4m3) (x1 : FVec Ideal S1x1x256 .f32) (x2 : FVec Ideal S2560x5120 .fp8e4m3)
    (x3 : FVec Ideal S1x5120 .f32) (x4 : FVec Ideal S256x5120 .f32) (i : S256x5120.Idx) : EReal :=
  x4 i + (∑ k : Fin 2560, x0 (ix2 (i 0) k) * x2 (ix2 k (i 1))) * x1 (ix3 0 0 (i 0)) * x3 (ix2 0 (i 1))

/-- A block of the result is the reference's term at the block's place. -/
theorem tile_eq (c : Dev nD) (t : Fin cfg0.N) (y : S256x5120.Idx) :
    tile (iblk m c 0 t) (iblk m c 1 t) (iblk m c 2 t) (iblk m c 3 t) (iblk m c 4 t) y
      = Cert.Out2RefIdeal.Gen.k0_pay1 (F := Ideal) (m ((c : Thread nD τ).loc main_arg1)) (m ((c : Thread nD τ).loc main_arg0))
        (m ((c : Thread nD τ).loc main_arg2)) (m ((c : Thread nD τ).loc main_arg4)) (m ((c : Thread nD τ).loc main_arg3))
        (((cfg0.win 5).blk t).view.emb y) := by
  pointwise [tile, Cert.Out2RefIdeal.Gen.k0_pay1]
  blk_point [iblk, V, idx t]

set_option maxHeartbeats 1600000 in
/-- The result array after the run is the reference's term of the arguments: each of the 20 column
    tiles a point stores is that tile of the block. -/
theorem final (c : Dev nD) : (dats m 0 c).arrAt 5 cfg0.N
    = Cert.Out2RefIdeal.Gen.out0_5 (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  unfold outsAt0
  frame_out
  refine Eq.trans (b := tile (iblk m c 0 t) (iblk m c 1 t) (iblk m c 2 t) (iblk m c 3 t) (iblk m c 4 t) y) ?_ (tile_eq m c t y)
  canon_tiles x h
  all_goals (open_payloads; pointwise [tile]; blk_point [])

end Cert.Out2Ideal.RefValue

end
-- ==== Proof.Out2Claim.lean ====
module

public import proofs.«01_k».proof.Defs
public import proofs.«01_k».proof.Proof.Gen.Out2Ideal.Value
public import proofs.«01_k».proof.Proof.Gen.Out2RefIdeal.Value
public import proofs.«01_k».proof.Proof.Out2Value

/-! The second output projection and its reference end with the same array, at the ideal instance. -/

@[expose] public section

set_option maxRecDepth 16384

noncomputable section

namespace Cert.Proof.Out2Claims

open Idealize.ShloMosaic Idealize.SL.Sem

/-- Kernel and reference end with the same sum of input and projection. -/
theorem algebraic : Cert.algebraic_Out2Ideal_Out2RefIdeal := by
  pair_intro
  · run_from Cert.Out2Ideal.Value.run_blocks m g
  · run_from Cert.Out2RefIdeal.Value.run m' g'
    rw [Cert.Out2Ideal.RefValue.final m c]
    exact (Cert.Out2RefIdeal.Value.out5_eq _ _ _ _ _).symm

end Cert.Proof.Out2Claims

end
-- ==== Proof.Quantise.lean ====
module

public import Idealize.ShloMosaic.Lib.Pipeline.ValueKit

@[expose] public section

set_option maxRecDepth 16384

noncomputable section

/-! # The fp8 quantiser, over the extended reals

A row is scaled by its largest absolute value over 448 (by 1 when the row is zero) and clipped to
`[-448, 448]`. One program divides each entry by the scale, the other multiplies it by the scale's
reciprocal: the scale is never zero, so the two agree. -/

namespace Cert.Quantise

open Idealize.ShloMosaic

/-- The largest absolute value of a row. -/
def amax {n : ℕ} (f : Fin n → EReal) : EReal :=
  Finset.fold max (Ideal.ofBits .f32 0xFF800000#32) (fun i => FloatOps.absf (F := Ideal) (φ := .f32) (f i)) Finset.univ

/-- The scale of a row whose largest absolute value is `a`. -/
def scale (a : EReal) : EReal := if a = 0 then 1 else Ideal.div a (Ideal.ofBits .f32 0x43E00000#32)

/-- The code of an entry: divided by the scale and clipped. -/
def code (v s : EReal) : EReal :=
  min (Ideal.ofBits .f32 0x43E00000#32) (max (Ideal.ofBits .f32 0xC3E00000#32) (Ideal.div v s))

/-- The code of an entry as a product with the scale's reciprocal. -/
def codeMul (v s : EReal) : EReal :=
  min (Ideal.ofBits .f32 0x43E00000#32) (max (Ideal.ofBits .f32 0xC3E00000#32) (v * Ideal.div 1 s))

theorem e4m3Max : Ideal.ofBits .f32 0x43E00000#32 = ((448 : ℝ) : EReal) := by
  simp [Ideal.ofBits, Ideal.ieee, -EReal.coe_mul]; norm_num

/-- The scale is never zero. -/
theorem scale_ne_zero (a : EReal) : scale a ≠ 0 := by
  unfold scale
  split
  · exact one_ne_zero
  · rename_i h
    rw [e4m3Max, Ideal.div_coe (by norm_num)]
    intro hz
    rcases mul_eq_zero.mp hz with h0 | h0
    · exact h h0
    · norm_num at h0

/-- Dividing by a nonzero number is multiplying by its reciprocal. -/
theorem mul_div_one (v : EReal) {s : EReal} (h : s ≠ 0) : v * Ideal.div 1 s = Ideal.div v s := by
  rw [Ideal.div, Ideal.div, if_neg h, if_neg h, one_mul]

theorem codeMul_eq (v a : EReal) : codeMul v (scale a) = code v (scale a) := by
  rw [codeMul, code, mul_div_one v (scale_ne_zero a)]

end Cert.Quantise

end
-- ==== Proof.FloorDiv.lean ====
module

public import Idealize.ShloMosaic.Lib.Pipeline.ValueKit

@[expose] public section

set_option maxRecDepth 16384

/-! # The floor division of a 32-bit integer by 2048, as an arithmetic shift by 11

The floor division is printed as a truncating division, corrected by one when the signs differ and
the remainder is not zero. -/

namespace Cert.FloorDiv

open Idealize.ShloMosaic

/-- The sign of `x` as the difference of two comparisons with zero. -/
def sign (x : BitVec 32) : BitVec 32 :=
  IntOp.subi (BitVec.setWidth 32 (IntOp.cmpi .sgt x 0#32)) (BitVec.setWidth 32 (IntOp.cmpi .slt x 0#32))

/-- The floor division by 2048 as it is printed. -/
def floorDiv (x : BitVec 32) : BitVec 32 :=
  Scalar.select
    (IntOp.andi
      (IntOp.cmpi .ne (sign x)
        (Scalar.subi (Scalar.extui (Scalar.cmpi .sgt 2048#32 0#32)) (Scalar.extui (Scalar.cmpi .slt 2048#32 0#32))))
      (IntOp.cmpi .ne (IntOp.remsi .vector x 2048#32) 0#32))
    (IntOp.subi (IntOp.divsi .vector x 2048#32) 1#32)
    (IntOp.divsi .vector x 2048#32)

theorem not_corner (x : BitVec 32) : ¬ IntOp.SDivCorner x 2048#32 := by
  rintro (h | ⟨-, h⟩) <;> exact absurd h (by decide)

theorem toInt_div (x : BitVec 32) : (IntOp.divsi .vector x 2048#32).toInt = x.toInt.tdiv 2048 := by
  rw [IntOp.divsi, if_neg (not_corner x), BitVec.toInt_sdiv_of_ne_or_ne _ _ (.inr (by decide))]; rfl

theorem toInt_rem (x : BitVec 32) : (IntOp.remsi .vector x 2048#32).toInt = x.toInt.tmod 2048 := by
  rw [IntOp.remsi, if_neg (not_corner x), BitVec.toInt_srem]; rfl

theorem toInt_shift (x : BitVec 32) : (IntOp.shrsi .vector x 11#32).toInt = x.toInt / 2048 := by
  rw [IntOp.shrsi, if_pos (by decide), BitVec.toInt_sshiftRight']
  rw [Int.shiftRight_eq_div_pow]; rfl

theorem ofBool_ne (a b : BitVec 32) : IntOp.cmpi .ne a b = BitVec.ofBool (decide (a.toInt ≠ b.toInt)) := by
  by_cases h : a = b
  · simp [IntOp.cmpi, h]
  · have h' : a.toInt ≠ b.toInt := fun e => h (BitVec.eq_of_toInt_eq e)
    have hb : (a != b) = true := by simpa using h
    simp [IntOp.cmpi, hb, h']

theorem sign_pos {x : BitVec 32} (h : 0 < x.toInt) : sign x = 1#32 := by
  have h1 : (0#32).slt x = true := by simp [BitVec.slt, h]
  have h2 : x.slt 0#32 = false := by simp [BitVec.slt]; omega
  simp [sign, IntOp.cmpi, IntOp.subi, h1, h2]

theorem sign_neg {x : BitVec 32} (h : x.toInt < 0) : sign x = -1#32 := by
  have h1 : (0#32).slt x = false := by simp [BitVec.slt]; omega
  have h2 : x.slt 0#32 = true := by simp [BitVec.slt, h]
  simp [sign, IntOp.cmpi, IntOp.subi, h1, h2]

theorem sign_two : Scalar.subi (Scalar.extui (Scalar.cmpi .sgt 2048#32 0#32)) (Scalar.extui (Scalar.cmpi .slt 2048#32 0#32)) = 1#32 := by
  decide

/-- The printed floor division is the arithmetic shift. -/
theorem floorDiv_eq (x : BitVec 32) : floorDiv x = IntOp.shrsi .vector x 11#32 := by
  apply BitVec.eq_of_toInt_eq
  rw [toInt_shift, floorDiv, sign_two]
  have hx : -2147483648 ≤ x.toInt := by have := BitVec.le_toInt x; norm_num at this; exact this
  have hx' : x.toInt < 2147483648 := by have := BitVec.toInt_lt (x := x); norm_num at this; exact this
  have hq := toInt_div x
  have hr := toInt_rem x
  rcases lt_trichotomy x.toInt 0 with h | h | h
  · rw [sign_neg h]
    have hc : IntOp.cmpi .ne (-1#32) 1#32 = 1#1 := by decide
    rw [hc, ofBool_ne, hr]
    have hd : x.toInt.tdiv 2048 = -((-x.toInt) / 2048) := by
      rw [← Int.tdiv_eq_ediv_of_nonneg (by omega), Int.neg_tdiv, neg_neg]
    have hm : x.toInt.tmod 2048 = -((-x.toInt) % 2048) := by
      rw [← Int.tmod_eq_emod_of_nonneg (by omega), Int.neg_tmod, neg_neg]
    by_cases hz : x.toInt.tmod 2048 = 0
    · have : BitVec.ofBool (decide (x.toInt.tmod 2048 ≠ (0#32).toInt)) = 0#1 := by simp [hz]
      rw [this]
      have e : IntOp.andi 1#1 0#1 = 0#1 := by decide
      rw [e, Scalar.select, if_neg (by decide), hq, hd]
      omega
    · have : BitVec.ofBool (decide (x.toInt.tmod 2048 ≠ (0#32).toInt)) = 1#1 := by simp [hz]
      rw [this]
      have e : IntOp.andi 1#1 1#1 = 1#1 := by decide
      rw [e, Scalar.select, if_pos (by decide), IntOp.subi, BitVec.toInt_sub, hq, hd]
      have h1 : (1#32).toInt = 1 := by decide
      rw [h1, Int.bmod_eq_of_le (by norm_num; omega) (by norm_num; omega)]
      omega
  · have hx0 : x = 0#32 := BitVec.eq_of_toInt_eq (by simpa using h)
    subst hx0
    decide
  · rw [sign_pos h]
    have hc : IntOp.cmpi .ne (1#32) 1#32 = 0#1 := by decide
    rw [hc, ofBool_ne]
    have e : ∀ b : BitVec 1, IntOp.andi 0#1 b = 0#1 := by decide
    rw [e, Scalar.select, if_neg (by decide), hq, Int.tdiv_eq_ediv_of_nonneg (by omega)]

end Cert.FloorDiv
-- ==== Proof.Qkv2Entries.lean ====
module

public import proofs.«01_k».proof.Proof.Quantise
public import proofs.«01_k».proof.Proof.FloorDiv
public import proofs.«01_k».proof.Proof.Gen.Qkv2RefIdeal.Value
public import Idealize.ShloMosaic.Lib.Pipeline.ValueKit

@[expose] public section

set_option maxRecDepth 16384

noncomputable section

namespace Cert.Qkv2RefIdeal.Entries

open Idealize.ShloMosaic Idealize.ShloMosaic.TcCoe Idealize.SL.Sem
open Idealize.ShloMosaic.Pipeline (Dat)
open Cert.Qkv2RefIdeal Cert.Qkv2RefIdeal.Gen Cert.Quantise

/-! # The entries of the reference's results -/

section
variable (A0 : FVec Ideal S16384x5120 .fp8e4m3) (A1 : FVec Ideal S2x1x8192 .f32) (A2 : FVec Ideal S5120x3584 .fp8e4m3)
    (A3 : FVec Ideal S1x3584 .f32) (A4 : IVec S2x1x8192 32)

/-- One entry of the projection: row `r` of the codes against column `n` of the weights, times the
    row's and the column's scale. -/
def proj (r : Fin 16384) (n : Fin 3584) : EReal :=
  (∑ k : Fin 5120, A0 (ix2 r k) * A2 (ix2 k n)) * A1 (ix3 ⟨r.val / 8192, by omega⟩ 0 ⟨r.val % 8192, by omega⟩) * A3 (ix2 0 n)

theorem proj_at (r : Fin 16384) (n : Fin 3584) : k0_pay6 (F := Ideal) A0 A2 A1 A3 (ix2 r n) = proj A0 A1 A2 A3 r n := by
  pointwise [k0_pay6, proj]

/-- The 128 columns of a key head of a row. -/
theorem key_at (r : Fin 16384) (hd : Fin 4) (j : Fin 128) :
    k0_pay17 (F := Ideal) A0 A1 A2 A3 A4 (ix3 r hd j) = proj A0 A1 A2 A3 r ⟨2560 + (hd.val * 128 + j.val), by omega⟩ := by
  rw [← proj_at, k0_pay17]
  frame_out
  pointwise [k0_pay7]

/-- The 128 columns of a value head of a row. -/
theorem value_at (r : Fin 16384) (hd : Fin 4) (j : Fin 128) :
    k0_pay18 (F := Ideal) A0 A1 A2 A3 A4 (ix3 r hd j) = proj A0 A1 A2 A3 r ⟨3072 + (hd.val * 128 + j.val), by omega⟩ := by
  rw [← proj_at, k0_pay18]
  frame_out
  pointwise [k0_pay8]

end

section
variable (v : FVec Ideal S16384x4x128 .f32) (s : FVec Ideal S16384x4 .f32)

theorem amax_at (r : Fin 16384) (hd : Fin 4) : k0_pay16 (F := Ideal) v (ix2 r hd) = amax fun j => v (ix3 r hd j) := by
  pointwise [k0_pay16, amax]

theorem scale3_at (r : Fin 16384) (hd : Fin 4) : k0_pay1 (F := Ideal) s (ix3 r hd 0) = scale (s (ix2 r hd)) := by
  pointwise [scale, k0_pay1]

theorem scale_at (r : Fin 16384) (hd : Fin 4) : k0_pay4 (F := Ideal) s (ix2 r hd) = scale (s (ix2 r hd)) := by
  rw [← scale3_at]
  pointwise [k0_pay4]

theorem code_at (r : Fin 16384) (n : Fin 512) :
    k0_pay3 (F := Ideal) v s (ix2 r n)
      = code (v (ix3 r ⟨n.val / 128, by omega⟩ ⟨n.val % 128, by omega⟩)) (scale (s (ix2 r ⟨n.val / 128, by omega⟩))) := by
  rw [← scale3_at]
  pointwise [code, k0_pay3, k0_pay2]

theorem codeT_at (b : Fin 2) (n : Fin 512) (r : Fin 8192) :
    k0_pay5 (F := Ideal) v s (ix3 b n r)
      = code (v (ix3 ⟨b.val * 8192 + r.val, by omega⟩ ⟨n.val / 128, by omega⟩ ⟨n.val % 128, by omega⟩))
          (scale (s (ix2 ⟨b.val * 8192 + r.val, by omega⟩ ⟨n.val / 128, by omega⟩))) := by
  rw [← scale3_at]
  pointwise [code, k0_pay5, k0_pay2]

/-- The keys' scales and codes are printed apart from the values', by the same operations. -/
theorem keyScale_eq : k0_pay15 (F := Ideal) v = k0_pay4 (F := Ideal) (k0_pay16 (F := Ideal) v) := rfl
theorem keyCode_eq : k0_pay14 (F := Ideal) v = k0_pay3 (F := Ideal) v (k0_pay16 (F := Ideal) v) := rfl

end

/-- The temperature of a query at position `p`. -/
def temp (p : BitVec 32) : EReal :=
  1 + Ideal.ofBits .f32 0x3DCCCCCD#32
    * Ideal.log (FloatOps.sitofp (F := Ideal) .f32 (IntOp.shrsi .vector (IntOp.addi p 1#32) 11#32) + 1)

theorem query_at (w : FVec Ideal S16384x3584 .f32) (A4 : IVec S2x1x8192 32) (b : Fin 2) (n : Fin 2560) (r : Fin 8192) :
    k0_pay12 (F := Ideal) w (k0_pay10 (F := Ideal) A4) (k0_pay11 (F := Ideal) A4) 1#32 (ix3 b n r)
      = w (ix2 ⟨b.val * 8192 + r.val, by omega⟩ ⟨n.val, by omega⟩) * temp (A4 (ix3 b 0 r)) := by
  rw [temp, ← Cert.FloorDiv.floorDiv_eq]
  pointwise [k0_pay12, k0_pay10, k0_pay11, k0_pay9, Cert.FloorDiv.floorDiv, Cert.FloorDiv.sign]

end Cert.Qkv2RefIdeal.Entries

end
-- ==== Proof.Qkv2Blocks.lean ====
module

public import proofs.«01_k».proof.Proof.Qkv2Entries
public import proofs.«01_k».proof.Proof.Gen.Qkv2Ideal.Value
public import Idealize.ShloMosaic.Lib.Pipeline.ValueKit

@[expose] public section

set_option maxRecDepth 16384

noncomputable section

namespace Cert.Qkv2Ideal.RefValue

open Idealize.ShloMosaic Idealize.ShloMosaic.TcCoe Idealize.SL.Sem
open Idealize.ShloMosaic.Pipeline (Dat)
open Cert.Qkv2Ideal Cert.Qkv2Ideal.Gen Cert.Quantise

variable (m : (ℓ : Loc nD τ sig) → Buf (Elt Ideal) ℓ)

/-- The grid's 32 points walk the row blocks: point `t` has rows `512 t … 512 t + 511`. -/
theorem idx : ∀ t : Fin cfg0.N, win0_0.index t = ![t.val, 0] ∧ win0_1.index t = ![t.val / 16, 0, t.val % 16]
    ∧ win0_2.index t = ![0, 0] ∧ win0_3.index t = ![0, 0] ∧ win0_4.index t = ![t.val / 16, 0, t.val % 16]
    ∧ win0_5.index t = ![t.val / 16, 0, t.val % 16] ∧ win0_6.index t = ![t.val, 0] ∧ win0_7.index t = ![t.val, 0]
    ∧ win0_8.index t = ![t.val, 0] ∧ win0_9.index t = ![t.val, 0]
    ∧ win0_10.index t = ![t.val / 16, 0, t.val % 16] ∧ t.val < 32 :=
  (by decide +kernel : ∀ t : Fin grid0.N, _)

/-- One entry of a block's projection: row `r` of the codes against column `n` of the weights, times
    the row's and the column's scale. -/
def proj (x0 : FVec Ideal S512x5120 .fp8e4m3) (x1 : FVec Ideal S1x1x512 .f32) (x2 : FVec Ideal S5120x3584 .fp8e4m3)
    (x3 : FVec Ideal S1x3584 .f32) (r : Fin 512) (n : Fin 3584) : EReal :=
  (∑ k : Fin 5120, x0 (ix2 r k) * x2 (ix2 k n)) * x1 (ix3 0 0 r) * x3 (ix2 0 n)

/-- The 128 columns of one head of a block's row: `o = 2560` for the keys, `3072` for the values. -/
def headRow (o : ℕ) (ho : o + 512 ≤ 3584) (x0 : FVec Ideal S512x5120 .fp8e4m3) (x1 : FVec Ideal S1x1x512 .f32) (x2 : FVec Ideal S5120x3584 .fp8e4m3)
    (x3 : FVec Ideal S1x3584 .f32) (r : Fin 512) (hd : Fin 4) (j : Fin 128) : EReal :=
  proj x0 x1 x2 x3 r ⟨o + (hd.val * 128 + j.val), by omega⟩

/-- The scale of one head of a block's row. -/
def headScale (o : ℕ) (ho : o + 512 ≤ 3584) (x0 : FVec Ideal S512x5120 .fp8e4m3) (x1 : FVec Ideal S1x1x512 .f32) (x2 : FVec Ideal S5120x3584 .fp8e4m3)
    (x3 : FVec Ideal S1x3584 .f32) (r : Fin 512) (hd : Fin 4) : EReal :=
  scale (amax (headRow o ho x0 x1 x2 x3 r hd))

/-- One code of a block's row, as the product with the scale's reciprocal. -/
def headCode (o : ℕ) (ho : o + 512 ≤ 3584) (x0 : FVec Ideal S512x5120 .fp8e4m3) (x1 : FVec Ideal S1x1x512 .f32) (x2 : FVec Ideal S5120x3584 .fp8e4m3)
    (x3 : FVec Ideal S1x3584 .f32) (r : Fin 512) (n : Fin 512) : EReal :=
  codeMul (headRow o ho x0 x1 x2 x3 r ⟨n.val / 128, by omega⟩ ⟨n.val % 128, by omega⟩)
    (headScale o ho x0 x1 x2 x3 r ⟨n.val / 128, by omega⟩)

/-- The temperature of the block's row `r`. -/
def rowTemp (x4 : IVec S1x1x512 32) (r : Fin 512) : EReal :=
  1 + Ideal.ofBits .f32 0x3DCCCCCD#32
    * Ideal.log (FloatOps.sitofp (F := Ideal) .f32 (IntOp.shrsi .vector (IntOp.addi (x4 (ix3 0 0 r)) 1#32) 11#32) + 1)

/-- A block's projection is the reference's at the block's place. -/
theorem proj_eq (c : Dev nD) (t : Fin cfg0.N) (r : Fin 512) (R : Fin 16384) (n : Fin 3584) (hR : R.val = t.val * 512 + r.val) :
    proj (iblk m c 0 t) (iblk m c 1 t) (iblk m c 2 t) (iblk m c 3 t) r n = Cert.Qkv2RefIdeal.Entries.proj (m ((c : Thread nD τ).loc main_arg0)) (m ((c : Thread nD τ).loc main_arg1))
        (m ((c : Thread nD τ).loc main_arg2)) (m ((c : Thread nD τ).loc main_arg3)) R n := by
  unfold proj Cert.Qkv2RefIdeal.Entries.proj
  blk_point [iblk, V, idx t]

theorem rowTemp_eq (c : Dev nD) (t : Fin cfg0.N) (r : Fin 512) (b : Fin 2) (R : Fin 8192) (hb : b.val = t.val / 16)
    (hR : R.val = t.val % 16 * 512 + r.val) :
    rowTemp (iblk m c 4 t) r = Cert.Qkv2RefIdeal.Entries.temp (m ((c : Thread nD τ).loc main_arg4) (ix3 b 0 R)) := by
  unfold rowTemp Cert.Qkv2RefIdeal.Entries.temp
  blk_point [iblk, V, idx t]

theorem headRow_key (c : Dev nD) (t : Fin cfg0.N) (r : Fin 512) (R : Fin 16384) (hd : Fin 4) (hR : R.val = t.val * 512 + r.val) :
    headRow 2560 (by norm_num) (iblk m c 0 t) (iblk m c 1 t) (iblk m c 2 t) (iblk m c 3 t) r hd = fun j => Cert.Qkv2RefIdeal.Gen.k0_pay17 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (ix3 R hd j) := by
  funext j
  rw [Cert.Qkv2RefIdeal.Entries.key_at, headRow, proj_eq m c t r R _ hR]

theorem headRow_value (c : Dev nD) (t : Fin cfg0.N) (r : Fin 512) (R : Fin 16384) (hd : Fin 4) (hR : R.val = t.val * 512 + r.val) :
    headRow 3072 (by norm_num) (iblk m c 0 t) (iblk m c 1 t) (iblk m c 2 t) (iblk m c 3 t) r hd = fun j => Cert.Qkv2RefIdeal.Gen.k0_pay18 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (ix3 R hd j) := by
  funext j
  rw [Cert.Qkv2RefIdeal.Entries.value_at, headRow, proj_eq m c t r R _ hR]

end Cert.Qkv2Ideal.RefValue

end
-- ==== Proof.Qkv2Queries.lean ====
module

public import proofs.«01_k».proof.Proof.Qkv2Blocks

@[expose] public section

set_option maxRecDepth 16384

noncomputable section

namespace Cert.Qkv2Ideal.RefValue

open Idealize.ShloMosaic Idealize.ShloMosaic.TcCoe Idealize.SL.Sem
open Idealize.ShloMosaic.Pipeline (Dat)
open Cert.Qkv2Ideal Cert.Qkv2Ideal.Gen Cert.Quantise

variable (m : (ℓ : Loc nD τ sig) → Buf (Elt Ideal) ℓ)

theorem tile5_at (c : Dev nD) (t : Fin cfg0.N) (r : Fin 512) (b : Fin 2) (R : Fin 8192) (n : Fin 2560)
    (hb : b.val = t.val / 16) (hR : R.val = t.val % 16 * 512 + r.val) :
    proj (iblk m c 0 t) (iblk m c 1 t) (iblk m c 2 t) (iblk m c 3 t) r ⟨n.val, by omega⟩ * rowTemp (iblk m c 4 t) r = Cert.Qkv2RefIdeal.Value.G5 (m ((c : Thread nD τ).loc main_arg0)) (m ((c : Thread nD τ).loc main_arg1))
        (m ((c : Thread nD τ).loc main_arg2)) (m ((c : Thread nD τ).loc main_arg3)) (m ((c : Thread nD τ).loc main_arg4)) (ix3 b n R) := by
  rw [proj_eq m c t r ⟨b.val * 8192 + R.val, by omega⟩ _ (by show b.val * 8192 + R.val = _; omega), rowTemp_eq m c t r b R hb hR]
  refine Eq.symm ((Cert.Qkv2RefIdeal.Entries.query_at _ _ _ _ _).trans ?_)
  exact congrArg (· * _) (Cert.Qkv2RefIdeal.Entries.proj_at _ _ _ _ _ _)

theorem tile5 (c : Dev nD) (t : Fin cfg0.N) (y : S1x2560x512.Idx) :
    proj (iblk m c 0 t) (iblk m c 1 t) (iblk m c 2 t) (iblk m c 3 t) (y 2) ⟨(y 1).val, lt_of_lt_of_le (show (y 1).val < 2560 from (y 1).isLt) (by norm_num)⟩ * rowTemp (iblk m c 4 t) (y 2)
      = Cert.Qkv2RefIdeal.Value.G5 (m ((c : Thread nD τ).loc main_arg0)) (m ((c : Thread nD τ).loc main_arg1))
        (m ((c : Thread nD τ).loc main_arg2)) (m ((c : Thread nD τ).loc main_arg3)) (m ((c : Thread nD τ).loc main_arg4)) (((cfg0.win 5).blk t).view.emb y) := by
  have ht : t.val < 32 := (idx t).2.2.2.2.2.2.2.2.2.2.2
  obtain_idx R : Cert.Qkv2RefIdeal.S2x2560x8192 := [t.val / 16, (y 1 : ℕ), t.val % 16 * 512 + (y 2 : ℕ)] with hR
  have e : ((cfg0.win 5).blk t).view.emb y = ix3 (R 0) (y 1) (R 2) := by blk_ext [idx t]
  exact (tile5_at m c t (y 2) (R 0) (R 2) (y 1) hR0 hR2).trans (congrArg _ e.symm)

set_option maxHeartbeats 1600000 in
/-- The transposed queries after the run. -/
theorem final5 (c : Dev nD) : (dats m 0 c).arrAt 5 cfg0.N
    = Cert.Qkv2RefIdeal.Value.G5 (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  unfold outsAt0
  frame_out
  refine Eq.trans (b := proj (iblk m c 0 t) (iblk m c 1 t) (iblk m c 2 t) (iblk m c 3 t) (y 2) ⟨(y 1).val, lt_of_lt_of_le (show (y 1).val < 2560 from (y 1).isLt) (by norm_num)⟩ * rowTemp (iblk m c 4 t) (y 2)) ?_ (tile5 m c t y)
  canon_tiles x h
  all_goals (open_payloads; pointwise [proj, rowTemp]; blk_point [])

end Cert.Qkv2Ideal.RefValue

end
-- ==== Proof.Qkv2Keys.lean ====
module

public import proofs.«01_k».proof.Proof.Qkv2Blocks

@[expose] public section

set_option maxRecDepth 16384

noncomputable section

namespace Cert.Qkv2Ideal.RefValue

open Idealize.ShloMosaic Idealize.ShloMosaic.TcCoe Idealize.SL.Sem
open Idealize.ShloMosaic.Pipeline (Dat)
open Cert.Qkv2Ideal Cert.Qkv2Ideal.Gen Cert.Quantise

variable (m : (ℓ : Loc nD τ sig) → Buf (Elt Ideal) ℓ)

theorem tile7_at (c : Dev nD) (t : Fin cfg0.N) (r : Fin 512) (R : Fin 16384) (hd : Fin 4) (hR : R.val = t.val * 512 + r.val) :
    headScale 2560 (by norm_num) (iblk m c 0 t) (iblk m c 1 t) (iblk m c 2 t) (iblk m c 3 t) r hd = Cert.Qkv2RefIdeal.Value.G7 (m ((c : Thread nD τ).loc main_arg0)) (m ((c : Thread nD τ).loc main_arg1))
        (m ((c : Thread nD τ).loc main_arg2)) (m ((c : Thread nD τ).loc main_arg3)) (m ((c : Thread nD τ).loc main_arg4)) (ix2 R hd) := by
  rw [headScale, headRow_key m c t r R hd hR]
  refine Eq.symm ((congrFun (Cert.Qkv2RefIdeal.Entries.keyScale_eq _) _).trans ?_)
  rw [Cert.Qkv2RefIdeal.Entries.scale_at]
  exact congrArg scale (Cert.Qkv2RefIdeal.Entries.amax_at _ R hd)

theorem tile7 (c : Dev nD) (t : Fin cfg0.N) (y : S512x4.Idx) :
    headScale 2560 (by norm_num) (iblk m c 0 t) (iblk m c 1 t) (iblk m c 2 t) (iblk m c 3 t) (y 0) (y 1)
      = Cert.Qkv2RefIdeal.Value.G7 (m ((c : Thread nD τ).loc main_arg0)) (m ((c : Thread nD τ).loc main_arg1))
        (m ((c : Thread nD τ).loc main_arg2)) (m ((c : Thread nD τ).loc main_arg3)) (m ((c : Thread nD τ).loc main_arg4)) (((cfg0.win 7).blk t).view.emb y) := by
  have ht : t.val < 32 := (idx t).2.2.2.2.2.2.2.2.2.2.2
  obtain_idx R : Cert.Qkv2RefIdeal.S16384x4 := [t.val * 512 + (y 0 : ℕ), (y 1 : ℕ)] with hR
  have e : ((cfg0.win 7).blk t).view.emb y = ix2 (R 0) (y 1) := by blk_ext [idx t]
  exact (tile7_at m c t (y 0) (R 0) (y 1) hR0).trans (congrArg _ e.symm)

theorem tile6_at (c : Dev nD) (t : Fin cfg0.N) (r : Fin 512) (R : Fin 16384) (n : Fin 512) (hR : R.val = t.val * 512 + r.val) :
    headCode 2560 (by norm_num) (iblk m c 0 t) (iblk m c 1 t) (iblk m c 2 t) (iblk m c 3 t) r n = Cert.Qkv2RefIdeal.Value.G6 (m ((c : Thread nD τ).loc main_arg0)) (m ((c : Thread nD τ).loc main_arg1))
        (m ((c : Thread nD τ).loc main_arg2)) (m ((c : Thread nD τ).loc main_arg3)) (m ((c : Thread nD τ).loc main_arg4)) (ix2 R n) := by
  rw [headCode, headScale, codeMul_eq, headRow_key m c t r R _ hR]
  refine Eq.symm ((congrFun (Cert.Qkv2RefIdeal.Entries.keyCode_eq _) _).trans ?_)
  rw [Cert.Qkv2RefIdeal.Entries.code_at]
  exact congrArg (fun a => code _ (scale a)) (Cert.Qkv2RefIdeal.Entries.amax_at _ R _)

theorem tile6 (c : Dev nD) (t : Fin cfg0.N) (y : S512x512.Idx) :
    headCode 2560 (by norm_num) (iblk m c 0 t) (iblk m c 1 t) (iblk m c 2 t) (iblk m c 3 t) (y 0) (y 1)
      = Cert.Qkv2RefIdeal.Value.G6 (m ((c : Thread nD τ).loc main_arg0)) (m ((c : Thread nD τ).loc main_arg1))
        (m ((c : Thread nD τ).loc main_arg2)) (m ((c : Thread nD τ).loc main_arg3)) (m ((c : Thread nD τ).loc main_arg4)) (((cfg0.win 6).blk t).view.emb y) := by
  have ht : t.val < 32 := (idx t).2.2.2.2.2.2.2.2.2.2.2
  obtain_idx R : Cert.Qkv2RefIdeal.S16384x512 := [t.val * 512 + (y 0 : ℕ), (y 1 : ℕ)] with hR
  have e : ((cfg0.win 6).blk t).view.emb y = ix2 (R 0) (y 1) := by blk_ext [idx t]
  exact (tile6_at m c t (y 0) (R 0) (y 1) hR0).trans (congrArg _ e.symm)

set_option maxHeartbeats 1600000 in
/-- The keys' scales after the run. -/
theorem final7 (c : Dev nD) : (dats m 0 c).arrAt 7 cfg0.N
    = Cert.Qkv2RefIdeal.Value.G7 (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  unfold outsAt0
  frame_out
  refine Eq.trans (b := headScale 2560 (by norm_num) (iblk m c 0 t) (iblk m c 1 t) (iblk m c 2 t) (iblk m c 3 t) (y 0) (y 1)) ?_ (tile7 m c t y)
  canon_tiles x h
  all_goals (open_payloads; pointwise [headScale, headRow, proj, scale, amax]; blk_point [])

set_option maxHeartbeats 1600000 in
/-- The keys' codes after the run. -/
theorem final6 (c : Dev nD) : (dats m 0 c).arrAt 6 cfg0.N
    = Cert.Qkv2RefIdeal.Value.G6 (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  unfold outsAt0
  frame_out
  refine Eq.trans (b := headCode 2560 (by norm_num) (iblk m c 0 t) (iblk m c 1 t) (iblk m c 2 t) (iblk m c 3 t) (y 0) (y 1)) ?_ (tile6 m c t y)
  canon_tiles x h
  all_goals (open_payloads; pointwise [headCode, codeMul, headScale, headRow, proj, scale, amax]; blk_point [])

end Cert.Qkv2Ideal.RefValue

end
-- ==== Proof.Qkv2Values.lean ====
module

public import proofs.«01_k».proof.Proof.Qkv2Blocks

@[expose] public section

set_option maxRecDepth 16384

noncomputable section

namespace Cert.Qkv2Ideal.RefValue

open Idealize.ShloMosaic Idealize.ShloMosaic.TcCoe Idealize.SL.Sem
open Idealize.ShloMosaic.Pipeline (Dat)
open Cert.Qkv2Ideal Cert.Qkv2Ideal.Gen Cert.Quantise

variable (m : (ℓ : Loc nD τ sig) → Buf (Elt Ideal) ℓ)

theorem tile9_at (c : Dev nD) (t : Fin cfg0.N) (r : Fin 512) (R : Fin 16384) (hd : Fin 4) (hR : R.val = t.val * 512 + r.val) :
    headScale 3072 (by norm_num) (iblk m c 0 t) (iblk m c 1 t) (iblk m c 2 t) (iblk m c 3 t) r hd = Cert.Qkv2RefIdeal.Value.G9 (m ((c : Thread nD τ).loc main_arg0)) (m ((c : Thread nD τ).loc main_arg1))
        (m ((c : Thread nD τ).loc main_arg2)) (m ((c : Thread nD τ).loc main_arg3)) (m ((c : Thread nD τ).loc main_arg4)) (ix2 R hd) := by
  rw [headScale, headRow_value m c t r R hd hR]
  refine Eq.symm ((Cert.Qkv2RefIdeal.Entries.scale_at _ _ _).trans ?_)
  exact congrArg scale (Cert.Qkv2RefIdeal.Entries.amax_at _ R hd)

theorem tile9 (c : Dev nD) (t : Fin cfg0.N) (y : S512x4.Idx) :
    headScale 3072 (by norm_num) (iblk m c 0 t) (iblk m c 1 t) (iblk m c 2 t) (iblk m c 3 t) (y 0) (y 1)
      = Cert.Qkv2RefIdeal.Value.G9 (m ((c : Thread nD τ).loc main_arg0)) (m ((c : Thread nD τ).loc main_arg1))
        (m ((c : Thread nD τ).loc main_arg2)) (m ((c : Thread nD τ).loc main_arg3)) (m ((c : Thread nD τ).loc main_arg4)) (((cfg0.win 9).blk t).view.emb y) := by
  have ht : t.val < 32 := (idx t).2.2.2.2.2.2.2.2.2.2.2
  obtain_idx R : Cert.Qkv2RefIdeal.S16384x4 := [t.val * 512 + (y 0 : ℕ), (y 1 : ℕ)] with hR
  have e : ((cfg0.win 9).blk t).view.emb y = ix2 (R 0) (y 1) := by blk_ext [idx t]
  exact (tile9_at m c t (y 0) (R 0) (y 1) hR0).trans (congrArg _ e.symm)

theorem tile8_at (c : Dev nD) (t : Fin cfg0.N) (r : Fin 512) (R : Fin 16384) (n : Fin 512) (hR : R.val = t.val * 512 + r.val) :
    headCode 3072 (by norm_num) (iblk m c 0 t) (iblk m c 1 t) (iblk m c 2 t) (iblk m c 3 t) r n = Cert.Qkv2RefIdeal.Value.G8 (m ((c : Thread nD τ).loc main_arg0)) (m ((c : Thread nD τ).loc main_arg1))
        (m ((c : Thread nD τ).loc main_arg2)) (m ((c : Thread nD τ).loc main_arg3)) (m ((c : Thread nD τ).loc main_arg4)) (ix2 R n) := by
  rw [headCode, headScale, codeMul_eq, headRow_value m c t r R _ hR]
  refine Eq.symm ((Cert.Qkv2RefIdeal.Entries.code_at _ _ _ _).trans ?_)
  exact congrArg (fun a => code _ (scale a)) (Cert.Qkv2RefIdeal.Entries.amax_at _ R _)

theorem tile8 (c : Dev nD) (t : Fin cfg0.N) (y : S512x512.Idx) :
    headCode 3072 (by norm_num) (iblk m c 0 t) (iblk m c 1 t) (iblk m c 2 t) (iblk m c 3 t) (y 0) (y 1)
      = Cert.Qkv2RefIdeal.Value.G8 (m ((c : Thread nD τ).loc main_arg0)) (m ((c : Thread nD τ).loc main_arg1))
        (m ((c : Thread nD τ).loc main_arg2)) (m ((c : Thread nD τ).loc main_arg3)) (m ((c : Thread nD τ).loc main_arg4)) (((cfg0.win 8).blk t).view.emb y) := by
  have ht : t.val < 32 := (idx t).2.2.2.2.2.2.2.2.2.2.2
  obtain_idx R : Cert.Qkv2RefIdeal.S16384x512 := [t.val * 512 + (y 0 : ℕ), (y 1 : ℕ)] with hR
  have e : ((cfg0.win 8).blk t).view.emb y = ix2 (R 0) (y 1) := by blk_ext [idx t]
  exact (tile8_at m c t (y 0) (R 0) (y 1) hR0).trans (congrArg _ e.symm)

set_option maxHeartbeats 1600000 in
/-- The values' scales after the run. -/
theorem final9 (c : Dev nD) : (dats m 0 c).arrAt 9 cfg0.N
    = Cert.Qkv2RefIdeal.Value.G9 (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 9 _ (by decide +kernel) fun t _ y => ?_
  blk_simp
  rw [after0_9]
  unfold outsAt0
  frame_out
  refine Eq.trans (b := headScale 3072 (by norm_num) (iblk m c 0 t) (iblk m c 1 t) (iblk m c 2 t) (iblk m c 3 t) (y 0) (y 1)) ?_ (tile9 m c t y)
  canon_tiles x h
  all_goals (open_payloads; pointwise [headScale, headRow, proj, scale, amax]; blk_point [])

set_option maxHeartbeats 1600000 in
/-- The values' codes after the run. -/
theorem final8 (c : Dev nD) : (dats m 0 c).arrAt 8 cfg0.N
    = Cert.Qkv2RefIdeal.Value.G8 (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 8 _ (by decide +kernel) fun t _ y => ?_
  blk_simp
  rw [after0_8]
  unfold outsAt0
  frame_out
  refine Eq.trans (b := headCode 3072 (by norm_num) (iblk m c 0 t) (iblk m c 1 t) (iblk m c 2 t) (iblk m c 3 t) (y 0) (y 1)) ?_ (tile8 m c t y)
  canon_tiles x h
  all_goals (open_payloads; pointwise [headCode, codeMul, headScale, headRow, proj, scale, amax]; blk_point [])

end Cert.Qkv2Ideal.RefValue

end
-- ==== Proof.Qkv2ValuesT.lean ====
module

public import proofs.«01_k».proof.Proof.Qkv2Blocks

@[expose] public section

set_option maxRecDepth 16384

noncomputable section

namespace Cert.Qkv2Ideal.RefValue

open Idealize.ShloMosaic Idealize.ShloMosaic.TcCoe Idealize.SL.Sem
open Idealize.ShloMosaic.Pipeline (Dat)
open Cert.Qkv2Ideal Cert.Qkv2Ideal.Gen Cert.Quantise

variable (m : (ℓ : Loc nD τ sig) → Buf (Elt Ideal) ℓ)

theorem tile10_at (c : Dev nD) (t : Fin cfg0.N) (r : Fin 512) (b : Fin 2) (R : Fin 8192) (n : Fin 512)
    (hb : b.val = t.val / 16) (hR : R.val = t.val % 16 * 512 + r.val) :
    headCode 3072 (by norm_num) (iblk m c 0 t) (iblk m c 1 t) (iblk m c 2 t) (iblk m c 3 t) r n = Cert.Qkv2RefIdeal.Value.G10 (m ((c : Thread nD τ).loc main_arg0)) (m ((c : Thread nD τ).loc main_arg1))
        (m ((c : Thread nD τ).loc main_arg2)) (m ((c : Thread nD τ).loc main_arg3)) (m ((c : Thread nD τ).loc main_arg4)) (ix3 b n R) := by
  rw [headCode, headScale, codeMul_eq, headRow_value m c t r ⟨b.val * 8192 + R.val, by omega⟩ _ (by show b.val * 8192 + R.val = _; omega)]
  refine Eq.symm ((Cert.Qkv2RefIdeal.Entries.codeT_at _ _ _ _ _).trans ?_)
  exact congrArg (fun a => code _ (scale a)) (Cert.Qkv2RefIdeal.Entries.amax_at _ _ _)

theorem tile10 (c : Dev nD) (t : Fin cfg0.N) (y : S1x512x512.Idx) :
    headCode 3072 (by norm_num) (iblk m c 0 t) (iblk m c 1 t) (iblk m c 2 t) (iblk m c 3 t) (y 2) (y 1)
      = Cert.Qkv2RefIdeal.Value.G10 (m ((c : Thread nD τ).loc main_arg0)) (m ((c : Thread nD τ).loc main_arg1))
        (m ((c : Thread nD τ).loc main_arg2)) (m ((c : Thread nD τ).loc main_arg3)) (m ((c : Thread nD τ).loc main_arg4)) (((cfg0.win 10).blk t).view.emb y) := by
  have ht : t.val < 32 := (idx t).2.2.2.2.2.2.2.2.2.2.2
  obtain_idx R : Cert.Qkv2RefIdeal.S2x512x8192 := [t.val / 16, (y 1 : ℕ), t.val % 16 * 512 + (y 2 : ℕ)] with hR
  have e : ((cfg0.win 10).blk t).view.emb y = ix3 (R 0) (y 1) (R 2) := by blk_ext [idx t]
  exact (tile10_at m c t (y 2) (R 0) (R 2) (y 1) hR0 hR2).trans (congrArg _ e.symm)

set_option maxHeartbeats 1600000 in
/-- The transposed values' codes after the run. -/
theorem final10 (c : Dev nD) : (dats m 0 c).arrAt 10 cfg0.N
    = Cert.Qkv2RefIdeal.Value.G10 (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 10 _ (by decide +kernel) fun t _ y => ?_
  blk_simp
  rw [after0_10]
  unfold outsAt0
  frame_out
  refine Eq.trans (b := headCode 3072 (by norm_num) (iblk m c 0 t) (iblk m c 1 t) (iblk m c 2 t) (iblk m c 3 t) (y 2) (y 1)) ?_ (tile10 m c t y)
  canon_tiles x h
  all_goals (open_payloads; pointwise [headCode, codeMul, headScale, headRow, proj, scale, amax]; blk_point [])

end Cert.Qkv2Ideal.RefValue

end
-- ==== Proof.Qkv2Claim.lean ====
module

public import proofs.«01_k».proof.Defs
public import proofs.«01_k».proof.Proof.Gen.Qkv2Ideal.Value
public import proofs.«01_k».proof.Proof.Gen.Qkv2RefIdeal.Value
public import proofs.«01_k».proof.Proof.Qkv2Queries
public import proofs.«01_k».proof.Proof.Qkv2Keys
public import proofs.«01_k».proof.Proof.Qkv2Values
public import proofs.«01_k».proof.Proof.Qkv2ValuesT

/-! The second query, key and value projection and its reference end with the same six arrays, at the ideal instance. -/

@[expose] public section

set_option maxRecDepth 16384

noncomputable section

namespace Cert.Proof.Qkv2Claims

open Idealize.ShloMosaic Idealize.SL.Sem

/-- Kernel and reference end with the same queries, key codes and scales, value codes and scales. -/
theorem algebraic : Cert.algebraic_Qkv2Ideal_Qkv2RefIdeal := by
  pair_intro
  · run_from Cert.Qkv2Ideal.Value.run_blocks m g
  · refine Idealize.ShloMosaic.θ_run_mono (Cert.Qkv2RefIdeal.Value.run m' g') ?_
    intro r hr c
    obtain ⟨a0, a1, a2, a3, a4⟩ := hagree c
    obtain ⟨h0, h1, h2, h3, h4, h5, kept⟩ := hr c
    rw [a0, a1, a2, a3, a4] at h0 h1 h2 h3 h4 h5
    exact ⟨h0.trans (Cert.Qkv2Ideal.RefValue.final5 m c).symm, h1.trans (Cert.Qkv2Ideal.RefValue.final6 m c).symm,
      h2.trans (Cert.Qkv2Ideal.RefValue.final7 m c).symm, h3.trans (Cert.Qkv2Ideal.RefValue.final8 m c).symm,
      h4.trans (Cert.Qkv2Ideal.RefValue.final9 m c).symm, h5.trans (Cert.Qkv2Ideal.RefValue.final10 m c).symm, kept⟩

end Cert.Proof.Qkv2Claims

end
-- ==== Proof.Out1RefRun.lean ====
module

public import proofs.«01_k».proof.Proof.Gen.Out1RefIdeal.Frame
public import Idealize.ShloMosaic.Lib.Pipeline.Value

@[expose] public section

noncomputable section

/-! # The run of the first output projection's reference

The reference has one grid point and every window's block is its whole array: each result array ends as the body's
term of the argument arrays, and the arguments keep their contents. -/

namespace Cert.Out1RefIdeal.Run

open Cert.Out1RefIdeal Cert.Out1RefIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t) (iblk m c 5 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S16384x5120.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t) (iblk m c 5 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S16384x5120.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the body's result for that window (`Gen.out0_8`: its stores
    as pieces over the input windows' blocks), read through the window's block. -/
theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t) (iblk m c 5 t)) := by
  show (cfg0.win 8).cut (grid0.coords t) ((dats m 0 c).after 8 t) = _
  rw [after0_8]

/-- The index map sends distinct grid points to distinct block indices (decided over the 1 point). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S2x1x8192.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_1) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_2) = (dats m 0 c).arrAt 8 cfg0.N :=
  (h c).1 8

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 6 cfg0.N
      ∧ r.2.mem ((c : Thread nD τ).loc main_v0_1) = (dats m 0 c).arrAt 7 cfg0.N
      ∧ r.2.mem ((c : Thread nD τ).loc main_v0_2) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post6 m r h c,
      post7 m r h c,
      post8 m r h c,
      kept_main_arg0 m r h c,
      kept_main_arg1 m r h c,
      kept_main_arg2 m r h c,
      kept_main_arg3 m r h c,
      kept_main_arg4 m r h c,
      kept_main_arg5 m r h c⟩)
    (run_main m ρ)

/-! ## Output window 7: its piece re-lays a computed value

The pieces put the SAME loads (variables `P`) through pointwise operations and layout operations (slices, transposes, shape
casts, broadcasts), so the block they leave — the frame's canon of them — is ONE index-by-index function `E7` of the loads,
each value read at a closed-form index of the block index (`ix7_ℓ`): `canon7_eq`, by one layout-read lemma of
Lib/Pipeline/Value.lean per layout operation and `omega` on the coordinates.
A value the body reduces, or computes in a payload this module does not read, enters `E7` whole, as that term over the `P`. -/

theorem hz0 : (![0, 0] : Fin 2 → Nat) = fun _ => 0 := funext fun a => by fin_cases a <;> rfl

/-- Window 0's block index at the one point is zero on every axis. -/
theorem idx_zero0 : ∀ t : Fin cfg0.N, win0_0.index t (0 : Fin 2) = 0 ∧ win0_0.index t (1 : Fin 2) = 0 :=
  (by decide +kernel : ∀ t : Fin grid0.N, _)

/-- An index of window 0's block is the same index of its array. -/
theorem emb0 (t : Fin cfg0.N) (j : S16384x2560.Idx) : ((cfg0.win 0).blk t).view.emb j = j := by
  obtain ⟨e0, e1⟩ := idx_zero0 t
  funext a; apply Fin.ext
  match a with
  | ⟨0, _⟩ => show win0_0.index t (0 : Fin 2) * 16384 + 1 * (j 0).val = (j 0).val; omega
  | ⟨1, _⟩ => show win0_0.index t (1 : Fin 2) * 2560 + 1 * (j 1).val = (j 1).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0, 0] : Fin 3 → Nat) = fun _ => 0 := funext fun a => by fin_cases a <;> rfl

/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- An index of window 1's block is the same index of its array. -/
theorem emb1 (t : Fin cfg0.N) (j : S2x1x8192.Idx) : ((cfg0.win 1).blk t).view.emb j = j := by
  obtain ⟨e0, e1, e2⟩ := idx_zero1 t
  funext a; apply Fin.ext
  match a with
  | ⟨0, _⟩ => show win0_1.index t (0 : Fin 3) * 2 + 1 * (j 0).val = (j 0).val; omega
  | ⟨1, _⟩ => show win0_1.index t (1 : Fin 3) * 1 + 1 * (j 1).val = (j 1).val; omega
  | ⟨2, _⟩ => show win0_1.index t (2 : Fin 3) * 8192 + 1 * (j 2).val = (j 2).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S2560x5120.Idx) : ((cfg0.win 2).blk t).view.emb j = j := by
  obtain ⟨e0, e1⟩ := idx_zero2 t
  funext a; apply Fin.ext
  match a with
  | ⟨0, _⟩ => show win0_2.index t (0 : Fin 2) * 2560 + 1 * (j 0).val = (j 0).val; omega
  | ⟨1, _⟩ => show win0_2.index t (1 : Fin 2) * 5120 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S1x5120.Idx) : ((cfg0.win 3).blk t).view.emb j = j := by
  obtain ⟨e0, e1⟩ := idx_zero3 t
  funext a; apply Fin.ext
  match a with
  | ⟨0, _⟩ => show win0_3.index t (0 : Fin 2) * 1 + 1 * (j 0).val = (j 0).val; omega
  | ⟨1, _⟩ => show win0_3.index t (1 : Fin 2) * 5120 + 1 * (j 1).val = (j 1).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S16384x5120.Idx) : ((cfg0.win 4).blk t).view.emb j = j := by
  obtain ⟨e0, e1⟩ := idx_zero4 t
  funext a; apply Fin.ext
  match a with
  | ⟨0, _⟩ => show win0_4.index t (0 : Fin 2) * 16384 + 1 * (j 0).val = (j 0).val; omega
  | ⟨1, _⟩ => show win0_4.index t (1 : Fin 2) * 5120 + 1 * (j 1).val = (j 1).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0, 0] : Fin 2 → Nat) = fun _ => 0 := funext fun a => by fin_cases a <;> rfl

/-- Window 5's block index at the one point is zero on every axis. -/
theorem idx_zero5 : ∀ t : Fin cfg0.N, win0_5.index t (0 : Fin 2) = 0 ∧ win0_5.index t (1 : Fin 2) = 0 :=
  (by decide +kernel : ∀ t : Fin grid0.N, _)

/-- An index of window 5's block is the same index of its array. -/
theorem emb5 (t : Fin cfg0.N) (j : S1x5120.Idx) : ((cfg0.win 5).blk t).view.emb j = j := by
  obtain ⟨e0, e1⟩ := idx_zero5 t
  funext a; apply Fin.ext
  match a with
  | ⟨0, _⟩ => show win0_5.index t (0 : Fin 2) * 1 + 1 * (j 0).val = (j 0).val; omega
  | ⟨1, _⟩ => show win0_5.index t (1 : Fin 2) * 5120 + 1 * (j 1).val = (j 1).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem hz6 : (![0, 0] : Fin 2 → Nat) = fun _ => 0 := funext fun a => by fin_cases a <;> rfl

/-- Window 6's block index at the one point is zero on every axis. -/
theorem idx_zero6 : ∀ t : Fin cfg0.N, win0_6.index t (0 : Fin 2) = 0 ∧ win0_6.index t (1 : Fin 2) = 0 :=
  (by decide +kernel : ∀ t : Fin grid0.N, _)

/-- An index of window 6's block is the same index of its array. -/
theorem emb6 (t : Fin cfg0.N) (j : S16384x5120.Idx) : ((cfg0.win 6).blk t).view.emb j = j := by
  obtain ⟨e0, e1⟩ := idx_zero6 t
  funext a; apply Fin.ext
  match a with
  | ⟨0, _⟩ => show win0_6.index t (0 : Fin 2) * 16384 + 1 * (j 0).val = (j 0).val; omega
  | ⟨1, _⟩ => show win0_6.index t (1 : Fin 2) * 5120 + 1 * (j 1).val = (j 1).val; omega

theorem hz7 : (![0, 0] : Fin 2 → Nat) = fun _ => 0 := funext fun a => by fin_cases a <;> rfl

/-- Window 7's block index at the one point is zero on every axis. -/
theorem idx_zero7 : ∀ t : Fin cfg0.N, win0_7.index t (0 : Fin 2) = 0 ∧ win0_7.index t (1 : Fin 2) = 0 :=
  (by decide +kernel : ∀ t : Fin grid0.N, _)

/-- An index of window 7's block is the same index of its array. -/
theorem emb7 (t : Fin cfg0.N) (j : S16384x5120.Idx) : ((cfg0.win 7).blk t).view.emb j = j := by
  obtain ⟨e0, e1⟩ := idx_zero7 t
  funext a; apply Fin.ext
  match a with
  | ⟨0, _⟩ => show win0_7.index t (0 : Fin 2) * 16384 + 1 * (j 0).val = (j 0).val; omega
  | ⟨1, _⟩ => show win0_7.index t (1 : Fin 2) * 5120 + 1 * (j 1).val = (j 1).val; omega

theorem hz8 : (![0, 0, 0] : Fin 3 → Nat) = fun _ => 0 := funext fun a => by fin_cases a <;> rfl

/-- Window 8's block index at the one point is zero on every axis. -/
theorem idx_zero8 : ∀ t : Fin cfg0.N, win0_8.index t (0 : Fin 3) = 0 ∧ win0_8.index t (1 : Fin 3) = 0 ∧ win0_8.index t (2 : Fin 3) = 0 :=
  (by decide +kernel : ∀ t : Fin grid0.N, _)

/-- An index of window 8's block is the same index of its array. -/
theorem emb8 (t : Fin cfg0.N) (j : S2x1x8192.Idx) : ((cfg0.win 8).blk t).view.emb j = j := by
  obtain ⟨e0, e1, e2⟩ := idx_zero8 t
  funext a; apply Fin.ext
  match a with
  | ⟨0, _⟩ => show win0_8.index t (0 : Fin 3) * 2 + 1 * (j 0).val = (j 0).val; omega
  | ⟨1, _⟩ => show win0_8.index t (1 : Fin 3) * 1 + 1 * (j 1).val = (j 1).val; omega
  | ⟨2, _⟩ => show win0_8.index t (2 : Fin 3) * 8192 + 1 * (j 2).val = (j 2).val; omega

/-! ### Output window 6: the array after the run -/

/-- What the window's array ends holding: `out0_6` applied to the argument arrays in place of the input blocks (a value that the
    frame states apart, `kK_payN a…`, keeps its loads inside its own definition). -/
abbrev G6 (a0 : Vec F S16384x2560 .fp8e4m3) (a1 : Vec F S2x1x8192 .f32) (a2 : Vec F S2560x5120 .fp8e4m3) (a3 : Vec F S1x5120 .f32) (a4 : Vec F S16384x5120 .bf16) (a5 : Vec F S1x5120 .f32) : Vec F S16384x5120 .f32 :=
  k0_pay3 a0 a2 a4 a1 a3

/-- A load of the whole of a block reads the block, and the one store through the whole rectangle leaves its payload. -/
theorem out6_eq (a0 : Vec F S16384x2560 .fp8e4m3) (a1 : Vec F S2x1x8192 .f32) (a2 : Vec F S2560x5120 .fp8e4m3) (a3 : Vec F S1x5120 .f32) (a4 : Vec F S16384x5120 .bf16) (a5 : Vec F S1x5120 .f32) : out0_6 (F := F) a0 a1 a2 a3 a4 a5 = G6 a0 a1 a2 a3 a4 a5 := by
  unfold out0_6
  rw [View.canon_unit_zero hz6, View.ld_unit_zero (S := S16384x2560) hz0 _ a0, View.ld_unit_zero (S := S2560x5120) hz2 _ a2, View.ld_unit_zero (S := S16384x5120) hz4 _ a4, View.ld_unit_zero (S := S2x1x8192) hz1 _ a1, View.ld_unit_zero (S := S1x5120) hz3 _ a3]

/-- Cutting the point's block out of `X` and reading `X` through the block's view give the same. -/
theorem cut6_eq (t : Fin cfg0.N) (X : Vec F S16384x5120 .f32) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3) (V m c main_arg4) (V m c main_arg5)) := by
  show (cfg0.win 6).cut (grid0.coords t) ((dats m 0 c).after 6 t) = _
  rw [after0_6, out6_eq, iblk0_eq, iblk1_eq, iblk2_eq, iblk3_eq, iblk4_eq, iblk5_eq]
  exact cut6_eq t _

/-- Every index of the array is in the point's block. -/
theorem covered6 (i : S16384x5120.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 6 (G6 (V m c main_arg0) (V m c main_arg1) (V m c main_arg2) (V m c main_arg3) (V m c main_arg4) (V m c main_arg5)) (fun t _ => flushed6_eq m c t) covered6).trans (by rw [V_main_arg0, V_main_arg1, V_main_arg2, V_main_arg3, V_main_arg4, V_main_arg5])

/-! ### Output window 7: the array after the run -/

/-- What the window's array ends holding: `out0_7` applied to the argument arrays in place of the input blocks (a value that the
    frame states apart, `kK_payN a…`, keeps its loads inside its own definition). -/
abbrev G7 (a0 : Vec F S16384x2560 .fp8e4m3) (a1 : Vec F S2x1x8192 .f32) (a2 : Vec F S2560x5120 .fp8e4m3) (a3 : Vec F S1x5120 .f32) (a4 : Vec F S16384x5120 .bf16) (a5 : Vec F S1x5120 .f32) : Vec F S16384x5120 .fp8e4m3 :=
  k0_pay1 (k0_pay4 a0 a2 a4 a1 a3 a5) (k0_pay6 a0 a1 a2 a3 a4 a5)

/-- A load of the whole of a block reads the block, and the one store through the whole rectangle leaves its payload. -/
theorem out7_eq (a0 : Vec F S16384x2560 .fp8e4m3) (a1 : Vec F S2x1x8192 .f32) (a2 : Vec F S2560x5120 .fp8e4m3) (a3 : Vec F S1x5120 .f32) (a4 : Vec F S16384x5120 .bf16) (a5 : Vec F S1x5120 .f32) : out0_7 (F := F) a0 a1 a2 a3 a4 a5 = G7 a0 a1 a2 a3 a4 a5 := by
  unfold out0_7
  rw [View.canon_unit_zero hz7, View.ld_unit_zero (S := S16384x2560) hz0 _ a0, View.ld_unit_zero (S := S2560x5120) hz2 _ a2, View.ld_unit_zero (S := S16384x5120) hz4 _ a4, View.ld_unit_zero (S := S2x1x8192) hz1 _ a1, View.ld_unit_zero (S := S1x5120) hz3 _ a3, View.ld_unit_zero (S := S1x5120) hz5 _ a5]

/-- Cutting the point's block out of `X` and reading `X` through the block's view give the same. -/
theorem cut7_eq (t : Fin cfg0.N) (X : Vec F S16384x5120 .fp8e4m3) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3) (V m c main_arg4) (V m c main_arg5)) := by
  show (cfg0.win 7).cut (grid0.coords t) ((dats m 0 c).after 7 t) = _
  rw [after0_7, out7_eq, iblk0_eq, iblk1_eq, iblk2_eq, iblk3_eq, iblk4_eq, iblk5_eq]
  exact cut7_eq t _

/-- Every index of the array is in the point's block. -/
theorem covered7 (i : S16384x5120.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 7 (G7 (V m c main_arg0) (V m c main_arg1) (V m c main_arg2) (V m c main_arg3) (V m c main_arg4) (V m c main_arg5)) (fun t _ => flushed7_eq m c t) covered7).trans (by rw [V_main_arg0, V_main_arg1, V_main_arg2, V_main_arg3, V_main_arg4, V_main_arg5])

/-! ### Output window 8: the array after the run -/

/-- What the window's array ends holding: `out0_8` applied to the argument arrays in place of the input blocks (a value that the
    frame states apart, `kK_payN a…`, keeps its loads inside its own definition). -/
abbrev G8 (a0 : Vec F S16384x2560 .fp8e4m3) (a1 : Vec F S2x1x8192 .f32) (a2 : Vec F S2560x5120 .fp8e4m3) (a3 : Vec F S1x5120 .f32) (a4 : Vec F S16384x5120 .bf16) (a5 : Vec F S1x5120 .f32) : Vec F S2x1x8192 .f32 :=
  k0_pay2 (k0_pay6 a0 a1 a2 a3 a4 a5)

/-- The one store through the whole rectangle leaves its payload. -/
theorem out8_eq (a0 : Vec F S16384x2560 .fp8e4m3) (a1 : Vec F S2x1x8192 .f32) (a2 : Vec F S2560x5120 .fp8e4m3) (a3 : Vec F S1x5120 .f32) (a4 : Vec F S16384x5120 .bf16) (a5 : Vec F S1x5120 .f32) : out0_8 (F := F) a0 a1 a2 a3 a4 a5 = G8 a0 a1 a2 a3 a4 a5 := by
  unfold out0_8
  rw [View.canon_unit_zero hz8]

/-- Cutting the point's block out of `X` and reading `X` through the block's view give the same. -/
theorem cut8_eq (t : Fin cfg0.N) (X : Vec F S2x1x8192 .f32) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2) (V m c main_arg3) (V m c main_arg4) (V m c main_arg5)) := by
  show (cfg0.win 8).cut (grid0.coords t) ((dats m 0 c).after 8 t) = _
  rw [after0_8, out8_eq, iblk0_eq, iblk1_eq, iblk2_eq, iblk3_eq, iblk4_eq, iblk5_eq]
  exact cut8_eq t _

/-- Every index of the array is in the point's block. -/
theorem covered8 (i : S2x1x8192.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 8 (G8 (V m c main_arg0) (V m c main_arg1) (V m c main_arg2) (V m c main_arg3) (V m c main_arg4) (V m c main_arg5)) (fun t _ => flushed8_eq m c t) covered8).trans (by rw [V_main_arg0, V_main_arg1, V_main_arg2, V_main_arg3, V_main_arg4, V_main_arg5])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_1) = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_2) = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(post6 m r h c).trans (final6 m c),
      (post7 m r h c).trans (final7 m c),
      (post8 m r h c).trans (final8 m c),
      kept_main_arg0 m r h c,
      kept_main_arg1 m r h c,
      kept_main_arg2 m r h c,
      kept_main_arg3 m r h c,
      kept_main_arg4 m r h c,
      kept_main_arg5 m r h c⟩)
    (run_main m ρ)

end Cert.Out1RefIdeal.Run

end
-- ==== Proof.RowNorm.lean ====
module

public import proofs.«01_k».proof.Proof.Quantise

@[expose] public section

set_option maxRecDepth 16384

noncomputable section

/-! # The root-mean-square norm of a row, over the extended reals

A row of 5120 numbers is divided by the root of its mean square (plus a small constant) and
multiplied by a weight per column. One program divides by the root, the other multiplies by the
root's reciprocal: the root is never zero, so the two agree.

A program that walks the row in 40 tiles of 128 lanes forms, lane by lane, a running sum of squares
and a running maximum, and reduces over the lanes at the end: `sum_lanes` and `max_lanes` say that
these are the sum and the maximum over the whole row. -/

namespace Cert.RowNorm

open Idealize.ShloMosaic Cert.Quantise

/-- The constant added to the mean square. -/
abbrev eps : EReal := Ideal.ofBits .f32 0x3727C5AC#32

theorem eps_pos : 0 < eps := by
  have : eps = (((10995116 : ℝ) / 2 ^ 40 : ℝ) : EReal) := by
    simp [eps, Ideal.ofBits, Ideal.ieee, -EReal.coe_mul]; norm_num
  rw [this]; exact_mod_cast (by norm_num : (0 : ℝ) < 10995116 / 2 ^ 40)

theorem ofBits_dim : Ideal.ofBits .f32 0x45A00000#32 = ((5120 : ℝ) : EReal) := by
  simp [Ideal.ofBits, Ideal.ieee, -EReal.coe_mul]; norm_num

/-- The mean square of a row, plus the constant. -/
def meanSq (f : Fin 5120 → EReal) : EReal := (∑ j, f j * f j) * ((1 / 5120 : ℝ) : EReal) + eps

/-- The reciprocal of the row's root mean square. -/
def rinv (f : Fin 5120 → EReal) : EReal := Ideal.div 1 (Ideal.sqrt (meanSq f))

/-- An entry of the normed row. -/
def normed (f w : Fin 5120 → EReal) (j : Fin 5120) : EReal := f j * rinv f * w j

theorem mul_self_nonneg' (x : EReal) : 0 ≤ x * x := by
  rcases le_total 0 x with h | h
  · exact mul_nonneg h h
  · have h2 : 0 ≤ -x := by rwa [EReal.neg_nonneg]
    have := mul_nonneg h2 h2
    rwa [EReal.neg_mul, mul_comm x (-x), EReal.neg_mul, neg_neg] at this

theorem meanSq_pos (f : Fin 5120 → EReal) : 0 < meanSq f := by
  have h : 0 ≤ (∑ j, f j * f j) * ((1 / 5120 : ℝ) : EReal) :=
    mul_nonneg (Finset.sum_nonneg fun j _ => mul_self_nonneg' _) (by exact_mod_cast (by norm_num : (0 : ℝ) ≤ 1 / 5120))
  calc (0 : EReal) < eps := eps_pos
    _ = 0 + eps := (zero_add _).symm
    _ ≤ _ := add_le_add h le_rfl

theorem sqrt_ne_zero {x : EReal} (h : 0 < x) : Ideal.sqrt x ≠ 0 := by
  induction x with
  | bot => simp at h
  | top => exact EReal.top_ne_zero
  | coe x =>
    have hx : (0 : ℝ) < x := by exact_mod_cast h
    show (if x < 0 then (⊥ : EReal) else ((Real.sqrt x : ℝ) : EReal)) ≠ 0
    rw [if_neg (not_lt.mpr hx.le)]
    exact_mod_cast (Real.sqrt_pos.mpr hx).ne'

/-- Dividing by the root mean square is multiplying by its reciprocal. -/
theorem div_root (f w : Fin 5120 → EReal) (j : Fin 5120) :
    Ideal.div (f j) (Ideal.sqrt (Ideal.div (∑ j, f j * f j) (Ideal.ofBits .f32 0x45A00000#32) + eps)) * w j
      = normed f w j := by
  rw [ofBits_dim, Ideal.div_coe (by norm_num)]
  show Ideal.div (f j) (Ideal.sqrt (meanSq f)) * w j = _
  rw [normed, rinv, mul_div_one _ (sqrt_ne_zero (meanSq_pos f))]

/-- A row as a function of any column number: zero past its end. -/
def ext (f : Fin 5120 → EReal) (n : ℕ) : EReal := if h : n < 5120 then f ⟨n, h⟩ else 0

theorem ext_val (f : Fin 5120 → EReal) (j : Fin 5120) : ext f j.val = f j := dif_pos j.isLt

theorem ext_normed (f w : Fin 5120 → EReal) (n : ℕ) : ext (normed f w) n = ext f n * rinv f * ext w n := by
  unfold ext
  split
  · rfl
  · rw [zero_mul, zero_mul]

/-- A running sum. -/
def runSum (F : ℕ → EReal) : ℕ → EReal
  | 0 => 0
  | n + 1 => runSum F n + F n

/-- A running maximum that starts at zero. -/
def runMax (F : ℕ → EReal) : ℕ → EReal
  | 0 => 0
  | n + 1 => max (runMax F n) (F n)

theorem sum_lanes_range (F : ℕ → EReal) (n : ℕ) :
    ∑ l : Fin 128, runSum (fun c => F (128 * c + l.val)) n = ∑ j ∈ Finset.range (128 * n), F j := by
  induction n with
  | zero => simp [runSum]
  | succ n ih =>
    simp only [runSum, Finset.sum_add_distrib, ih]
    rw [Nat.mul_succ, Finset.sum_range_add, Finset.sum_range (fun x => F (128 * n + x))]

/-- The lanes' running sums over 40 tiles add up to the sum over the row. -/
theorem sum_lanes (F : ℕ → EReal) :
    ∑ l : Fin 128, runSum (fun c => F (128 * c + l.val)) 40 = ∑ j : Fin 5120, F j.val := by
  rw [sum_lanes_range, Finset.sum_range]

theorem runMax_le (F : ℕ → EReal) (n : ℕ) (a : EReal) : runMax F n ≤ a ↔ 0 ≤ a ∧ ∀ c < n, F c ≤ a := by
  induction n with
  | zero => simp [runMax]
  | succ n ih =>
    rw [runMax, max_le_iff, ih]
    constructor
    · rintro ⟨⟨h0, h⟩, hn⟩
      exact ⟨h0, fun c hc => (Nat.lt_succ_iff_lt_or_eq.mp hc).elim (h c) (fun e => e ▸ hn)⟩
    · rintro ⟨h0, h⟩
      exact ⟨⟨h0, fun c hc => h c (hc.trans (Nat.lt_succ_self n))⟩, h n (Nat.lt_succ_self n)⟩

theorem ofBits_negInf : Ideal.ofBits .f32 0xFF800000#32 = ⊥ := by
  simp [Ideal.ofBits, Ideal.ieee]

theorem absf_nonneg (x : EReal) : 0 ≤ FloatOps.absf (F := Ideal) (φ := .f32) x := by
  show 0 ≤ max x (-x)
  rcases le_total 0 x with h | h
  · exact le_max_of_le_left h
  · exact le_max_of_le_right (by rwa [EReal.neg_nonneg])

/-- The largest of the lanes' running maxima over 40 tiles is the row's largest absolute value. -/
theorem max_lanes (G : ℕ → EReal) :
    Finset.fold max (Ideal.ofBits .f32 0xFF800000#32)
        (fun l : Fin 128 => runMax (fun c => FloatOps.absf (F := Ideal) (φ := .f32) (G (128 * c + l.val))) 40) Finset.univ
      = amax fun j : Fin 5120 => G j.val := by
  refine eq_of_forall_ge_iff fun a => ?_
  rw [amax, Finset.fold_max_le, Finset.fold_max_le, ofBits_negInf]
  constructor
  · rintro ⟨h, hl⟩
    refine ⟨h, fun j _ => ?_⟩
    have := ((runMax_le _ _ _).mp (hl ⟨j.val % 128, Nat.mod_lt _ (by norm_num)⟩ (Finset.mem_univ _))).2 (j.val / 128)
      (by have := j.isLt; omega)
    rwa [show 128 * (j.val / 128) + j.val % 128 = j.val from Nat.div_add_mod _ _] at this
  · rintro ⟨h, hj⟩
    refine ⟨h, fun l _ => (runMax_le _ _ _).mpr ⟨?_, fun c hc => ?_⟩⟩
    · exact (absf_nonneg _).trans (hj ⟨0, by norm_num⟩ (Finset.mem_univ _))
    · exact hj ⟨128 * c + l.val, by have := l.isLt; omega⟩ (Finset.mem_univ _)

end Cert.RowNorm

end
-- ==== Proof.Out1Ref.lean ====
module

public import proofs.«01_k».proof.Proof.Out1RefRun
public import proofs.«01_k».proof.Proof.RowNorm
public import proofs.«01_k».proof.Proof.Quantise

@[expose] public section

set_option maxRecDepth 16384

noncomputable section

/-! # The reference's first layer output, normed and quantised, entry by entry -/

namespace Cert.Out1Ideal.RefValue

open Idealize.ShloMosaic Idealize.ShloMosaic.TcCoe Idealize.SL.Sem
open Cert.Out1RefIdeal Cert.Out1RefIdeal.Gen Cert.RowNorm Cert.Quantise

variable (a0 : Vec Ideal S16384x2560 .fp8e4m3) (a1 : Vec Ideal S2x1x8192 .f32) (a2 : Vec Ideal S2560x5120 .fp8e4m3)
  (a3 : Vec Ideal S1x5120 .f32) (a4 : Vec Ideal S16384x5120 .bf16) (a5 : Vec Ideal S1x5120 .f32)

/-- A row of the reference's first layer output. -/
def hrow (R : Fin 16384) (j : Fin 5120) : EReal :=
  Cert.Out1RefIdeal.Gen.k0_pay3 (F := Ideal) a0 a2 a4 a1 a3 (ix2 R j)

/-- The reference's norm, entry by entry. -/
theorem ref_normed (R : Fin 16384) (j : Fin 5120) :
    Cert.Out1RefIdeal.Gen.k0_pay4 (F := Ideal) a0 a2 a4 a1 a3 a5 (ix2 R j)
      = normed (hrow a0 a1 a2 a3 a4 R) (fun j => a5 (ix2 0 j)) j := by
  rw [← div_root]
  unfold hrow Cert.Out1RefIdeal.Gen.k0_pay4
  generalize Cert.Out1RefIdeal.Gen.k0_pay3 (F := Ideal) a0 a2 a4 a1 a3 = H
  generalize hz : (Ideal.div _ _ * _ : EReal) = z
  pointwise []
  exact hz

/-- A column of largest absolute values, made a column of scales. -/
def scaleCol (A : FVec Ideal S16384x1 .f32) : FVec Ideal S16384x1 .f32 :=
  select (cmpf .oeq A (broadcast S16384x1 (Scalar.ofBits (F := Ideal) .f32 0x00000000#32)))
    (broadcast S16384x1 (Scalar.ofBits (F := Ideal) .f32 0x3F800000#32))
    (divf A (broadcast S16384x1 (Scalar.ofBits (F := Ideal) .f32 0x43E00000#32)))

theorem scaleCol_at (A : FVec Ideal S16384x1 .f32) (R : Fin 16384) : scaleCol A (ix2 R 0) = scale (A (ix2 R 0)) := by
  pointwise [scaleCol, scale]

/-- The largest absolute values of the rows of a table, as a column. -/
def amaxCol (H : FVec Ideal S16384x5120 .f32) : FVec Ideal S16384x1 .f32 :=
  shapeCast S16384x1 (multiReduction .maximumf [1] S16384 (absf H) 0xFF800000#32 reduces_S16384x5120_S16384 (.inl rfl) rfl)
    shapeCasts_S16384_S16384x1

theorem amaxCol_at (H : FVec Ideal S16384x5120 .f32) (R : Fin 16384) : amaxCol H (ix2 R 0) = amax fun j => H (ix2 R j) := by
  pointwise [amaxCol, amax]

/-- The reference's scale of a row. -/
theorem ref_scale (R : Fin 16384) :
    Cert.Out1RefIdeal.Gen.k0_pay5 (F := Ideal) a0 a2 a4 a1 a3 a5 (ix2 R 0)
      = scale (amax (normed (hrow a0 a1 a2 a3 a4 R) (fun j => a5 (ix2 0 j)))) :=
  (scaleCol_at (amaxCol (Cert.Out1RefIdeal.Gen.k0_pay4 (F := Ideal) a0 a2 a4 a1 a3 a5)) R).trans
    (congrArg scale ((amaxCol_at _ R).trans (congrArg amax (funext (ref_normed a0 a1 a2 a3 a4 a5 R)))))

/-- The reference's code of an entry. -/
theorem ref_code_of (H : FVec Ideal S16384x5120 .f32) (A : FVec Ideal S16384x1 .f32) (R : Fin 16384) (j : Fin 5120) :
    Cert.Out1RefIdeal.Gen.k0_pay1 (F := Ideal) H A (ix2 R j) = code (H (ix2 R j)) (A (ix2 R 0)) := by
  pointwise [Cert.Out1RefIdeal.Gen.k0_pay1, code]

theorem ref_code (R : Fin 16384) (j : Fin 5120) :
    Cert.Out1RefIdeal.Gen.k0_pay1 (F := Ideal) (Cert.Out1RefIdeal.Gen.k0_pay4 (F := Ideal) a0 a2 a4 a1 a3 a5)
        (Cert.Out1RefIdeal.Gen.k0_pay5 (F := Ideal) a0 a2 a4 a1 a3 a5) (ix2 R j)
      = code (normed (hrow a0 a1 a2 a3 a4 R) (fun j => a5 (ix2 0 j)) j)
          (scale (amax (normed (hrow a0 a1 a2 a3 a4 R) (fun j => a5 (ix2 0 j))))) :=
  (ref_code_of _ _ R j).trans (congrArg₂ code (ref_normed a0 a1 a2 a3 a4 a5 R j) (ref_scale a0 a1 a2 a3 a4 a5 R))

/-- The reference's scales as the array they are stored in. -/
theorem ref_scales_of (A : FVec Ideal S16384x1 .f32) (b : Fin 2) (s : Fin 8192) (R : Fin 16384) (h : R.val = b.val * 8192 + s.val) :
    Cert.Out1RefIdeal.Gen.k0_pay2 (F := Ideal) A (ix3 b 0 s) = A (ix2 R 0) := by
  rw [show R = ⟨b.val * 8192 + s.val, by omega⟩ from Fin.ext h]
  pointwise [Cert.Out1RefIdeal.Gen.k0_pay2]

end Cert.Out1Ideal.RefValue

end
-- ==== Proof.Out1Loop.lean ====
module

public import proofs.«01_k».proof.Proof.Gen.Out1Ideal.Value
public import Idealize.ShloMosaic.Lib.Pipeline.ValueKit
public import proofs.«01_k».proof.Proof.RowNorm

@[expose] public section

set_option maxRecDepth 16384

noncomputable section

/-! # One trip of the kernel's norm-and-quantise loop

A trip takes 32 rows of the block. It adds up the squares of each row tile by tile, forms the
reciprocal of the row's root mean square, finds the largest normed entry, and stores the row's
scale and its 40 tiles of codes. Here each value the trip forms is read at a row and a lane. -/

namespace Cert.Out1Ideal.Loop

open Idealize.ShloMosaic Idealize.ShloMosaic.TcCoe Idealize.SL.Sem
open Idealize.ShloMosaic.Pipeline (Dat)
open Cert.Out1Ideal Cert.Out1Ideal.Gen Cert.RowNorm Cert.Quantise

variable (arg7 : Memref sig .tc .vmem S1x5120 .f32) (arg8 : Memref sig .tc .vmem S256x5120 .f32)
  (X_arg7 : BufTy.Contents (Elt Ideal) arg7.view.ty) (X_arg8 : BufTy.Contents (Elt Ideal) arg8.view.ty)

/-- Row `R` of the block the loop reads. -/
def row (R : Fin 256) (j : Fin 5120) : EReal := arg8.view.read (Elt Ideal) X_arg8 (ix2 R j)

/-- The norm's weights. -/
def wrow (j : Fin 5120) : EReal := arg7.view.read (Elt Ideal) X_arg7 (ix2 0 j)

/-- A row's tile is loaded at its place in the row. -/
theorem row_load (k : Fin k0_t1_loop.trips) (r : Fin 32) (R : Fin 256) (hR : R.val = 32 * k.val + r.val)
    (off : Fin 2 → ℕ) (inb : ∀ a, off a + (![32, 128] : Fin 2 → ℕ) a ≤ S256x5120.size a) (b : ℕ) (hoff : off = ![32 * k.val, b])
    (hb : b ≤ 4992) (l : Fin 128) :
    View.readAt (Elt Ideal) arg8.view (Rect.unit (s := S256x5120) off ![32, 128] inb).toLoadRect X_arg8 (ix2 r l)
      = ext (row arg8 X_arg8 R) (b + l.val) := by
  subst hoff
  have h : b + l.val < 5120 := by have := l.isLt; omega
  rw [ext, dif_pos h, View.readAt_eq_ld]
  refine View.ld_unit_apply_of _ _ _ _ _ _ fun a => ?_
  fin_cases a
  · exact hR
  · rfl

/-- A tile of the weights is loaded at its place in the row. -/
theorem wrow_load (b : ℕ) (inb : ∀ a, (![0, b] : Fin 2 → ℕ) a + (![1, 128] : Fin 2 → ℕ) a ≤ S1x5120.size a) (hb : b ≤ 4992) (l : Fin 128) :
    View.readAt (Elt Ideal) arg7.view (Rect.unit (s := S1x5120) ![0, b] ![1, 128] inb).toLoadRect X_arg7 (ix2 0 l)
      = ext (wrow arg7 X_arg7) (b + l.val) := by
  have h : b + l.val < 5120 := by have := l.isLt; omega
  rw [ext, dif_pos h, View.readAt_eq_ld]
  refine View.ld_unit_apply_of _ _ _ _ _ _ fun a => ?_
  fin_cases a <;> rfl

theorem inv_d : Named.named (F := Ideal) κ "inv_d" (φ := .f32) 0x394CCCCD#32 = ((1 / 5120 : ℝ) : EReal) :=
  IdealRules.named_const.ideal_named_scalar _ _ _ _ rfl

/-- The lanes' sums of squares, without the last tile. -/
theorem squares (k : Fin k0_t1_loop.trips) (r : Fin 32) (R : Fin 256) (hR : R.val = 32 * k.val + r.val) (l : Fin 128) :
    trip_k0_t1.sl.v472 (F := Ideal) arg8 X_arg8 k (ix2 r l)
      = runSum (fun c => ext (row arg8 X_arg8 R) (128 * c + l.val) * ext (row arg8 X_arg8 R) (128 * c + l.val)) 39 := by
  sl_unfold_run_names
  pointwise []
  simp only [row_load arg8 X_arg8 k r R hR _ _ _ (k0_off1_eq k) (by norm_num) l, row_load arg8 X_arg8 k r R hR _ _ _ (k0_off2_eq k) (by norm_num) l, row_load arg8 X_arg8 k r R hR _ _ _ (k0_off3_eq k) (by norm_num) l, row_load arg8 X_arg8 k r R hR _ _ _ (k0_off4_eq k) (by norm_num) l, row_load arg8 X_arg8 k r R hR _ _ _ (k0_off5_eq k) (by norm_num) l, row_load arg8 X_arg8 k r R hR _ _ _ (k0_off6_eq k) (by norm_num) l, row_load arg8 X_arg8 k r R hR _ _ _ (k0_off7_eq k) (by norm_num) l, row_load arg8 X_arg8 k r R hR _ _ _ (k0_off8_eq k) (by norm_num) l, row_load arg8 X_arg8 k r R hR _ _ _ (k0_off9_eq k) (by norm_num) l, row_load arg8 X_arg8 k r R hR _ _ _ (k0_off10_eq k) (by norm_num) l, row_load arg8 X_arg8 k r R hR _ _ _ (k0_off11_eq k) (by norm_num) l, row_load arg8 X_arg8 k r R hR _ _ _ (k0_off12_eq k) (by norm_num) l, row_load arg8 X_arg8 k r R hR _ _ _ (k0_off13_eq k) (by norm_num) l, row_load arg8 X_arg8 k r R hR _ _ _ (k0_off14_eq k) (by norm_num) l, row_load arg8 X_arg8 k r R hR _ _ _ (k0_off15_eq k) (by norm_num) l, row_load arg8 X_arg8 k r R hR _ _ _ (k0_off16_eq k) (by norm_num) l, row_load arg8 X_arg8 k r R hR _ _ _ (k0_off17_eq k) (by norm_num) l, row_load arg8 X_arg8 k r R hR _ _ _ (k0_off18_eq k) (by norm_num) l, row_load arg8 X_arg8 k r R hR _ _ _ (k0_off19_eq k) (by norm_num) l, row_load arg8 X_arg8 k r R hR _ _ _ (k0_off20_eq k) (by norm_num) l, row_load arg8 X_arg8 k r R hR _ _ _ (k0_off21_eq k) (by norm_num) l, row_load arg8 X_arg8 k r R hR _ _ _ (k0_off22_eq k) (by norm_num) l, row_load arg8 X_arg8 k r R hR _ _ _ (k0_off23_eq k) (by norm_num) l, row_load arg8 X_arg8 k r R hR _ _ _ (k0_off24_eq k) (by norm_num) l, row_load arg8 X_arg8 k r R hR _ _ _ (k0_off25_eq k) (by norm_num) l, row_load arg8 X_arg8 k r R hR _ _ _ (k0_off26_eq k) (by norm_num) l, row_load arg8 X_arg8 k r R hR _ _ _ (k0_off27_eq k) (by norm_num) l, row_load arg8 X_arg8 k r R hR _ _ _ (k0_off28_eq k) (by norm_num) l, row_load arg8 X_arg8 k r R hR _ _ _ (k0_off29_eq k) (by norm_num) l, row_load arg8 X_arg8 k r R hR _ _ _ (k0_off30_eq k) (by norm_num) l, row_load arg8 X_arg8 k r R hR _ _ _ (k0_off31_eq k) (by norm_num) l, row_load arg8 X_arg8 k r R hR _ _ _ (k0_off32_eq k) (by norm_num) l, row_load arg8 X_arg8 k r R hR _ _ _ (k0_off33_eq k) (by norm_num) l, row_load arg8 X_arg8 k r R hR _ _ _ (k0_off34_eq k) (by norm_num) l, row_load arg8 X_arg8 k r R hR _ _ _ (k0_off35_eq k) (by norm_num) l, row_load arg8 X_arg8 k r R hR _ _ _ (k0_off36_eq k) (by norm_num) l, row_load arg8 X_arg8 k r R hR _ _ _ (k0_off37_eq k) (by norm_num) l, row_load arg8 X_arg8 k r R hR _ _ _ (k0_off38_eq k) (by norm_num) l, row_load arg8 X_arg8 k r R hR _ _ _ (k0_off39_eq k) (by norm_num) l]
  simp only [runSum, Nat.reduceMul, zero_add]

/-- The reciprocal of the row's root mean square. -/
theorem root (k : Fin k0_t1_loop.trips) (r : Fin 32) (R : Fin 256) (hR : R.val = 32 * k.val + r.val) (l : Fin 128)
    (inb : ∀ a, k0_off40 k a + (![32, 128] : Fin 2 → ℕ) a ≤ S256x5120.size a) :
    k0_pay9 (F := Ideal) (trip_k0_t1.sl.v472 (F := Ideal) arg8 X_arg8 k)
      (View.readAt (Elt Ideal) arg8.view (Rect.unit (s := S256x5120) (k0_off40 k) ![32, 128] inb).toLoadRect X_arg8) (ix2 r l)
      = rinv (row arg8 X_arg8 R) := by
  pointwise [k0_pay9]
  simp only [squares arg8 X_arg8 k r R hR, row_load arg8 X_arg8 k r R hR _ _ _ (k0_off40_eq k) (by norm_num)]
  rw [inv_d]
  exact congrArg (fun z => Ideal.div 1 (Ideal.sqrt (z * ((1 / 5120 : ℝ) : EReal) + eps)))
    ((sum_lanes fun n => ext (row arg8 X_arg8 R) n * ext (row arg8 X_arg8 R) n).trans
      (Finset.sum_congr rfl fun j _ => by rw [ext_val]))

/-- The lanes' largest normed entries. -/
theorem largest (k : Fin k0_t1_loop.trips) (r : Fin 32) (R : Fin 256) (hR : R.val = 32 * k.val + r.val) (l : Fin 128) :
    trip_k0_t1.sl.v849 (F := Ideal) arg7 arg8 X_arg7 X_arg8 k (ix2 r l)
      = runMax (fun c => FloatOps.absf (F := Ideal) (φ := .f32)
          (ext (normed (row arg8 X_arg8 R) (wrow arg7 X_arg7)) (128 * c + l.val))) 40 := by
  simp only [trip_k0_t1.sl.v821, trip_k0_t1.sl.v702, trip_k0_t1.sl.v794, trip_k0_t1.sl.v613, trip_k0_t1.sl.v330, trip_k0_t1.sl.v556, trip_k0_t1.sl.v812, trip_k0_t1.sl.v578, trip_k0_t1.sl.v810, trip_k0_t1.sl.v523, trip_k0_t1.sl.v731, trip_k0_t1.sl.v315, trip_k0_t1.sl.v826, trip_k0_t1.sl.v355, trip_k0_t1.sl.v450, trip_k0_t1.sl.v846, trip_k0_t1.sl.v811, trip_k0_t1.sl.v817, trip_k0_t1.sl.v630, trip_k0_t1.sl.v704, trip_k0_t1.sl.v687, trip_k0_t1.sl.v621, trip_k0_t1.sl.v540, trip_k0_t1.sl.v740, trip_k0_t1.sl.v659, trip_k0_t1.sl.v721, trip_k0_t1.sl.v538, trip_k0_t1.sl.v552, trip_k0_t1.sl.v767, trip_k0_t1.sl.v300, trip_k0_t1.sl.v646, trip_k0_t1.sl.v560, trip_k0_t1.sl.r_2, trip_k0_t1.sl.v757, trip_k0_t1.sl.v678, trip_k0_t1.sl.v749, trip_k0_t1.sl.v543, trip_k0_t1.sl.v604, trip_k0_t1.sl.v520, trip_k0_t1.sl.v801, trip_k0_t1.sl.v748, trip_k0_t1.sl.r_3, trip_k0_t1.sl.v619, trip_k0_t1.sl.v340, trip_k0_t1.sl.v691, trip_k0_t1.sl.v844, trip_k0_t1.sl.v295, trip_k0_t1.sl.v685, trip_k0_t1.sl.v583, trip_k0_t1.sl.v808, trip_k0_t1.sl.v673, trip_k0_t1.sl.v606, trip_k0_t1.sl.v732, trip_k0_t1.sl.v524, trip_k0_t1.sl.v415, trip_k0_t1.sl.v766, trip_k0_t1.sl.v754, trip_k0_t1.sl.v370, trip_k0_t1.sl.v649, trip_k0_t1.sl.v669, trip_k0_t1.sl.v677, trip_k0_t1.sl.v632, trip_k0_t1.sl.v385, trip_k0_t1.sl.v664, trip_k0_t1.sl.v559, trip_k0_t1.sl.v830, trip_k0_t1.sl.v445, trip_k0_t1.sl.v420, trip_k0_t1.sl.v756, trip_k0_t1.sl.v628, trip_k0_t1.sl.v693, trip_k0_t1.sl.v802, trip_k0_t1.sl.v648, trip_k0_t1.sl.v624, trip_k0_t1.sl.v799, trip_k0_t1.sl.v550, trip_k0_t1.sl.v660, trip_k0_t1.sl.v831, trip_k0_t1.sl.v700, trip_k0_t1.sl.v601, trip_k0_t1.sl.v610, trip_k0_t1.sl.v684, trip_k0_t1.sl.v713, trip_k0_t1.sl.v668, trip_k0_t1.sl.v838, trip_k0_t1.sl.v784, trip_k0_t1.sl.v730, trip_k0_t1.sl.v595, trip_k0_t1.sl.v813, trip_k0_t1.sl.v711, trip_k0_t1.sl.v695, trip_k0_t1.sl.v639, trip_k0_t1.sl.v682, trip_k0_t1.sl.v587, trip_k0_t1.sl.v718, trip_k0_t1.sl.v790, trip_k0_t1.sl.v786, trip_k0_t1.sl.v820, trip_k0_t1.sl.v720, trip_k0_t1.sl.v641, trip_k0_t1.sl.v522, trip_k0_t1.sl.v722, trip_k0_t1.sl.v612, trip_k0_t1.sl.r_1, trip_k0_t1.sl.v574, trip_k0_t1.sl.v642, trip_k0_t1.sl.v380, trip_k0_t1.sl.v435, trip_k0_t1.sl.v781, trip_k0_t1.sl.v696, trip_k0_t1.sl.v576, trip_k0_t1.sl.v739, trip_k0_t1.sl.v568, trip_k0_t1.sl.v666, trip_k0_t1.sl.v551, trip_k0_t1.sl.v360, trip_k0_t1.sl.cst_250, trip_k0_t1.sl.v736, trip_k0_t1.sl.v579, trip_k0_t1.sl.v793, trip_k0_t1.sl.v839, trip_k0_t1.sl.v847, trip_k0_t1.sl.v745, trip_k0_t1.sl.v843, trip_k0_t1.sl.v777, trip_k0_t1.sl.v840, trip_k0_t1.sl.v741, trip_k0_t1.sl.v714, trip_k0_t1.sl.v549, trip_k0_t1.sl.v759, trip_k0_t1.sl.v425, trip_k0_t1.sl.v310, trip_k0_t1.sl.v819, trip_k0_t1.sl.v650, trip_k0_t1.sl.v703, trip_k0_t1.sl.v531, trip_k0_t1.sl.v658, trip_k0_t1.sl.v455, trip_k0_t1.sl.v738, trip_k0_t1.sl.v803, trip_k0_t1.sl.v633, trip_k0_t1.sl.v667, trip_k0_t1.sl.v676, trip_k0_t1.sl.v686, trip_k0_t1.sl.r, trip_k0_t1.sl.v655, trip_k0_t1.sl.v567, trip_k0_t1.sl.v577, trip_k0_t1.sl.v729, trip_k0_t1.sl.v848, trip_k0_t1.sl.v785, trip_k0_t1.sl.v529, trip_k0_t1.sl.v335, trip_k0_t1.sl.v325, trip_k0_t1.sl.v837, trip_k0_t1.sl.v596, trip_k0_t1.sl.v822, trip_k0_t1.sl.v465, trip_k0_t1.sl.v561, trip_k0_t1.sl.v768, trip_k0_t1.sl.v723, trip_k0_t1.sl.v290, trip_k0_t1.sl.v405, trip_k0_t1.sl.v594, trip_k0_t1.sl.v410, trip_k0_t1.sl.v320, trip_k0_t1.sl.v585, trip_k0_t1.sl.v586, trip_k0_t1.sl.v712, trip_k0_t1.sl.v440, trip_k0_t1.sl.v597, trip_k0_t1.sl.v804, trip_k0_t1.sl.v470, trip_k0_t1.sl.v345, trip_k0_t1.sl.v533, trip_k0_t1.sl.v460, trip_k0_t1.sl.v829, trip_k0_t1.sl.v400, trip_k0_t1.sl.v623, trip_k0_t1.sl.v828, trip_k0_t1.sl.v541, trip_k0_t1.sl.v640, trip_k0_t1.sl.v775, trip_k0_t1.sl.v395, trip_k0_t1.sl.v675, trip_k0_t1.sl.v747, trip_k0_t1.sl.v350, trip_k0_t1.sl.v622, trip_k0_t1.sl.v565, trip_k0_t1.sl.v285, trip_k0_t1.sl.v305, trip_k0_t1.sl.v614, trip_k0_t1.sl.v637, trip_k0_t1.sl.v795, trip_k0_t1.sl.v849, trip_k0_t1.sl.v758, trip_k0_t1.sl.v525, trip_k0_t1.sl.v547, trip_k0_t1.sl.v705, trip_k0_t1.sl.v776, trip_k0_t1.sl.v569, trip_k0_t1.sl.v783, trip_k0_t1.sl.v835, trip_k0_t1.sl.v605, trip_k0_t1.sl.v631, trip_k0_t1.sl.v657, trip_k0_t1.sl.v534, trip_k0_t1.sl.v709, trip_k0_t1.sl.v727, trip_k0_t1.sl.v390, trip_k0_t1.sl.v542, trip_k0_t1.sl.v365, trip_k0_t1.sl.v430, trip_k0_t1.sl.v280, trip_k0_t1.sl.v592, trip_k0_t1.sl.v570, trip_k0_t1.sl.v603, trip_k0_t1.sl.v765, trip_k0_t1.sl.v792, trip_k0_t1.sl.v588, trip_k0_t1.sl.v750, trip_k0_t1.sl.v375, trip_k0_t1.sl.v558, trip_k0_t1.sl.v763, trip_k0_t1.sl.v615, trip_k0_t1.sl.v651, trip_k0_t1.sl.v772, trip_k0_t1.sl.v694, trip_k0_t1.sl.v532, trip_k0_t1.sl.v774]
  pointwise [k0_pay10]
  simp only [root arg8 X_arg8 k r R hR]
  simp only [row_load arg8 X_arg8 k r R hR _ _ _ (k0_off1_eq k) (by norm_num) l, row_load arg8 X_arg8 k r R hR _ _ _ (k0_off2_eq k) (by norm_num) l, row_load arg8 X_arg8 k r R hR _ _ _ (k0_off3_eq k) (by norm_num) l, row_load arg8 X_arg8 k r R hR _ _ _ (k0_off4_eq k) (by norm_num) l, row_load arg8 X_arg8 k r R hR _ _ _ (k0_off5_eq k) (by norm_num) l, row_load arg8 X_arg8 k r R hR _ _ _ (k0_off6_eq k) (by norm_num) l, row_load arg8 X_arg8 k r R hR _ _ _ (k0_off7_eq k) (by norm_num) l, row_load arg8 X_arg8 k r R hR _ _ _ (k0_off8_eq k) (by norm_num) l, row_load arg8 X_arg8 k r R hR _ _ _ (k0_off9_eq k) (by norm_num) l, row_load arg8 X_arg8 k r R hR _ _ _ (k0_off10_eq k) (by norm_num) l, row_load arg8 X_arg8 k r R hR _ _ _ (k0_off11_eq k) (by norm_num) l, row_load arg8 X_arg8 k r R hR _ _ _ (k0_off12_eq k) (by norm_num) l, row_load arg8 X_arg8 k r R hR _ _ _ (k0_off13_eq k) (by norm_num) l, row_load arg8 X_arg8 k r R hR _ _ _ (k0_off14_eq k) (by norm_num) l, row_load arg8 X_arg8 k r R hR _ _ _ (k0_off15_eq k) (by norm_num) l, row_load arg8 X_arg8 k r R hR _ _ _ (k0_off16_eq k) (by norm_num) l, row_load arg8 X_arg8 k r R hR _ _ _ (k0_off17_eq k) (by norm_num) l, row_load arg8 X_arg8 k r R hR _ _ _ (k0_off18_eq k) (by norm_num) l, row_load arg8 X_arg8 k r R hR _ _ _ (k0_off19_eq k) (by norm_num) l, row_load arg8 X_arg8 k r R hR _ _ _ (k0_off20_eq k) (by norm_num) l, row_load arg8 X_arg8 k r R hR _ _ _ (k0_off21_eq k) (by norm_num) l, row_load arg8 X_arg8 k r R hR _ _ _ (k0_off22_eq k) (by norm_num) l, row_load arg8 X_arg8 k r R hR _ _ _ (k0_off23_eq k) (by norm_num) l, row_load arg8 X_arg8 k r R hR _ _ _ (k0_off24_eq k) (by norm_num) l, row_load arg8 X_arg8 k r R hR _ _ _ (k0_off25_eq k) (by norm_num) l, row_load arg8 X_arg8 k r R hR _ _ _ (k0_off26_eq k) (by norm_num) l, row_load arg8 X_arg8 k r R hR _ _ _ (k0_off27_eq k) (by norm_num) l, row_load arg8 X_arg8 k r R hR _ _ _ (k0_off28_eq k) (by norm_num) l, row_load arg8 X_arg8 k r R hR _ _ _ (k0_off29_eq k) (by norm_num) l, row_load arg8 X_arg8 k r R hR _ _ _ (k0_off30_eq k) (by norm_num) l, row_load arg8 X_arg8 k r R hR _ _ _ (k0_off31_eq k) (by norm_num) l, row_load arg8 X_arg8 k r R hR _ _ _ (k0_off32_eq k) (by norm_num) l, row_load arg8 X_arg8 k r R hR _ _ _ (k0_off33_eq k) (by norm_num) l, row_load arg8 X_arg8 k r R hR _ _ _ (k0_off34_eq k) (by norm_num) l, row_load arg8 X_arg8 k r R hR _ _ _ (k0_off35_eq k) (by norm_num) l, row_load arg8 X_arg8 k r R hR _ _ _ (k0_off36_eq k) (by norm_num) l, row_load arg8 X_arg8 k r R hR _ _ _ (k0_off37_eq k) (by norm_num) l, row_load arg8 X_arg8 k r R hR _ _ _ (k0_off38_eq k) (by norm_num) l, row_load arg8 X_arg8 k r R hR _ _ _ (k0_off39_eq k) (by norm_num) l, row_load arg8 X_arg8 k r R hR _ _ _ (k0_off40_eq k) (by norm_num) l]
  simp only [wrow_load arg7 X_arg7 0 _ (by norm_num) l, wrow_load arg7 X_arg7 128 _ (by norm_num) l, wrow_load arg7 X_arg7 256 _ (by norm_num) l, wrow_load arg7 X_arg7 384 _ (by norm_num) l, wrow_load arg7 X_arg7 512 _ (by norm_num) l, wrow_load arg7 X_arg7 640 _ (by norm_num) l, wrow_load arg7 X_arg7 768 _ (by norm_num) l, wrow_load arg7 X_arg7 896 _ (by norm_num) l, wrow_load arg7 X_arg7 1024 _ (by norm_num) l, wrow_load arg7 X_arg7 1152 _ (by norm_num) l, wrow_load arg7 X_arg7 1280 _ (by norm_num) l, wrow_load arg7 X_arg7 1408 _ (by norm_num) l, wrow_load arg7 X_arg7 1536 _ (by norm_num) l, wrow_load arg7 X_arg7 1664 _ (by norm_num) l, wrow_load arg7 X_arg7 1792 _ (by norm_num) l, wrow_load arg7 X_arg7 1920 _ (by norm_num) l, wrow_load arg7 X_arg7 2048 _ (by norm_num) l, wrow_load arg7 X_arg7 2176 _ (by norm_num) l, wrow_load arg7 X_arg7 2304 _ (by norm_num) l, wrow_load arg7 X_arg7 2432 _ (by norm_num) l, wrow_load arg7 X_arg7 2560 _ (by norm_num) l, wrow_load arg7 X_arg7 2688 _ (by norm_num) l, wrow_load arg7 X_arg7 2816 _ (by norm_num) l, wrow_load arg7 X_arg7 2944 _ (by norm_num) l, wrow_load arg7 X_arg7 3072 _ (by norm_num) l, wrow_load arg7 X_arg7 3200 _ (by norm_num) l, wrow_load arg7 X_arg7 3328 _ (by norm_num) l, wrow_load arg7 X_arg7 3456 _ (by norm_num) l, wrow_load arg7 X_arg7 3584 _ (by norm_num) l, wrow_load arg7 X_arg7 3712 _ (by norm_num) l, wrow_load arg7 X_arg7 3840 _ (by norm_num) l, wrow_load arg7 X_arg7 3968 _ (by norm_num) l, wrow_load arg7 X_arg7 4096 _ (by norm_num) l, wrow_load arg7 X_arg7 4224 _ (by norm_num) l, wrow_load arg7 X_arg7 4352 _ (by norm_num) l, wrow_load arg7 X_arg7 4480 _ (by norm_num) l, wrow_load arg7 X_arg7 4608 _ (by norm_num) l, wrow_load arg7 X_arg7 4736 _ (by norm_num) l, wrow_load arg7 X_arg7 4864 _ (by norm_num) l, wrow_load arg7 X_arg7 4992 _ (by norm_num) l]
  simp only [runMax, Nat.reduceMul, zero_add, ext_normed]

/-- The row's scale. -/
theorem scale_at (k : Fin k0_t1_loop.trips) (r : Fin 32) (R : Fin 256) (hR : R.val = 32 * k.val + r.val) :
    trip_k0_t1.sl.v857 (F := Ideal) arg7 arg8 X_arg7 X_arg8 k (ix2 r 0)
      = scale (amax (normed (row arg8 X_arg8 R) (wrow arg7 X_arg7))) := by
  simp only [trip_k0_t1.sl.v856, trip_k0_t1.sl.cst_399, trip_k0_t1.sl.v851, trip_k0_t1.sl.v854, trip_k0_t1.sl.v852, trip_k0_t1.sl.cst_250, trip_k0_t1.sl.v853, trip_k0_t1.sl.cst_398, trip_k0_t1.sl.v857, trip_k0_t1.sl.v855, trip_k0_t1.sl.cst_396, trip_k0_t1.sl.v850]
  pointwise []
  simp only [largest arg7 arg8 X_arg7 X_arg8 k r R hR]
  rw [max_lanes]
  simp only [ext_val]
  rfl

/-- The code of an entry of the block. -/
def codeOf (y : S256x5120.Idx) : EReal :=
  codeMul (normed (row arg8 X_arg8 (y 0)) (wrow arg7 X_arg7) (y 1))
    (scale (amax (normed (row arg8 X_arg8 (y 0)) (wrow arg7 X_arg7))))

/-- A stored tile whose entries are the codes of the normed row holds the codes of the block. -/
theorem tile_of (k : Fin k0_t1_loop.trips) (y : S256x5120.Idx) (off : Fin 2 → ℕ) (b : ℕ) (hoff : off = ![32 * k.val, b])
    (w : S32x128.Idx → EReal)
    (h : ∀ (r : Fin 32) (R : Fin 256) (l : Fin 128), R.val = 32 * k.val + r.val →
      w (ix2 r l) = codeMul (ext (normed (row arg8 X_arg8 R) (wrow arg7 X_arg7)) (b + l.val))
        (scale (amax (normed (row arg8 X_arg8 R) (wrow arg7 X_arg7))))) :
    View.TileAt (Val := Elt Ideal) (S := S256x5120) (e := .fp8e4m3) y off S32x128.size w (codeOf arg7 arg8 X_arg7 X_arg8 y) := by
  subst hoff
  refine fun (x : S32x128.Idx) hx => ?_
  have h0 : (y 0).val = 32 * k.val + (x 0).val := hx 0
  have h1 : (y 1).val = b + (x 1).val := hx 1
  have e : x = ix2 (x 0) (x 1) := by funext a; fin_cases a <;> rfl
  refine (congrArg w e).trans ((h (x 0) (y 0) (x 1) h0).trans ?_)
  rw [show (b + (x 1).val) = (y 1).val from h1.symm]
  exact congrArg (fun z => codeMul z _) (ext_val _ (y 1))

/-- A row of tiles: an entry left of a tile's end lies in the tile or left of it. -/
theorem cover_step (k : Fin k0_t1_loop.trips) (y : S256x5120.Idx) (off : Fin 2 → ℕ) (inb) (b : ℕ) (hoff : off = ![32 * k.val, b])
    (w : S32x128.Idx → EReal) (L : List (View.Piece (Elt Ideal) S256x5120 .fp8e4m3))
    (h0 : 32 * k.val ≤ (y 0).val ∧ (y 0).val < 32 * k.val + 32) (h1 : (y 1).val < b + 128)
    (h : (y 1).val < b → ∃ p ∈ L, y ∈ p.1.set) :
    ∃ p ∈ (⟨Rect.unit off S32x128.size inb, w⟩ : View.Piece (Elt Ideal) S256x5120 .fp8e4m3) :: L, y ∈ p.1.set := by
  subst hoff
  by_cases hb : (y 1).val < b
  · obtain ⟨p, hp, hy⟩ := h hb
    exact ⟨p, List.mem_cons_of_mem _ hp, hy⟩
  · refine ⟨⟨Rect.unit ![32 * k.val, b] S32x128.size inb, w⟩, List.mem_cons_self, ?_⟩
    show y ∈ (Rect.unit (s := S256x5120) ![32 * k.val, b] S32x128.size inb).set
    exact Rect.mem_set_unit.mpr fun a => by fin_cases a <;> [exact h0; exact ⟨not_lt.mp hb, h1⟩]

set_option maxHeartbeats 4000000 in
/-- A trip's tiles hold the codes of its rows. -/
theorem trip_codes (𝒱 : Variants) (c : Dev nD) (bd : Option 𝒱.V) (i : grid0.Coords) (arg2 : Memref sig .tc .vmem S256x2560 .fp8e4m3) (harg2 : arg2.IsWhole) (arg3 : Memref sig .tc .vmem S1x1x256 .f32) (harg3 : arg3.IsWhole) (arg4 : Memref sig .tc .vmem S2560x5120 .fp8e4m3) (harg4 : arg4.IsWhole) (arg5 : Memref sig .tc .vmem S1x5120 .f32) (harg5 : arg5.IsWhole) (arg6 : Memref sig .tc .vmem S256x5120 .bf16) (harg6 : arg6.IsWhole) (harg7 : arg7.IsWhole) (harg8 : arg8.IsWhole) (arg9 : Memref sig .tc .vmem S256x5120 .fp8e4m3) (harg9 : arg9.IsWhole) (arg10 : Memref sig .tc .vmem S1x1x256 .f32) (harg10 : arg10.IsWhole) (arg11 : Memref sig .tc .vmem S256x128 .f32) (harg11 : arg11.IsWhole) (arg12 : Memref sig .tc .vmem S256x128 .f32) (harg12 : arg12.IsWhole) (k : Fin k0_t1_loop.trips) (y : S256x5120.Idx) :
    View.AllAt (trip_k0_t1 (F := Ideal) 𝒱 c bd i arg2 harg2 arg3 harg3 arg4 harg4 arg5 harg5 arg6 harg6 arg7 harg7 arg8 harg8 arg9 harg9 arg10 harg10 arg11 harg11 arg12 harg12 X_arg7 X_arg8 k).1 y (codeOf arg7 arg8 X_arg7 X_arg8 y) := by
  unfold trip_k0_t1
  dsimp only
  repeat' (first
    | exact View.allAt_nil _ _
    | refine View.allAt_cons_unit _ _ _ _ _ ?_ ?_)
  · exact tile_of arg7 arg8 X_arg7 X_arg8 k y _ 4992 (k0_off40_eq k) _ fun r R l hR => by
      simp only [trip_k0_t1.sl.v861, trip_k0_t1.sl.v860, trip_k0_t1.sl.v859, trip_k0_t1.sl.v856, trip_k0_t1.sl.cst_399, trip_k0_t1.sl.r]
      pointwise [k0_pay2]
      simp only [root arg8 X_arg8 k r R hR, scale_at arg7 arg8 X_arg7 X_arg8 k r R hR, row_load arg8 X_arg8 k r R hR _ _ _ (k0_off40_eq k) (by norm_num) l, wrow_load arg7 X_arg7 4992 _ (by norm_num) l]
      simp only [ext_normed, zero_add]
      rfl
  · exact tile_of arg7 arg8 X_arg7 X_arg8 k y _ 4864 (k0_off39_eq k) _ fun r R l hR => by
      simp only [trip_k0_t1.sl.v1444, trip_k0_t1.sl.v1443, trip_k0_t1.sl.v1441, trip_k0_t1.sl.v1439, trip_k0_t1.sl.v861, trip_k0_t1.sl.v860, trip_k0_t1.sl.v859, trip_k0_t1.sl.v856, trip_k0_t1.sl.cst_399, trip_k0_t1.sl.v838, trip_k0_t1.sl.v837, trip_k0_t1.sl.v835, trip_k0_t1.sl.r, trip_k0_t1.sl.v470, trip_k0_t1.sl.v870, trip_k0_t1.sl.cst_404, trip_k0_t1.sl.v872, trip_k0_t1.sl.cst_398]
      pointwise [k0_pay2]
      simp only [root arg8 X_arg8 k r R hR, scale_at arg7 arg8 X_arg7 X_arg8 k r R hR, row_load arg8 X_arg8 k r R hR _ _ _ (k0_off39_eq k) (by norm_num) l, wrow_load arg7 X_arg7 4864 _ (by norm_num) l]
      simp only [ext_normed, zero_add]
      rfl
  · exact tile_of arg7 arg8 X_arg7 X_arg8 k y _ 4736 (k0_off38_eq k) _ fun r R l hR => by
      simp only [trip_k0_t1.sl.v1429, trip_k0_t1.sl.v1428, trip_k0_t1.sl.v1426, trip_k0_t1.sl.v1424, trip_k0_t1.sl.v861, trip_k0_t1.sl.v860, trip_k0_t1.sl.v859, trip_k0_t1.sl.v856, trip_k0_t1.sl.cst_399, trip_k0_t1.sl.v829, trip_k0_t1.sl.v828, trip_k0_t1.sl.v826, trip_k0_t1.sl.r, trip_k0_t1.sl.v465, trip_k0_t1.sl.v870, trip_k0_t1.sl.cst_404, trip_k0_t1.sl.v872, trip_k0_t1.sl.cst_398]
      pointwise [k0_pay2]
      simp only [root arg8 X_arg8 k r R hR, scale_at arg7 arg8 X_arg7 X_arg8 k r R hR, row_load arg8 X_arg8 k r R hR _ _ _ (k0_off38_eq k) (by norm_num) l, wrow_load arg7 X_arg7 4736 _ (by norm_num) l]
      simp only [ext_normed, zero_add]
      rfl
  · exact tile_of arg7 arg8 X_arg7 X_arg8 k y _ 4608 (k0_off37_eq k) _ fun r R l hR => by
      simp only [trip_k0_t1.sl.v1414, trip_k0_t1.sl.v1413, trip_k0_t1.sl.v1411, trip_k0_t1.sl.v1409, trip_k0_t1.sl.v861, trip_k0_t1.sl.v860, trip_k0_t1.sl.v859, trip_k0_t1.sl.v856, trip_k0_t1.sl.cst_399, trip_k0_t1.sl.v1408, trip_k0_t1.sl.v1407, trip_k0_t1.sl.r_3, trip_k0_t1.sl.v817, trip_k0_t1.sl.r, trip_k0_t1.sl.v460, trip_k0_t1.sl.v870, trip_k0_t1.sl.cst_404, trip_k0_t1.sl.v872, trip_k0_t1.sl.cst_398]
      pointwise [k0_pay2]
      simp only [root arg8 X_arg8 k r R hR, scale_at arg7 arg8 X_arg7 X_arg8 k r R hR, row_load arg8 X_arg8 k r R hR _ _ _ (k0_off37_eq k) (by norm_num) l, wrow_load arg7 X_arg7 4608 _ (by norm_num) l]
      simp only [ext_normed, zero_add]
      rfl
  · exact tile_of arg7 arg8 X_arg7 X_arg8 k y _ 4480 (k0_off36_eq k) _ fun r R l hR => by
      simp only [trip_k0_t1.sl.v1399, trip_k0_t1.sl.v1398, trip_k0_t1.sl.v1396, trip_k0_t1.sl.v1394, trip_k0_t1.sl.v861, trip_k0_t1.sl.v860, trip_k0_t1.sl.v859, trip_k0_t1.sl.v856, trip_k0_t1.sl.cst_399, trip_k0_t1.sl.v811, trip_k0_t1.sl.v810, trip_k0_t1.sl.v808, trip_k0_t1.sl.r, trip_k0_t1.sl.v455, trip_k0_t1.sl.v870, trip_k0_t1.sl.cst_404, trip_k0_t1.sl.v872, trip_k0_t1.sl.cst_398]
      pointwise [k0_pay2]
      simp only [root arg8 X_arg8 k r R hR, scale_at arg7 arg8 X_arg7 X_arg8 k r R hR, row_load arg8 X_arg8 k r R hR _ _ _ (k0_off36_eq k) (by norm_num) l, wrow_load arg7 X_arg7 4480 _ (by norm_num) l]
      simp only [ext_normed, zero_add]
      rfl
  · exact tile_of arg7 arg8 X_arg7 X_arg8 k y _ 4352 (k0_off35_eq k) _ fun r R l hR => by
      simp only [trip_k0_t1.sl.v1384, trip_k0_t1.sl.v1383, trip_k0_t1.sl.v1381, trip_k0_t1.sl.v1379, trip_k0_t1.sl.v861, trip_k0_t1.sl.v860, trip_k0_t1.sl.v859, trip_k0_t1.sl.v856, trip_k0_t1.sl.cst_399, trip_k0_t1.sl.v802, trip_k0_t1.sl.v801, trip_k0_t1.sl.v799, trip_k0_t1.sl.r, trip_k0_t1.sl.v450, trip_k0_t1.sl.v870, trip_k0_t1.sl.cst_404, trip_k0_t1.sl.v872, trip_k0_t1.sl.cst_398]
      pointwise [k0_pay2]
      simp only [root arg8 X_arg8 k r R hR, scale_at arg7 arg8 X_arg7 X_arg8 k r R hR, row_load arg8 X_arg8 k r R hR _ _ _ (k0_off35_eq k) (by norm_num) l, wrow_load arg7 X_arg7 4352 _ (by norm_num) l]
      simp only [ext_normed, zero_add]
      rfl
  · exact tile_of arg7 arg8 X_arg7 X_arg8 k y _ 4224 (k0_off34_eq k) _ fun r R l hR => by
      simp only [trip_k0_t1.sl.v1369, trip_k0_t1.sl.v1368, trip_k0_t1.sl.v1366, trip_k0_t1.sl.v1364, trip_k0_t1.sl.v861, trip_k0_t1.sl.v860, trip_k0_t1.sl.v859, trip_k0_t1.sl.v856, trip_k0_t1.sl.cst_399, trip_k0_t1.sl.v793, trip_k0_t1.sl.v792, trip_k0_t1.sl.v790, trip_k0_t1.sl.r, trip_k0_t1.sl.v445, trip_k0_t1.sl.v870, trip_k0_t1.sl.cst_404, trip_k0_t1.sl.v872, trip_k0_t1.sl.cst_398]
      pointwise [k0_pay2]
      simp only [root arg8 X_arg8 k r R hR, scale_at arg7 arg8 X_arg7 X_arg8 k r R hR, row_load arg8 X_arg8 k r R hR _ _ _ (k0_off34_eq k) (by norm_num) l, wrow_load arg7 X_arg7 4224 _ (by norm_num) l]
      simp only [ext_normed, zero_add]
      rfl
  · exact tile_of arg7 arg8 X_arg7 X_arg8 k y _ 4096 (k0_off33_eq k) _ fun r R l hR => by
      simp only [trip_k0_t1.sl.v1354, trip_k0_t1.sl.v1353, trip_k0_t1.sl.v1351, trip_k0_t1.sl.v1349, trip_k0_t1.sl.v861, trip_k0_t1.sl.v860, trip_k0_t1.sl.v859, trip_k0_t1.sl.v856, trip_k0_t1.sl.cst_399, trip_k0_t1.sl.v784, trip_k0_t1.sl.v783, trip_k0_t1.sl.v781, trip_k0_t1.sl.r, trip_k0_t1.sl.v440, trip_k0_t1.sl.v870, trip_k0_t1.sl.cst_404, trip_k0_t1.sl.v872, trip_k0_t1.sl.cst_398]
      pointwise [k0_pay2]
      simp only [root arg8 X_arg8 k r R hR, scale_at arg7 arg8 X_arg7 X_arg8 k r R hR, row_load arg8 X_arg8 k r R hR _ _ _ (k0_off33_eq k) (by norm_num) l, wrow_load arg7 X_arg7 4096 _ (by norm_num) l]
      simp only [ext_normed, zero_add]
      rfl
  · exact tile_of arg7 arg8 X_arg7 X_arg8 k y _ 3968 (k0_off32_eq k) _ fun r R l hR => by
      simp only [trip_k0_t1.sl.v1339, trip_k0_t1.sl.v1338, trip_k0_t1.sl.v1336, trip_k0_t1.sl.v1334, trip_k0_t1.sl.v861, trip_k0_t1.sl.v860, trip_k0_t1.sl.v859, trip_k0_t1.sl.v856, trip_k0_t1.sl.cst_399, trip_k0_t1.sl.v775, trip_k0_t1.sl.v774, trip_k0_t1.sl.v772, trip_k0_t1.sl.r, trip_k0_t1.sl.v435, trip_k0_t1.sl.v870, trip_k0_t1.sl.cst_404, trip_k0_t1.sl.v872, trip_k0_t1.sl.cst_398]
      pointwise [k0_pay2]
      simp only [root arg8 X_arg8 k r R hR, scale_at arg7 arg8 X_arg7 X_arg8 k r R hR, row_load arg8 X_arg8 k r R hR _ _ _ (k0_off32_eq k) (by norm_num) l, wrow_load arg7 X_arg7 3968 _ (by norm_num) l]
      simp only [ext_normed, zero_add]
      rfl
  · exact tile_of arg7 arg8 X_arg7 X_arg8 k y _ 3840 (k0_off31_eq k) _ fun r R l hR => by
      simp only [trip_k0_t1.sl.v1324, trip_k0_t1.sl.v1323, trip_k0_t1.sl.v1321, trip_k0_t1.sl.v1319, trip_k0_t1.sl.v861, trip_k0_t1.sl.v860, trip_k0_t1.sl.v859, trip_k0_t1.sl.v856, trip_k0_t1.sl.cst_399, trip_k0_t1.sl.v766, trip_k0_t1.sl.v765, trip_k0_t1.sl.v763, trip_k0_t1.sl.r, trip_k0_t1.sl.v430, trip_k0_t1.sl.v870, trip_k0_t1.sl.cst_404, trip_k0_t1.sl.v872, trip_k0_t1.sl.cst_398]
      pointwise [k0_pay2]
      simp only [root arg8 X_arg8 k r R hR, scale_at arg7 arg8 X_arg7 X_arg8 k r R hR, row_load arg8 X_arg8 k r R hR _ _ _ (k0_off31_eq k) (by norm_num) l, wrow_load arg7 X_arg7 3840 _ (by norm_num) l]
      simp only [ext_normed, zero_add]
      rfl
  · exact tile_of arg7 arg8 X_arg7 X_arg8 k y _ 3712 (k0_off30_eq k) _ fun r R l hR => by
      simp only [trip_k0_t1.sl.v1309, trip_k0_t1.sl.v1308, trip_k0_t1.sl.v1306, trip_k0_t1.sl.v1304, trip_k0_t1.sl.v861, trip_k0_t1.sl.v860, trip_k0_t1.sl.v859, trip_k0_t1.sl.v856, trip_k0_t1.sl.cst_399, trip_k0_t1.sl.v757, trip_k0_t1.sl.v756, trip_k0_t1.sl.v754, trip_k0_t1.sl.r, trip_k0_t1.sl.v425, trip_k0_t1.sl.v870, trip_k0_t1.sl.cst_404, trip_k0_t1.sl.v872, trip_k0_t1.sl.cst_398]
      pointwise [k0_pay2]
      simp only [root arg8 X_arg8 k r R hR, scale_at arg7 arg8 X_arg7 X_arg8 k r R hR, row_load arg8 X_arg8 k r R hR _ _ _ (k0_off30_eq k) (by norm_num) l, wrow_load arg7 X_arg7 3712 _ (by norm_num) l]
      simp only [ext_normed, zero_add]
      rfl
  · exact tile_of arg7 arg8 X_arg7 X_arg8 k y _ 3584 (k0_off29_eq k) _ fun r R l hR => by
      simp only [trip_k0_t1.sl.v1294, trip_k0_t1.sl.v1293, trip_k0_t1.sl.v1291, trip_k0_t1.sl.v1289, trip_k0_t1.sl.v861, trip_k0_t1.sl.v860, trip_k0_t1.sl.v859, trip_k0_t1.sl.v856, trip_k0_t1.sl.cst_399, trip_k0_t1.sl.v748, trip_k0_t1.sl.v747, trip_k0_t1.sl.v745, trip_k0_t1.sl.r, trip_k0_t1.sl.v420, trip_k0_t1.sl.v870, trip_k0_t1.sl.cst_404, trip_k0_t1.sl.v872, trip_k0_t1.sl.cst_398]
      pointwise [k0_pay2]
      simp only [root arg8 X_arg8 k r R hR, scale_at arg7 arg8 X_arg7 X_arg8 k r R hR, row_load arg8 X_arg8 k r R hR _ _ _ (k0_off29_eq k) (by norm_num) l, wrow_load arg7 X_arg7 3584 _ (by norm_num) l]
      simp only [ext_normed, zero_add]
      rfl
  · exact tile_of arg7 arg8 X_arg7 X_arg8 k y _ 3456 (k0_off28_eq k) _ fun r R l hR => by
      simp only [trip_k0_t1.sl.v1279, trip_k0_t1.sl.v1278, trip_k0_t1.sl.v1276, trip_k0_t1.sl.v1274, trip_k0_t1.sl.v861, trip_k0_t1.sl.v860, trip_k0_t1.sl.v859, trip_k0_t1.sl.v856, trip_k0_t1.sl.cst_399, trip_k0_t1.sl.v739, trip_k0_t1.sl.v738, trip_k0_t1.sl.v736, trip_k0_t1.sl.r, trip_k0_t1.sl.v415, trip_k0_t1.sl.v870, trip_k0_t1.sl.cst_404, trip_k0_t1.sl.v872, trip_k0_t1.sl.cst_398]
      pointwise [k0_pay2]
      simp only [root arg8 X_arg8 k r R hR, scale_at arg7 arg8 X_arg7 X_arg8 k r R hR, row_load arg8 X_arg8 k r R hR _ _ _ (k0_off28_eq k) (by norm_num) l, wrow_load arg7 X_arg7 3456 _ (by norm_num) l]
      simp only [ext_normed, zero_add]
      rfl
  · exact tile_of arg7 arg8 X_arg7 X_arg8 k y _ 3328 (k0_off27_eq k) _ fun r R l hR => by
      simp only [trip_k0_t1.sl.v1264, trip_k0_t1.sl.v1263, trip_k0_t1.sl.v1261, trip_k0_t1.sl.v1259, trip_k0_t1.sl.v861, trip_k0_t1.sl.v860, trip_k0_t1.sl.v859, trip_k0_t1.sl.v856, trip_k0_t1.sl.cst_399, trip_k0_t1.sl.v730, trip_k0_t1.sl.v729, trip_k0_t1.sl.v727, trip_k0_t1.sl.r, trip_k0_t1.sl.v410, trip_k0_t1.sl.v870, trip_k0_t1.sl.cst_404, trip_k0_t1.sl.v872, trip_k0_t1.sl.cst_398]
      pointwise [k0_pay2]
      simp only [root arg8 X_arg8 k r R hR, scale_at arg7 arg8 X_arg7 X_arg8 k r R hR, row_load arg8 X_arg8 k r R hR _ _ _ (k0_off27_eq k) (by norm_num) l, wrow_load arg7 X_arg7 3328 _ (by norm_num) l]
      simp only [ext_normed, zero_add]
      rfl
  · exact tile_of arg7 arg8 X_arg7 X_arg8 k y _ 3200 (k0_off26_eq k) _ fun r R l hR => by
      simp only [trip_k0_t1.sl.v1249, trip_k0_t1.sl.v1248, trip_k0_t1.sl.v1246, trip_k0_t1.sl.v1244, trip_k0_t1.sl.v861, trip_k0_t1.sl.v860, trip_k0_t1.sl.v859, trip_k0_t1.sl.v856, trip_k0_t1.sl.cst_399, trip_k0_t1.sl.v721, trip_k0_t1.sl.v720, trip_k0_t1.sl.v718, trip_k0_t1.sl.r, trip_k0_t1.sl.v405, trip_k0_t1.sl.v870, trip_k0_t1.sl.cst_404, trip_k0_t1.sl.v872, trip_k0_t1.sl.cst_398]
      pointwise [k0_pay2]
      simp only [root arg8 X_arg8 k r R hR, scale_at arg7 arg8 X_arg7 X_arg8 k r R hR, row_load arg8 X_arg8 k r R hR _ _ _ (k0_off26_eq k) (by norm_num) l, wrow_load arg7 X_arg7 3200 _ (by norm_num) l]
      simp only [ext_normed, zero_add]
      rfl
  · exact tile_of arg7 arg8 X_arg7 X_arg8 k y _ 3072 (k0_off25_eq k) _ fun r R l hR => by
      simp only [trip_k0_t1.sl.v1234, trip_k0_t1.sl.v1233, trip_k0_t1.sl.v1231, trip_k0_t1.sl.v1229, trip_k0_t1.sl.v861, trip_k0_t1.sl.v860, trip_k0_t1.sl.v859, trip_k0_t1.sl.v856, trip_k0_t1.sl.cst_399, trip_k0_t1.sl.v712, trip_k0_t1.sl.v711, trip_k0_t1.sl.v709, trip_k0_t1.sl.r, trip_k0_t1.sl.v400, trip_k0_t1.sl.v870, trip_k0_t1.sl.cst_404, trip_k0_t1.sl.v872, trip_k0_t1.sl.cst_398]
      pointwise [k0_pay2]
      simp only [root arg8 X_arg8 k r R hR, scale_at arg7 arg8 X_arg7 X_arg8 k r R hR, row_load arg8 X_arg8 k r R hR _ _ _ (k0_off25_eq k) (by norm_num) l, wrow_load arg7 X_arg7 3072 _ (by norm_num) l]
      simp only [ext_normed, zero_add]
      rfl
  · exact tile_of arg7 arg8 X_arg7 X_arg8 k y _ 2944 (k0_off24_eq k) _ fun r R l hR => by
      simp only [trip_k0_t1.sl.v1219, trip_k0_t1.sl.v1218, trip_k0_t1.sl.v1216, trip_k0_t1.sl.v1214, trip_k0_t1.sl.v861, trip_k0_t1.sl.v860, trip_k0_t1.sl.v859, trip_k0_t1.sl.v856, trip_k0_t1.sl.cst_399, trip_k0_t1.sl.v703, trip_k0_t1.sl.v702, trip_k0_t1.sl.v700, trip_k0_t1.sl.r, trip_k0_t1.sl.v395, trip_k0_t1.sl.v870, trip_k0_t1.sl.cst_404, trip_k0_t1.sl.v872, trip_k0_t1.sl.cst_398]
      pointwise [k0_pay2]
      simp only [root arg8 X_arg8 k r R hR, scale_at arg7 arg8 X_arg7 X_arg8 k r R hR, row_load arg8 X_arg8 k r R hR _ _ _ (k0_off24_eq k) (by norm_num) l, wrow_load arg7 X_arg7 2944 _ (by norm_num) l]
      simp only [ext_normed, zero_add]
      rfl
  · exact tile_of arg7 arg8 X_arg7 X_arg8 k y _ 2816 (k0_off23_eq k) _ fun r R l hR => by
      simp only [trip_k0_t1.sl.v1204, trip_k0_t1.sl.v1203, trip_k0_t1.sl.v1201, trip_k0_t1.sl.v1199, trip_k0_t1.sl.v861, trip_k0_t1.sl.v860, trip_k0_t1.sl.v859, trip_k0_t1.sl.v856, trip_k0_t1.sl.cst_399, trip_k0_t1.sl.v694, trip_k0_t1.sl.v693, trip_k0_t1.sl.v691, trip_k0_t1.sl.r, trip_k0_t1.sl.v390, trip_k0_t1.sl.v870, trip_k0_t1.sl.cst_404, trip_k0_t1.sl.v872, trip_k0_t1.sl.cst_398]
      pointwise [k0_pay2]
      simp only [root arg8 X_arg8 k r R hR, scale_at arg7 arg8 X_arg7 X_arg8 k r R hR, row_load arg8 X_arg8 k r R hR _ _ _ (k0_off23_eq k) (by norm_num) l, wrow_load arg7 X_arg7 2816 _ (by norm_num) l]
      simp only [ext_normed, zero_add]
      rfl
  · exact tile_of arg7 arg8 X_arg7 X_arg8 k y _ 2688 (k0_off22_eq k) _ fun r R l hR => by
      simp only [trip_k0_t1.sl.v1189, trip_k0_t1.sl.v1188, trip_k0_t1.sl.v1186, trip_k0_t1.sl.v1184, trip_k0_t1.sl.v861, trip_k0_t1.sl.v860, trip_k0_t1.sl.v859, trip_k0_t1.sl.v856, trip_k0_t1.sl.cst_399, trip_k0_t1.sl.v685, trip_k0_t1.sl.v684, trip_k0_t1.sl.v682, trip_k0_t1.sl.r, trip_k0_t1.sl.v385, trip_k0_t1.sl.v870, trip_k0_t1.sl.cst_404, trip_k0_t1.sl.v872, trip_k0_t1.sl.cst_398]
      pointwise [k0_pay2]
      simp only [root arg8 X_arg8 k r R hR, scale_at arg7 arg8 X_arg7 X_arg8 k r R hR, row_load arg8 X_arg8 k r R hR _ _ _ (k0_off22_eq k) (by norm_num) l, wrow_load arg7 X_arg7 2688 _ (by norm_num) l]
      simp only [ext_normed, zero_add]
      rfl
  · exact tile_of arg7 arg8 X_arg7 X_arg8 k y _ 2560 (k0_off21_eq k) _ fun r R l hR => by
      simp only [trip_k0_t1.sl.v1174, trip_k0_t1.sl.v1173, trip_k0_t1.sl.v1171, trip_k0_t1.sl.v1169, trip_k0_t1.sl.v861, trip_k0_t1.sl.v860, trip_k0_t1.sl.v859, trip_k0_t1.sl.v856, trip_k0_t1.sl.cst_399, trip_k0_t1.sl.v676, trip_k0_t1.sl.v675, trip_k0_t1.sl.v673, trip_k0_t1.sl.r, trip_k0_t1.sl.v380, trip_k0_t1.sl.v870, trip_k0_t1.sl.cst_404, trip_k0_t1.sl.v872, trip_k0_t1.sl.cst_398]
      pointwise [k0_pay2]
      simp only [root arg8 X_arg8 k r R hR, scale_at arg7 arg8 X_arg7 X_arg8 k r R hR, row_load arg8 X_arg8 k r R hR _ _ _ (k0_off21_eq k) (by norm_num) l, wrow_load arg7 X_arg7 2560 _ (by norm_num) l]
      simp only [ext_normed, zero_add]
      rfl
  · exact tile_of arg7 arg8 X_arg7 X_arg8 k y _ 2432 (k0_off20_eq k) _ fun r R l hR => by
      simp only [trip_k0_t1.sl.v1159, trip_k0_t1.sl.v1158, trip_k0_t1.sl.v1156, trip_k0_t1.sl.v1154, trip_k0_t1.sl.v861, trip_k0_t1.sl.v860, trip_k0_t1.sl.v859, trip_k0_t1.sl.v856, trip_k0_t1.sl.cst_399, trip_k0_t1.sl.v667, trip_k0_t1.sl.v666, trip_k0_t1.sl.v664, trip_k0_t1.sl.r, trip_k0_t1.sl.v375, trip_k0_t1.sl.v870, trip_k0_t1.sl.cst_404, trip_k0_t1.sl.v872, trip_k0_t1.sl.cst_398]
      pointwise [k0_pay2]
      simp only [root arg8 X_arg8 k r R hR, scale_at arg7 arg8 X_arg7 X_arg8 k r R hR, row_load arg8 X_arg8 k r R hR _ _ _ (k0_off20_eq k) (by norm_num) l, wrow_load arg7 X_arg7 2432 _ (by norm_num) l]
      simp only [ext_normed, zero_add]
      rfl
  · exact tile_of arg7 arg8 X_arg7 X_arg8 k y _ 2304 (k0_off19_eq k) _ fun r R l hR => by
      simp only [trip_k0_t1.sl.v1144, trip_k0_t1.sl.v1143, trip_k0_t1.sl.v1141, trip_k0_t1.sl.v1139, trip_k0_t1.sl.v861, trip_k0_t1.sl.v860, trip_k0_t1.sl.v859, trip_k0_t1.sl.v856, trip_k0_t1.sl.cst_399, trip_k0_t1.sl.v658, trip_k0_t1.sl.v657, trip_k0_t1.sl.v655, trip_k0_t1.sl.r, trip_k0_t1.sl.v370, trip_k0_t1.sl.v870, trip_k0_t1.sl.cst_404, trip_k0_t1.sl.v872, trip_k0_t1.sl.cst_398]
      pointwise [k0_pay2]
      simp only [root arg8 X_arg8 k r R hR, scale_at arg7 arg8 X_arg7 X_arg8 k r R hR, row_load arg8 X_arg8 k r R hR _ _ _ (k0_off19_eq k) (by norm_num) l, wrow_load arg7 X_arg7 2304 _ (by norm_num) l]
      simp only [ext_normed, zero_add]
      rfl
  · exact tile_of arg7 arg8 X_arg7 X_arg8 k y _ 2176 (k0_off18_eq k) _ fun r R l hR => by
      simp only [trip_k0_t1.sl.v1129, trip_k0_t1.sl.v1128, trip_k0_t1.sl.v1126, trip_k0_t1.sl.v1124, trip_k0_t1.sl.v861, trip_k0_t1.sl.v860, trip_k0_t1.sl.v859, trip_k0_t1.sl.v856, trip_k0_t1.sl.cst_399, trip_k0_t1.sl.v649, trip_k0_t1.sl.v648, trip_k0_t1.sl.v646, trip_k0_t1.sl.r, trip_k0_t1.sl.v365, trip_k0_t1.sl.v870, trip_k0_t1.sl.cst_404, trip_k0_t1.sl.v872, trip_k0_t1.sl.cst_398]
      pointwise [k0_pay2]
      simp only [root arg8 X_arg8 k r R hR, scale_at arg7 arg8 X_arg7 X_arg8 k r R hR, row_load arg8 X_arg8 k r R hR _ _ _ (k0_off18_eq k) (by norm_num) l, wrow_load arg7 X_arg7 2176 _ (by norm_num) l]
      simp only [ext_normed, zero_add]
      rfl
  · exact tile_of arg7 arg8 X_arg7 X_arg8 k y _ 2048 (k0_off17_eq k) _ fun r R l hR => by
      simp only [trip_k0_t1.sl.v1114, trip_k0_t1.sl.v1113, trip_k0_t1.sl.v1111, trip_k0_t1.sl.v1109, trip_k0_t1.sl.v861, trip_k0_t1.sl.v860, trip_k0_t1.sl.v859, trip_k0_t1.sl.v856, trip_k0_t1.sl.cst_399, trip_k0_t1.sl.v640, trip_k0_t1.sl.v639, trip_k0_t1.sl.v637, trip_k0_t1.sl.r, trip_k0_t1.sl.v360, trip_k0_t1.sl.v870, trip_k0_t1.sl.cst_404, trip_k0_t1.sl.v872, trip_k0_t1.sl.cst_398]
      pointwise [k0_pay2]
      simp only [root arg8 X_arg8 k r R hR, scale_at arg7 arg8 X_arg7 X_arg8 k r R hR, row_load arg8 X_arg8 k r R hR _ _ _ (k0_off17_eq k) (by norm_num) l, wrow_load arg7 X_arg7 2048 _ (by norm_num) l]
      simp only [ext_normed, zero_add]
      rfl
  · exact tile_of arg7 arg8 X_arg7 X_arg8 k y _ 1920 (k0_off16_eq k) _ fun r R l hR => by
      simp only [trip_k0_t1.sl.v1099, trip_k0_t1.sl.v1098, trip_k0_t1.sl.v1096, trip_k0_t1.sl.v1094, trip_k0_t1.sl.v861, trip_k0_t1.sl.v860, trip_k0_t1.sl.v859, trip_k0_t1.sl.v856, trip_k0_t1.sl.cst_399, trip_k0_t1.sl.v631, trip_k0_t1.sl.v630, trip_k0_t1.sl.v628, trip_k0_t1.sl.r, trip_k0_t1.sl.v355, trip_k0_t1.sl.v870, trip_k0_t1.sl.cst_404, trip_k0_t1.sl.v872, trip_k0_t1.sl.cst_398]
      pointwise [k0_pay2]
      simp only [root arg8 X_arg8 k r R hR, scale_at arg7 arg8 X_arg7 X_arg8 k r R hR, row_load arg8 X_arg8 k r R hR _ _ _ (k0_off16_eq k) (by norm_num) l, wrow_load arg7 X_arg7 1920 _ (by norm_num) l]
      simp only [ext_normed, zero_add]
      rfl
  · exact tile_of arg7 arg8 X_arg7 X_arg8 k y _ 1792 (k0_off15_eq k) _ fun r R l hR => by
      simp only [trip_k0_t1.sl.v1084, trip_k0_t1.sl.v1083, trip_k0_t1.sl.v1081, trip_k0_t1.sl.v1079, trip_k0_t1.sl.v861, trip_k0_t1.sl.v860, trip_k0_t1.sl.v859, trip_k0_t1.sl.v856, trip_k0_t1.sl.cst_399, trip_k0_t1.sl.v622, trip_k0_t1.sl.v621, trip_k0_t1.sl.v619, trip_k0_t1.sl.r, trip_k0_t1.sl.v350, trip_k0_t1.sl.v870, trip_k0_t1.sl.cst_404, trip_k0_t1.sl.v872, trip_k0_t1.sl.cst_398]
      pointwise [k0_pay2]
      simp only [root arg8 X_arg8 k r R hR, scale_at arg7 arg8 X_arg7 X_arg8 k r R hR, row_load arg8 X_arg8 k r R hR _ _ _ (k0_off15_eq k) (by norm_num) l, wrow_load arg7 X_arg7 1792 _ (by norm_num) l]
      simp only [ext_normed, zero_add]
      rfl
  · exact tile_of arg7 arg8 X_arg7 X_arg8 k y _ 1664 (k0_off14_eq k) _ fun r R l hR => by
      simp only [trip_k0_t1.sl.v1069, trip_k0_t1.sl.v1068, trip_k0_t1.sl.v1066, trip_k0_t1.sl.v1064, trip_k0_t1.sl.v861, trip_k0_t1.sl.v860, trip_k0_t1.sl.v859, trip_k0_t1.sl.v856, trip_k0_t1.sl.cst_399, trip_k0_t1.sl.v613, trip_k0_t1.sl.v612, trip_k0_t1.sl.v610, trip_k0_t1.sl.r, trip_k0_t1.sl.v345, trip_k0_t1.sl.v870, trip_k0_t1.sl.cst_404, trip_k0_t1.sl.v872, trip_k0_t1.sl.cst_398]
      pointwise [k0_pay2]
      simp only [root arg8 X_arg8 k r R hR, scale_at arg7 arg8 X_arg7 X_arg8 k r R hR, row_load arg8 X_arg8 k r R hR _ _ _ (k0_off14_eq k) (by norm_num) l, wrow_load arg7 X_arg7 1664 _ (by norm_num) l]
      simp only [ext_normed, zero_add]
      rfl
  · exact tile_of arg7 arg8 X_arg7 X_arg8 k y _ 1536 (k0_off13_eq k) _ fun r R l hR => by
      simp only [trip_k0_t1.sl.v1054, trip_k0_t1.sl.v1053, trip_k0_t1.sl.v1051, trip_k0_t1.sl.v1049, trip_k0_t1.sl.v861, trip_k0_t1.sl.v860, trip_k0_t1.sl.v859, trip_k0_t1.sl.v856, trip_k0_t1.sl.cst_399, trip_k0_t1.sl.v604, trip_k0_t1.sl.v603, trip_k0_t1.sl.v601, trip_k0_t1.sl.r, trip_k0_t1.sl.v340, trip_k0_t1.sl.v870, trip_k0_t1.sl.cst_404, trip_k0_t1.sl.v872, trip_k0_t1.sl.cst_398]
      pointwise [k0_pay2]
      simp only [root arg8 X_arg8 k r R hR, scale_at arg7 arg8 X_arg7 X_arg8 k r R hR, row_load arg8 X_arg8 k r R hR _ _ _ (k0_off13_eq k) (by norm_num) l, wrow_load arg7 X_arg7 1536 _ (by norm_num) l]
      simp only [ext_normed, zero_add]
      rfl
  · exact tile_of arg7 arg8 X_arg7 X_arg8 k y _ 1408 (k0_off12_eq k) _ fun r R l hR => by
      simp only [trip_k0_t1.sl.v1039, trip_k0_t1.sl.v1038, trip_k0_t1.sl.v1036, trip_k0_t1.sl.v1034, trip_k0_t1.sl.v861, trip_k0_t1.sl.v860, trip_k0_t1.sl.v859, trip_k0_t1.sl.v856, trip_k0_t1.sl.cst_399, trip_k0_t1.sl.v595, trip_k0_t1.sl.v594, trip_k0_t1.sl.v592, trip_k0_t1.sl.r, trip_k0_t1.sl.v335, trip_k0_t1.sl.v870, trip_k0_t1.sl.cst_404, trip_k0_t1.sl.v872, trip_k0_t1.sl.cst_398]
      pointwise [k0_pay2]
      simp only [root arg8 X_arg8 k r R hR, scale_at arg7 arg8 X_arg7 X_arg8 k r R hR, row_load arg8 X_arg8 k r R hR _ _ _ (k0_off12_eq k) (by norm_num) l, wrow_load arg7 X_arg7 1408 _ (by norm_num) l]
      simp only [ext_normed, zero_add]
      rfl
  · exact tile_of arg7 arg8 X_arg7 X_arg8 k y _ 1280 (k0_off11_eq k) _ fun r R l hR => by
      simp only [trip_k0_t1.sl.v1024, trip_k0_t1.sl.v1023, trip_k0_t1.sl.v1021, trip_k0_t1.sl.v1019, trip_k0_t1.sl.v861, trip_k0_t1.sl.v860, trip_k0_t1.sl.v859, trip_k0_t1.sl.v856, trip_k0_t1.sl.cst_399, trip_k0_t1.sl.v586, trip_k0_t1.sl.v585, trip_k0_t1.sl.v583, trip_k0_t1.sl.r, trip_k0_t1.sl.v330, trip_k0_t1.sl.v870, trip_k0_t1.sl.cst_404, trip_k0_t1.sl.v872, trip_k0_t1.sl.cst_398]
      pointwise [k0_pay2]
      simp only [root arg8 X_arg8 k r R hR, scale_at arg7 arg8 X_arg7 X_arg8 k r R hR, row_load arg8 X_arg8 k r R hR _ _ _ (k0_off11_eq k) (by norm_num) l, wrow_load arg7 X_arg7 1280 _ (by norm_num) l]
      simp only [ext_normed, zero_add]
      rfl
  · exact tile_of arg7 arg8 X_arg7 X_arg8 k y _ 1152 (k0_off10_eq k) _ fun r R l hR => by
      simp only [trip_k0_t1.sl.v1009, trip_k0_t1.sl.v1008, trip_k0_t1.sl.v1006, trip_k0_t1.sl.v1004, trip_k0_t1.sl.v861, trip_k0_t1.sl.v860, trip_k0_t1.sl.v859, trip_k0_t1.sl.v856, trip_k0_t1.sl.cst_399, trip_k0_t1.sl.v577, trip_k0_t1.sl.v576, trip_k0_t1.sl.v574, trip_k0_t1.sl.r, trip_k0_t1.sl.v325, trip_k0_t1.sl.v870, trip_k0_t1.sl.cst_404, trip_k0_t1.sl.v872, trip_k0_t1.sl.cst_398]
      pointwise [k0_pay2]
      simp only [root arg8 X_arg8 k r R hR, scale_at arg7 arg8 X_arg7 X_arg8 k r R hR, row_load arg8 X_arg8 k r R hR _ _ _ (k0_off10_eq k) (by norm_num) l, wrow_load arg7 X_arg7 1152 _ (by norm_num) l]
      simp only [ext_normed, zero_add]
      rfl
  · exact tile_of arg7 arg8 X_arg7 X_arg8 k y _ 1024 (k0_off9_eq k) _ fun r R l hR => by
      simp only [trip_k0_t1.sl.v994, trip_k0_t1.sl.v993, trip_k0_t1.sl.v991, trip_k0_t1.sl.v989, trip_k0_t1.sl.v861, trip_k0_t1.sl.v860, trip_k0_t1.sl.v859, trip_k0_t1.sl.v856, trip_k0_t1.sl.cst_399, trip_k0_t1.sl.v568, trip_k0_t1.sl.v567, trip_k0_t1.sl.v565, trip_k0_t1.sl.r, trip_k0_t1.sl.v320, trip_k0_t1.sl.v870, trip_k0_t1.sl.cst_404, trip_k0_t1.sl.v872, trip_k0_t1.sl.cst_398]
      pointwise [k0_pay2]
      simp only [root arg8 X_arg8 k r R hR, scale_at arg7 arg8 X_arg7 X_arg8 k r R hR, row_load arg8 X_arg8 k r R hR _ _ _ (k0_off9_eq k) (by norm_num) l, wrow_load arg7 X_arg7 1024 _ (by norm_num) l]
      simp only [ext_normed, zero_add]
      rfl
  · exact tile_of arg7 arg8 X_arg7 X_arg8 k y _ 896 (k0_off8_eq k) _ fun r R l hR => by
      simp only [trip_k0_t1.sl.v979, trip_k0_t1.sl.v978, trip_k0_t1.sl.v976, trip_k0_t1.sl.v974, trip_k0_t1.sl.v861, trip_k0_t1.sl.v860, trip_k0_t1.sl.v859, trip_k0_t1.sl.v856, trip_k0_t1.sl.cst_399, trip_k0_t1.sl.v559, trip_k0_t1.sl.v558, trip_k0_t1.sl.v556, trip_k0_t1.sl.r, trip_k0_t1.sl.v315, trip_k0_t1.sl.v870, trip_k0_t1.sl.cst_404, trip_k0_t1.sl.v872, trip_k0_t1.sl.cst_398]
      pointwise [k0_pay2]
      simp only [root arg8 X_arg8 k r R hR, scale_at arg7 arg8 X_arg7 X_arg8 k r R hR, row_load arg8 X_arg8 k r R hR _ _ _ (k0_off8_eq k) (by norm_num) l, wrow_load arg7 X_arg7 896 _ (by norm_num) l]
      simp only [ext_normed, zero_add]
      rfl
  · exact tile_of arg7 arg8 X_arg7 X_arg8 k y _ 768 (k0_off7_eq k) _ fun r R l hR => by
      simp only [trip_k0_t1.sl.v964, trip_k0_t1.sl.v963, trip_k0_t1.sl.v961, trip_k0_t1.sl.v959, trip_k0_t1.sl.v861, trip_k0_t1.sl.v860, trip_k0_t1.sl.v859, trip_k0_t1.sl.v856, trip_k0_t1.sl.cst_399, trip_k0_t1.sl.v958, trip_k0_t1.sl.v957, trip_k0_t1.sl.r_2, trip_k0_t1.sl.v547, trip_k0_t1.sl.r, trip_k0_t1.sl.v310, trip_k0_t1.sl.v870, trip_k0_t1.sl.cst_404, trip_k0_t1.sl.v872, trip_k0_t1.sl.cst_398]
      pointwise [k0_pay2]
      simp only [root arg8 X_arg8 k r R hR, scale_at arg7 arg8 X_arg7 X_arg8 k r R hR, row_load arg8 X_arg8 k r R hR _ _ _ (k0_off7_eq k) (by norm_num) l, wrow_load arg7 X_arg7 768 _ (by norm_num) l]
      simp only [ext_normed, zero_add]
      rfl
  · exact tile_of arg7 arg8 X_arg7 X_arg8 k y _ 640 (k0_off6_eq k) _ fun r R l hR => by
      simp only [trip_k0_t1.sl.v949, trip_k0_t1.sl.v948, trip_k0_t1.sl.v946, trip_k0_t1.sl.v944, trip_k0_t1.sl.v861, trip_k0_t1.sl.v860, trip_k0_t1.sl.v859, trip_k0_t1.sl.v856, trip_k0_t1.sl.cst_399, trip_k0_t1.sl.v541, trip_k0_t1.sl.v540, trip_k0_t1.sl.v538, trip_k0_t1.sl.r, trip_k0_t1.sl.v305, trip_k0_t1.sl.v870, trip_k0_t1.sl.cst_404, trip_k0_t1.sl.v872, trip_k0_t1.sl.cst_398]
      pointwise [k0_pay2]
      simp only [root arg8 X_arg8 k r R hR, scale_at arg7 arg8 X_arg7 X_arg8 k r R hR, row_load arg8 X_arg8 k r R hR _ _ _ (k0_off6_eq k) (by norm_num) l, wrow_load arg7 X_arg7 640 _ (by norm_num) l]
      simp only [ext_normed, zero_add]
      rfl
  · exact tile_of arg7 arg8 X_arg7 X_arg8 k y _ 512 (k0_off5_eq k) _ fun r R l hR => by
      simp only [trip_k0_t1.sl.v934, trip_k0_t1.sl.v933, trip_k0_t1.sl.v931, trip_k0_t1.sl.v929, trip_k0_t1.sl.v861, trip_k0_t1.sl.v860, trip_k0_t1.sl.v859, trip_k0_t1.sl.v856, trip_k0_t1.sl.cst_399, trip_k0_t1.sl.v532, trip_k0_t1.sl.v531, trip_k0_t1.sl.v529, trip_k0_t1.sl.r, trip_k0_t1.sl.v300, trip_k0_t1.sl.v870, trip_k0_t1.sl.cst_404, trip_k0_t1.sl.v872, trip_k0_t1.sl.cst_398]
      pointwise [k0_pay2]
      simp only [root arg8 X_arg8 k r R hR, scale_at arg7 arg8 X_arg7 X_arg8 k r R hR, row_load arg8 X_arg8 k r R hR _ _ _ (k0_off5_eq k) (by norm_num) l, wrow_load arg7 X_arg7 512 _ (by norm_num) l]
      simp only [ext_normed, zero_add]
      rfl
  · exact tile_of arg7 arg8 X_arg7 X_arg8 k y _ 384 (k0_off4_eq k) _ fun r R l hR => by
      simp only [trip_k0_t1.sl.v919, trip_k0_t1.sl.v918, trip_k0_t1.sl.v916, trip_k0_t1.sl.v914, trip_k0_t1.sl.v861, trip_k0_t1.sl.v860, trip_k0_t1.sl.v859, trip_k0_t1.sl.v856, trip_k0_t1.sl.cst_399, trip_k0_t1.sl.v523, trip_k0_t1.sl.v522, trip_k0_t1.sl.v520, trip_k0_t1.sl.r, trip_k0_t1.sl.v295, trip_k0_t1.sl.v870, trip_k0_t1.sl.cst_404, trip_k0_t1.sl.v872, trip_k0_t1.sl.cst_398]
      pointwise [k0_pay2]
      simp only [root arg8 X_arg8 k r R hR, scale_at arg7 arg8 X_arg7 X_arg8 k r R hR, row_load arg8 X_arg8 k r R hR _ _ _ (k0_off4_eq k) (by norm_num) l, wrow_load arg7 X_arg7 384 _ (by norm_num) l]
      simp only [ext_normed, zero_add]
      rfl
  · exact tile_of arg7 arg8 X_arg7 X_arg8 k y _ 256 (k0_off3_eq k) _ fun r R l hR => by
      simp only [trip_k0_t1.sl.v904, trip_k0_t1.sl.v903, trip_k0_t1.sl.v901, trip_k0_t1.sl.v899, trip_k0_t1.sl.v861, trip_k0_t1.sl.v860, trip_k0_t1.sl.v859, trip_k0_t1.sl.v856, trip_k0_t1.sl.cst_399, trip_k0_t1.sl.v898, trip_k0_t1.sl.v897, trip_k0_t1.sl.v895, trip_k0_t1.sl.r, trip_k0_t1.sl.v290, trip_k0_t1.sl.v870, trip_k0_t1.sl.cst_404, trip_k0_t1.sl.v872, trip_k0_t1.sl.cst_398]
      pointwise [k0_pay2]
      simp only [root arg8 X_arg8 k r R hR, scale_at arg7 arg8 X_arg7 X_arg8 k r R hR, row_load arg8 X_arg8 k r R hR _ _ _ (k0_off3_eq k) (by norm_num) l, wrow_load arg7 X_arg7 256 _ (by norm_num) l]
      simp only [ext_normed, zero_add]
      rfl
  · exact tile_of arg7 arg8 X_arg7 X_arg8 k y _ 128 (k0_off2_eq k) _ fun r R l hR => by
      simp only [trip_k0_t1.sl.v889, trip_k0_t1.sl.v888, trip_k0_t1.sl.v886, trip_k0_t1.sl.v884, trip_k0_t1.sl.v861, trip_k0_t1.sl.v860, trip_k0_t1.sl.v859, trip_k0_t1.sl.v856, trip_k0_t1.sl.cst_399, trip_k0_t1.sl.v883, trip_k0_t1.sl.v882, trip_k0_t1.sl.v880, trip_k0_t1.sl.r, trip_k0_t1.sl.v285, trip_k0_t1.sl.v870, trip_k0_t1.sl.cst_404, trip_k0_t1.sl.v872, trip_k0_t1.sl.cst_398]
      pointwise [k0_pay2]
      simp only [root arg8 X_arg8 k r R hR, scale_at arg7 arg8 X_arg7 X_arg8 k r R hR, row_load arg8 X_arg8 k r R hR _ _ _ (k0_off2_eq k) (by norm_num) l, wrow_load arg7 X_arg7 128 _ (by norm_num) l]
      simp only [ext_normed, zero_add]
      rfl
  · exact tile_of arg7 arg8 X_arg7 X_arg8 k y _ 0 (k0_off1_eq k) _ fun r R l hR => by
      simp only [trip_k0_t1.sl.v874, trip_k0_t1.sl.v873, trip_k0_t1.sl.v871, trip_k0_t1.sl.v869, trip_k0_t1.sl.v861, trip_k0_t1.sl.v860, trip_k0_t1.sl.v859, trip_k0_t1.sl.v856, trip_k0_t1.sl.cst_399, trip_k0_t1.sl.v868, trip_k0_t1.sl.v867, trip_k0_t1.sl.v865, trip_k0_t1.sl.r, trip_k0_t1.sl.v280, trip_k0_t1.sl.v870, trip_k0_t1.sl.cst_404, trip_k0_t1.sl.v872, trip_k0_t1.sl.cst_398]
      pointwise [k0_pay2]
      simp only [root arg8 X_arg8 k r R hR, scale_at arg7 arg8 X_arg7 X_arg8 k r R hR, row_load arg8 X_arg8 k r R hR _ _ _ (k0_off1_eq k) (by norm_num) l, wrow_load arg7 X_arg7 0 _ (by norm_num) l]
      simp only [ext_normed, zero_add]
      rfl

set_option maxHeartbeats 4000000 in
/-- A trip's tiles cover its rows. -/
theorem trip_cover (𝒱 : Variants) (c : Dev nD) (bd : Option 𝒱.V) (i : grid0.Coords) (arg2 : Memref sig .tc .vmem S256x2560 .fp8e4m3) (harg2 : arg2.IsWhole) (arg3 : Memref sig .tc .vmem S1x1x256 .f32) (harg3 : arg3.IsWhole) (arg4 : Memref sig .tc .vmem S2560x5120 .fp8e4m3) (harg4 : arg4.IsWhole) (arg5 : Memref sig .tc .vmem S1x5120 .f32) (harg5 : arg5.IsWhole) (arg6 : Memref sig .tc .vmem S256x5120 .bf16) (harg6 : arg6.IsWhole) (harg7 : arg7.IsWhole) (harg8 : arg8.IsWhole) (arg9 : Memref sig .tc .vmem S256x5120 .fp8e4m3) (harg9 : arg9.IsWhole) (arg10 : Memref sig .tc .vmem S1x1x256 .f32) (harg10 : arg10.IsWhole) (arg11 : Memref sig .tc .vmem S256x128 .f32) (harg11 : arg11.IsWhole) (arg12 : Memref sig .tc .vmem S256x128 .f32) (harg12 : arg12.IsWhole) (k : Fin k0_t1_loop.trips) (y : S256x5120.Idx) (h0 : 32 * k.val ≤ (y 0).val ∧ (y 0).val < 32 * k.val + 32) :
    ∃ p ∈ (trip_k0_t1 (F := Ideal) 𝒱 c bd i arg2 harg2 arg3 harg3 arg4 harg4 arg5 harg5 arg6 harg6 arg7 harg7 arg8 harg8 arg9 harg9 arg10 harg10 arg11 harg11 arg12 harg12 X_arg7 X_arg8 k).1, y ∈ p.1.set := by
  unfold trip_k0_t1
  dsimp only
  refine cover_step k y _ _ 4992 (k0_off40_eq k) _ _ h0 (show (y 1).val < 5120 from (y 1).isLt) fun h => ?_
  refine cover_step k y _ _ 4864 (k0_off39_eq k) _ _ h0 h fun h => ?_
  refine cover_step k y _ _ 4736 (k0_off38_eq k) _ _ h0 h fun h => ?_
  refine cover_step k y _ _ 4608 (k0_off37_eq k) _ _ h0 h fun h => ?_
  refine cover_step k y _ _ 4480 (k0_off36_eq k) _ _ h0 h fun h => ?_
  refine cover_step k y _ _ 4352 (k0_off35_eq k) _ _ h0 h fun h => ?_
  refine cover_step k y _ _ 4224 (k0_off34_eq k) _ _ h0 h fun h => ?_
  refine cover_step k y _ _ 4096 (k0_off33_eq k) _ _ h0 h fun h => ?_
  refine cover_step k y _ _ 3968 (k0_off32_eq k) _ _ h0 h fun h => ?_
  refine cover_step k y _ _ 3840 (k0_off31_eq k) _ _ h0 h fun h => ?_
  refine cover_step k y _ _ 3712 (k0_off30_eq k) _ _ h0 h fun h => ?_
  refine cover_step k y _ _ 3584 (k0_off29_eq k) _ _ h0 h fun h => ?_
  refine cover_step k y _ _ 3456 (k0_off28_eq k) _ _ h0 h fun h => ?_
  refine cover_step k y _ _ 3328 (k0_off27_eq k) _ _ h0 h fun h => ?_
  refine cover_step k y _ _ 3200 (k0_off26_eq k) _ _ h0 h fun h => ?_
  refine cover_step k y _ _ 3072 (k0_off25_eq k) _ _ h0 h fun h => ?_
  refine cover_step k y _ _ 2944 (k0_off24_eq k) _ _ h0 h fun h => ?_
  refine cover_step k y _ _ 2816 (k0_off23_eq k) _ _ h0 h fun h => ?_
  refine cover_step k y _ _ 2688 (k0_off22_eq k) _ _ h0 h fun h => ?_
  refine cover_step k y _ _ 2560 (k0_off21_eq k) _ _ h0 h fun h => ?_
  refine cover_step k y _ _ 2432 (k0_off20_eq k) _ _ h0 h fun h => ?_
  refine cover_step k y _ _ 2304 (k0_off19_eq k) _ _ h0 h fun h => ?_
  refine cover_step k y _ _ 2176 (k0_off18_eq k) _ _ h0 h fun h => ?_
  refine cover_step k y _ _ 2048 (k0_off17_eq k) _ _ h0 h fun h => ?_
  refine cover_step k y _ _ 1920 (k0_off16_eq k) _ _ h0 h fun h => ?_
  refine cover_step k y _ _ 1792 (k0_off15_eq k) _ _ h0 h fun h => ?_
  refine cover_step k y _ _ 1664 (k0_off14_eq k) _ _ h0 h fun h => ?_
  refine cover_step k y _ _ 1536 (k0_off13_eq k) _ _ h0 h fun h => ?_
  refine cover_step k y _ _ 1408 (k0_off12_eq k) _ _ h0 h fun h => ?_
  refine cover_step k y _ _ 1280 (k0_off11_eq k) _ _ h0 h fun h => ?_
  refine cover_step k y _ _ 1152 (k0_off10_eq k) _ _ h0 h fun h => ?_
  refine cover_step k y _ _ 1024 (k0_off9_eq k) _ _ h0 h fun h => ?_
  refine cover_step k y _ _ 896 (k0_off8_eq k) _ _ h0 h fun h => ?_
  refine cover_step k y _ _ 768 (k0_off7_eq k) _ _ h0 h fun h => ?_
  refine cover_step k y _ _ 640 (k0_off6_eq k) _ _ h0 h fun h => ?_
  refine cover_step k y _ _ 512 (k0_off5_eq k) _ _ h0 h fun h => ?_
  refine cover_step k y _ _ 384 (k0_off4_eq k) _ _ h0 h fun h => ?_
  refine cover_step k y _ _ 256 (k0_off3_eq k) _ _ h0 h fun h => ?_
  refine cover_step k y _ _ 128 (k0_off2_eq k) _ _ h0 h fun h => ?_
  refine cover_step k y _ _ 0 (k0_off1_eq k) _ _ h0 h fun h => ?_
  exact absurd h (Nat.not_lt_zero _)

/-- The scale of a row, as the scratch array keeps it: the same in every lane. -/
def scaleOf (y : S256x128.Idx) : EReal := scale (amax (normed (row arg8 X_arg8 (y 0)) (wrow arg7 X_arg7)))

/-- A trip stores the scales of its rows. -/
theorem trip_scales (𝒱 : Variants) (c : Dev nD) (bd : Option 𝒱.V) (i : grid0.Coords) (arg2 : Memref sig .tc .vmem S256x2560 .fp8e4m3) (harg2 : arg2.IsWhole) (arg3 : Memref sig .tc .vmem S1x1x256 .f32) (harg3 : arg3.IsWhole) (arg4 : Memref sig .tc .vmem S2560x5120 .fp8e4m3) (harg4 : arg4.IsWhole) (arg5 : Memref sig .tc .vmem S1x5120 .f32) (harg5 : arg5.IsWhole) (arg6 : Memref sig .tc .vmem S256x5120 .bf16) (harg6 : arg6.IsWhole) (harg7 : arg7.IsWhole) (harg8 : arg8.IsWhole) (arg9 : Memref sig .tc .vmem S256x5120 .fp8e4m3) (harg9 : arg9.IsWhole) (arg10 : Memref sig .tc .vmem S1x1x256 .f32) (harg10 : arg10.IsWhole) (arg11 : Memref sig .tc .vmem S256x128 .f32) (harg11 : arg11.IsWhole) (arg12 : Memref sig .tc .vmem S256x128 .f32) (harg12 : arg12.IsWhole) (k : Fin k0_t1_loop.trips) (y : S256x128.Idx) :
    View.AllAt (trip_k0_t1 (F := Ideal) 𝒱 c bd i arg2 harg2 arg3 harg3 arg4 harg4 arg5 harg5 arg6 harg6 arg7 harg7 arg8 harg8 arg9 harg9 arg10 harg10 arg11 harg11 arg12 harg12 X_arg7 X_arg8 k).2.1 y (scaleOf arg7 arg8 X_arg7 X_arg8 y) := by
  unfold trip_k0_t1
  dsimp only
  refine View.allAt_cons_unit _ _ _ _ _ (fun (x : S32x128.Idx) hx => ?_) (View.allAt_nil _ _)
  have h0 : (y 0).val = 32 * k.val + (x 0).val := by have := hx 0; rw [k0_off41_eq] at this; exact this
  have e : x = ix2 (x 0) (x 1) := by funext a; fin_cases a <;> rfl
  rw [e]
  refine Eq.trans ?_ (scale_at arg7 arg8 X_arg7 X_arg8 k (x 0) (y 0) h0)
  pointwise [k0_pay3]

/-- A trip's stores cover its rows of the scratch array. -/
theorem trip_scales_cover (𝒱 : Variants) (c : Dev nD) (bd : Option 𝒱.V) (i : grid0.Coords) (arg2 : Memref sig .tc .vmem S256x2560 .fp8e4m3) (harg2 : arg2.IsWhole) (arg3 : Memref sig .tc .vmem S1x1x256 .f32) (harg3 : arg3.IsWhole) (arg4 : Memref sig .tc .vmem S2560x5120 .fp8e4m3) (harg4 : arg4.IsWhole) (arg5 : Memref sig .tc .vmem S1x5120 .f32) (harg5 : arg5.IsWhole) (arg6 : Memref sig .tc .vmem S256x5120 .bf16) (harg6 : arg6.IsWhole) (harg7 : arg7.IsWhole) (harg8 : arg8.IsWhole) (arg9 : Memref sig .tc .vmem S256x5120 .fp8e4m3) (harg9 : arg9.IsWhole) (arg10 : Memref sig .tc .vmem S1x1x256 .f32) (harg10 : arg10.IsWhole) (arg11 : Memref sig .tc .vmem S256x128 .f32) (harg11 : arg11.IsWhole) (arg12 : Memref sig .tc .vmem S256x128 .f32) (harg12 : arg12.IsWhole) (k : Fin k0_t1_loop.trips) (y : S256x128.Idx) (h0 : 32 * k.val ≤ (y 0).val ∧ (y 0).val < 32 * k.val + 32) :
    ∃ p ∈ (trip_k0_t1 (F := Ideal) 𝒱 c bd i arg2 harg2 arg3 harg3 arg4 harg4 arg5 harg5 arg6 harg6 arg7 harg7 arg8 harg8 arg9 harg9 arg10 harg10 arg11 harg11 arg12 harg12 X_arg7 X_arg8 k).2.1, y ∈ p.1.set := by
  unfold trip_k0_t1
  dsimp only
  refine ⟨_, List.mem_cons_self, ?_⟩
  dsimp only
  refine Rect.mem_set_unit.mpr fun a => ?_
  rw [k0_off41_eq]
  fin_cases a
  · exact h0
  · exact ⟨Nat.zero_le _, show (y 1).val < 0 + 128 by have h : (y 1).val < 128 := (y 1).isLt; omega⟩

theorem trips_eq : k0_t1_loop.trips = 8 := by decide +kernel

/-- The pieces of the first `n` trips hold the codes and cover the trips' rows. -/
theorem pieces_codes (𝒱 : Variants) (c : Dev nD) (bd : Option 𝒱.V) (i : grid0.Coords) (arg2 : Memref sig .tc .vmem S256x2560 .fp8e4m3) (harg2 : arg2.IsWhole) (arg3 : Memref sig .tc .vmem S1x1x256 .f32) (harg3 : arg3.IsWhole) (arg4 : Memref sig .tc .vmem S2560x5120 .fp8e4m3) (harg4 : arg4.IsWhole) (arg5 : Memref sig .tc .vmem S1x5120 .f32) (harg5 : arg5.IsWhole) (arg6 : Memref sig .tc .vmem S256x5120 .bf16) (harg6 : arg6.IsWhole) (harg7 : arg7.IsWhole) (harg8 : arg8.IsWhole) (arg9 : Memref sig .tc .vmem S256x5120 .fp8e4m3) (harg9 : arg9.IsWhole) (arg10 : Memref sig .tc .vmem S1x1x256 .f32) (harg10 : arg10.IsWhole) (arg11 : Memref sig .tc .vmem S256x128 .f32) (harg11 : arg11.IsWhole) (arg12 : Memref sig .tc .vmem S256x128 .f32) (harg12 : arg12.IsWhole) (y : S256x5120.Idx) (n : ℕ) (hn : n ≤ 8) :
    View.AllAt (pb_k0_t1 (F := Ideal) 𝒱 c bd i arg2 harg2 arg3 harg3 arg4 harg4 arg5 harg5 arg6 harg6 arg7 harg7 arg8 harg8 arg9 harg9 arg10 harg10 arg11 harg11 arg12 harg12 X_arg7 X_arg8 n).1 y (codeOf arg7 arg8 X_arg7 X_arg8 y)
      ∧ ((y 0).val < 32 * n → ∃ p ∈ (pb_k0_t1 (F := Ideal) 𝒱 c bd i arg2 harg2 arg3 harg3 arg4 harg4 arg5 harg5 arg6 harg6 arg7 harg7 arg8 harg8 arg9 harg9 arg10 harg10 arg11 harg11 arg12 harg12 X_arg7 X_arg8 n).1, y ∈ p.1.set) := by
  induction n with
  | zero =>
    rw [pb_k0_t1.eq_1]
    exact ⟨View.allAt_nil _ _, fun h => absurd h (Nat.not_lt_zero _)⟩
  | succ n ih =>
    obtain ⟨ih1, ih2⟩ := ih (Nat.le_of_succ_le hn)
    have hk : n < k0_t1_loop.trips := trips_eq ▸ hn
    rw [show n + 1 = (⟨n, hk⟩ : Fin k0_t1_loop.trips).val + 1 from rfl, pb_k0_t1_succ]
    refine ⟨fun p hp => (List.mem_append.mp hp).elim
      (trip_codes arg7 arg8 X_arg7 X_arg8 𝒱 c bd i arg2 harg2 arg3 harg3 arg4 harg4 arg5 harg5 arg6 harg6 harg7 harg8 arg9 harg9 arg10 harg10 arg11 harg11 arg12 harg12 ⟨n, hk⟩ y p) (ih1 p), fun h => ?_⟩
    rcases Nat.lt_or_ge (y 0).val (32 * n) with hlt | hge
    · obtain ⟨p, hp, hy⟩ := ih2 hlt
      exact ⟨p, List.mem_append_right _ hp, hy⟩
    · obtain ⟨p, hp, hy⟩ := trip_cover arg7 arg8 X_arg7 X_arg8 𝒱 c bd i arg2 harg2 arg3 harg3 arg4 harg4 arg5 harg5 arg6 harg6 harg7 harg8 arg9 harg9 arg10 harg10 arg11 harg11 arg12 harg12 ⟨n, hk⟩ y ⟨hge, by
        show (y 0).val < 32 * n + 32; omega⟩
      exact ⟨p, List.mem_append_left _ hp, hy⟩

/-- The pieces of the first `n` trips hold the scales and cover the trips' rows. -/
theorem pieces_scales (𝒱 : Variants) (c : Dev nD) (bd : Option 𝒱.V) (i : grid0.Coords) (arg2 : Memref sig .tc .vmem S256x2560 .fp8e4m3) (harg2 : arg2.IsWhole) (arg3 : Memref sig .tc .vmem S1x1x256 .f32) (harg3 : arg3.IsWhole) (arg4 : Memref sig .tc .vmem S2560x5120 .fp8e4m3) (harg4 : arg4.IsWhole) (arg5 : Memref sig .tc .vmem S1x5120 .f32) (harg5 : arg5.IsWhole) (arg6 : Memref sig .tc .vmem S256x5120 .bf16) (harg6 : arg6.IsWhole) (harg7 : arg7.IsWhole) (harg8 : arg8.IsWhole) (arg9 : Memref sig .tc .vmem S256x5120 .fp8e4m3) (harg9 : arg9.IsWhole) (arg10 : Memref sig .tc .vmem S1x1x256 .f32) (harg10 : arg10.IsWhole) (arg11 : Memref sig .tc .vmem S256x128 .f32) (harg11 : arg11.IsWhole) (arg12 : Memref sig .tc .vmem S256x128 .f32) (harg12 : arg12.IsWhole) (y : S256x128.Idx) (n : ℕ) (hn : n ≤ 8) :
    View.AllAt (pb_k0_t1 (F := Ideal) 𝒱 c bd i arg2 harg2 arg3 harg3 arg4 harg4 arg5 harg5 arg6 harg6 arg7 harg7 arg8 harg8 arg9 harg9 arg10 harg10 arg11 harg11 arg12 harg12 X_arg7 X_arg8 n).2 y (scaleOf arg7 arg8 X_arg7 X_arg8 y)
      ∧ ((y 0).val < 32 * n → ∃ p ∈ (pb_k0_t1 (F := Ideal) 𝒱 c bd i arg2 harg2 arg3 harg3 arg4 harg4 arg5 harg5 arg6 harg6 arg7 harg7 arg8 harg8 arg9 harg9 arg10 harg10 arg11 harg11 arg12 harg12 X_arg7 X_arg8 n).2, y ∈ p.1.set) := by
  induction n with
  | zero =>
    rw [pb_k0_t1.eq_1]
    exact ⟨View.allAt_nil _ _, fun h => absurd h (Nat.not_lt_zero _)⟩
  | succ n ih =>
    obtain ⟨ih1, ih2⟩ := ih (Nat.le_of_succ_le hn)
    have hk : n < k0_t1_loop.trips := trips_eq ▸ hn
    rw [show n + 1 = (⟨n, hk⟩ : Fin k0_t1_loop.trips).val + 1 from rfl, pb_k0_t1_succ]
    refine ⟨fun p hp => (List.mem_append.mp hp).elim
      (trip_scales arg7 arg8 X_arg7 X_arg8 𝒱 c bd i arg2 harg2 arg3 harg3 arg4 harg4 arg5 harg5 arg6 harg6 harg7 harg8 arg9 harg9 arg10 harg10 arg11 harg11 arg12 harg12 ⟨n, hk⟩ y p) (ih1 p), fun h => ?_⟩
    rcases Nat.lt_or_ge (y 0).val (32 * n) with hlt | hge
    · obtain ⟨p, hp, hy⟩ := ih2 hlt
      exact ⟨p, List.mem_append_right _ hp, hy⟩
    · obtain ⟨p, hp, hy⟩ := trip_scales_cover arg7 arg8 X_arg7 X_arg8 𝒱 c bd i arg2 harg2 arg3 harg3 arg4 harg4 arg5 harg5 arg6 harg6 harg7 harg8 arg9 harg9 arg10 harg10 arg11 harg11 arg12 harg12 ⟨n, hk⟩ y ⟨hge, by
        show (y 0).val < 32 * n + 32; omega⟩
      exact ⟨p, List.mem_append_left _ hp, hy⟩

end Cert.Out1Ideal.Loop

end
-- ==== Proof.Out1Tile.lean ====
module

public import proofs.«01_k».proof.Proof.Gen.Out1Ideal.Value
public import proofs.«01_k».proof.Proof.Out1RefRun
public import proofs.«01_k».proof.Proof.Out1Ref
public import proofs.«01_k».proof.Proof.Out1Loop

@[expose] public section

set_option maxRecDepth 16384

noncomputable section

/-! # The first layer's output, its codes and its scales

The kernel's three result arrays after the run are the reference's terms of the arguments. -/

namespace Cert.Out1Ideal.RefValue

open Idealize.ShloMosaic Idealize.ShloMosaic.TcCoe Idealize.SL.Sem
open Idealize.ShloMosaic.Pipeline (Dat)
open Cert.Out1Ideal Cert.Out1Ideal.Gen Cert.RowNorm Cert.Quantise

variable (m : (ℓ : Loc nD τ sig) → Buf (Elt Ideal) ℓ)

/-- The grid's 64 points walk the row blocks: point `t` reads rows `256 t … 256 t + 255` of the
    codes and of the residual, and the matching 256 scales of one batch entry. -/
theorem idx : ∀ t : Fin cfg0.N, win0_0.index t = ![t.val, 0] ∧ win0_1.index t = ![t.val / 32, 0, t.val % 32]
    ∧ win0_2.index t = ![0, 0] ∧ win0_3.index t = ![0, 0] ∧ win0_4.index t = ![t.val, 0] ∧ win0_5.index t = ![0, 0]
    ∧ win0_6.index t = ![t.val, 0] ∧ win0_7.index t = ![t.val, 0] ∧ win0_8.index t = ![t.val / 32, 0, t.val % 32]
    ∧ t.val < 64 :=
  (by decide +kernel : ∀ t : Fin grid0.N, _)

/-- One block of the first layer's output: the residual plus the product of the codes with the
    weights, scaled by the row's and the column's scale. -/
def tile (x0 : FVec Ideal S256x2560 .fp8e4m3) (x1 : FVec Ideal S1x1x256 .f32) (x2 : FVec Ideal S2560x5120 .fp8e4m3)
    (x3 : FVec Ideal S1x5120 .f32) (x4 : FVec Ideal S256x5120 .bf16) (i : S256x5120.Idx) : EReal :=
  x4 i + (∑ k : Fin 2560, x0 (ix2 (i 0) k) * x2 (ix2 k (i 1))) * x1 (ix3 0 0 (i 0)) * x3 (ix2 0 (i 1))

/-- A block of the first layer's output is the reference's term at the block's place. -/
theorem tile_eq (c : Dev nD) (t : Fin cfg0.N) (y : S256x5120.Idx) :
    tile (iblk m c 0 t) (iblk m c 1 t) (iblk m c 2 t) (iblk m c 3 t) (iblk m c 4 t) y
      = Cert.Out1RefIdeal.Gen.k0_pay3 (F := Ideal) (m ((c : Thread nD τ).loc main_arg0)) (m ((c : Thread nD τ).loc main_arg2))
        (m ((c : Thread nD τ).loc main_arg4)) (m ((c : Thread nD τ).loc main_arg1)) (m ((c : Thread nD τ).loc main_arg3))
        (((cfg0.win 6).blk t).view.emb y) := by
  pointwise [tile, Cert.Out1RefIdeal.Gen.k0_pay3]
  blk_point [iblk, V, idx t]

end Cert.Out1Ideal.RefValue

end
-- ==== Proof.Out1Output.lean ====
module

public import proofs.«01_k».proof.Proof.Out1Tile

@[expose] public section

set_option maxRecDepth 16384

noncomputable section

namespace Cert.Out1Ideal.RefValue

open Idealize.ShloMosaic Idealize.ShloMosaic.TcCoe Idealize.SL.Sem
open Idealize.ShloMosaic.Pipeline (Dat)
open Cert.Out1Ideal Cert.Out1Ideal.Gen Cert.RowNorm Cert.Quantise
variable (m : (ℓ : Loc nD τ sig) → Buf (Elt Ideal) ℓ)

set_option maxHeartbeats 1600000 in
/-- What the body leaves in the first layer's output block at point `t`. -/
theorem block6 (c : Dev nD) (t : Fin cfg0.N) (y : S256x5120.Idx) : (outsAt0 m c t).1 y
    = tile (iblk m c 0 t) (iblk m c 1 t) (iblk m c 2 t) (iblk m c 3 t) (iblk m c 4 t) y := by
  unfold outsAt0
  frame_out
  canon_tiles x h
  all_goals (open_payloads; pointwise [tile]; simp only [dite_eq_ite, ite_self]; blk_point [])

/-- The array of the first layer's output after the run. -/
theorem final6 (c : Dev nD) : (dats m 0 c).arrAt 6 cfg0.N
    = Cert.Out1RefIdeal.Run.G6 (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  exact (block6 m c t y).trans (tile_eq m c t y)

end Cert.Out1Ideal.RefValue

end
-- ==== Proof.Out1Blocks.lean ====
module

public import proofs.«01_k».proof.Proof.Out1Output

@[expose] public section

set_option maxRecDepth 16384

noncomputable section

/-! # What the body leaves in the blocks of codes and scales -/

namespace Cert.Out1Ideal.RefValue

open Idealize.ShloMosaic Idealize.ShloMosaic.TcCoe Idealize.SL.Sem
open Idealize.ShloMosaic.Pipeline (Dat)
open Cert.Out1Ideal Cert.Out1Ideal.Gen Cert.RowNorm Cert.Quantise
variable (m : (ℓ : Loc nD τ sig) → Buf (Elt Ideal) ℓ)

/-- The codes depend on the block's rows and the norm's weights alone. -/
theorem codeOf_congr (arg7 : Memref sig .tc .vmem S1x5120 .f32) (arg8 : Memref sig .tc .vmem S256x5120 .f32)
    (X7 : BufTy.Contents (Elt Ideal) arg7.view.ty) (X8 : BufTy.Contents (Elt Ideal) arg8.view.ty)
    (f : Fin 256 → Fin 5120 → EReal) (g : Fin 5120 → EReal) (hf : ∀ R j, Loop.row arg8 X8 R j = f R j)
    (hg : ∀ j, Loop.wrow arg7 X7 j = g j) (y : S256x5120.Idx) :
    Loop.codeOf arg7 arg8 X7 X8 y = codeMul (normed (f (y 0)) g (y 1)) (scale (amax (normed (f (y 0)) g))) := by
  obtain rfl : Loop.row arg8 X8 = f := funext fun R => funext fun j => hf R j
  obtain rfl : Loop.wrow arg7 X7 = g := funext hg
  rfl

/-- So do the scales. -/
theorem scaleOf_congr (arg7 : Memref sig .tc .vmem S1x5120 .f32) (arg8 : Memref sig .tc .vmem S256x5120 .f32)
    (X7 : BufTy.Contents (Elt Ideal) arg7.view.ty) (X8 : BufTy.Contents (Elt Ideal) arg8.view.ty)
    (f : Fin 256 → Fin 5120 → EReal) (g : Fin 5120 → EReal) (hf : ∀ R j, Loop.row arg8 X8 R j = f R j)
    (hg : ∀ j, Loop.wrow arg7 X7 j = g j) (y : S256x128.Idx) :
    Loop.scaleOf arg7 arg8 X7 X8 y = scale (amax (normed (f (y 0)) g)) := by
  obtain rfl : Loop.row arg8 X8 = f := funext fun R => funext fun j => hf R j
  obtain rfl : Loop.wrow arg7 X7 = g := funext hg
  rfl

/-- A row of the first layer's output block at point `t`. -/
def brow (c : Dev nD) (t : Fin cfg0.N) (R : Fin 256) (j : Fin 5120) : EReal :=
  tile (iblk m c 0 t) (iblk m c 1 t) (iblk m c 2 t) (iblk m c 3 t) (iblk m c 4 t) (ix2 R j)

/-- The norm's weights at point `t`. -/
def bw (c : Dev nD) (t : Fin cfg0.N) (j : Fin 5120) : EReal := iblk m c 5 t (ix2 0 j)

/-- What the body leaves in the block of codes at point `t`. -/
theorem block7 (c : Dev nD) (t : Fin cfg0.N) (y : S256x5120.Idx) : (outsAt0 m c t).2.1 y
    = codeMul (normed (brow m c t (y 0)) (bw m c t) (y 1)) (scale (amax (normed (brow m c t (y 0)) (bw m c t)))) := by
  have h6 : ∀ R j, (outsAt0 m c t).1 (ix2 R j) = brow m c t R j := fun R j => block6 m c t (ix2 R j)
  have hn : Scf.trips 0#32 (Scalar.addi 0#32 8#32) 1#32 = 8 := by decide +kernel
  unfold outsAt0
  frame_out
  refine (View.canon_eq_of_allAt _ _ _ ((Loop.pieces_codes _ _ _ _ _ _ _ _ _ _ _ _ _ _ _ _ _ _ _ _ _ _ _ _ _ _ _ _ y _ hn.le).2
      (by rw [hn]; exact (y 0).isLt))
    (Loop.pieces_codes _ _ _ _ _ _ _ _ _ _ _ _ _ _ _ _ _ _ _ _ _ _ _ _ _ _ _ _ y _ hn.le).1).trans ?_
  refine codeOf_congr _ _ _ _ (brow m c t) (bw m c t) (fun R j => ?_) (fun j => ?_) y
  · refine (View.read_writes_apply_eq_canon _ _ _ _ (View.cover_of_tiled_head _ _ _ rfl _)).trans ?_
    refine Eq.trans ?_ (block6 m c t (ix2 R j))
    unfold outsAt0
    frame_out
  · exact congrFun ((hs0_5 t).read_unread (iblk m c 5 t)) (ix2 0 j)

/-- The stored scales are the first column of the loop's scales, as a row. -/
theorem scaleRow_at (v : FVec Ideal S256x128 .f32) (R : Fin 256) : k0_pay4 (F := Ideal) v (ix3 0 0 R) = v (ix2 R 0) := by
  pointwise [k0_pay4]

/-- What the body leaves in the block of scales at point `t`. -/
theorem block8 (c : Dev nD) (t : Fin cfg0.N) (R : Fin 256) : (outsAt0 m c t).2.2 (ix3 0 0 R)
    = scale (amax (normed (brow m c t R) (bw m c t))) := by
  have hn : Scf.trips 0#32 (Scalar.addi 0#32 8#32) 1#32 = 8 := by decide +kernel
  unfold outsAt0
  frame_out
  refine (scaleRow_at _ R).trans ((congrFun (View.readCov_eq_canon' _ _ _) _).trans ?_)
  refine (View.canon_eq_of_allAt _ _ _ ((Loop.pieces_scales _ _ _ _ _ _ _ _ _ _ _ _ _ _ _ _ _ _ _ _ _ _ _ _ _ _ _ _ _ _ hn.le).2
      (by rw [hn]; exact Fin.isLt _))
    (Loop.pieces_scales _ _ _ _ _ _ _ _ _ _ _ _ _ _ _ _ _ _ _ _ _ _ _ _ _ _ _ _ _ _ hn.le).1).trans ?_
  refine (scaleOf_congr _ _ _ _ (brow m c t) (bw m c t) (fun R j => ?_) (fun j => ?_) _).trans ?_
  · refine (View.read_writes_apply_eq_canon _ _ _ _ (View.cover_of_tiled_head _ _ _ rfl _)).trans ?_
    refine Eq.trans ?_ (block6 m c t (ix2 R j))
    unfold outsAt0
    frame_out
  · exact congrFun ((hs0_5 t).read_unread (iblk m c 5 t)) (ix2 0 j)
  · refine congrArg (fun r => scale (amax (normed (brow m c t r) (bw m c t)))) (Fin.ext ?_)
    simp [Rect.unit]

end Cert.Out1Ideal.RefValue

end
-- ==== Proof.Out1Value.lean ====
module

public import proofs.«01_k».proof.Proof.Out1Blocks

@[expose] public section

set_option maxRecDepth 16384

noncomputable section

/-! # The first layer's codes and scales after the run -/

namespace Cert.Out1Ideal.RefValue

open Idealize.ShloMosaic Idealize.ShloMosaic.TcCoe Idealize.SL.Sem
open Idealize.ShloMosaic.Pipeline (Dat)
open Cert.Out1Ideal Cert.Out1Ideal.Gen Cert.RowNorm Cert.Quantise
variable (m : (ℓ : Loc nD τ sig) → Buf (Elt Ideal) ℓ)

open Cert.Out1RefIdeal.Run in
/-- The reference's column of scales, with its loads of whole arrays read. -/
theorem ref_loads (a0 : Vec Ideal S16384x2560 .fp8e4m3) (a1 : Vec Ideal S2x1x8192 .f32) (a2 : Vec Ideal S2560x5120 .fp8e4m3)
    (a3 : Vec Ideal S1x5120 .f32) (a4 : Vec Ideal S16384x5120 .bf16) (a5 : Vec Ideal S1x5120 .f32) :
    Cert.Out1RefIdeal.Gen.k0_pay6 (F := Ideal) a0 a1 a2 a3 a4 a5 = Cert.Out1RefIdeal.Gen.k0_pay5 (F := Ideal) a0 a2 a4 a1 a3 a5 := by
  unfold Cert.Out1RefIdeal.Gen.k0_pay6
  rw [View.ld_unit_zero (S := S16384x2560) hz0 _ a0, View.ld_unit_zero (S := S2560x5120) hz2 _ a2,
    View.ld_unit_zero (S := S16384x5120) hz4 _ a4, View.ld_unit_zero (S := S2x1x8192) hz1 _ a1,
    View.ld_unit_zero (S := S1x5120) hz3 _ a3, View.ld_unit_zero (S := S1x5120) hz5 _ a5]

/-- A row of the block at point `t` is a row of the reference's first layer output. -/
theorem brow_eq (c : Dev nD) (t : Fin cfg0.N) (r : Fin 256) (R : Fin 16384) (hR : R.val = t.val * 256 + r.val) :
    brow m c t r = hrow (m ((c : Thread nD τ).loc main_arg0)) (m ((c : Thread nD τ).loc main_arg1))
        (m ((c : Thread nD τ).loc main_arg2)) (m ((c : Thread nD τ).loc main_arg3)) (m ((c : Thread nD τ).loc main_arg4)) R := by
  funext j
  have e : ((cfg0.win 6).blk t).view.emb (ix2 r j) = ix2 R j := by blk_ext [idx t]
  unfold brow hrow
  rw [tile_eq m c t (ix2 r j), e]

theorem bw_eq (c : Dev nD) (t : Fin cfg0.N) : bw m c t = fun j => m ((c : Thread nD τ).loc main_arg5) (ix2 0 j) := by
  funext j
  unfold bw
  blk_point [iblk, V, idx t]

theorem tile7_at (c : Dev nD) (t : Fin cfg0.N) (r : Fin 256) (R : Fin 16384) (n : Fin 5120) (hR : R.val = t.val * 256 + r.val) :
    codeMul (normed (brow m c t r) (bw m c t) n) (scale (amax (normed (brow m c t r) (bw m c t))))
      = Cert.Out1RefIdeal.Run.G7 (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5)) (ix2 R n) := by
  rw [codeMul_eq, brow_eq m c t r R hR, bw_eq]
  rw [← ref_code, ← ref_loads]

theorem tile7 (c : Dev nD) (t : Fin cfg0.N) (y : S256x5120.Idx) :
    (outsAt0 m c t).2.1 y = Cert.Out1RefIdeal.Run.G7 (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5)) (((cfg0.win 7).blk t).view.emb y) := by
  have ht : t.val < 64 := (idx t).2.2.2.2.2.2.2.2.2
  obtain_idx R : S16384x5120 := [t.val * 256 + (y 0 : ℕ), (y 1 : ℕ)] with hR
  have e : ((cfg0.win 7).blk t).view.emb y = ix2 (R 0) (y 1) := by blk_ext [idx t]
  exact (block7 m c t y).trans ((tile7_at m c t (y 0) (R 0) (y 1) hR0).trans (congrArg _ e.symm))

/-- The array of codes after the run. -/
theorem final7 (c : Dev nD) : (dats m 0 c).arrAt 7 cfg0.N
    = Cert.Out1RefIdeal.Run.G7 (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  exact tile7 m c t y

theorem tile8_at (c : Dev nD) (t : Fin cfg0.N) (r : Fin 256) (b : Fin 2) (s : Fin 8192) (R : Fin 16384)
    (hR : R.val = t.val * 256 + r.val) (h : R.val = b.val * 8192 + s.val) :
    scale (amax (normed (brow m c t r) (bw m c t))) = Cert.Out1RefIdeal.Run.G8 (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5)) (ix3 b 0 s) := by
  rw [brow_eq m c t r R hR, bw_eq, ← ref_scale, ← ref_loads]
  exact (ref_scales_of _ b s R h).symm

theorem tile8 (c : Dev nD) (t : Fin cfg0.N) (y : S1x1x256.Idx) :
    (outsAt0 m c t).2.2 y = Cert.Out1RefIdeal.Run.G8 (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5)) (((cfg0.win 8).blk t).view.emb y) := by
  have ht : t.val < 64 := (idx t).2.2.2.2.2.2.2.2.2
  have hy : (y 2).val < 256 := (y 2).isLt
  obtain_idx R : S2x1x8192 := [t.val / 32, 0, t.val % 32 * 256 + (y 2 : ℕ)] with hR
  have e : ((cfg0.win 8).blk t).view.emb y = ix3 (R 0) 0 (R 2) := by blk_ext [idx t]
  have e' : y = ix3 0 0 (y 2) := by
    funext a
    fin_cases a
    · exact Subsingleton.elim (α := Fin 1) _ _
    · exact Subsingleton.elim (α := Fin 1) _ _
    · rfl
  exact (congrArg (outsAt0 m c t).2.2 e').trans ((block8 m c t (y 2)).trans
    ((tile8_at m c t (y 2) (R 0) (R 2) ⟨t.val * 256 + (y 2).val, by omega⟩ rfl (by dsimp only; omega)).trans (congrArg _ e.symm)))

/-- The array of scales after the run. -/
theorem final8 (c : Dev nD) : (dats m 0 c).arrAt 8 cfg0.N
    = Cert.Out1RefIdeal.Run.G8 (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t _ y => ?_
  blk_simp
  rw [after0_8]
  exact tile8 m c t y

end Cert.Out1Ideal.RefValue

end
-- ==== Proof.Out1Claim.lean ====
module

public import proofs.«01_k».proof.Defs
public import proofs.«01_k».proof.Proof.Gen.Out1Ideal.Value
public import proofs.«01_k».proof.Proof.Out1RefRun
public import proofs.«01_k».proof.Proof.Out1Value

/-! The first output projection and its reference end with the same three arrays, at the ideal instance. -/

@[expose] public section

set_option maxRecDepth 16384

noncomputable section

namespace Cert.Proof.Out1Claims

open Idealize.ShloMosaic Idealize.SL.Sem

/-- Kernel and reference end with the same layer output, codes and scales. -/
theorem algebraic : Cert.algebraic_Out1Ideal_Out1RefIdeal := by
  pair_intro
  · run_from Cert.Out1Ideal.Value.run_blocks m g
  · refine Idealize.ShloMosaic.θ_run_mono (Cert.Out1RefIdeal.Run.run m' g') ?_
    intro r hr c
    obtain ⟨a0, a1, a2, a3, a4, a5⟩ := hagree c
    obtain ⟨h0, h1, h2, kept⟩ := hr c
    rw [a0, a1, a2, a3, a4, a5] at h0 h1 h2
    exact ⟨h0.trans (Cert.Out1Ideal.RefValue.final6 m c).symm, h1.trans (Cert.Out1Ideal.RefValue.final7 m c).symm,
      h2.trans (Cert.Out1Ideal.RefValue.final8 m c).symm, kept⟩

end Cert.Proof.Out1Claims

end
-- ==== Proof.Qkv1RefRun.lean ====
module

public import proofs.«01_k».proof.Proof.Gen.Qkv1RefIdeal.Frame
public import Idealize.ShloMosaic.Lib.Pipeline.Value

@[expose] public section

noncomputable section

/-! # The run of the first query, key and value projection's reference

The reference has one grid point and every window's block is its whole array: each result array ends as the body's
term of the argument arrays, and the arguments keep their contents. -/

namespace Cert.Qkv1RefIdeal.Run

open Cert.Qkv1RefIdeal Cert.Qkv1RefIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t) (iblk m c 5 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S16384x5120.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t) (iblk m c 5 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S2x1x8192.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the body's result for that window (`Gen.out0_8`: its stores
    as pieces over the input windows' blocks), read through the window's block. -/
theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t) (iblk m c 5 t)) := by
  show (cfg0.win 8).cut (grid0.coords t) ((dats m 0 c).after 8 t) = _
  rw [after0_8]

/-- The index map sends distinct grid points to distinct block indices (decided over the 1 point). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S2x2560x8192.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the body's result for that window (`Gen.out0_9`: its stores
    as pieces over the input windows' blocks), read through the window's block. -/
theorem flushed9 (c : Dev nD) (t : Fin cfg0.N) :
    (dats m 0 c).flushed 9 t = (cfg0.win 9).cut (grid0.coords t) (out0_9 (iblk m c 0 t) (iblk m c 1 t) (iblk m c 2 t) (iblk m c 3 t) (iblk m c 4 t) (iblk m c 5 t)) := by
  show (cfg0.win 9).cut (grid0.coords t) ((dats m 0 c).after 9 t) = _
  rw [after0_9]

/-- The index map sends distinct grid points to distinct block indices (decided over the 1 point). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S16384x512.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- WHAT POINT `t` WRITES BACK to output window 10's array: the body's result for that window (`Gen.out0_10`: its stores
    as pieces over the input windows' blocks), read through the window's block. -/
theorem flushed10 (c : Dev nD) (t : Fin cfg0.N) :
    (dats m 0 c).flushed 10 t = (cfg0.win 10).cut (grid0.coords t) (out0_10 (iblk m c 0 t) (iblk m c 1 t) (iblk m c 2 t) (iblk m c 3 t) (iblk m c 4 t) (iblk m c 5 t)) := by
  show (cfg0.win 10).cut (grid0.coords t) ((dats m 0 c).after 10 t) = _
  rw [after0_10]

/-- The index map sends distinct grid points to distinct block indices (decided over the 1 point). -/
theorem idx_inj10 : ∀ t t' : Fin cfg0.N, win0_10.index t = win0_10.index t' → t = t' :=
  (by decide +kernel : ∀ t t' : Fin grid0.N, win0_10.index t = win0_10.index t' → t = t')

/-- So two flushing points' blocks share no array index (Lib/Pipeline/Cells.lean `Window.disjoint_blk`). -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- BLOCK `t` OF THE FINAL ARRAY, read back through the window, is what point `t` wrote back (`flushed10`), for every
    point that writes back: no other point's block meets it. -/
theorem blocks10 (c : Dev nD) (t : Fin cfg0.N) (hf : (cfg0.win 10).flush t = true) :
    ((cfg0.win 10).blk t).view.read (Elt F) ((dats m 0 c).arrAt 10 cfg0.N) = (dats m 0 c).flushed 10 t :=
  (dats m 0 c).read_blk_arrAt_eq_flushed 10 disjoint10 cfg0.N t t.isLt hf

/-- An index that no flushing point's block covers keeps output window 10's array contents at region entry. -/
theorem entry10 (c : Dev nD) (i : S16384x512.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- WHAT POINT `t` WRITES BACK to output window 11's array: the body's result for that window (`Gen.out0_11`: its stores
    as pieces over the input windows' blocks), read through the window's block. -/
theorem flushed11 (c : Dev nD) (t : Fin cfg0.N) :
    (dats m 0 c).flushed 11 t = (cfg0.win 11).cut (grid0.coords t) (out0_11 (iblk m c 0 t) (iblk m c 1 t) (iblk m c 2 t) (iblk m c 3 t) (iblk m c 4 t) (iblk m c 5 t)) := by
  show (cfg0.win 11).cut (grid0.coords t) ((dats m 0 c).after 11 t) = _
  rw [after0_11]

/-- The index map sends distinct grid points to distinct block indices (decided over the 1 point). -/
theorem idx_inj11 : ∀ t t' : Fin cfg0.N, win0_11.index t = win0_11.index t' → t = t' :=
  (by decide +kernel : ∀ t t' : Fin grid0.N, win0_11.index t = win0_11.index t' → t = t')

/-- So two flushing points' blocks share no array index (Lib/Pipeline/Cells.lean `Window.disjoint_blk`). -/
theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj11 t t' h)

/-- BLOCK `t` OF THE FINAL ARRAY, read back through the window, is what point `t` wrote back (`flushed11`), for every
    point that writes back: no other point's block meets it. -/
theorem blocks11 (c : Dev nD) (t : Fin cfg0.N) (hf : (cfg0.win 11).flush t = true) :
    ((cfg0.win 11).blk t).view.read (Elt F) ((dats m 0 c).arrAt 11 cfg0.N) = (dats m 0 c).flushed 11 t :=
  (dats m 0 c).read_blk_arrAt_eq_flushed 11 disjoint11 cfg0.N t t.isLt hf

/-- An index that no flushing point's block covers keeps output window 11's array contents at region entry. -/
theorem entry11 (c : Dev nD) (i : S2x512x8192.Idx) (h : ∀ t : Fin cfg0.N, (cfg0.win 11).flush t = true → i ∉ ((cfg0.win 11).blk t).view.set) :
    (dats m 0 c).arrAt 11 cfg0.N i = V m c (Pipeline.arrRef spec0 11) i := by
  rw [(dats m 0 c).arrAt_apply_of_forall_not_mem 11 cfg0.N i (fun t _ hf => h t hf), A_eq]

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_1) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_2) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_3) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v0_4) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v0_5) = (dats m 0 c).arrAt 11 cfg0.N :=
  (h c).1 11

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 6 cfg0.N
      ∧ r.2.mem ((c : Thread nD τ).loc main_v0_1) = (dats m 0 c).arrAt 7 cfg0.N
      ∧ r.2.mem ((c : Thread nD τ).loc main_v0_2) = (dats m 0 c).arrAt 8 cfg0.N
      ∧ r.2.mem ((c : Thread nD τ).loc main_v0_3) = (dats m 0 c).arrAt 9 cfg0.N
      ∧ r.2.mem ((c : Thread nD τ).loc main_v0_4) = (dats m 0 c).arrAt 10 cfg0.N
      ∧ r.2.mem ((c : Thread nD τ).loc main_v0_5) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post6 m r h c,
      post7 m r h c,
      post8 m r h c,
      post9 m r h c,
      post10 m r h c,
      post11 m r h c,
      kept_main_arg0 m r h c,
      kept_main_arg1 m r h c,
      kept_main_arg2 m r h c,
      kept_main_arg3 m r h c,
      kept_main_arg4 m r h c,
      kept_main_arg5 m r h c⟩)
    (run_main m ρ)

/-! ## Output window 6: its piece re-lays a computed value

The pieces put the SAME loads (variables `P`) through pointwise operations and layout operations (slices, transposes, shape
casts, broadcasts), so the block they leave — the frame's canon of them — is ONE index-by-index function `E6` of the loads,
each value read at a closed-form index of the block index (`ix6_ℓ`): `canon6_eq`, by one layout-read lemma of
Lib/Pipeline/Value.lean per layout operation and `omega` on the coordinates.
A value the body reduces, or computes in a payload this module does not read, enters `E6` whole, as that term over the `P`. -/

theorem hz0 : (![0, 0] : Fin 2 → Nat) = fun _ => 0 := funext fun a => by fin_cases a <;> rfl

/-- Window 0's block index at the one point is zero on every axis. -/
theorem idx_zero0 : ∀ t : Fin cfg0.N, win0_0.index t (0 : Fin 2) = 0 ∧ win0_0.index t (1 : Fin 2) = 0 :=
  (by decide +kernel : ∀ t : Fin grid0.N, _)

/-- An index of window 0's block is the same index of its array. -/
theorem emb0 (t : Fin cfg0.N) (j : S16384x5120.Idx) : ((cfg0.win 0).blk t).view.emb j = j := by
  obtain ⟨e0, e1⟩ := idx_zero0 t
  funext a; apply Fin.ext
  match a with
  | ⟨0, _⟩ => show win0_0.index t (0 : Fin 2) * 16384 + 1 * (j 0).val = (j 0).val; omega
  | ⟨1, _⟩ => show win0_0.index t (1 : Fin 2) * 5120 + 1 * (j 1).val = (j 1).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S1x5120.Idx) : ((cfg0.win 1).blk t).view.emb j = j := by
  obtain ⟨e0, e1⟩ := idx_zero1 t
  funext a; apply Fin.ext
  match a with
  | ⟨0, _⟩ => show win0_1.index t (0 : Fin 2) * 1 + 1 * (j 0).val = (j 0).val; omega
  | ⟨1, _⟩ => show win0_1.index t (1 : Fin 2) * 5120 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S5120x3584.Idx) : ((cfg0.win 2).blk t).view.emb j = j := by
  obtain ⟨e0, e1⟩ := idx_zero2 t
  funext a; apply Fin.ext
  match a with
  | ⟨0, _⟩ => show win0_2.index t (0 : Fin 2) * 5120 + 1 * (j 0).val = (j 0).val; omega
  | ⟨1, _⟩ => show win0_2.index t (1 : Fin 2) * 3584 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S1x3584.Idx) : ((cfg0.win 3).blk t).view.emb j = j := by
  obtain ⟨e0, e1⟩ := idx_zero3 t
  funext a; apply Fin.ext
  match a with
  | ⟨0, _⟩ => show win0_3.index t (0 : Fin 2) * 1 + 1 * (j 0).val = (j 0).val; omega
  | ⟨1, _⟩ => show win0_3.index t (1 : Fin 2) * 3584 + 1 * (j 1).val = (j 1).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S16384x64.Idx) : ((cfg0.win 4).blk t).view.emb j = j := by
  obtain ⟨e0, e1⟩ := idx_zero4 t
  funext a; apply Fin.ext
  match a with
  | ⟨0, _⟩ => show win0_4.index t (0 : Fin 2) * 16384 + 1 * (j 0).val = (j 0).val; omega
  | ⟨1, _⟩ => show win0_4.index t (1 : Fin 2) * 64 + 1 * (j 1).val = (j 1).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0, 0] : Fin 2 → Nat) = fun _ => 0 := funext fun a => by fin_cases a <;> rfl

/-- Window 5's block index at the one point is zero on every axis. -/
theorem idx_zero5 : ∀ t : Fin cfg0.N, win0_5.index t (0 : Fin 2) = 0 ∧ win0_5.index t (1 : Fin 2) = 0 :=
  (by decide +kernel : ∀ t : Fin grid0.N, _)

/-- An index of window 5's block is the same index of its array. -/
theorem emb5 (t : Fin cfg0.N) (j : S16384x64.Idx) : ((cfg0.win 5).blk t).view.emb j = j := by
  obtain ⟨e0, e1⟩ := idx_zero5 t
  funext a; apply Fin.ext
  match a with
  | ⟨0, _⟩ => show win0_5.index t (0 : Fin 2) * 16384 + 1 * (j 0).val = (j 0).val; omega
  | ⟨1, _⟩ => show win0_5.index t (1 : Fin 2) * 64 + 1 * (j 1).val = (j 1).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem hz6 : (![0, 0] : Fin 2 → Nat) = fun _ => 0 := funext fun a => by fin_cases a <;> rfl

/-- Window 6's block index at the one point is zero on every axis. -/
theorem idx_zero6 : ∀ t : Fin cfg0.N, win0_6.index t (0 : Fin 2) = 0 ∧ win0_6.index t (1 : Fin 2) = 0 :=
  (by decide +kernel : ∀ t : Fin grid0.N, _)

/-- An index of window 6's block is the same index of its array. -/
theorem emb6 (t : Fin cfg0.N) (j : S16384x5120.Idx) : ((cfg0.win 6).blk t).view.emb j = j := by
  obtain ⟨e0, e1⟩ := idx_zero6 t
  funext a; apply Fin.ext
  match a with
  | ⟨0, _⟩ => show win0_6.index t (0 : Fin 2) * 16384 + 1 * (j 0).val = (j 0).val; omega
  | ⟨1, _⟩ => show win0_6.index t (1 : Fin 2) * 5120 + 1 * (j 1).val = (j 1).val; omega

theorem hz7 : (![0, 0, 0] : Fin 3 → Nat) = fun _ => 0 := funext fun a => by fin_cases a <;> rfl

/-- Window 7's block index at the one point is zero on every axis. -/
theorem idx_zero7 : ∀ t : Fin cfg0.N, win0_7.index t (0 : Fin 3) = 0 ∧ win0_7.index t (1 : Fin 3) = 0 ∧ win0_7.index t (2 : Fin 3) = 0 :=
  (by decide +kernel : ∀ t : Fin grid0.N, _)

/-- An index of window 7's block is the same index of its array. -/
theorem emb7 (t : Fin cfg0.N) (j : S2x1x8192.Idx) : ((cfg0.win 7).blk t).view.emb j = j := by
  obtain ⟨e0, e1, e2⟩ := idx_zero7 t
  funext a; apply Fin.ext
  match a with
  | ⟨0, _⟩ => show win0_7.index t (0 : Fin 3) * 2 + 1 * (j 0).val = (j 0).val; omega
  | ⟨1, _⟩ => show win0_7.index t (1 : Fin 3) * 1 + 1 * (j 1).val = (j 1).val; omega
  | ⟨2, _⟩ => show win0_7.index t (2 : Fin 3) * 8192 + 1 * (j 2).val = (j 2).val; omega

theorem hz8 : (![0, 0, 0] : Fin 3 → Nat) = fun _ => 0 := funext fun a => by fin_cases a <;> rfl

/-- Window 8's block index at the one point is zero on every axis. -/
theorem idx_zero8 : ∀ t : Fin cfg0.N, win0_8.index t (0 : Fin 3) = 0 ∧ win0_8.index t (1 : Fin 3) = 0 ∧ win0_8.index t (2 : Fin 3) = 0 :=
  (by decide +kernel : ∀ t : Fin grid0.N, _)

/-- An index of window 8's block is the same index of its array. -/
theorem emb8 (t : Fin cfg0.N) (j : S2x2560x8192.Idx) : ((cfg0.win 8).blk t).view.emb j = j := by
  obtain ⟨e0, e1, e2⟩ := idx_zero8 t
  funext a; apply Fin.ext
  match a with
  | ⟨0, _⟩ => show win0_8.index t (0 : Fin 3) * 2 + 1 * (j 0).val = (j 0).val; omega
  | ⟨1, _⟩ => show win0_8.index t (1 : Fin 3) * 2560 + 1 * (j 1).val = (j 1).val; omega
  | ⟨2, _⟩ => show win0_8.index t (2 : Fin 3) * 8192 + 1 * (j 2).val = (j 2).val; omega

theorem hz9 : (![0, 0] : Fin 2 → Nat) = fun _ => 0 := funext fun a => by fin_cases a <;> rfl

/-- Window 9's block index at the one point is zero on every axis. -/
theorem idx_zero9 : ∀ t : Fin cfg0.N, win0_9.index t (0 : Fin 2) = 0 ∧ win0_9.index t (1 : Fin 2) = 0 :=
  (by decide +kernel : ∀ t : Fin grid0.N, _)

/-- An index of window 9's block is the same index of its array. -/
theorem emb9 (t : Fin cfg0.N) (j : S16384x512.Idx) : ((cfg0.win 9).blk t).view.emb j = j := by
  obtain ⟨e0, e1⟩ := idx_zero9 t
  funext a; apply Fin.ext
  match a with
  | ⟨0, _⟩ => show win0_9.index t (0 : Fin 2) * 16384 + 1 * (j 0).val = (j 0).val; omega
  | ⟨1, _⟩ => show win0_9.index t (1 : Fin 2) * 512 + 1 * (j 1).val = (j 1).val; omega

theorem hz10 : (![0, 0] : Fin 2 → Nat) = fun _ => 0 := funext fun a => by fin_cases a <;> rfl

/-- Window 10's block index at the one point is zero on every axis. -/
theorem idx_zero10 : ∀ t : Fin cfg0.N, win0_10.index t (0 : Fin 2) = 0 ∧ win0_10.index t (1 : Fin 2) = 0 :=
  (by decide +kernel : ∀ t : Fin grid0.N, _)

/-- An index of window 10's block is the same index of its array. -/
theorem emb10 (t : Fin cfg0.N) (j : S16384x512.Idx) : ((cfg0.win 10).blk t).view.emb j = j := by
  obtain ⟨e0, e1⟩ := idx_zero10 t
  funext a; apply Fin.ext
  match a with
  | ⟨0, _⟩ => show win0_10.index t (0 : Fin 2) * 16384 + 1 * (j 0).val = (j 0).val; omega
  | ⟨1, _⟩ => show win0_10.index t (1 : Fin 2) * 512 + 1 * (j 1).val = (j 1).val; omega

theorem hz11 : (![0, 0, 0] : Fin 3 → Nat) = fun _ => 0 := funext fun a => by fin_cases a <;> rfl

/-- Window 11's block index at the one point is zero on every axis. -/
theorem idx_zero11 : ∀ t : Fin cfg0.N, win0_11.index t (0 : Fin 3) = 0 ∧ win0_11.index t (1 : Fin 3) = 0 ∧ win0_11.index t (2 : Fin 3) = 0 :=
  (by decide +kernel : ∀ t : Fin grid0.N, _)

/-- An index of window 11's block is the same index of its array. -/
theorem emb11 (t : Fin cfg0.N) (j : S2x512x8192.Idx) : ((cfg0.win 11).blk t).view.emb j = j := by
  obtain ⟨e0, e1, e2⟩ := idx_zero11 t
  funext a; apply Fin.ext
  match a with
  | ⟨0, _⟩ => show win0_11.index t (0 : Fin 3) * 2 + 1 * (j 0).val = (j 0).val; omega
  | ⟨1, _⟩ => show win0_11.index t (1 : Fin 3) * 512 + 1 * (j 1).val = (j 1).val; omega
  | ⟨2, _⟩ => show win0_11.index t (2 : Fin 3) * 8192 + 1 * (j 2).val = (j 2).val; omega

/-! ### Output window 6: the array after the run -/

/-- What the window's array ends holding: `out0_6` applied to the argument arrays in place of the input blocks (a value that the
    frame states apart, `kK_payN a…`, keeps its loads inside its own definition). -/
abbrev G6 (a0 : Vec F S16384x5120 .bf16) (a1 : Vec F S1x5120 .f32) (a2 : Vec F S5120x3584 .fp8e4m3) (a3 : Vec F S1x3584 .f32) (a4 : Vec F S16384x64 .f32) (a5 : Vec F S16384x64 .f32) : Vec F S16384x5120 .fp8e4m3 :=
  k0_pay7 a0 a1

/-- A load of the whole of a block reads the block, and the one store through the whole rectangle leaves its payload. -/
theorem out6_eq (a0 : Vec F S16384x5120 .bf16) (a1 : Vec F S1x5120 .f32) (a2 : Vec F S5120x3584 .fp8e4m3) (a3 : Vec F S1x3584 .f32) (a4 : Vec F S16384x64 .f32) (a5 : Vec F S16384x64 .f32) : out0_6 (F := F) a0 a1 a2 a3 a4 a5 = G6 a0 a1 a2 a3 a4 a5 := by
  unfold out0_6
  rw [View.canon_unit_zero hz6, View.ld_unit_zero (S := S16384x5120) hz0 _ a0, View.ld_unit_zero (S := S1x5120) hz1 _ a1]

/-- Cutting the point's block out of `X` and reading `X` through the block's view give the same. -/
theorem cut6_eq (t : Fin cfg0.N) (X : Vec F S16384x5120 .fp8e4m3) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3) (V m c main_arg4) (V m c main_arg5)) := by
  show (cfg0.win 6).cut (grid0.coords t) ((dats m 0 c).after 6 t) = _
  rw [after0_6, out6_eq, iblk0_eq, iblk1_eq, iblk2_eq, iblk3_eq, iblk4_eq, iblk5_eq]
  exact cut6_eq t _

/-- Every index of the array is in the point's block. -/
theorem covered6 (i : S16384x5120.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 6 (G6 (V m c main_arg0) (V m c main_arg1) (V m c main_arg2) (V m c main_arg3) (V m c main_arg4) (V m c main_arg5)) (fun t _ => flushed6_eq m c t) covered6).trans (by rw [V_main_arg0, V_main_arg1, V_main_arg2, V_main_arg3, V_main_arg4, V_main_arg5])

/-! ### Output window 7: the array after the run -/

/-- What the window's array ends holding: `out0_7` applied to the argument arrays in place of the input blocks (a value that the
    frame states apart, `kK_payN a…`, keeps its loads inside its own definition). -/
abbrev G7 (a0 : Vec F S16384x5120 .bf16) (a1 : Vec F S1x5120 .f32) (a2 : Vec F S5120x3584 .fp8e4m3) (a3 : Vec F S1x3584 .f32) (a4 : Vec F S16384x64 .f32) (a5 : Vec F S16384x64 .f32) : Vec F S2x1x8192 .f32 :=
  k0_pay8 a0 a1

/-- A load of the whole of a block reads the block, and the one store through the whole rectangle leaves its payload. -/
theorem out7_eq (a0 : Vec F S16384x5120 .bf16) (a1 : Vec F S1x5120 .f32) (a2 : Vec F S5120x3584 .fp8e4m3) (a3 : Vec F S1x3584 .f32) (a4 : Vec F S16384x64 .f32) (a5 : Vec F S16384x64 .f32) : out0_7 (F := F) a0 a1 a2 a3 a4 a5 = G7 a0 a1 a2 a3 a4 a5 := by
  unfold out0_7
  rw [View.canon_unit_zero hz7, View.ld_unit_zero (S := S16384x5120) hz0 _ a0, View.ld_unit_zero (S := S1x5120) hz1 _ a1]

/-- Cutting the point's block out of `X` and reading `X` through the block's view give the same. -/
theorem cut7_eq (t : Fin cfg0.N) (X : Vec F S2x1x8192 .f32) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3) (V m c main_arg4) (V m c main_arg5)) := by
  show (cfg0.win 7).cut (grid0.coords t) ((dats m 0 c).after 7 t) = _
  rw [after0_7, out7_eq, iblk0_eq, iblk1_eq, iblk2_eq, iblk3_eq, iblk4_eq, iblk5_eq]
  exact cut7_eq t _

/-- Every index of the array is in the point's block. -/
theorem covered7 (i : S2x1x8192.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 7 (G7 (V m c main_arg0) (V m c main_arg1) (V m c main_arg2) (V m c main_arg3) (V m c main_arg4) (V m c main_arg5)) (fun t _ => flushed7_eq m c t) covered7).trans (by rw [V_main_arg0, V_main_arg1, V_main_arg2, V_main_arg3, V_main_arg4, V_main_arg5])

/-! ### Output window 8: the array after the run -/

/-- What the window's array ends holding: `out0_8` applied to the argument arrays in place of the input blocks (a value that the
    frame states apart, `kK_payN a…`, keeps its loads inside its own definition). -/
abbrev G8 (a0 : Vec F S16384x5120 .bf16) (a1 : Vec F S1x5120 .f32) (a2 : Vec F S5120x3584 .fp8e4m3) (a3 : Vec F S1x3584 .f32) (a4 : Vec F S16384x64 .f32) (a5 : Vec F S16384x64 .f32) : Vec F S2x2560x8192 .bf16 :=
  k0_pay2 (k0_pay12 (k0_pay16 a0 a1 a2 a3 a4 a5) (k0_pay17 a0 a1 a2 a3 a4 a5) a3 a4 a5)

/-- A load of the whole of a block reads the block, and the one store through the whole rectangle leaves its payload. -/
theorem out8_eq (a0 : Vec F S16384x5120 .bf16) (a1 : Vec F S1x5120 .f32) (a2 : Vec F S5120x3584 .fp8e4m3) (a3 : Vec F S1x3584 .f32) (a4 : Vec F S16384x64 .f32) (a5 : Vec F S16384x64 .f32) : out0_8 (F := F) a0 a1 a2 a3 a4 a5 = G8 a0 a1 a2 a3 a4 a5 := by
  unfold out0_8
  rw [View.canon_unit_zero hz8, View.ld_unit_zero (S := S1x3584) hz3 _ a3, View.ld_unit_zero (S := S16384x64) hz4 _ a4, View.ld_unit_zero (S := S16384x64) hz5 _ a5]

/-- Cutting the point's block out of `X` and reading `X` through the block's view give the same. -/
theorem cut8_eq (t : Fin cfg0.N) (X : Vec F S2x2560x8192 .bf16) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2) (V m c main_arg3) (V m c main_arg4) (V m c main_arg5)) := by
  show (cfg0.win 8).cut (grid0.coords t) ((dats m 0 c).after 8 t) = _
  rw [after0_8, out8_eq, iblk0_eq, iblk1_eq, iblk2_eq, iblk3_eq, iblk4_eq, iblk5_eq]
  exact cut8_eq t _

/-- Every index of the array is in the point's block. -/
theorem covered8 (i : S2x2560x8192.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 8 (G8 (V m c main_arg0) (V m c main_arg1) (V m c main_arg2) (V m c main_arg3) (V m c main_arg4) (V m c main_arg5)) (fun t _ => flushed8_eq m c t) covered8).trans (by rw [V_main_arg0, V_main_arg1, V_main_arg2, V_main_arg3, V_main_arg4, V_main_arg5])

/-! ### Output window 9: the array after the run -/

/-- What the window's array ends holding: `out0_9` applied to the argument arrays in place of the input blocks (a value that the
    frame states apart, `kK_payN a…`, keeps its loads inside its own definition). -/
abbrev G9 (a0 : Vec F S16384x5120 .bf16) (a1 : Vec F S1x5120 .f32) (a2 : Vec F S5120x3584 .fp8e4m3) (a3 : Vec F S1x3584 .f32) (a4 : Vec F S16384x64 .f32) (a5 : Vec F S16384x64 .f32) : Vec F S16384x512 .bf16 :=
  k0_pay3 (k0_pay13 a4) (k0_pay14 a5) (k0_pay15 (k0_pay16 a0 a1 a2 a3 a4 a5) (k0_pay17 a0 a1 a2 a3 a4 a5) a3)

/-- A load of the whole of a block reads the block, and the one store through the whole rectangle leaves its payload. -/
theorem out9_eq (a0 : Vec F S16384x5120 .bf16) (a1 : Vec F S1x5120 .f32) (a2 : Vec F S5120x3584 .fp8e4m3) (a3 : Vec F S1x3584 .f32) (a4 : Vec F S16384x64 .f32) (a5 : Vec F S16384x64 .f32) : out0_9 (F := F) a0 a1 a2 a3 a4 a5 = G9 a0 a1 a2 a3 a4 a5 := by
  unfold out0_9
  rw [View.canon_unit_zero hz9, View.ld_unit_zero (S := S16384x64) hz4 _ a4, View.ld_unit_zero (S := S16384x64) hz5 _ a5, View.ld_unit_zero (S := S1x3584) hz3 _ a3]

/-- Cutting the point's block out of `X` and reading `X` through the block's view give the same. -/
theorem cut9_eq (t : Fin cfg0.N) (X : Vec F S16384x512 .bf16) :
    (cfg0.win 9).cut (grid0.coords t) X = ((cfg0.win 9).blk t).view.read (Elt F) X := by
  funext j
  show X j = X (((cfg0.win 9).blk t).view.emb j)
  rw [emb9]

/-- WHAT THE POINT WRITES BACK is its block of `G9` of the argument arrays as the region finds them. -/
theorem flushed9_eq (c : Dev nD) (t : Fin cfg0.N) :
    (dats m 0 c).flushed 9 t = ((cfg0.win 9).blk t).view.read (Elt F) (G9 (V m c main_arg0) (V m c main_arg1) (V m c main_arg2) (V m c main_arg3) (V m c main_arg4) (V m c main_arg5)) := by
  show (cfg0.win 9).cut (grid0.coords t) ((dats m 0 c).after 9 t) = _
  rw [after0_9, out9_eq, iblk0_eq, iblk1_eq, iblk2_eq, iblk3_eq, iblk4_eq, iblk5_eq]
  exact cut9_eq t _

/-- Every index of the array is in the point's block. -/
theorem covered9 (i : S16384x512.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

/-- THE ARRAY after the run: `G9` of the argument arrays as launched. -/
theorem final9 (c : Dev nD) : (dats m 0 c).arrAt 9 cfg0.N = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 9 (G9 (V m c main_arg0) (V m c main_arg1) (V m c main_arg2) (V m c main_arg3) (V m c main_arg4) (V m c main_arg5)) (fun t _ => flushed9_eq m c t) covered9).trans (by rw [V_main_arg0, V_main_arg1, V_main_arg2, V_main_arg3, V_main_arg4, V_main_arg5])

/-! ### Output window 10: the array after the run -/

/-- What the window's array ends holding: `out0_10` applied to the argument arrays in place of the input blocks (a value that the
    frame states apart, `kK_payN a…`, keeps its loads inside its own definition). -/
abbrev G10 (a0 : Vec F S16384x5120 .bf16) (a1 : Vec F S1x5120 .f32) (a2 : Vec F S5120x3584 .fp8e4m3) (a3 : Vec F S1x3584 .f32) (a4 : Vec F S16384x64 .f32) (a5 : Vec F S16384x64 .f32) : Vec F S16384x512 .bf16 :=
  k0_pay1 (k0_pay18 a0 a1 a2 a3 a4 a5)

/-- The one store through the whole rectangle leaves its payload. -/
theorem out10_eq (a0 : Vec F S16384x5120 .bf16) (a1 : Vec F S1x5120 .f32) (a2 : Vec F S5120x3584 .fp8e4m3) (a3 : Vec F S1x3584 .f32) (a4 : Vec F S16384x64 .f32) (a5 : Vec F S16384x64 .f32) : out0_10 (F := F) a0 a1 a2 a3 a4 a5 = G10 a0 a1 a2 a3 a4 a5 := by
  unfold out0_10
  rw [View.canon_unit_zero hz10]

/-- Cutting the point's block out of `X` and reading `X` through the block's view give the same. -/
theorem cut10_eq (t : Fin cfg0.N) (X : Vec F S16384x512 .bf16) :
    (cfg0.win 10).cut (grid0.coords t) X = ((cfg0.win 10).blk t).view.read (Elt F) X := by
  funext j
  show X j = X (((cfg0.win 10).blk t).view.emb j)
  rw [emb10]

/-- WHAT THE POINT WRITES BACK is its block of `G10` of the argument arrays as the region finds them. -/
theorem flushed10_eq (c : Dev nD) (t : Fin cfg0.N) :
    (dats m 0 c).flushed 10 t = ((cfg0.win 10).blk t).view.read (Elt F) (G10 (V m c main_arg0) (V m c main_arg1) (V m c main_arg2) (V m c main_arg3) (V m c main_arg4) (V m c main_arg5)) := by
  show (cfg0.win 10).cut (grid0.coords t) ((dats m 0 c).after 10 t) = _
  rw [after0_10, out10_eq, iblk0_eq, iblk1_eq, iblk2_eq, iblk3_eq, iblk4_eq, iblk5_eq]
  exact cut10_eq t _

/-- Every index of the array is in the point's block. -/
theorem covered10 (i : S16384x512.Idx) :
    ∃ t : Fin cfg0.N, (cfg0.win 10).flush t = true ∧ i ∈ ((cfg0.win 10).blk t).view.set :=
  ⟨(⟨0, by decide⟩ : Fin cfg0.N), flush0_10 _, by have h := ((cfg0.win 10).blk (⟨0, by decide⟩ : Fin cfg0.N)).view.emb_mem_set i; rwa [emb10] at h⟩

/-- THE ARRAY after the run: `G10` of the argument arrays as launched. -/
theorem final10 (c : Dev nD) : (dats m 0 c).arrAt 10 cfg0.N = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 10 (G10 (V m c main_arg0) (V m c main_arg1) (V m c main_arg2) (V m c main_arg3) (V m c main_arg4) (V m c main_arg5)) (fun t _ => flushed10_eq m c t) covered10).trans (by rw [V_main_arg0, V_main_arg1, V_main_arg2, V_main_arg3, V_main_arg4, V_main_arg5])

/-! ### Output window 11: the array after the run -/

/-- What the window's array ends holding: `out0_11` applied to the argument arrays in place of the input blocks (a value that the
    frame states apart, `kK_payN a…`, keeps its loads inside its own definition). -/
abbrev G11 (a0 : Vec F S16384x5120 .bf16) (a1 : Vec F S1x5120 .f32) (a2 : Vec F S5120x3584 .fp8e4m3) (a3 : Vec F S1x3584 .f32) (a4 : Vec F S16384x64 .f32) (a5 : Vec F S16384x64 .f32) : Vec F S2x512x8192 .bf16 :=
  k0_pay4 (k0_pay18 a0 a1 a2 a3 a4 a5)

/-- The one store through the whole rectangle leaves its payload. -/
theorem out11_eq (a0 : Vec F S16384x5120 .bf16) (a1 : Vec F S1x5120 .f32) (a2 : Vec F S5120x3584 .fp8e4m3) (a3 : Vec F S1x3584 .f32) (a4 : Vec F S16384x64 .f32) (a5 : Vec F S16384x64 .f32) : out0_11 (F := F) a0 a1 a2 a3 a4 a5 = G11 a0 a1 a2 a3 a4 a5 := by
  unfold out0_11
  rw [View.canon_unit_zero hz11]

/-- Cutting the point's block out of `X` and reading `X` through the block's view give the same. -/
theorem cut11_eq (t : Fin cfg0.N) (X : Vec F S2x512x8192 .bf16) :
    (cfg0.win 11).cut (grid0.coords t) X = ((cfg0.win 11).blk t).view.read (Elt F) X := by
  funext j
  show X j = X (((cfg0.win 11).blk t).view.emb j)
  rw [emb11]

/-- WHAT THE POINT WRITES BACK is its block of `G11` of the argument arrays as the region finds them. -/
theorem flushed11_eq (c : Dev nD) (t : Fin cfg0.N) :
    (dats m 0 c).flushed 11 t = ((cfg0.win 11).blk t).view.read (Elt F) (G11 (V m c main_arg0) (V m c main_arg1) (V m c main_arg2) (V m c main_arg3) (V m c main_arg4) (V m c main_arg5)) := by
  show (cfg0.win 11).cut (grid0.coords t) ((dats m 0 c).after 11 t) = _
  rw [after0_11, out11_eq, iblk0_eq, iblk1_eq, iblk2_eq, iblk3_eq, iblk4_eq, iblk5_eq]
  exact cut11_eq t _

/-- Every index of the array is in the point's block. -/
theorem covered11 (i : S2x512x8192.Idx) :
    ∃ t : Fin cfg0.N, (cfg0.win 11).flush t = true ∧ i ∈ ((cfg0.win 11).blk t).view.set :=
  ⟨(⟨0, by decide⟩ : Fin cfg0.N), flush0_11 _, by have h := ((cfg0.win 11).blk (⟨0, by decide⟩ : Fin cfg0.N)).view.emb_mem_set i; rwa [emb11] at h⟩

/-- THE ARRAY after the run: `G11` of the argument arrays as launched. -/
theorem final11 (c : Dev nD) : (dats m 0 c).arrAt 11 cfg0.N = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 11 (G11 (V m c main_arg0) (V m c main_arg1) (V m c main_arg2) (V m c main_arg3) (V m c main_arg4) (V m c main_arg5)) (fun t _ => flushed11_eq m c t) covered11).trans (by rw [V_main_arg0, V_main_arg1, V_main_arg2, V_main_arg3, V_main_arg4, V_main_arg5])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_1) = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_2) = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_3) = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_4) = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_5) = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(post6 m r h c).trans (final6 m c),
      (post7 m r h c).trans (final7 m c),
      (post8 m r h c).trans (final8 m c),
      (post9 m r h c).trans (final9 m c),
      (post10 m r h c).trans (final10 m c),
      (post11 m r h c).trans (final11 m c),
      kept_main_arg0 m r h c,
      kept_main_arg1 m r h c,
      kept_main_arg2 m r h c,
      kept_main_arg3 m r h c,
      kept_main_arg4 m r h c,
      kept_main_arg5 m r h c⟩)
    (run_main m ρ)

end Cert.Qkv1RefIdeal.Run

end
-- ==== Proof.Qkv1Ref.lean ====
module

public import proofs.«01_k».proof.Proof.Qkv1RefRun
public import proofs.«01_k».proof.Proof.RowNorm
public import proofs.«01_k».proof.Proof.Quantise

@[expose] public section

set_option maxRecDepth 16384

noncomputable section

/-! # The reference's input, normed and quantised, entry by entry -/

namespace Cert.Qkv1Ideal.RefValue

open Idealize.ShloMosaic Idealize.ShloMosaic.TcCoe Idealize.SL.Sem
open Cert.Qkv1RefIdeal Cert.Qkv1RefIdeal.Gen Cert.RowNorm Cert.Quantise

variable (a0 : Vec Ideal S16384x5120 .bf16) (a1 : Vec Ideal S1x5120 .f32)

/-- The reference's norm, entry by entry. -/
theorem ref_normed (R : Fin 16384) (j : Fin 5120) :
    Cert.Qkv1RefIdeal.Gen.k0_pay5 (F := Ideal) a0 a1 (ix2 R j)
      = normed (fun j => a0 (ix2 R j)) (fun j => a1 (ix2 0 j)) j := by
  rw [← div_root]
  unfold Cert.Qkv1RefIdeal.Gen.k0_pay5
  generalize hz : (Ideal.div _ _ * _ : EReal) = z
  pointwise []
  exact hz

/-- A column of largest absolute values, made a column of scales. -/
def scaleCol (A : FVec Ideal S16384x1 .f32) : FVec Ideal S16384x1 .f32 :=
  select (cmpf .oeq A (broadcast S16384x1 (Scalar.ofBits (F := Ideal) .f32 0x00000000#32)))
    (broadcast S16384x1 (Scalar.ofBits (F := Ideal) .f32 0x3F800000#32))
    (divf A (broadcast S16384x1 (Scalar.ofBits (F := Ideal) .f32 0x43E00000#32)))

theorem scaleCol_at (A : FVec Ideal S16384x1 .f32) (R : Fin 16384) : scaleCol A (ix2 R 0) = scale (A (ix2 R 0)) := by
  pointwise [scaleCol, scale]

/-- The largest absolute values of the rows of a table, as a column. -/
def amaxCol (H : FVec Ideal S16384x5120 .f32) : FVec Ideal S16384x1 .f32 :=
  shapeCast S16384x1 (multiReduction .maximumf [1] S16384 (absf H) 0xFF800000#32 reduces_S16384x5120_S16384 (.inl rfl) rfl)
    shapeCasts_S16384_S16384x1

theorem amaxCol_at (H : FVec Ideal S16384x5120 .f32) (R : Fin 16384) : amaxCol H (ix2 R 0) = amax fun j => H (ix2 R j) := by
  pointwise [amaxCol, amax]

/-- The reference's scale of a row. -/
theorem ref_scale (R : Fin 16384) :
    Cert.Qkv1RefIdeal.Gen.k0_pay6 (F := Ideal) a0 a1 (ix2 R 0)
      = scale (amax (normed (fun j => a0 (ix2 R j)) (fun j => a1 (ix2 0 j)))) :=
  (scaleCol_at (amaxCol (Cert.Qkv1RefIdeal.Gen.k0_pay5 (F := Ideal) a0 a1)) R).trans
    (congrArg scale ((amaxCol_at _ R).trans (congrArg amax (funext (ref_normed a0 a1 R)))))

/-- A table divided by a column of scales and cut off at the format's largest value. -/
def codeTab (H : FVec Ideal S16384x5120 .f32) (A : FVec Ideal S16384x1 .f32) : FVec Ideal S16384x5120 .fp8e4m3 :=
  truncf .fp8e4m3 (minimumf (broadcast S16384x5120 (Scalar.ofBits (F := Ideal) .f32 0x43E00000#32))
    (maximumf (broadcast S16384x5120 (Scalar.ofBits (F := Ideal) .f32 0xC3E00000#32))
      (divf H (broadcastTo S16384x5120 A broadcasts_S16384x1_S16384x5120)))) bitsLt_fp8e4m3_f32

theorem codeTab_at (H : FVec Ideal S16384x5120 .f32) (A : FVec Ideal S16384x1 .f32) (R : Fin 16384) (j : Fin 5120) :
    codeTab H A (ix2 R j) = code (H (ix2 R j)) (A (ix2 R 0)) := by
  pointwise [codeTab, code]

/-- The reference's code of an entry. -/
theorem ref_code (R : Fin 16384) (j : Fin 5120) :
    Cert.Qkv1RefIdeal.Gen.k0_pay7 (F := Ideal) a0 a1 (ix2 R j)
      = code (normed (fun j => a0 (ix2 R j)) (fun j => a1 (ix2 0 j)) j)
          (scale (amax (normed (fun j => a0 (ix2 R j)) (fun j => a1 (ix2 0 j))))) :=
  (codeTab_at (Cert.Qkv1RefIdeal.Gen.k0_pay5 (F := Ideal) a0 a1) (Cert.Qkv1RefIdeal.Gen.k0_pay6 (F := Ideal) a0 a1) R j).trans
    (congrArg₂ code (ref_normed a0 a1 R j) (ref_scale a0 a1 R))

theorem colRow_at (A : FVec Ideal S16384x1 .f32) (b : Fin 2) (s : Fin 8192) (R : Fin 16384) (h : R.val = b.val * 8192 + s.val) :
    shapeCast S2x1x8192 A shapeCasts_S16384x1_S2x1x8192 (ix3 b 0 s) = A (ix2 R 0) := by
  rw [show R = ⟨b.val * 8192 + s.val, by omega⟩ from Fin.ext h]
  pointwise []

/-- The reference's scales as the array they are stored in. -/
theorem ref_scales_of (b : Fin 2) (s : Fin 8192) (R : Fin 16384) (h : R.val = b.val * 8192 + s.val) :
    Cert.Qkv1RefIdeal.Gen.k0_pay8 (F := Ideal) a0 a1 (ix3 b 0 s) = Cert.Qkv1RefIdeal.Gen.k0_pay6 (F := Ideal) a0 a1 (ix2 R 0) :=
  colRow_at (Cert.Qkv1RefIdeal.Gen.k0_pay6 (F := Ideal) a0 a1) b s R h

/-- The product of two tables. -/
def dotTab (C : FVec Ideal S16384x5120 .fp8e4m3) (W : FVec Ideal S5120x3584 .fp8e4m3) : FVec Ideal S16384x3584 .f32 :=
  matmul dot_S16384x5120_S5120x3584_S16384x3584_1_0_0_1_n_n none C W (constant S16384x3584 .f32 0x00000000#32)

theorem dotTab_at (C : FVec Ideal S16384x5120 .fp8e4m3) (W : FVec Ideal S5120x3584 .fp8e4m3) (R : Fin 16384) (n : Fin 3584) :
    dotTab C W (ix2 R n) = ∑ k, C (ix2 R k) * W (ix2 k n) := by
  pointwise [dotTab]

theorem widen_at (A : FVec Ideal S16384x1 .f32) (R : Fin 16384) (n : Fin 3584) :
    broadcastTo S16384x3584 A broadcasts_S16384x1_S16384x3584 (ix2 R n) = A (ix2 R 0) := by
  pointwise []

theorem scaled_at (P Q : FVec Ideal S16384x3584 .f32) (ws : FVec Ideal S1x3584 .f32) (R : Fin 16384) (n : Fin 3584) :
    Cert.Qkv1RefIdeal.Gen.k0_pay11 (F := Ideal) P Q ws (ix2 R n) = P (ix2 R n) * Q (ix2 R n) * ws (ix2 0 n) := by
  pointwise [Cert.Qkv1RefIdeal.Gen.k0_pay11]

variable (a2 : Vec Ideal S5120x3584 .fp8e4m3) (a3 : Vec Ideal S1x3584 .f32)

/-- An entry of the projection: the codes' product with the weights, times both scales. -/
def proj (x nw : Fin 5120 → EReal) (n : Fin 3584) : EReal :=
  (∑ k, code (normed x nw k) (scale (amax (normed x nw))) * a2 (ix2 k n)) * scale (amax (normed x nw)) * a3 (ix2 0 n)

/-- The reference's projection. -/
theorem ref_proj (R : Fin 16384) (n : Fin 3584) :
    Cert.Qkv1RefIdeal.Gen.k0_pay11 (F := Ideal) (Cert.Qkv1RefIdeal.Gen.k0_pay9 (F := Ideal) a0 a1 a2)
        (Cert.Qkv1RefIdeal.Gen.k0_pay10 (F := Ideal) a0 a1) a3 (ix2 R n)
      = proj a2 a3 (fun j => a0 (ix2 R j)) (fun j => a1 (ix2 0 j)) n := by
  rw [scaled_at]
  have h1 : Cert.Qkv1RefIdeal.Gen.k0_pay9 (F := Ideal) a0 a1 a2 (ix2 R n)
      = ∑ k, Cert.Qkv1RefIdeal.Gen.k0_pay7 (F := Ideal) a0 a1 (ix2 R k) * a2 (ix2 k n) :=
    dotTab_at (Cert.Qkv1RefIdeal.Gen.k0_pay7 (F := Ideal) a0 a1) a2 R n
  have h2 : Cert.Qkv1RefIdeal.Gen.k0_pay10 (F := Ideal) a0 a1 (ix2 R n) = Cert.Qkv1RefIdeal.Gen.k0_pay6 (F := Ideal) a0 a1 (ix2 R 0) :=
    widen_at (Cert.Qkv1RefIdeal.Gen.k0_pay6 (F := Ideal) a0 a1) R n
  rw [h1, h2, ref_scale]
  have hs : (∑ k, Cert.Qkv1RefIdeal.Gen.k0_pay7 (F := Ideal) a0 a1 (ix2 R k) * a2 (ix2 k n) : EReal)
      = ∑ k, code (normed (fun j => a0 (ix2 R j)) (fun j => a1 (ix2 0 j)) k)
          (scale (amax (normed (fun j => a0 (ix2 R j)) (fun j => a1 (ix2 0 j))))) * a2 (ix2 k n) :=
    Finset.sum_congr rfl fun k _ => by rw [ref_code]
  rw [hs]
  rfl

/-- The values as stored. -/
theorem ref_v (v : FVec Ideal S16384x3584 .f32) (R : Fin 16384) (j : Fin 512) :
    Cert.Qkv1RefIdeal.Gen.k0_pay1 (F := Ideal) v (ix2 R j) = v (ix2 R ⟨3072 + j.val, by omega⟩) := by
  pointwise [Cert.Qkv1RefIdeal.Gen.k0_pay1]

theorem turn_v (V : FVec Ideal S16384x512 .bf16) (b : Fin 2) (j : Fin 512) (s : Fin 8192) (R : Fin 16384)
    (h : R.val = b.val * 8192 + s.val) :
    transpose S2x512x8192 [0, 2, 1] (shapeCast S2x8192x512 V shapeCasts_S16384x512_S2x8192x512) transposes_S2x8192x512_p0_2_1_S2x512x8192
      (ix3 b j s) = V (ix2 R j) := by
  rw [show R = ⟨b.val * 8192 + s.val, by omega⟩ from Fin.ext h]
  pointwise []

/-- The transposed values as stored. -/
theorem ref_vt (v : FVec Ideal S16384x3584 .f32) (b : Fin 2) (j : Fin 512) (s : Fin 8192) (R : Fin 16384)
    (h : R.val = b.val * 8192 + s.val) :
    Cert.Qkv1RefIdeal.Gen.k0_pay4 (F := Ideal) v (ix3 b j s) = v (ix2 R ⟨3072 + j.val, by omega⟩) :=
  (turn_v (Cert.Qkv1RefIdeal.Gen.k0_pay1 (F := Ideal) v) b j s R h).trans (ref_v v R j)

end Cert.Qkv1Ideal.RefValue

end
-- ==== Proof.Qkv1Heads.lean ====
module

public import proofs.«01_k».proof.Proof.Gen.Qkv1Ideal.Value
public import Idealize.ShloMosaic.Lib.Pipeline.ValueKit
public import proofs.«01_k».proof.Proof.RowNorm

@[expose] public section

set_option maxRecDepth 16384

noncomputable section

/-! # A head of queries or keys: the rotation and the norm of a row of 128 entries

The kernel reads the cosines and sines of a lane from one table of both, and the partner of a lane
by flipping the lane's lowest bit. Here these reads are the plain ones: lane `l` takes the angle
`l / 2`, an even lane's partner is the next one and an odd lane's the one before. -/

namespace Cert.Qkv1Ideal.RefValue

open Idealize.ShloMosaic Idealize.ShloMosaic.TcCoe Idealize.SL.Sem
open Cert.Qkv1Ideal Cert.Qkv1Ideal.Gen Cert.RowNorm Cert.Quantise

/-- The angle of a lane, and the even and the odd lane of an angle. -/
def half (l : Fin 128) : Fin 64 := ⟨l.val / 2, by omega⟩
def evn (i : Fin 64) : Fin 128 := ⟨2 * i.val, by omega⟩
def odd (i : Fin 64) : Fin 128 := ⟨2 * i.val + 1, by omega⟩

/-- The rotation of a row by its angles' cosines and sines. -/
def rot (f : Fin 128 → EReal) (co si : Fin 64 → EReal) (l : Fin 128) : EReal :=
  if l.val % 2 = 0 then f (evn (half l)) * co (half l) - f (odd (half l)) * si (half l)
  else f (evn (half l)) * si (half l) + f (odd (half l)) * co (half l)

/-- The constant added to a head's mean square. -/
abbrev qeps : EReal := Ideal.ofBits .f32 0x358637BD#32

theorem qeps_pos : 0 < qeps := by
  have : qeps = (((8796093 : ℝ) / 2 ^ 43 : ℝ) : EReal) := by
    simp [qeps, Ideal.ofBits, Ideal.ieee, -EReal.coe_mul]; norm_num
  rw [this]; exact_mod_cast (by norm_num : (0 : ℝ) < 8796093 / 2 ^ 43)

theorem ofBits_head : Ideal.ofBits .f32 0x43000000#32 = ((128 : ℝ) : EReal) := by
  simp [Ideal.ofBits, Ideal.ieee, -EReal.coe_mul]; norm_num

theorem ofBits_inv_head : Ideal.ofBits .f32 0x3C000000#32 = ((1 / 128 : ℝ) : EReal) := by
  simp [Ideal.ofBits, Ideal.ieee, -EReal.coe_mul]; norm_num

/-- A row divided by its root mean square. -/
def unitRow (g : Fin 128 → EReal) (l : Fin 128) : EReal :=
  Ideal.div (g l) (Ideal.sqrt (Ideal.div (∑ j, g j * g j) (Ideal.ofBits .f32 0x43000000#32) + qeps))

/-- Dividing by the root of a positive number is multiplying by its reciprocal root. -/
theorem div_sqrt (x z : EReal) (hz : 0 < z) : Ideal.div x (Ideal.sqrt z) = x * Ideal.rsqrt z := by
  rw [← Cert.Quantise.mul_div_one x (sqrt_ne_zero hz)]
  congr 1
  induction z with
  | bot => simp at hz
  | top =>
    have e : Ideal.sqrt ⊤ = ⊤ := rfl
    rw [e, Ideal.div, if_neg EReal.top_ne_zero, EReal.inv_top, mul_zero, Ideal.rsqrt_top]
  | coe z =>
    have h : (0 : ℝ) < z := by exact_mod_cast hz
    have e : Ideal.sqrt (z : EReal) = ((Real.sqrt z : ℝ) : EReal) := by
      show (if z < 0 then (⊥ : EReal) else ((Real.sqrt z : ℝ) : EReal)) = _
      rw [if_neg (not_lt.mpr h.le)]
    rw [e, Ideal.div_coe (Real.sqrt_pos.mpr h).ne', Ideal.rsqrt_coe, if_neg (not_lt.mpr h.le), if_neg h.ne', one_mul, one_div]

theorem unitRow_eq (g : Fin 128 → EReal) (l : Fin 128) :
    g l * Ideal.rsqrt ((∑ j, g j * g j) * Ideal.ofBits .f32 0x3C000000#32 + qeps) = unitRow g l := by
  unfold unitRow
  rw [ofBits_inv_head, ofBits_head, Ideal.div_coe (by norm_num)]
  refine (div_sqrt _ _ ?_).symm
  have h : 0 ≤ (∑ j, g j * g j) * ((1 / 128 : ℝ) : EReal) :=
    mul_nonneg (Finset.sum_nonneg fun j _ => mul_self_nonneg' _) (by exact_mod_cast (by norm_num : (0 : ℝ) ≤ 1 / 128))
  calc (0 : EReal) < qeps := qeps_pos
    _ = 0 + qeps := (zero_add _).symm
    _ ≤ _ := add_le_add h le_rfl

/-- A head's norm as the kernel writes it. -/
def normT (T : FVec Ideal S512x128 .f32) : FVec Ideal S512x128 .bf16 :=
  truncf .bf16 (mulf T (broadcastTo S512x128 (shapeCast S512x1 (rsqrt (addf (mulf
    (shapeCast S512x1 (multiReduction .add [1] S512 (mulf T T) 0x00000000#32 reduces_S512x128_S512 (.inl rfl) rfl) shapeCasts_S512_S512x1)
    (broadcast S512x1 (Scalar.ofBits .f32 0x3C000000#32))) (broadcast S512x1 (Scalar.ofBits .f32 0x358637BD#32))))
    shapeCasts_S512x1_S512x1) broadcasts_S512x1_S512x128)) bitsLt_bf16_f32

theorem normT_at (T : FVec Ideal S512x128 .f32) (r : Fin 512) (l : Fin 128) :
    normT T (ix2 r l) = unitRow (fun l => T (ix2 r l)) l := by
  rw [← unitRow_eq]
  pointwise [normT]

/-- The partner of each lane, as a table of lane numbers. -/
def flip : IVec S512x128 32 :=
  shapeCast S512x128 (shapeCast S512x128x1
    (select (cmpi .slt (k0_pay77 (iota .tc S512x128 32 [1] iota_S512x128_d1_w32)) (broadcast S512x128 0#32))
      (addi (k0_pay77 (iota .tc S512x128 32 [1] iota_S512x128_d1_w32)) (broadcast S512x128 128#32))
      (k0_pay77 (iota .tc S512x128 32 [1] iota_S512x128_d1_w32))) shapeCasts_S512x128_S512x128x1) shapeCasts_S512x128x1_S512x128

/-- A head's rotation as the kernel writes it. -/
def rotT (T cx sx : FVec Ideal S512x128 .f32) : FVec Ideal S512x128 .f32 :=
  addf (mulf T cx) (mulf (dynamicGather 1 T flip) sx)

theorem flip_at (r : Fin 512) (l : Fin 128) :
    (flip (ix2 r l)).toNat % 128 = if l.val % 2 = 0 then l.val + 1 else l.val - 1 := by
  pointwise [flip, k0_pay77]
  revert l
  decide +kernel

/-- The word the kernel forms for a lane's cosine, and the one for its sine. -/
def cosWord (l : Fin 128) : BitVec 32 :=
  Scalar.select (IntOp.cmpi CmpIPredicate.slt (IntOp.shrsi ArithUnit.vector (BitVec.ofNat 32 l.val) 1#32) 0#32)
    (IntOp.addi (IntOp.shrsi ArithUnit.vector (BitVec.ofNat 32 l.val) 1#32) 128#32)
    (IntOp.shrsi ArithUnit.vector (BitVec.ofNat 32 l.val) 1#32)

def sinWord (l : Fin 128) : BitVec 32 :=
  Scalar.select (IntOp.cmpi CmpIPredicate.slt (IntOp.addi (IntOp.shrsi ArithUnit.vector (BitVec.ofNat 32 l.val) 1#32) 64#32) 0#32)
    (IntOp.addi (IntOp.addi (IntOp.shrsi ArithUnit.vector (BitVec.ofNat 32 l.val) 1#32) 64#32) 128#32)
    (IntOp.addi (IntOp.shrsi ArithUnit.vector (BitVec.ofNat 32 l.val) 1#32) 64#32)

theorem cosWord_eq (l : Fin 128) : (cosWord l).toNat % 128 = l.val / 2 := by
  revert l; unfold cosWord; decide +kernel

theorem sinWord_eq (l : Fin 128) : (sinWord l).toNat % 128 = 64 + l.val / 2 := by
  revert l; unfold sinWord; decide +kernel

theorem parity_eq (l : Fin 128) : IntOp.cmpi CmpIPredicate.eq (IntOp.andi (BitVec.ofNat 32 l.val) 1#32) 0#32
    = if l.val % 2 = 0 then 1#1 else 0#1 := by
  revert l; decide +kernel

theorem cos_at (co si : FVec Ideal S512x64 .f32) (r : Fin 512) (l : Fin 128) :
    k0_pay73 (F := Ideal) co si (ix2 r l) = co (ix2 r (half l)) := by
  pointwise [k0_pay73, k0_pay72]
  have e := cosWord_eq l
  have h : (cosWord l).toNat % 128 < 64 := by omega
  refine (dif_pos h).trans ?_
  exact congrArg (fun i => co (ix2 r i)) (Fin.ext e)

theorem sinTab_at (co si : FVec Ideal S512x64 .f32) (r : Fin 512) (l : Fin 128) :
    k0_pay74 (F := Ideal) co si (ix2 r l) = si (ix2 r (half l)) := by
  pointwise [k0_pay74, k0_pay72]
  have e := sinWord_eq l
  have h : ¬ (sinWord l).toNat % 128 < 64 := by omega
  refine (dif_neg h).trans ?_
  refine congrArg (fun i => si (ix2 r i)) (Fin.ext ?_)
  show (sinWord l).toNat % 128 - 64 = l.val / 2
  omega

theorem signed_at (S : FVec Ideal S512x128 .f32) (r : Fin 512) (l : Fin 128) :
    k0_pay76 (F := Ideal) S k0_pay75 (ix2 r l) = if l.val % 2 = 0 then -(S (ix2 r l)) else S (ix2 r l) := by
  pointwise [k0_pay76, k0_pay75]
  rw [parity_eq]
  split
  · exact zero_sub _
  · rfl

theorem rotT_of (T cx sx : FVec Ideal S512x128 .f32) (r : Fin 512) (l p : Fin 128)
    (hp : (flip (ix2 r l)).toNat % 128 = p.val) :
    rotT T cx sx (ix2 r l) = T (ix2 r l) * cx (ix2 r l) + T (ix2 r p) * sx (ix2 r l) := by
  obtain rfl : p = ⟨(flip (ix2 r l)).toNat % 128, Nat.mod_lt _ (by decide)⟩ := Fin.ext hp.symm
  unfold rotT
  generalize flip = L
  pointwise []

/-- The kernel's rotation is the plain one. -/
theorem rotT_at (T : FVec Ideal S512x128 .f32) (co si : FVec Ideal S512x64 .f32) (r : Fin 512) (l : Fin 128) :
    rotT T (k0_pay73 co si) (k0_pay76 (k0_pay74 co si) k0_pay75) (ix2 r l)
      = rot (fun l => T (ix2 r l)) (fun i => co (ix2 r i)) (fun i => si (ix2 r i)) l := by
  have hf := flip_at r l
  unfold rot
  by_cases h : l.val % 2 = 0
  · rw [if_pos h] at hf ⊢
    have hl : l.val + 1 < 128 := by omega
    rw [rotT_of T _ _ r l ⟨l.val + 1, hl⟩ hf, cos_at, signed_at, if_pos h, sinTab_at, mul_comm (T _) (-_), EReal.neg_mul,
      mul_comm (si _), ← sub_eq_add_neg]
    have e1 : evn (half l) = l := Fin.ext (by show 2 * (l.val / 2) = l.val; omega)
    have e2 : odd (half l) = ⟨l.val + 1, hl⟩ := Fin.ext (by show 2 * (l.val / 2) + 1 = l.val + 1; omega)
    rw [e1, e2]
  · rw [if_neg h] at hf ⊢
    have hl : l.val - 1 < 128 := by omega
    rw [rotT_of T _ _ r l ⟨l.val - 1, hl⟩ hf, cos_at, signed_at, if_neg h, sinTab_at, add_comm]
    have e1 : evn (half l) = ⟨l.val - 1, hl⟩ := Fin.ext (by show 2 * (l.val / 2) = l.val - 1; omega)
    have e2 : odd (half l) = l := Fin.ext (by show 2 * (l.val / 2) + 1 = l.val; omega)
    rw [e1, e2]

/-- A head's columns of the codes' product with a slab of weights, times both scales. -/
def headT (C : FVec Ideal S512x5120 .fp8e4m3) (W : FVec Ideal S5120x256 .fp8e4m3) (A : FVec Ideal S512x128 .f32)
    (ws : FVec Ideal S1x128 .f32) (o : ℕ) (h : S512x256.Slices ![0, o] S512x128) : FVec Ideal S512x128 .f32 :=
  mulf (mulf (extractStridedSlice S512x128 ![0, o] (matmul dot_S512x5120_S5120x256_S512x256_1_0_0_1_n_n none
      (shapeCast S512x5120 C shapeCasts_S512x5120_S512x5120) W (constant S512x256 .f32 0x00000000#32)) h) A)
    (broadcastTo S512x128 ws broadcasts_S1x128_S512x128)

theorem headT_at0 (C : FVec Ideal S512x5120 .fp8e4m3) (W : FVec Ideal S5120x256 .fp8e4m3) (A : FVec Ideal S512x128 .f32)
    (ws : FVec Ideal S1x128 .f32) (h) (r : Fin 512) (l : Fin 128) :
    headT C W A ws 0 h (ix2 r l) = (∑ k, C (ix2 r k) * W (ix2 k ⟨l.val, by omega⟩)) * A (ix2 r l) * ws (ix2 0 l) := by
  pointwise [headT]

theorem headT_at1 (C : FVec Ideal S512x5120 .fp8e4m3) (W : FVec Ideal S5120x256 .fp8e4m3) (A : FVec Ideal S512x128 .f32)
    (ws : FVec Ideal S1x128 .f32) (h) (r : Fin 512) (l : Fin 128) :
    headT C W A ws 128 h (ix2 r l) = (∑ k, C (ix2 r k) * W (ix2 k ⟨128 + l.val, by omega⟩)) * A (ix2 r l) * ws (ix2 0 l) := by
  pointwise [headT]

end Cert.Qkv1Ideal.RefValue

end
-- ==== Proof.Qkv1RefHeads.lean ====
module

public import proofs.«01_k».proof.Proof.Qkv1Ref
public import proofs.«01_k».proof.Proof.Qkv1Heads

@[expose] public section

set_option maxRecDepth 16384

noncomputable section

/-! # The reference's heads of queries and keys, entry by entry -/

namespace Cert.Qkv1Ideal.RefValue

open Idealize.ShloMosaic Idealize.ShloMosaic.TcCoe Idealize.SL.Sem
open Cert.Qkv1RefIdeal Cert.Qkv1RefIdeal.Gen Cert.RowNorm Cert.Quantise

/-- The keys' columns of a table, as pairs of entries of each head. -/
def pairsK (V : FVec Ideal S16384x3584 .f32) : FVec Ideal S16384x4x64x2 .f32 :=
  shapeCast S16384x4x64x2 (shapeCast S16384x4x128 (extractStridedSlice S16384x512 ![0, 2560] V slices_S16384x3584_o0_2560_S16384x512)
    shapeCasts_S16384x512_S16384x4x128) shapeCasts_S16384x4x128_S16384x4x64x2

theorem pairsK_at (V : FVec Ideal S16384x3584 .f32) (R : Fin 16384) (hd : Fin 4) (i : Fin 64) (p : Fin 2) (n : Fin 3584)
    (hn : n.val = 2560 + 128 * hd.val + 2 * i.val + p.val) : pairsK V (ix4 R hd i p) = V (ix2 R n) := by
  unfold pairsK
  have e : (shapeCast S16384x4x64x2 (shapeCast S16384x4x128 (extractStridedSlice S16384x512 ![0, 2560] V slices_S16384x3584_o0_2560_S16384x512)
    shapeCasts_S16384x512_S16384x4x128) shapeCasts_S16384x4x128_S16384x4x64x2 : FVec Ideal S16384x4x64x2 .f32) (ix4 R hd i p)
      = V (ix2 R ⟨2560 + (hd.val * 128 + (i.val * 2 + p.val)), by omega⟩) := by
    pointwise []
    exact congrArg (fun n => V (ix2 R n)) (Fin.ext (by dsimp only; omega))
  rw [e]
  exact congrArg (fun n => V (ix2 R n)) (Fin.ext (by dsimp only; omega))

/-- The first and the second entries of the pairs. -/
def fstK (P : FVec Ideal S16384x4x64x2 .f32) : FVec Ideal S16384x4x64 .f32 :=
  shapeCast S16384x4x64 (extractStridedSlice S16384x4x64x1 ![0, 0, 0, 0] P slices_S16384x4x64x2_o0_0_0_0_S16384x4x64x1)
    shapeCasts_S16384x4x64x1_S16384x4x64
def sndK (P : FVec Ideal S16384x4x64x2 .f32) : FVec Ideal S16384x4x64 .f32 :=
  shapeCast S16384x4x64 (extractStridedSlice S16384x4x64x1 ![0, 0, 0, 1] P slices_S16384x4x64x2_o0_0_0_1_S16384x4x64x1)
    shapeCasts_S16384x4x64x1_S16384x4x64

theorem fstK_at (P : FVec Ideal S16384x4x64x2 .f32) (R : Fin 16384) (hd : Fin 4) (i : Fin 64) :
    fstK P (ix3 R hd i) = P (ix4 R hd i 0) := by
  pointwise [fstK]

theorem sndK_at (P : FVec Ideal S16384x4x64x2 .f32) (R : Fin 16384) (hd : Fin 4) (i : Fin 64) :
    sndK P (ix3 R hd i) = P (ix4 R hd i 1) := by
  pointwise [sndK]

/-- The angles' cosines or sines, the same for every head. -/
def wideK (A : FVec Ideal S16384x64 .f32) : FVec Ideal S16384x4x64 .f32 :=
  broadcastTo S16384x4x64 (shapeCast S16384x1x64 A shapeCasts_S16384x64_S16384x1x64) broadcasts_S16384x1x64_S16384x4x64

theorem wideK_at (A : FVec Ideal S16384x64 .f32) (R : Fin 16384) (hd : Fin 4) (i : Fin 64) :
    wideK A (ix3 R hd i) = A (ix2 R i) := by
  pointwise [wideK]

/-- The even and the odd entries laid side by side, then in one row. -/
def weaveK (X Y : FVec Ideal S16384x4x64 .f32) : FVec Ideal S16384x4x128 .f32 :=
  shapeCast S16384x4x128 (concatenate S16384x4x64x2 3 [⟨S16384x4x64x1, shapeCast S16384x4x64x1 X shapeCasts_S16384x4x64_S16384x4x64x1⟩,
    ⟨S16384x4x64x1, shapeCast S16384x4x64x1 Y shapeCasts_S16384x4x64_S16384x4x64x1⟩]
    concatenates_S16384x4x64x1_S16384x4x64x1_S16384x4x64x2_d3) shapeCasts_S16384x4x64x2_S16384x4x128

theorem weaveK_at (X Y : FVec Ideal S16384x4x64 .f32) (R : Fin 16384) (hd : Fin 4) (l : Fin 128) :
    weaveK X Y (ix3 R hd l) = if l.val % 2 = 0 then X (ix3 R hd (half l)) else Y (ix3 R hd (half l)) := by
  pointwise [weaveK]
  by_cases h : l.val % 2 = 0
  · rw [dif_pos (by omega), if_pos h]
    rfl
  · rw [dif_neg (by omega), if_neg h]
    rfl

/-- The rotation of every head. -/
def rotRefK (V : FVec Ideal S16384x3584 .f32) (co si : FVec Ideal S16384x64 .f32) : FVec Ideal S16384x4x128 .f32 :=
  weaveK (subf (mulf (fstK (pairsK V)) (wideK co)) (mulf (sndK (pairsK V)) (wideK si)))
    (addf (mulf (fstK (pairsK V)) (wideK si)) (mulf (sndK (pairsK V)) (wideK co)))

theorem rotRefK_at (V : FVec Ideal S16384x3584 .f32) (co si : FVec Ideal S16384x64 .f32) (R : Fin 16384) (hd : Fin 4) (l : Fin 128) :
    rotRefK V co si (ix3 R hd l)
      = rot (fun l => V (ix2 R ⟨2560 + 128 * hd.val + l.val, by omega⟩)) (fun i => co (ix2 R i)) (fun i => si (ix2 R i)) l := by
  unfold rotRefK
  rw [weaveK_at]
  show (if _ then fstK (pairsK V) _ * wideK co _ - sndK (pairsK V) _ * wideK si _
    else fstK (pairsK V) _ * wideK si _ + sndK (pairsK V) _ * wideK co _) = _
  have e1 := pairsK_at V R hd (half l) 0 ⟨2560 + 128 * hd.val + (evn (half l)).val, by omega⟩ rfl
  have e2 := pairsK_at V R hd (half l) 1 ⟨2560 + 128 * hd.val + (odd (half l)).val, by omega⟩ rfl
  rw [fstK_at, sndK_at, wideK_at, wideK_at, e1, e2]
  rfl

/-- The norm of every head. -/
def normRefK (T : FVec Ideal S16384x4x128 .f32) : FVec Ideal S16384x4x128 .bf16 :=
  truncf .bf16 (divf T (broadcastTo S16384x4x128 (sqrt (addf (divf
    (shapeCast S16384x4x1 (multiReduction .add [2] S16384x4 (mulf T T) 0x00000000#32 reduces_S16384x4x128_S16384x4 (.inl rfl) rfl)
      shapeCasts_S16384x4_S16384x4x1)
    (broadcast S16384x4x1 (Scalar.ofBits .f32 0x43000000#32))) (broadcast S16384x4x1 (Scalar.ofBits .f32 0x358637BD#32))))
    broadcasts_S16384x4x1_S16384x4x128)) bitsLt_bf16_f32

theorem normRefK_at (T : FVec Ideal S16384x4x128 .f32) (R : Fin 16384) (hd : Fin 4) (l : Fin 128) :
    normRefK T (ix3 R hd l) = unitRow (fun l => T (ix3 R hd l)) l := by
  pointwise [normRefK, unitRow]

theorem headRefK_at (V : FVec Ideal S16384x3584 .f32) (co si : FVec Ideal S16384x64 .f32) (R : Fin 16384) (hd : Fin 4) (l : Fin 128) :
    normRefK (rotRefK V co si) (ix3 R hd l)
      = unitRow (rot (fun l => V (ix2 R ⟨2560 + 128 * hd.val + l.val, by omega⟩)) (fun i => co (ix2 R i)) (fun i => si (ix2 R i))) l :=
  (normRefK_at _ R hd l).trans (congrArg (fun g => unitRow g l) (funext fun l => rotRefK_at V co si R hd l))

/-- The queries' columns of a table, as pairs of entries of each head. -/
def pairsQ (V : FVec Ideal S16384x3584 .f32) : FVec Ideal S16384x20x64x2 .f32 :=
  shapeCast S16384x20x64x2 (shapeCast S16384x20x128 (extractStridedSlice S16384x2560 ![0, 0] V slices_S16384x3584_o0_0_S16384x2560)
    shapeCasts_S16384x2560_S16384x20x128) shapeCasts_S16384x20x128_S16384x20x64x2

theorem pairsQ_at (V : FVec Ideal S16384x3584 .f32) (R : Fin 16384) (hd : Fin 20) (i : Fin 64) (p : Fin 2) (n : Fin 3584)
    (hn : n.val = 0 + 128 * hd.val + 2 * i.val + p.val) : pairsQ V (ix4 R hd i p) = V (ix2 R n) := by
  unfold pairsQ
  have e : (shapeCast S16384x20x64x2 (shapeCast S16384x20x128 (extractStridedSlice S16384x2560 ![0, 0] V slices_S16384x3584_o0_0_S16384x2560)
    shapeCasts_S16384x2560_S16384x20x128) shapeCasts_S16384x20x128_S16384x20x64x2 : FVec Ideal S16384x20x64x2 .f32) (ix4 R hd i p)
      = V (ix2 R ⟨0 + (hd.val * 128 + (i.val * 2 + p.val)), by omega⟩) := by
    pointwise []
    exact congrArg (fun n => V (ix2 R n)) (Fin.ext (by dsimp only; omega))
  rw [e]
  exact congrArg (fun n => V (ix2 R n)) (Fin.ext (by dsimp only; omega))

/-- The first and the second entries of the pairs. -/
def fstQ (P : FVec Ideal S16384x20x64x2 .f32) : FVec Ideal S16384x20x64 .f32 :=
  shapeCast S16384x20x64 (extractStridedSlice S16384x20x64x1 ![0, 0, 0, 0] P slices_S16384x20x64x2_o0_0_0_0_S16384x20x64x1)
    shapeCasts_S16384x20x64x1_S16384x20x64
def sndQ (P : FVec Ideal S16384x20x64x2 .f32) : FVec Ideal S16384x20x64 .f32 :=
  shapeCast S16384x20x64 (extractStridedSlice S16384x20x64x1 ![0, 0, 0, 1] P slices_S16384x20x64x2_o0_0_0_1_S16384x20x64x1)
    shapeCasts_S16384x20x64x1_S16384x20x64

theorem fstQ_at (P : FVec Ideal S16384x20x64x2 .f32) (R : Fin 16384) (hd : Fin 20) (i : Fin 64) :
    fstQ P (ix3 R hd i) = P (ix4 R hd i 0) := by
  pointwise [fstQ]

theorem sndQ_at (P : FVec Ideal S16384x20x64x2 .f32) (R : Fin 16384) (hd : Fin 20) (i : Fin 64) :
    sndQ P (ix3 R hd i) = P (ix4 R hd i 1) := by
  pointwise [sndQ]

/-- The angles' cosines or sines, the same for every head. -/
def wideQ (A : FVec Ideal S16384x64 .f32) : FVec Ideal S16384x20x64 .f32 :=
  broadcastTo S16384x20x64 (shapeCast S16384x1x64 A shapeCasts_S16384x64_S16384x1x64) broadcasts_S16384x1x64_S16384x20x64

theorem wideQ_at (A : FVec Ideal S16384x64 .f32) (R : Fin 16384) (hd : Fin 20) (i : Fin 64) :
    wideQ A (ix3 R hd i) = A (ix2 R i) := by
  pointwise [wideQ]

/-- The even and the odd entries laid side by side, then in one row. -/
def weaveQ (X Y : FVec Ideal S16384x20x64 .f32) : FVec Ideal S16384x20x128 .f32 :=
  shapeCast S16384x20x128 (concatenate S16384x20x64x2 3 [⟨S16384x20x64x1, shapeCast S16384x20x64x1 X shapeCasts_S16384x20x64_S16384x20x64x1⟩,
    ⟨S16384x20x64x1, shapeCast S16384x20x64x1 Y shapeCasts_S16384x20x64_S16384x20x64x1⟩]
    concatenates_S16384x20x64x1_S16384x20x64x1_S16384x20x64x2_d3) shapeCasts_S16384x20x64x2_S16384x20x128

theorem weaveQ_at (X Y : FVec Ideal S16384x20x64 .f32) (R : Fin 16384) (hd : Fin 20) (l : Fin 128) :
    weaveQ X Y (ix3 R hd l) = if l.val % 2 = 0 then X (ix3 R hd (half l)) else Y (ix3 R hd (half l)) := by
  pointwise [weaveQ]
  by_cases h : l.val % 2 = 0
  · rw [dif_pos (by omega), if_pos h]
    rfl
  · rw [dif_neg (by omega), if_neg h]
    rfl

/-- The rotation of every head. -/
def rotRefQ (V : FVec Ideal S16384x3584 .f32) (co si : FVec Ideal S16384x64 .f32) : FVec Ideal S16384x20x128 .f32 :=
  weaveQ (subf (mulf (fstQ (pairsQ V)) (wideQ co)) (mulf (sndQ (pairsQ V)) (wideQ si)))
    (addf (mulf (fstQ (pairsQ V)) (wideQ si)) (mulf (sndQ (pairsQ V)) (wideQ co)))

theorem rotRefQ_at (V : FVec Ideal S16384x3584 .f32) (co si : FVec Ideal S16384x64 .f32) (R : Fin 16384) (hd : Fin 20) (l : Fin 128) :
    rotRefQ V co si (ix3 R hd l)
      = rot (fun l => V (ix2 R ⟨0 + 128 * hd.val + l.val, by omega⟩)) (fun i => co (ix2 R i)) (fun i => si (ix2 R i)) l := by
  unfold rotRefQ
  rw [weaveQ_at]
  show (if _ then fstQ (pairsQ V) _ * wideQ co _ - sndQ (pairsQ V) _ * wideQ si _
    else fstQ (pairsQ V) _ * wideQ si _ + sndQ (pairsQ V) _ * wideQ co _) = _
  have e1 := pairsQ_at V R hd (half l) 0 ⟨0 + 128 * hd.val + (evn (half l)).val, by omega⟩ rfl
  have e2 := pairsQ_at V R hd (half l) 1 ⟨0 + 128 * hd.val + (odd (half l)).val, by omega⟩ rfl
  rw [fstQ_at, sndQ_at, wideQ_at, wideQ_at, e1, e2]
  rfl

/-- The norm of every head. -/
def normRefQ (T : FVec Ideal S16384x20x128 .f32) : FVec Ideal S16384x20x128 .bf16 :=
  truncf .bf16 (divf T (broadcastTo S16384x20x128 (sqrt (addf (divf
    (shapeCast S16384x20x1 (multiReduction .add [2] S16384x20 (mulf T T) 0x00000000#32 reduces_S16384x20x128_S16384x20 (.inl rfl) rfl)
      shapeCasts_S16384x20_S16384x20x1)
    (broadcast S16384x20x1 (Scalar.ofBits .f32 0x43000000#32))) (broadcast S16384x20x1 (Scalar.ofBits .f32 0x358637BD#32))))
    broadcasts_S16384x20x1_S16384x20x128)) bitsLt_bf16_f32

theorem normRefQ_at (T : FVec Ideal S16384x20x128 .f32) (R : Fin 16384) (hd : Fin 20) (l : Fin 128) :
    normRefQ T (ix3 R hd l) = unitRow (fun l => T (ix3 R hd l)) l := by
  pointwise [normRefQ, unitRow]

theorem headRefQ_at (V : FVec Ideal S16384x3584 .f32) (co si : FVec Ideal S16384x64 .f32) (R : Fin 16384) (hd : Fin 20) (l : Fin 128) :
    normRefQ (rotRefQ V co si) (ix3 R hd l)
      = unitRow (rot (fun l => V (ix2 R ⟨0 + 128 * hd.val + l.val, by omega⟩)) (fun i => co (ix2 R i)) (fun i => si (ix2 R i))) l :=
  (normRefQ_at _ R hd l).trans (congrArg (fun g => unitRow g l) (funext fun l => rotRefQ_at V co si R hd l))

theorem flatK_at (T : FVec Ideal S16384x4x128 .bf16) (R : Fin 16384) (n : Fin 512) :
    shapeCast S16384x512 T shapeCasts_S16384x4x128_S16384x512 (ix2 R n) = T (ix3 R ⟨n.val / 128, by omega⟩ ⟨n.val % 128, by omega⟩) := by
  pointwise []

theorem turnQ_at (T : FVec Ideal S16384x20x128 .bf16) (b : Fin 2) (n : Fin 2560) (s : Fin 8192) (R : Fin 16384)
    (h : R.val = b.val * 8192 + s.val) :
    Cert.Qkv1RefIdeal.Gen.k0_pay2 (F := Ideal) T (ix3 b n s) = T (ix3 R ⟨n.val / 128, by omega⟩ ⟨n.val % 128, by omega⟩) := by
  rw [show R = ⟨b.val * 8192 + s.val, by omega⟩ from Fin.ext h]
  pointwise [Cert.Qkv1RefIdeal.Gen.k0_pay2]

/-- The reference's keys as stored. -/
theorem ref_k (P Q : FVec Ideal S16384x3584 .f32) (ws : FVec Ideal S1x3584 .f32) (co si : FVec Ideal S16384x64 .f32) (R : Fin 16384) (n : Fin 512) :
    Cert.Qkv1RefIdeal.Gen.k0_pay3 (F := Ideal) (Cert.Qkv1RefIdeal.Gen.k0_pay13 (F := Ideal) co) (Cert.Qkv1RefIdeal.Gen.k0_pay14 (F := Ideal) si)
        (Cert.Qkv1RefIdeal.Gen.k0_pay15 (F := Ideal) P Q ws) (ix2 R n)
      = unitRow (rot (fun l => Cert.Qkv1RefIdeal.Gen.k0_pay11 (F := Ideal) P Q ws (ix2 R ⟨2560 + 128 * (n.val / 128) + l.val, by omega⟩))
          (fun i => co (ix2 R i)) (fun i => si (ix2 R i))) ⟨n.val % 128, by omega⟩ :=
  (show _ = shapeCast S16384x512 (normRefK (rotRefK (Cert.Qkv1RefIdeal.Gen.k0_pay11 (F := Ideal) P Q ws) co si)) shapeCasts_S16384x4x128_S16384x512 (ix2 R n)
    from rfl).trans ((flatK_at _ R n).trans (headRefK_at _ co si R _ _))

/-- The reference's transposed queries as stored. -/
theorem ref_qt (P Q : FVec Ideal S16384x3584 .f32) (ws : FVec Ideal S1x3584 .f32) (co si : FVec Ideal S16384x64 .f32) (b : Fin 2) (n : Fin 2560)
    (s : Fin 8192) (R : Fin 16384) (h : R.val = b.val * 8192 + s.val) :
    Cert.Qkv1RefIdeal.Gen.k0_pay2 (F := Ideal) (Cert.Qkv1RefIdeal.Gen.k0_pay12 (F := Ideal) P Q ws co si) (ix3 b n s)
      = unitRow (rot (fun l => Cert.Qkv1RefIdeal.Gen.k0_pay11 (F := Ideal) P Q ws (ix2 R ⟨0 + 128 * (n.val / 128) + l.val, by omega⟩))
          (fun i => co (ix2 R i)) (fun i => si (ix2 R i))) ⟨n.val % 128, by omega⟩ := by
  refine (turnQ_at _ b n s R h).trans ?_
  exact (show _ = normRefQ (rotRefQ (Cert.Qkv1RefIdeal.Gen.k0_pay11 (F := Ideal) P Q ws) co si) _ from rfl).trans (headRefQ_at _ co si R _ _)

end Cert.Qkv1Ideal.RefValue

end
-- ==== Proof.Qkv1Loop.lean ====
module

public import proofs.«01_k».proof.Proof.Gen.Qkv1Ideal.Value
public import Idealize.ShloMosaic.Lib.Pipeline.ValueKit
public import proofs.«01_k».proof.Proof.RowNorm

@[expose] public section

set_option maxRecDepth 16384

noncomputable section

/-! # One trip of the kernel's norm-and-quantise loop

A trip takes 32 rows of the block. It adds up the squares of each row tile by tile, forms the
reciprocal of the row's root mean square, finds the largest normed entry, and stores the row's
scale and its 40 tiles of codes. Here each value the trip forms is read at a row and a lane. -/

namespace Cert.Qkv1Ideal.Loop

open Idealize.ShloMosaic Idealize.ShloMosaic.TcCoe Idealize.SL.Sem
open Idealize.ShloMosaic.Pipeline (Dat)
open Cert.Qkv1Ideal Cert.Qkv1Ideal.Gen Cert.RowNorm Cert.Quantise

variable (arg2 : Memref sig .tc .vmem S512x5120 .bf16) (arg3 : Memref sig .tc .vmem S1x5120 .f32)
  (X_arg2 : BufTy.Contents (Elt Ideal) arg2.view.ty) (X_arg3 : BufTy.Contents (Elt Ideal) arg3.view.ty)

/-- Row `R` of the block the loop reads. -/
def row (R : Fin 512) (j : Fin 5120) : EReal := arg2.view.read (Elt Ideal) X_arg2 (ix2 R j)

/-- The norm's weights. -/
def wrow (j : Fin 5120) : EReal := arg3.view.read (Elt Ideal) X_arg3 (ix2 0 j)

/-- A row's tile is loaded at its place in the row. -/
theorem row_load (k : Fin k0_t1_loop.trips) (r : Fin 32) (R : Fin 512) (hR : R.val = 32 * k.val + r.val)
    (off : Fin 2 → ℕ) (inb : ∀ a, off a + (![32, 128] : Fin 2 → ℕ) a ≤ S512x5120.size a) (b : ℕ) (hoff : off = ![32 * k.val, b])
    (hb : b ≤ 4992) (l : Fin 128) :
    View.readAt (Elt Ideal) arg2.view (Rect.unit (s := S512x5120) off ![32, 128] inb).toLoadRect X_arg2 (ix2 r l)
      = ext (row arg2 X_arg2 R) (b + l.val) := by
  subst hoff
  have h : b + l.val < 5120 := by have := l.isLt; omega
  rw [ext, dif_pos h, View.readAt_eq_ld]
  refine View.ld_unit_apply_of _ _ _ _ _ _ fun a => ?_
  fin_cases a
  · exact hR
  · rfl

/-- A tile of the weights is loaded at its place in the row. -/
theorem wrow_load (b : ℕ) (inb : ∀ a, (![0, b] : Fin 2 → ℕ) a + (![1, 128] : Fin 2 → ℕ) a ≤ S1x5120.size a) (hb : b ≤ 4992) (l : Fin 128) :
    View.readAt (Elt Ideal) arg3.view (Rect.unit (s := S1x5120) ![0, b] ![1, 128] inb).toLoadRect X_arg3 (ix2 0 l)
      = ext (wrow arg3 X_arg3) (b + l.val) := by
  have h : b + l.val < 5120 := by have := l.isLt; omega
  rw [ext, dif_pos h, View.readAt_eq_ld]
  refine View.ld_unit_apply_of _ _ _ _ _ _ fun a => ?_
  fin_cases a <;> rfl

theorem inv_d : Named.named (F := Ideal) κ "inv_d" (φ := .f32) 0x394CCCCD#32 = ((1 / 5120 : ℝ) : EReal) :=
  IdealRules.named_const.ideal_named_scalar _ _ _ _ rfl

/-- The lanes' sums of squares, without the last tile. -/
theorem squares (k : Fin k0_t1_loop.trips) (r : Fin 32) (R : Fin 512) (hR : R.val = 32 * k.val + r.val) (l : Fin 128) :
    trip_k0_t1.sl.v1123 (F := Ideal) arg2 X_arg2 k (ix2 r l)
      = runSum (fun c => ext (row arg2 X_arg2 R) (128 * c + l.val) * ext (row arg2 X_arg2 R) (128 * c + l.val)) 39 := by
  sl_unfold_run_names
  pointwise []
  simp only [row_load arg2 X_arg2 k r R hR _ _ _ (k0_off1_eq k) (by norm_num) l, row_load arg2 X_arg2 k r R hR _ _ _ (k0_off2_eq k) (by norm_num) l, row_load arg2 X_arg2 k r R hR _ _ _ (k0_off3_eq k) (by norm_num) l, row_load arg2 X_arg2 k r R hR _ _ _ (k0_off4_eq k) (by norm_num) l, row_load arg2 X_arg2 k r R hR _ _ _ (k0_off5_eq k) (by norm_num) l, row_load arg2 X_arg2 k r R hR _ _ _ (k0_off6_eq k) (by norm_num) l, row_load arg2 X_arg2 k r R hR _ _ _ (k0_off7_eq k) (by norm_num) l, row_load arg2 X_arg2 k r R hR _ _ _ (k0_off8_eq k) (by norm_num) l, row_load arg2 X_arg2 k r R hR _ _ _ (k0_off9_eq k) (by norm_num) l, row_load arg2 X_arg2 k r R hR _ _ _ (k0_off10_eq k) (by norm_num) l, row_load arg2 X_arg2 k r R hR _ _ _ (k0_off11_eq k) (by norm_num) l, row_load arg2 X_arg2 k r R hR _ _ _ (k0_off12_eq k) (by norm_num) l, row_load arg2 X_arg2 k r R hR _ _ _ (k0_off13_eq k) (by norm_num) l, row_load arg2 X_arg2 k r R hR _ _ _ (k0_off14_eq k) (by norm_num) l, row_load arg2 X_arg2 k r R hR _ _ _ (k0_off15_eq k) (by norm_num) l, row_load arg2 X_arg2 k r R hR _ _ _ (k0_off16_eq k) (by norm_num) l, row_load arg2 X_arg2 k r R hR _ _ _ (k0_off17_eq k) (by norm_num) l, row_load arg2 X_arg2 k r R hR _ _ _ (k0_off18_eq k) (by norm_num) l, row_load arg2 X_arg2 k r R hR _ _ _ (k0_off19_eq k) (by norm_num) l, row_load arg2 X_arg2 k r R hR _ _ _ (k0_off20_eq k) (by norm_num) l, row_load arg2 X_arg2 k r R hR _ _ _ (k0_off21_eq k) (by norm_num) l, row_load arg2 X_arg2 k r R hR _ _ _ (k0_off22_eq k) (by norm_num) l, row_load arg2 X_arg2 k r R hR _ _ _ (k0_off23_eq k) (by norm_num) l, row_load arg2 X_arg2 k r R hR _ _ _ (k0_off24_eq k) (by norm_num) l, row_load arg2 X_arg2 k r R hR _ _ _ (k0_off25_eq k) (by norm_num) l, row_load arg2 X_arg2 k r R hR _ _ _ (k0_off26_eq k) (by norm_num) l, row_load arg2 X_arg2 k r R hR _ _ _ (k0_off27_eq k) (by norm_num) l, row_load arg2 X_arg2 k r R hR _ _ _ (k0_off28_eq k) (by norm_num) l, row_load arg2 X_arg2 k r R hR _ _ _ (k0_off29_eq k) (by norm_num) l, row_load arg2 X_arg2 k r R hR _ _ _ (k0_off30_eq k) (by norm_num) l, row_load arg2 X_arg2 k r R hR _ _ _ (k0_off31_eq k) (by norm_num) l, row_load arg2 X_arg2 k r R hR _ _ _ (k0_off32_eq k) (by norm_num) l, row_load arg2 X_arg2 k r R hR _ _ _ (k0_off33_eq k) (by norm_num) l, row_load arg2 X_arg2 k r R hR _ _ _ (k0_off34_eq k) (by norm_num) l, row_load arg2 X_arg2 k r R hR _ _ _ (k0_off35_eq k) (by norm_num) l, row_load arg2 X_arg2 k r R hR _ _ _ (k0_off36_eq k) (by norm_num) l, row_load arg2 X_arg2 k r R hR _ _ _ (k0_off37_eq k) (by norm_num) l, row_load arg2 X_arg2 k r R hR _ _ _ (k0_off38_eq k) (by norm_num) l, row_load arg2 X_arg2 k r R hR _ _ _ (k0_off39_eq k) (by norm_num) l]
  simp only [runSum, Nat.reduceMul, zero_add]

/-- The reciprocal of the row's root mean square. -/
theorem root (k : Fin k0_t1_loop.trips) (r : Fin 32) (R : Fin 512) (hR : R.val = 32 * k.val + r.val) (l : Fin 128)
    (inb : ∀ a, k0_off40 k a + (![32, 128] : Fin 2 → ℕ) a ≤ S512x5120.size a) :
    k0_pay7 (F := Ideal) (trip_k0_t1.sl.v1123 (F := Ideal) arg2 X_arg2 k)
      (View.readAt (Elt Ideal) arg2.view (Rect.unit (s := S512x5120) (k0_off40 k) ![32, 128] inb).toLoadRect X_arg2) (ix2 r l)
      = rinv (row arg2 X_arg2 R) := by
  pointwise [k0_pay7]
  simp only [squares arg2 X_arg2 k r R hR, row_load arg2 X_arg2 k r R hR _ _ _ (k0_off40_eq k) (by norm_num)]
  rw [inv_d]
  exact congrArg (fun z => Ideal.div 1 (Ideal.sqrt (z * ((1 / 5120 : ℝ) : EReal) + eps)))
    ((sum_lanes fun n => ext (row arg2 X_arg2 R) n * ext (row arg2 X_arg2 R) n).trans
      (Finset.sum_congr rfl fun j _ => by rw [ext_val]))

/-- The lanes' largest normed entries. -/
theorem largest (k : Fin k0_t1_loop.trips) (r : Fin 32) (R : Fin 512) (hR : R.val = 32 * k.val + r.val) (l : Fin 128) :
    trip_k0_t1.sl.v1500 (F := Ideal) arg2 arg3 X_arg2 X_arg3 k (ix2 r l)
      = runMax (fun c => FloatOps.absf (F := Ideal) (φ := .f32)
          (ext (normed (row arg2 X_arg2 R) (wrow arg3 X_arg3)) (128 * c + l.val))) 40 := by
  simp only [trip_k0_t1.sl.v1472, trip_k0_t1.sl.v1353, trip_k0_t1.sl.v1445, trip_k0_t1.sl.v1264, trip_k0_t1.sl.v981, trip_k0_t1.sl.v1207, trip_k0_t1.sl.v1463, trip_k0_t1.sl.v1229, trip_k0_t1.sl.v1461, trip_k0_t1.sl.v1174, trip_k0_t1.sl.v1382, trip_k0_t1.sl.v966, trip_k0_t1.sl.v1477, trip_k0_t1.sl.v1006, trip_k0_t1.sl.v1101, trip_k0_t1.sl.v1497, trip_k0_t1.sl.v1462, trip_k0_t1.sl.v1468, trip_k0_t1.sl.v1281, trip_k0_t1.sl.v1355, trip_k0_t1.sl.v1338, trip_k0_t1.sl.v1272, trip_k0_t1.sl.v1191, trip_k0_t1.sl.v1391, trip_k0_t1.sl.v1310, trip_k0_t1.sl.v1372, trip_k0_t1.sl.v1189, trip_k0_t1.sl.v1203, trip_k0_t1.sl.v1418, trip_k0_t1.sl.v951, trip_k0_t1.sl.v1297, trip_k0_t1.sl.v1211, trip_k0_t1.sl.r_2, trip_k0_t1.sl.v1408, trip_k0_t1.sl.v1329, trip_k0_t1.sl.v1400, trip_k0_t1.sl.v1194, trip_k0_t1.sl.v1255, trip_k0_t1.sl.v1171, trip_k0_t1.sl.v1452, trip_k0_t1.sl.v1399, trip_k0_t1.sl.r_3, trip_k0_t1.sl.v1270, trip_k0_t1.sl.v991, trip_k0_t1.sl.v1342, trip_k0_t1.sl.v1495, trip_k0_t1.sl.v946, trip_k0_t1.sl.v1336, trip_k0_t1.sl.v1234, trip_k0_t1.sl.v1459, trip_k0_t1.sl.v1324, trip_k0_t1.sl.v1257, trip_k0_t1.sl.v1383, trip_k0_t1.sl.v1175, trip_k0_t1.sl.v1066, trip_k0_t1.sl.v1417, trip_k0_t1.sl.v1405, trip_k0_t1.sl.v1021, trip_k0_t1.sl.v1300, trip_k0_t1.sl.v1320, trip_k0_t1.sl.v1328, trip_k0_t1.sl.v1283, trip_k0_t1.sl.v1036, trip_k0_t1.sl.v1315, trip_k0_t1.sl.v1210, trip_k0_t1.sl.v1481, trip_k0_t1.sl.v1096, trip_k0_t1.sl.v1071, trip_k0_t1.sl.v1407, trip_k0_t1.sl.v1279, trip_k0_t1.sl.v1344, trip_k0_t1.sl.v1453, trip_k0_t1.sl.v1299, trip_k0_t1.sl.v1275, trip_k0_t1.sl.v1450, trip_k0_t1.sl.v1201, trip_k0_t1.sl.v1311, trip_k0_t1.sl.v1482, trip_k0_t1.sl.v1351, trip_k0_t1.sl.v1252, trip_k0_t1.sl.v1261, trip_k0_t1.sl.v1335, trip_k0_t1.sl.v1364, trip_k0_t1.sl.v1319, trip_k0_t1.sl.v1489, trip_k0_t1.sl.v1435, trip_k0_t1.sl.v1381, trip_k0_t1.sl.v1246, trip_k0_t1.sl.v1464, trip_k0_t1.sl.v1362, trip_k0_t1.sl.v1346, trip_k0_t1.sl.v1290, trip_k0_t1.sl.v1333, trip_k0_t1.sl.v1238, trip_k0_t1.sl.v1369, trip_k0_t1.sl.v1441, trip_k0_t1.sl.v1437, trip_k0_t1.sl.v1471, trip_k0_t1.sl.v1371, trip_k0_t1.sl.v1292, trip_k0_t1.sl.v1173, trip_k0_t1.sl.v1373, trip_k0_t1.sl.v1263, trip_k0_t1.sl.r_1, trip_k0_t1.sl.v1225, trip_k0_t1.sl.v1293, trip_k0_t1.sl.v1031, trip_k0_t1.sl.v1086, trip_k0_t1.sl.v1432, trip_k0_t1.sl.v1347, trip_k0_t1.sl.v1227, trip_k0_t1.sl.v1390, trip_k0_t1.sl.v1219, trip_k0_t1.sl.v1317, trip_k0_t1.sl.v1202, trip_k0_t1.sl.v1011, trip_k0_t1.sl.cst_380, trip_k0_t1.sl.v1387, trip_k0_t1.sl.v1230, trip_k0_t1.sl.v1444, trip_k0_t1.sl.v1490, trip_k0_t1.sl.v1498, trip_k0_t1.sl.v1396, trip_k0_t1.sl.v1494, trip_k0_t1.sl.v1428, trip_k0_t1.sl.v1491, trip_k0_t1.sl.v1392, trip_k0_t1.sl.v1365, trip_k0_t1.sl.v1200, trip_k0_t1.sl.v1410, trip_k0_t1.sl.v1076, trip_k0_t1.sl.v961, trip_k0_t1.sl.v1470, trip_k0_t1.sl.v1301, trip_k0_t1.sl.v1354, trip_k0_t1.sl.v1182, trip_k0_t1.sl.v1309, trip_k0_t1.sl.v1106, trip_k0_t1.sl.v1389, trip_k0_t1.sl.v1454, trip_k0_t1.sl.v1284, trip_k0_t1.sl.v1318, trip_k0_t1.sl.v1327, trip_k0_t1.sl.v1337, trip_k0_t1.sl.r, trip_k0_t1.sl.v1306, trip_k0_t1.sl.v1218, trip_k0_t1.sl.v1228, trip_k0_t1.sl.v1380, trip_k0_t1.sl.v1499, trip_k0_t1.sl.v1436, trip_k0_t1.sl.v1180, trip_k0_t1.sl.v986, trip_k0_t1.sl.v976, trip_k0_t1.sl.v1488, trip_k0_t1.sl.v1247, trip_k0_t1.sl.v1473, trip_k0_t1.sl.v1116, trip_k0_t1.sl.v1212, trip_k0_t1.sl.v1419, trip_k0_t1.sl.v1374, trip_k0_t1.sl.v941, trip_k0_t1.sl.v1056, trip_k0_t1.sl.v1245, trip_k0_t1.sl.v1061, trip_k0_t1.sl.v971, trip_k0_t1.sl.v1236, trip_k0_t1.sl.v1237, trip_k0_t1.sl.v1363, trip_k0_t1.sl.v1091, trip_k0_t1.sl.v1248, trip_k0_t1.sl.v1455, trip_k0_t1.sl.v1121, trip_k0_t1.sl.v996, trip_k0_t1.sl.v1184, trip_k0_t1.sl.v1111, trip_k0_t1.sl.v1480, trip_k0_t1.sl.v1051, trip_k0_t1.sl.v1274, trip_k0_t1.sl.v1479, trip_k0_t1.sl.v1192, trip_k0_t1.sl.v1291, trip_k0_t1.sl.v1426, trip_k0_t1.sl.v1046, trip_k0_t1.sl.v1326, trip_k0_t1.sl.v1398, trip_k0_t1.sl.v1001, trip_k0_t1.sl.v1273, trip_k0_t1.sl.v1216, trip_k0_t1.sl.v936, trip_k0_t1.sl.v956, trip_k0_t1.sl.v1265, trip_k0_t1.sl.v1288, trip_k0_t1.sl.v1446, trip_k0_t1.sl.v1500, trip_k0_t1.sl.v1409, trip_k0_t1.sl.v1176, trip_k0_t1.sl.v1198, trip_k0_t1.sl.v1356, trip_k0_t1.sl.v1427, trip_k0_t1.sl.v1220, trip_k0_t1.sl.v1434, trip_k0_t1.sl.v1486, trip_k0_t1.sl.v1256, trip_k0_t1.sl.v1282, trip_k0_t1.sl.v1308, trip_k0_t1.sl.v1185, trip_k0_t1.sl.v1360, trip_k0_t1.sl.v1378, trip_k0_t1.sl.v1041, trip_k0_t1.sl.v1193, trip_k0_t1.sl.v1016, trip_k0_t1.sl.v1081, trip_k0_t1.sl.v931, trip_k0_t1.sl.v1243, trip_k0_t1.sl.v1221, trip_k0_t1.sl.v1254, trip_k0_t1.sl.v1416, trip_k0_t1.sl.v1443, trip_k0_t1.sl.v1239, trip_k0_t1.sl.v1401, trip_k0_t1.sl.v1026, trip_k0_t1.sl.v1209, trip_k0_t1.sl.v1414, trip_k0_t1.sl.v1266, trip_k0_t1.sl.v1302, trip_k0_t1.sl.v1423, trip_k0_t1.sl.v1345, trip_k0_t1.sl.v1183, trip_k0_t1.sl.v1425]
  pointwise [k0_pay8]
  simp only [root arg2 X_arg2 k r R hR]
  simp only [row_load arg2 X_arg2 k r R hR _ _ _ (k0_off1_eq k) (by norm_num) l, row_load arg2 X_arg2 k r R hR _ _ _ (k0_off2_eq k) (by norm_num) l, row_load arg2 X_arg2 k r R hR _ _ _ (k0_off3_eq k) (by norm_num) l, row_load arg2 X_arg2 k r R hR _ _ _ (k0_off4_eq k) (by norm_num) l, row_load arg2 X_arg2 k r R hR _ _ _ (k0_off5_eq k) (by norm_num) l, row_load arg2 X_arg2 k r R hR _ _ _ (k0_off6_eq k) (by norm_num) l, row_load arg2 X_arg2 k r R hR _ _ _ (k0_off7_eq k) (by norm_num) l, row_load arg2 X_arg2 k r R hR _ _ _ (k0_off8_eq k) (by norm_num) l, row_load arg2 X_arg2 k r R hR _ _ _ (k0_off9_eq k) (by norm_num) l, row_load arg2 X_arg2 k r R hR _ _ _ (k0_off10_eq k) (by norm_num) l, row_load arg2 X_arg2 k r R hR _ _ _ (k0_off11_eq k) (by norm_num) l, row_load arg2 X_arg2 k r R hR _ _ _ (k0_off12_eq k) (by norm_num) l, row_load arg2 X_arg2 k r R hR _ _ _ (k0_off13_eq k) (by norm_num) l, row_load arg2 X_arg2 k r R hR _ _ _ (k0_off14_eq k) (by norm_num) l, row_load arg2 X_arg2 k r R hR _ _ _ (k0_off15_eq k) (by norm_num) l, row_load arg2 X_arg2 k r R hR _ _ _ (k0_off16_eq k) (by norm_num) l, row_load arg2 X_arg2 k r R hR _ _ _ (k0_off17_eq k) (by norm_num) l, row_load arg2 X_arg2 k r R hR _ _ _ (k0_off18_eq k) (by norm_num) l, row_load arg2 X_arg2 k r R hR _ _ _ (k0_off19_eq k) (by norm_num) l, row_load arg2 X_arg2 k r R hR _ _ _ (k0_off20_eq k) (by norm_num) l, row_load arg2 X_arg2 k r R hR _ _ _ (k0_off21_eq k) (by norm_num) l, row_load arg2 X_arg2 k r R hR _ _ _ (k0_off22_eq k) (by norm_num) l, row_load arg2 X_arg2 k r R hR _ _ _ (k0_off23_eq k) (by norm_num) l, row_load arg2 X_arg2 k r R hR _ _ _ (k0_off24_eq k) (by norm_num) l, row_load arg2 X_arg2 k r R hR _ _ _ (k0_off25_eq k) (by norm_num) l, row_load arg2 X_arg2 k r R hR _ _ _ (k0_off26_eq k) (by norm_num) l, row_load arg2 X_arg2 k r R hR _ _ _ (k0_off27_eq k) (by norm_num) l, row_load arg2 X_arg2 k r R hR _ _ _ (k0_off28_eq k) (by norm_num) l, row_load arg2 X_arg2 k r R hR _ _ _ (k0_off29_eq k) (by norm_num) l, row_load arg2 X_arg2 k r R hR _ _ _ (k0_off30_eq k) (by norm_num) l, row_load arg2 X_arg2 k r R hR _ _ _ (k0_off31_eq k) (by norm_num) l, row_load arg2 X_arg2 k r R hR _ _ _ (k0_off32_eq k) (by norm_num) l, row_load arg2 X_arg2 k r R hR _ _ _ (k0_off33_eq k) (by norm_num) l, row_load arg2 X_arg2 k r R hR _ _ _ (k0_off34_eq k) (by norm_num) l, row_load arg2 X_arg2 k r R hR _ _ _ (k0_off35_eq k) (by norm_num) l, row_load arg2 X_arg2 k r R hR _ _ _ (k0_off36_eq k) (by norm_num) l, row_load arg2 X_arg2 k r R hR _ _ _ (k0_off37_eq k) (by norm_num) l, row_load arg2 X_arg2 k r R hR _ _ _ (k0_off38_eq k) (by norm_num) l, row_load arg2 X_arg2 k r R hR _ _ _ (k0_off39_eq k) (by norm_num) l, row_load arg2 X_arg2 k r R hR _ _ _ (k0_off40_eq k) (by norm_num) l]
  simp only [wrow_load arg3 X_arg3 0 _ (by norm_num) l, wrow_load arg3 X_arg3 128 _ (by norm_num) l, wrow_load arg3 X_arg3 256 _ (by norm_num) l, wrow_load arg3 X_arg3 384 _ (by norm_num) l, wrow_load arg3 X_arg3 512 _ (by norm_num) l, wrow_load arg3 X_arg3 640 _ (by norm_num) l, wrow_load arg3 X_arg3 768 _ (by norm_num) l, wrow_load arg3 X_arg3 896 _ (by norm_num) l, wrow_load arg3 X_arg3 1024 _ (by norm_num) l, wrow_load arg3 X_arg3 1152 _ (by norm_num) l, wrow_load arg3 X_arg3 1280 _ (by norm_num) l, wrow_load arg3 X_arg3 1408 _ (by norm_num) l, wrow_load arg3 X_arg3 1536 _ (by norm_num) l, wrow_load arg3 X_arg3 1664 _ (by norm_num) l, wrow_load arg3 X_arg3 1792 _ (by norm_num) l, wrow_load arg3 X_arg3 1920 _ (by norm_num) l, wrow_load arg3 X_arg3 2048 _ (by norm_num) l, wrow_load arg3 X_arg3 2176 _ (by norm_num) l, wrow_load arg3 X_arg3 2304 _ (by norm_num) l, wrow_load arg3 X_arg3 2432 _ (by norm_num) l, wrow_load arg3 X_arg3 2560 _ (by norm_num) l, wrow_load arg3 X_arg3 2688 _ (by norm_num) l, wrow_load arg3 X_arg3 2816 _ (by norm_num) l, wrow_load arg3 X_arg3 2944 _ (by norm_num) l, wrow_load arg3 X_arg3 3072 _ (by norm_num) l, wrow_load arg3 X_arg3 3200 _ (by norm_num) l, wrow_load arg3 X_arg3 3328 _ (by norm_num) l, wrow_load arg3 X_arg3 3456 _ (by norm_num) l, wrow_load arg3 X_arg3 3584 _ (by norm_num) l, wrow_load arg3 X_arg3 3712 _ (by norm_num) l, wrow_load arg3 X_arg3 3840 _ (by norm_num) l, wrow_load arg3 X_arg3 3968 _ (by norm_num) l, wrow_load arg3 X_arg3 4096 _ (by norm_num) l, wrow_load arg3 X_arg3 4224 _ (by norm_num) l, wrow_load arg3 X_arg3 4352 _ (by norm_num) l, wrow_load arg3 X_arg3 4480 _ (by norm_num) l, wrow_load arg3 X_arg3 4608 _ (by norm_num) l, wrow_load arg3 X_arg3 4736 _ (by norm_num) l, wrow_load arg3 X_arg3 4864 _ (by norm_num) l, wrow_load arg3 X_arg3 4992 _ (by norm_num) l]
  simp only [runMax, Nat.reduceMul, zero_add, ext_normed]

/-- The row's scale. -/
theorem scale_at (k : Fin k0_t1_loop.trips) (r : Fin 32) (R : Fin 512) (hR : R.val = 32 * k.val + r.val) :
    trip_k0_t1.sl.v1508 (F := Ideal) arg2 arg3 X_arg2 X_arg3 k (ix2 r 0)
      = scale (amax (normed (row arg2 X_arg2 R) (wrow arg3 X_arg3))) := by
  simp only [trip_k0_t1.sl.v1507, trip_k0_t1.sl.cst_537, trip_k0_t1.sl.v1502, trip_k0_t1.sl.v1505, trip_k0_t1.sl.v1503, trip_k0_t1.sl.cst_380, trip_k0_t1.sl.v1504, trip_k0_t1.sl.cst_536, trip_k0_t1.sl.v1508, trip_k0_t1.sl.v1506, trip_k0_t1.sl.cst_534, trip_k0_t1.sl.v1501]
  pointwise []
  simp only [largest arg2 arg3 X_arg2 X_arg3 k r R hR]
  rw [max_lanes]
  simp only [ext_val]
  rfl

/-- The code of an entry of the block. -/
def codeOf (y : S512x5120.Idx) : EReal :=
  codeMul (normed (row arg2 X_arg2 (y 0)) (wrow arg3 X_arg3) (y 1))
    (scale (amax (normed (row arg2 X_arg2 (y 0)) (wrow arg3 X_arg3))))

/-- A stored tile whose entries are the codes of the normed row holds the codes of the block. -/
theorem tile_of (k : Fin k0_t1_loop.trips) (y : S512x5120.Idx) (off : Fin 2 → ℕ) (b : ℕ) (hoff : off = ![32 * k.val, b])
    (w : S32x128.Idx → EReal)
    (h : ∀ (r : Fin 32) (R : Fin 512) (l : Fin 128), R.val = 32 * k.val + r.val →
      w (ix2 r l) = codeMul (ext (normed (row arg2 X_arg2 R) (wrow arg3 X_arg3)) (b + l.val))
        (scale (amax (normed (row arg2 X_arg2 R) (wrow arg3 X_arg3))))) :
    View.TileAt (Val := Elt Ideal) (S := S512x5120) (e := .fp8e4m3) y off S32x128.size w (codeOf arg2 arg3 X_arg2 X_arg3 y) := by
  subst hoff
  refine fun (x : S32x128.Idx) hx => ?_
  have h0 : (y 0).val = 32 * k.val + (x 0).val := hx 0
  have h1 : (y 1).val = b + (x 1).val := hx 1
  have e : x = ix2 (x 0) (x 1) := by funext a; fin_cases a <;> rfl
  refine (congrArg w e).trans ((h (x 0) (y 0) (x 1) h0).trans ?_)
  rw [show (b + (x 1).val) = (y 1).val from h1.symm]
  exact congrArg (fun z => codeMul z _) (ext_val _ (y 1))

/-- A row of tiles: an entry left of a tile's end lies in the tile or left of it. -/
theorem cover_step (k : Fin k0_t1_loop.trips) (y : S512x5120.Idx) (off : Fin 2 → ℕ) (inb) (b : ℕ) (hoff : off = ![32 * k.val, b])
    (w : S32x128.Idx → EReal) (L : List (View.Piece (Elt Ideal) S512x5120 .fp8e4m3))
    (h0 : 32 * k.val ≤ (y 0).val ∧ (y 0).val < 32 * k.val + 32) (h1 : (y 1).val < b + 128)
    (h : (y 1).val < b → ∃ p ∈ L, y ∈ p.1.set) :
    ∃ p ∈ (⟨Rect.unit off S32x128.size inb, w⟩ : View.Piece (Elt Ideal) S512x5120 .fp8e4m3) :: L, y ∈ p.1.set := by
  subst hoff
  by_cases hb : (y 1).val < b
  · obtain ⟨p, hp, hy⟩ := h hb
    exact ⟨p, List.mem_cons_of_mem _ hp, hy⟩
  · refine ⟨⟨Rect.unit ![32 * k.val, b] S32x128.size inb, w⟩, List.mem_cons_self, ?_⟩
    show y ∈ (Rect.unit (s := S512x5120) ![32 * k.val, b] S32x128.size inb).set
    exact Rect.mem_set_unit.mpr fun a => by fin_cases a <;> [exact h0; exact ⟨not_lt.mp hb, h1⟩]

set_option maxHeartbeats 4000000 in
/-- A trip's tiles hold the codes of its rows. -/
theorem trip_codes (𝒱 : Variants) (c : Dev nD) (bd : Option 𝒱.V) (i : grid0.Coords) (harg2 : arg2.IsWhole) (harg3 : arg3.IsWhole) (arg4 : Memref sig .tc .vmem S5120x3584 .fp8e4m3) (harg4 : arg4.IsWhole) (arg5 : Memref sig .tc .vmem S1x3584 .f32) (harg5 : arg5.IsWhole) (arg6 : Memref sig .tc .vmem S512x64 .f32) (harg6 : arg6.IsWhole) (arg7 : Memref sig .tc .vmem S512x64 .f32) (harg7 : arg7.IsWhole) (arg8 : Memref sig .tc .vmem S512x5120 .fp8e4m3) (harg8 : arg8.IsWhole) (arg9 : Memref sig .tc .vmem S1x1x512 .f32) (harg9 : arg9.IsWhole) (arg10 : Memref sig .tc .vmem S1x2560x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S1x512x512 .bf16) (harg13 : arg13.IsWhole) (arg14 : Memref sig .tc .vmem S512x128 .f32) (harg14 : arg14.IsWhole) (k : Fin k0_t1_loop.trips) (y : S512x5120.Idx) :
    View.AllAt (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 X_arg2 X_arg3 k).1 y (codeOf arg2 arg3 X_arg2 X_arg3 y) := by
  unfold trip_k0_t1
  dsimp only
  repeat' (first
    | exact View.allAt_nil _ _
    | refine View.allAt_cons_unit _ _ _ _ _ ?_ ?_)
  · exact tile_of arg2 arg3 X_arg2 X_arg3 k y _ 4992 (k0_off40_eq k) _ fun r R l hR => by
      simp only [trip_k0_t1.sl.v1512, trip_k0_t1.sl.v1511, trip_k0_t1.sl.v1510, trip_k0_t1.sl.v1507, trip_k0_t1.sl.cst_537, trip_k0_t1.sl.r]
      pointwise [k0_pay69]
      simp only [root arg2 X_arg2 k r R hR, scale_at arg2 arg3 X_arg2 X_arg3 k r R hR, row_load arg2 X_arg2 k r R hR _ _ _ (k0_off40_eq k) (by norm_num) l, wrow_load arg3 X_arg3 4992 _ (by norm_num) l]
      simp only [ext_normed, zero_add]
      rfl
  · exact tile_of arg2 arg3 X_arg2 X_arg3 k y _ 4864 (k0_off39_eq k) _ fun r R l hR => by
      simp only [trip_k0_t1.sl.v2095, trip_k0_t1.sl.v2094, trip_k0_t1.sl.v2092, trip_k0_t1.sl.v2090, trip_k0_t1.sl.v1512, trip_k0_t1.sl.v1511, trip_k0_t1.sl.v1510, trip_k0_t1.sl.v1507, trip_k0_t1.sl.cst_537, trip_k0_t1.sl.v1489, trip_k0_t1.sl.v1488, trip_k0_t1.sl.v1486, trip_k0_t1.sl.r, trip_k0_t1.sl.v1121, trip_k0_t1.sl.v1521, trip_k0_t1.sl.cst_542, trip_k0_t1.sl.v1523, trip_k0_t1.sl.cst_536]
      pointwise [k0_pay69]
      simp only [root arg2 X_arg2 k r R hR, scale_at arg2 arg3 X_arg2 X_arg3 k r R hR, row_load arg2 X_arg2 k r R hR _ _ _ (k0_off39_eq k) (by norm_num) l, wrow_load arg3 X_arg3 4864 _ (by norm_num) l]
      simp only [ext_normed, zero_add]
      rfl
  · exact tile_of arg2 arg3 X_arg2 X_arg3 k y _ 4736 (k0_off38_eq k) _ fun r R l hR => by
      simp only [trip_k0_t1.sl.v2080, trip_k0_t1.sl.v2079, trip_k0_t1.sl.v2077, trip_k0_t1.sl.v2075, trip_k0_t1.sl.v1512, trip_k0_t1.sl.v1511, trip_k0_t1.sl.v1510, trip_k0_t1.sl.v1507, trip_k0_t1.sl.cst_537, trip_k0_t1.sl.v1480, trip_k0_t1.sl.v1479, trip_k0_t1.sl.v1477, trip_k0_t1.sl.r, trip_k0_t1.sl.v1116, trip_k0_t1.sl.v1521, trip_k0_t1.sl.cst_542, trip_k0_t1.sl.v1523, trip_k0_t1.sl.cst_536]
      pointwise [k0_pay69]
      simp only [root arg2 X_arg2 k r R hR, scale_at arg2 arg3 X_arg2 X_arg3 k r R hR, row_load arg2 X_arg2 k r R hR _ _ _ (k0_off38_eq k) (by norm_num) l, wrow_load arg3 X_arg3 4736 _ (by norm_num) l]
      simp only [ext_normed, zero_add]
      rfl
  · exact tile_of arg2 arg3 X_arg2 X_arg3 k y _ 4608 (k0_off37_eq k) _ fun r R l hR => by
      simp only [trip_k0_t1.sl.v2065, trip_k0_t1.sl.v2064, trip_k0_t1.sl.v2062, trip_k0_t1.sl.v2060, trip_k0_t1.sl.v1512, trip_k0_t1.sl.v1511, trip_k0_t1.sl.v1510, trip_k0_t1.sl.v1507, trip_k0_t1.sl.cst_537, trip_k0_t1.sl.v2059, trip_k0_t1.sl.v2058, trip_k0_t1.sl.r_3, trip_k0_t1.sl.v1468, trip_k0_t1.sl.r, trip_k0_t1.sl.v1111, trip_k0_t1.sl.v1521, trip_k0_t1.sl.cst_542, trip_k0_t1.sl.v1523, trip_k0_t1.sl.cst_536]
      pointwise [k0_pay69]
      simp only [root arg2 X_arg2 k r R hR, scale_at arg2 arg3 X_arg2 X_arg3 k r R hR, row_load arg2 X_arg2 k r R hR _ _ _ (k0_off37_eq k) (by norm_num) l, wrow_load arg3 X_arg3 4608 _ (by norm_num) l]
      simp only [ext_normed, zero_add]
      rfl
  · exact tile_of arg2 arg3 X_arg2 X_arg3 k y _ 4480 (k0_off36_eq k) _ fun r R l hR => by
      simp only [trip_k0_t1.sl.v2050, trip_k0_t1.sl.v2049, trip_k0_t1.sl.v2047, trip_k0_t1.sl.v2045, trip_k0_t1.sl.v1512, trip_k0_t1.sl.v1511, trip_k0_t1.sl.v1510, trip_k0_t1.sl.v1507, trip_k0_t1.sl.cst_537, trip_k0_t1.sl.v1462, trip_k0_t1.sl.v1461, trip_k0_t1.sl.v1459, trip_k0_t1.sl.r, trip_k0_t1.sl.v1106, trip_k0_t1.sl.v1521, trip_k0_t1.sl.cst_542, trip_k0_t1.sl.v1523, trip_k0_t1.sl.cst_536]
      pointwise [k0_pay69]
      simp only [root arg2 X_arg2 k r R hR, scale_at arg2 arg3 X_arg2 X_arg3 k r R hR, row_load arg2 X_arg2 k r R hR _ _ _ (k0_off36_eq k) (by norm_num) l, wrow_load arg3 X_arg3 4480 _ (by norm_num) l]
      simp only [ext_normed, zero_add]
      rfl
  · exact tile_of arg2 arg3 X_arg2 X_arg3 k y _ 4352 (k0_off35_eq k) _ fun r R l hR => by
      simp only [trip_k0_t1.sl.v2035, trip_k0_t1.sl.v2034, trip_k0_t1.sl.v2032, trip_k0_t1.sl.v2030, trip_k0_t1.sl.v1512, trip_k0_t1.sl.v1511, trip_k0_t1.sl.v1510, trip_k0_t1.sl.v1507, trip_k0_t1.sl.cst_537, trip_k0_t1.sl.v1453, trip_k0_t1.sl.v1452, trip_k0_t1.sl.v1450, trip_k0_t1.sl.r, trip_k0_t1.sl.v1101, trip_k0_t1.sl.v1521, trip_k0_t1.sl.cst_542, trip_k0_t1.sl.v1523, trip_k0_t1.sl.cst_536]
      pointwise [k0_pay69]
      simp only [root arg2 X_arg2 k r R hR, scale_at arg2 arg3 X_arg2 X_arg3 k r R hR, row_load arg2 X_arg2 k r R hR _ _ _ (k0_off35_eq k) (by norm_num) l, wrow_load arg3 X_arg3 4352 _ (by norm_num) l]
      simp only [ext_normed, zero_add]
      rfl
  · exact tile_of arg2 arg3 X_arg2 X_arg3 k y _ 4224 (k0_off34_eq k) _ fun r R l hR => by
      simp only [trip_k0_t1.sl.v2020, trip_k0_t1.sl.v2019, trip_k0_t1.sl.v2017, trip_k0_t1.sl.v2015, trip_k0_t1.sl.v1512, trip_k0_t1.sl.v1511, trip_k0_t1.sl.v1510, trip_k0_t1.sl.v1507, trip_k0_t1.sl.cst_537, trip_k0_t1.sl.v1444, trip_k0_t1.sl.v1443, trip_k0_t1.sl.v1441, trip_k0_t1.sl.r, trip_k0_t1.sl.v1096, trip_k0_t1.sl.v1521, trip_k0_t1.sl.cst_542, trip_k0_t1.sl.v1523, trip_k0_t1.sl.cst_536]
      pointwise [k0_pay69]
      simp only [root arg2 X_arg2 k r R hR, scale_at arg2 arg3 X_arg2 X_arg3 k r R hR, row_load arg2 X_arg2 k r R hR _ _ _ (k0_off34_eq k) (by norm_num) l, wrow_load arg3 X_arg3 4224 _ (by norm_num) l]
      simp only [ext_normed, zero_add]
      rfl
  · exact tile_of arg2 arg3 X_arg2 X_arg3 k y _ 4096 (k0_off33_eq k) _ fun r R l hR => by
      simp only [trip_k0_t1.sl.v2005, trip_k0_t1.sl.v2004, trip_k0_t1.sl.v2002, trip_k0_t1.sl.v2000, trip_k0_t1.sl.v1512, trip_k0_t1.sl.v1511, trip_k0_t1.sl.v1510, trip_k0_t1.sl.v1507, trip_k0_t1.sl.cst_537, trip_k0_t1.sl.v1435, trip_k0_t1.sl.v1434, trip_k0_t1.sl.v1432, trip_k0_t1.sl.r, trip_k0_t1.sl.v1091, trip_k0_t1.sl.v1521, trip_k0_t1.sl.cst_542, trip_k0_t1.sl.v1523, trip_k0_t1.sl.cst_536]
      pointwise [k0_pay69]
      simp only [root arg2 X_arg2 k r R hR, scale_at arg2 arg3 X_arg2 X_arg3 k r R hR, row_load arg2 X_arg2 k r R hR _ _ _ (k0_off33_eq k) (by norm_num) l, wrow_load arg3 X_arg3 4096 _ (by norm_num) l]
      simp only [ext_normed, zero_add]
      rfl
  · exact tile_of arg2 arg3 X_arg2 X_arg3 k y _ 3968 (k0_off32_eq k) _ fun r R l hR => by
      simp only [trip_k0_t1.sl.v1990, trip_k0_t1.sl.v1989, trip_k0_t1.sl.v1987, trip_k0_t1.sl.v1985, trip_k0_t1.sl.v1512, trip_k0_t1.sl.v1511, trip_k0_t1.sl.v1510, trip_k0_t1.sl.v1507, trip_k0_t1.sl.cst_537, trip_k0_t1.sl.v1426, trip_k0_t1.sl.v1425, trip_k0_t1.sl.v1423, trip_k0_t1.sl.r, trip_k0_t1.sl.v1086, trip_k0_t1.sl.v1521, trip_k0_t1.sl.cst_542, trip_k0_t1.sl.v1523, trip_k0_t1.sl.cst_536]
      pointwise [k0_pay69]
      simp only [root arg2 X_arg2 k r R hR, scale_at arg2 arg3 X_arg2 X_arg3 k r R hR, row_load arg2 X_arg2 k r R hR _ _ _ (k0_off32_eq k) (by norm_num) l, wrow_load arg3 X_arg3 3968 _ (by norm_num) l]
      simp only [ext_normed, zero_add]
      rfl
  · exact tile_of arg2 arg3 X_arg2 X_arg3 k y _ 3840 (k0_off31_eq k) _ fun r R l hR => by
      simp only [trip_k0_t1.sl.v1975, trip_k0_t1.sl.v1974, trip_k0_t1.sl.v1972, trip_k0_t1.sl.v1970, trip_k0_t1.sl.v1512, trip_k0_t1.sl.v1511, trip_k0_t1.sl.v1510, trip_k0_t1.sl.v1507, trip_k0_t1.sl.cst_537, trip_k0_t1.sl.v1417, trip_k0_t1.sl.v1416, trip_k0_t1.sl.v1414, trip_k0_t1.sl.r, trip_k0_t1.sl.v1081, trip_k0_t1.sl.v1521, trip_k0_t1.sl.cst_542, trip_k0_t1.sl.v1523, trip_k0_t1.sl.cst_536]
      pointwise [k0_pay69]
      simp only [root arg2 X_arg2 k r R hR, scale_at arg2 arg3 X_arg2 X_arg3 k r R hR, row_load arg2 X_arg2 k r R hR _ _ _ (k0_off31_eq k) (by norm_num) l, wrow_load arg3 X_arg3 3840 _ (by norm_num) l]
      simp only [ext_normed, zero_add]
      rfl
  · exact tile_of arg2 arg3 X_arg2 X_arg3 k y _ 3712 (k0_off30_eq k) _ fun r R l hR => by
      simp only [trip_k0_t1.sl.v1960, trip_k0_t1.sl.v1959, trip_k0_t1.sl.v1957, trip_k0_t1.sl.v1955, trip_k0_t1.sl.v1512, trip_k0_t1.sl.v1511, trip_k0_t1.sl.v1510, trip_k0_t1.sl.v1507, trip_k0_t1.sl.cst_537, trip_k0_t1.sl.v1408, trip_k0_t1.sl.v1407, trip_k0_t1.sl.v1405, trip_k0_t1.sl.r, trip_k0_t1.sl.v1076, trip_k0_t1.sl.v1521, trip_k0_t1.sl.cst_542, trip_k0_t1.sl.v1523, trip_k0_t1.sl.cst_536]
      pointwise [k0_pay69]
      simp only [root arg2 X_arg2 k r R hR, scale_at arg2 arg3 X_arg2 X_arg3 k r R hR, row_load arg2 X_arg2 k r R hR _ _ _ (k0_off30_eq k) (by norm_num) l, wrow_load arg3 X_arg3 3712 _ (by norm_num) l]
      simp only [ext_normed, zero_add]
      rfl
  · exact tile_of arg2 arg3 X_arg2 X_arg3 k y _ 3584 (k0_off29_eq k) _ fun r R l hR => by
      simp only [trip_k0_t1.sl.v1945, trip_k0_t1.sl.v1944, trip_k0_t1.sl.v1942, trip_k0_t1.sl.v1940, trip_k0_t1.sl.v1512, trip_k0_t1.sl.v1511, trip_k0_t1.sl.v1510, trip_k0_t1.sl.v1507, trip_k0_t1.sl.cst_537, trip_k0_t1.sl.v1399, trip_k0_t1.sl.v1398, trip_k0_t1.sl.v1396, trip_k0_t1.sl.r, trip_k0_t1.sl.v1071, trip_k0_t1.sl.v1521, trip_k0_t1.sl.cst_542, trip_k0_t1.sl.v1523, trip_k0_t1.sl.cst_536]
      pointwise [k0_pay69]
      simp only [root arg2 X_arg2 k r R hR, scale_at arg2 arg3 X_arg2 X_arg3 k r R hR, row_load arg2 X_arg2 k r R hR _ _ _ (k0_off29_eq k) (by norm_num) l, wrow_load arg3 X_arg3 3584 _ (by norm_num) l]
      simp only [ext_normed, zero_add]
      rfl
  · exact tile_of arg2 arg3 X_arg2 X_arg3 k y _ 3456 (k0_off28_eq k) _ fun r R l hR => by
      simp only [trip_k0_t1.sl.v1930, trip_k0_t1.sl.v1929, trip_k0_t1.sl.v1927, trip_k0_t1.sl.v1925, trip_k0_t1.sl.v1512, trip_k0_t1.sl.v1511, trip_k0_t1.sl.v1510, trip_k0_t1.sl.v1507, trip_k0_t1.sl.cst_537, trip_k0_t1.sl.v1390, trip_k0_t1.sl.v1389, trip_k0_t1.sl.v1387, trip_k0_t1.sl.r, trip_k0_t1.sl.v1066, trip_k0_t1.sl.v1521, trip_k0_t1.sl.cst_542, trip_k0_t1.sl.v1523, trip_k0_t1.sl.cst_536]
      pointwise [k0_pay69]
      simp only [root arg2 X_arg2 k r R hR, scale_at arg2 arg3 X_arg2 X_arg3 k r R hR, row_load arg2 X_arg2 k r R hR _ _ _ (k0_off28_eq k) (by norm_num) l, wrow_load arg3 X_arg3 3456 _ (by norm_num) l]
      simp only [ext_normed, zero_add]
      rfl
  · exact tile_of arg2 arg3 X_arg2 X_arg3 k y _ 3328 (k0_off27_eq k) _ fun r R l hR => by
      simp only [trip_k0_t1.sl.v1915, trip_k0_t1.sl.v1914, trip_k0_t1.sl.v1912, trip_k0_t1.sl.v1910, trip_k0_t1.sl.v1512, trip_k0_t1.sl.v1511, trip_k0_t1.sl.v1510, trip_k0_t1.sl.v1507, trip_k0_t1.sl.cst_537, trip_k0_t1.sl.v1381, trip_k0_t1.sl.v1380, trip_k0_t1.sl.v1378, trip_k0_t1.sl.r, trip_k0_t1.sl.v1061, trip_k0_t1.sl.v1521, trip_k0_t1.sl.cst_542, trip_k0_t1.sl.v1523, trip_k0_t1.sl.cst_536]
      pointwise [k0_pay69]
      simp only [root arg2 X_arg2 k r R hR, scale_at arg2 arg3 X_arg2 X_arg3 k r R hR, row_load arg2 X_arg2 k r R hR _ _ _ (k0_off27_eq k) (by norm_num) l, wrow_load arg3 X_arg3 3328 _ (by norm_num) l]
      simp only [ext_normed, zero_add]
      rfl
  · exact tile_of arg2 arg3 X_arg2 X_arg3 k y _ 3200 (k0_off26_eq k) _ fun r R l hR => by
      simp only [trip_k0_t1.sl.v1900, trip_k0_t1.sl.v1899, trip_k0_t1.sl.v1897, trip_k0_t1.sl.v1895, trip_k0_t1.sl.v1512, trip_k0_t1.sl.v1511, trip_k0_t1.sl.v1510, trip_k0_t1.sl.v1507, trip_k0_t1.sl.cst_537, trip_k0_t1.sl.v1372, trip_k0_t1.sl.v1371, trip_k0_t1.sl.v1369, trip_k0_t1.sl.r, trip_k0_t1.sl.v1056, trip_k0_t1.sl.v1521, trip_k0_t1.sl.cst_542, trip_k0_t1.sl.v1523, trip_k0_t1.sl.cst_536]
      pointwise [k0_pay69]
      simp only [root arg2 X_arg2 k r R hR, scale_at arg2 arg3 X_arg2 X_arg3 k r R hR, row_load arg2 X_arg2 k r R hR _ _ _ (k0_off26_eq k) (by norm_num) l, wrow_load arg3 X_arg3 3200 _ (by norm_num) l]
      simp only [ext_normed, zero_add]
      rfl
  · exact tile_of arg2 arg3 X_arg2 X_arg3 k y _ 3072 (k0_off25_eq k) _ fun r R l hR => by
      simp only [trip_k0_t1.sl.v1885, trip_k0_t1.sl.v1884, trip_k0_t1.sl.v1882, trip_k0_t1.sl.v1880, trip_k0_t1.sl.v1512, trip_k0_t1.sl.v1511, trip_k0_t1.sl.v1510, trip_k0_t1.sl.v1507, trip_k0_t1.sl.cst_537, trip_k0_t1.sl.v1363, trip_k0_t1.sl.v1362, trip_k0_t1.sl.v1360, trip_k0_t1.sl.r, trip_k0_t1.sl.v1051, trip_k0_t1.sl.v1521, trip_k0_t1.sl.cst_542, trip_k0_t1.sl.v1523, trip_k0_t1.sl.cst_536]
      pointwise [k0_pay69]
      simp only [root arg2 X_arg2 k r R hR, scale_at arg2 arg3 X_arg2 X_arg3 k r R hR, row_load arg2 X_arg2 k r R hR _ _ _ (k0_off25_eq k) (by norm_num) l, wrow_load arg3 X_arg3 3072 _ (by norm_num) l]
      simp only [ext_normed, zero_add]
      rfl
  · exact tile_of arg2 arg3 X_arg2 X_arg3 k y _ 2944 (k0_off24_eq k) _ fun r R l hR => by
      simp only [trip_k0_t1.sl.v1870, trip_k0_t1.sl.v1869, trip_k0_t1.sl.v1867, trip_k0_t1.sl.v1865, trip_k0_t1.sl.v1512, trip_k0_t1.sl.v1511, trip_k0_t1.sl.v1510, trip_k0_t1.sl.v1507, trip_k0_t1.sl.cst_537, trip_k0_t1.sl.v1354, trip_k0_t1.sl.v1353, trip_k0_t1.sl.v1351, trip_k0_t1.sl.r, trip_k0_t1.sl.v1046, trip_k0_t1.sl.v1521, trip_k0_t1.sl.cst_542, trip_k0_t1.sl.v1523, trip_k0_t1.sl.cst_536]
      pointwise [k0_pay69]
      simp only [root arg2 X_arg2 k r R hR, scale_at arg2 arg3 X_arg2 X_arg3 k r R hR, row_load arg2 X_arg2 k r R hR _ _ _ (k0_off24_eq k) (by norm_num) l, wrow_load arg3 X_arg3 2944 _ (by norm_num) l]
      simp only [ext_normed, zero_add]
      rfl
  · exact tile_of arg2 arg3 X_arg2 X_arg3 k y _ 2816 (k0_off23_eq k) _ fun r R l hR => by
      simp only [trip_k0_t1.sl.v1855, trip_k0_t1.sl.v1854, trip_k0_t1.sl.v1852, trip_k0_t1.sl.v1850, trip_k0_t1.sl.v1512, trip_k0_t1.sl.v1511, trip_k0_t1.sl.v1510, trip_k0_t1.sl.v1507, trip_k0_t1.sl.cst_537, trip_k0_t1.sl.v1345, trip_k0_t1.sl.v1344, trip_k0_t1.sl.v1342, trip_k0_t1.sl.r, trip_k0_t1.sl.v1041, trip_k0_t1.sl.v1521, trip_k0_t1.sl.cst_542, trip_k0_t1.sl.v1523, trip_k0_t1.sl.cst_536]
      pointwise [k0_pay69]
      simp only [root arg2 X_arg2 k r R hR, scale_at arg2 arg3 X_arg2 X_arg3 k r R hR, row_load arg2 X_arg2 k r R hR _ _ _ (k0_off23_eq k) (by norm_num) l, wrow_load arg3 X_arg3 2816 _ (by norm_num) l]
      simp only [ext_normed, zero_add]
      rfl
  · exact tile_of arg2 arg3 X_arg2 X_arg3 k y _ 2688 (k0_off22_eq k) _ fun r R l hR => by
      simp only [trip_k0_t1.sl.v1840, trip_k0_t1.sl.v1839, trip_k0_t1.sl.v1837, trip_k0_t1.sl.v1835, trip_k0_t1.sl.v1512, trip_k0_t1.sl.v1511, trip_k0_t1.sl.v1510, trip_k0_t1.sl.v1507, trip_k0_t1.sl.cst_537, trip_k0_t1.sl.v1336, trip_k0_t1.sl.v1335, trip_k0_t1.sl.v1333, trip_k0_t1.sl.r, trip_k0_t1.sl.v1036, trip_k0_t1.sl.v1521, trip_k0_t1.sl.cst_542, trip_k0_t1.sl.v1523, trip_k0_t1.sl.cst_536]
      pointwise [k0_pay69]
      simp only [root arg2 X_arg2 k r R hR, scale_at arg2 arg3 X_arg2 X_arg3 k r R hR, row_load arg2 X_arg2 k r R hR _ _ _ (k0_off22_eq k) (by norm_num) l, wrow_load arg3 X_arg3 2688 _ (by norm_num) l]
      simp only [ext_normed, zero_add]
      rfl
  · exact tile_of arg2 arg3 X_arg2 X_arg3 k y _ 2560 (k0_off21_eq k) _ fun r R l hR => by
      simp only [trip_k0_t1.sl.v1825, trip_k0_t1.sl.v1824, trip_k0_t1.sl.v1822, trip_k0_t1.sl.v1820, trip_k0_t1.sl.v1512, trip_k0_t1.sl.v1511, trip_k0_t1.sl.v1510, trip_k0_t1.sl.v1507, trip_k0_t1.sl.cst_537, trip_k0_t1.sl.v1327, trip_k0_t1.sl.v1326, trip_k0_t1.sl.v1324, trip_k0_t1.sl.r, trip_k0_t1.sl.v1031, trip_k0_t1.sl.v1521, trip_k0_t1.sl.cst_542, trip_k0_t1.sl.v1523, trip_k0_t1.sl.cst_536]
      pointwise [k0_pay69]
      simp only [root arg2 X_arg2 k r R hR, scale_at arg2 arg3 X_arg2 X_arg3 k r R hR, row_load arg2 X_arg2 k r R hR _ _ _ (k0_off21_eq k) (by norm_num) l, wrow_load arg3 X_arg3 2560 _ (by norm_num) l]
      simp only [ext_normed, zero_add]
      rfl
  · exact tile_of arg2 arg3 X_arg2 X_arg3 k y _ 2432 (k0_off20_eq k) _ fun r R l hR => by
      simp only [trip_k0_t1.sl.v1810, trip_k0_t1.sl.v1809, trip_k0_t1.sl.v1807, trip_k0_t1.sl.v1805, trip_k0_t1.sl.v1512, trip_k0_t1.sl.v1511, trip_k0_t1.sl.v1510, trip_k0_t1.sl.v1507, trip_k0_t1.sl.cst_537, trip_k0_t1.sl.v1318, trip_k0_t1.sl.v1317, trip_k0_t1.sl.v1315, trip_k0_t1.sl.r, trip_k0_t1.sl.v1026, trip_k0_t1.sl.v1521, trip_k0_t1.sl.cst_542, trip_k0_t1.sl.v1523, trip_k0_t1.sl.cst_536]
      pointwise [k0_pay69]
      simp only [root arg2 X_arg2 k r R hR, scale_at arg2 arg3 X_arg2 X_arg3 k r R hR, row_load arg2 X_arg2 k r R hR _ _ _ (k0_off20_eq k) (by norm_num) l, wrow_load arg3 X_arg3 2432 _ (by norm_num) l]
      simp only [ext_normed, zero_add]
      rfl
  · exact tile_of arg2 arg3 X_arg2 X_arg3 k y _ 2304 (k0_off19_eq k) _ fun r R l hR => by
      simp only [trip_k0_t1.sl.v1795, trip_k0_t1.sl.v1794, trip_k0_t1.sl.v1792, trip_k0_t1.sl.v1790, trip_k0_t1.sl.v1512, trip_k0_t1.sl.v1511, trip_k0_t1.sl.v1510, trip_k0_t1.sl.v1507, trip_k0_t1.sl.cst_537, trip_k0_t1.sl.v1309, trip_k0_t1.sl.v1308, trip_k0_t1.sl.v1306, trip_k0_t1.sl.r, trip_k0_t1.sl.v1021, trip_k0_t1.sl.v1521, trip_k0_t1.sl.cst_542, trip_k0_t1.sl.v1523, trip_k0_t1.sl.cst_536]
      pointwise [k0_pay69]
      simp only [root arg2 X_arg2 k r R hR, scale_at arg2 arg3 X_arg2 X_arg3 k r R hR, row_load arg2 X_arg2 k r R hR _ _ _ (k0_off19_eq k) (by norm_num) l, wrow_load arg3 X_arg3 2304 _ (by norm_num) l]
      simp only [ext_normed, zero_add]
      rfl
  · exact tile_of arg2 arg3 X_arg2 X_arg3 k y _ 2176 (k0_off18_eq k) _ fun r R l hR => by
      simp only [trip_k0_t1.sl.v1780, trip_k0_t1.sl.v1779, trip_k0_t1.sl.v1777, trip_k0_t1.sl.v1775, trip_k0_t1.sl.v1512, trip_k0_t1.sl.v1511, trip_k0_t1.sl.v1510, trip_k0_t1.sl.v1507, trip_k0_t1.sl.cst_537, trip_k0_t1.sl.v1300, trip_k0_t1.sl.v1299, trip_k0_t1.sl.v1297, trip_k0_t1.sl.r, trip_k0_t1.sl.v1016, trip_k0_t1.sl.v1521, trip_k0_t1.sl.cst_542, trip_k0_t1.sl.v1523, trip_k0_t1.sl.cst_536]
      pointwise [k0_pay69]
      simp only [root arg2 X_arg2 k r R hR, scale_at arg2 arg3 X_arg2 X_arg3 k r R hR, row_load arg2 X_arg2 k r R hR _ _ _ (k0_off18_eq k) (by norm_num) l, wrow_load arg3 X_arg3 2176 _ (by norm_num) l]
      simp only [ext_normed, zero_add]
      rfl
  · exact tile_of arg2 arg3 X_arg2 X_arg3 k y _ 2048 (k0_off17_eq k) _ fun r R l hR => by
      simp only [trip_k0_t1.sl.v1765, trip_k0_t1.sl.v1764, trip_k0_t1.sl.v1762, trip_k0_t1.sl.v1760, trip_k0_t1.sl.v1512, trip_k0_t1.sl.v1511, trip_k0_t1.sl.v1510, trip_k0_t1.sl.v1507, trip_k0_t1.sl.cst_537, trip_k0_t1.sl.v1291, trip_k0_t1.sl.v1290, trip_k0_t1.sl.v1288, trip_k0_t1.sl.r, trip_k0_t1.sl.v1011, trip_k0_t1.sl.v1521, trip_k0_t1.sl.cst_542, trip_k0_t1.sl.v1523, trip_k0_t1.sl.cst_536]
      pointwise [k0_pay69]
      simp only [root arg2 X_arg2 k r R hR, scale_at arg2 arg3 X_arg2 X_arg3 k r R hR, row_load arg2 X_arg2 k r R hR _ _ _ (k0_off17_eq k) (by norm_num) l, wrow_load arg3 X_arg3 2048 _ (by norm_num) l]
      simp only [ext_normed, zero_add]
      rfl
  · exact tile_of arg2 arg3 X_arg2 X_arg3 k y _ 1920 (k0_off16_eq k) _ fun r R l hR => by
      simp only [trip_k0_t1.sl.v1750, trip_k0_t1.sl.v1749, trip_k0_t1.sl.v1747, trip_k0_t1.sl.v1745, trip_k0_t1.sl.v1512, trip_k0_t1.sl.v1511, trip_k0_t1.sl.v1510, trip_k0_t1.sl.v1507, trip_k0_t1.sl.cst_537, trip_k0_t1.sl.v1282, trip_k0_t1.sl.v1281, trip_k0_t1.sl.v1279, trip_k0_t1.sl.r, trip_k0_t1.sl.v1006, trip_k0_t1.sl.v1521, trip_k0_t1.sl.cst_542, trip_k0_t1.sl.v1523, trip_k0_t1.sl.cst_536]
      pointwise [k0_pay69]
      simp only [root arg2 X_arg2 k r R hR, scale_at arg2 arg3 X_arg2 X_arg3 k r R hR, row_load arg2 X_arg2 k r R hR _ _ _ (k0_off16_eq k) (by norm_num) l, wrow_load arg3 X_arg3 1920 _ (by norm_num) l]
      simp only [ext_normed, zero_add]
      rfl
  · exact tile_of arg2 arg3 X_arg2 X_arg3 k y _ 1792 (k0_off15_eq k) _ fun r R l hR => by
      simp only [trip_k0_t1.sl.v1735, trip_k0_t1.sl.v1734, trip_k0_t1.sl.v1732, trip_k0_t1.sl.v1730, trip_k0_t1.sl.v1512, trip_k0_t1.sl.v1511, trip_k0_t1.sl.v1510, trip_k0_t1.sl.v1507, trip_k0_t1.sl.cst_537, trip_k0_t1.sl.v1273, trip_k0_t1.sl.v1272, trip_k0_t1.sl.v1270, trip_k0_t1.sl.r, trip_k0_t1.sl.v1001, trip_k0_t1.sl.v1521, trip_k0_t1.sl.cst_542, trip_k0_t1.sl.v1523, trip_k0_t1.sl.cst_536]
      pointwise [k0_pay69]
      simp only [root arg2 X_arg2 k r R hR, scale_at arg2 arg3 X_arg2 X_arg3 k r R hR, row_load arg2 X_arg2 k r R hR _ _ _ (k0_off15_eq k) (by norm_num) l, wrow_load arg3 X_arg3 1792 _ (by norm_num) l]
      simp only [ext_normed, zero_add]
      rfl
  · exact tile_of arg2 arg3 X_arg2 X_arg3 k y _ 1664 (k0_off14_eq k) _ fun r R l hR => by
      simp only [trip_k0_t1.sl.v1720, trip_k0_t1.sl.v1719, trip_k0_t1.sl.v1717, trip_k0_t1.sl.v1715, trip_k0_t1.sl.v1512, trip_k0_t1.sl.v1511, trip_k0_t1.sl.v1510, trip_k0_t1.sl.v1507, trip_k0_t1.sl.cst_537, trip_k0_t1.sl.v1264, trip_k0_t1.sl.v1263, trip_k0_t1.sl.v1261, trip_k0_t1.sl.r, trip_k0_t1.sl.v996, trip_k0_t1.sl.v1521, trip_k0_t1.sl.cst_542, trip_k0_t1.sl.v1523, trip_k0_t1.sl.cst_536]
      pointwise [k0_pay69]
      simp only [root arg2 X_arg2 k r R hR, scale_at arg2 arg3 X_arg2 X_arg3 k r R hR, row_load arg2 X_arg2 k r R hR _ _ _ (k0_off14_eq k) (by norm_num) l, wrow_load arg3 X_arg3 1664 _ (by norm_num) l]
      simp only [ext_normed, zero_add]
      rfl
  · exact tile_of arg2 arg3 X_arg2 X_arg3 k y _ 1536 (k0_off13_eq k) _ fun r R l hR => by
      simp only [trip_k0_t1.sl.v1705, trip_k0_t1.sl.v1704, trip_k0_t1.sl.v1702, trip_k0_t1.sl.v1700, trip_k0_t1.sl.v1512, trip_k0_t1.sl.v1511, trip_k0_t1.sl.v1510, trip_k0_t1.sl.v1507, trip_k0_t1.sl.cst_537, trip_k0_t1.sl.v1255, trip_k0_t1.sl.v1254, trip_k0_t1.sl.v1252, trip_k0_t1.sl.r, trip_k0_t1.sl.v991, trip_k0_t1.sl.v1521, trip_k0_t1.sl.cst_542, trip_k0_t1.sl.v1523, trip_k0_t1.sl.cst_536]
      pointwise [k0_pay69]
      simp only [root arg2 X_arg2 k r R hR, scale_at arg2 arg3 X_arg2 X_arg3 k r R hR, row_load arg2 X_arg2 k r R hR _ _ _ (k0_off13_eq k) (by norm_num) l, wrow_load arg3 X_arg3 1536 _ (by norm_num) l]
      simp only [ext_normed, zero_add]
      rfl
  · exact tile_of arg2 arg3 X_arg2 X_arg3 k y _ 1408 (k0_off12_eq k) _ fun r R l hR => by
      simp only [trip_k0_t1.sl.v1690, trip_k0_t1.sl.v1689, trip_k0_t1.sl.v1687, trip_k0_t1.sl.v1685, trip_k0_t1.sl.v1512, trip_k0_t1.sl.v1511, trip_k0_t1.sl.v1510, trip_k0_t1.sl.v1507, trip_k0_t1.sl.cst_537, trip_k0_t1.sl.v1246, trip_k0_t1.sl.v1245, trip_k0_t1.sl.v1243, trip_k0_t1.sl.r, trip_k0_t1.sl.v986, trip_k0_t1.sl.v1521, trip_k0_t1.sl.cst_542, trip_k0_t1.sl.v1523, trip_k0_t1.sl.cst_536]
      pointwise [k0_pay69]
      simp only [root arg2 X_arg2 k r R hR, scale_at arg2 arg3 X_arg2 X_arg3 k r R hR, row_load arg2 X_arg2 k r R hR _ _ _ (k0_off12_eq k) (by norm_num) l, wrow_load arg3 X_arg3 1408 _ (by norm_num) l]
      simp only [ext_normed, zero_add]
      rfl
  · exact tile_of arg2 arg3 X_arg2 X_arg3 k y _ 1280 (k0_off11_eq k) _ fun r R l hR => by
      simp only [trip_k0_t1.sl.v1675, trip_k0_t1.sl.v1674, trip_k0_t1.sl.v1672, trip_k0_t1.sl.v1670, trip_k0_t1.sl.v1512, trip_k0_t1.sl.v1511, trip_k0_t1.sl.v1510, trip_k0_t1.sl.v1507, trip_k0_t1.sl.cst_537, trip_k0_t1.sl.v1237, trip_k0_t1.sl.v1236, trip_k0_t1.sl.v1234, trip_k0_t1.sl.r, trip_k0_t1.sl.v981, trip_k0_t1.sl.v1521, trip_k0_t1.sl.cst_542, trip_k0_t1.sl.v1523, trip_k0_t1.sl.cst_536]
      pointwise [k0_pay69]
      simp only [root arg2 X_arg2 k r R hR, scale_at arg2 arg3 X_arg2 X_arg3 k r R hR, row_load arg2 X_arg2 k r R hR _ _ _ (k0_off11_eq k) (by norm_num) l, wrow_load arg3 X_arg3 1280 _ (by norm_num) l]
      simp only [ext_normed, zero_add]
      rfl
  · exact tile_of arg2 arg3 X_arg2 X_arg3 k y _ 1152 (k0_off10_eq k) _ fun r R l hR => by
      simp only [trip_k0_t1.sl.v1660, trip_k0_t1.sl.v1659, trip_k0_t1.sl.v1657, trip_k0_t1.sl.v1655, trip_k0_t1.sl.v1512, trip_k0_t1.sl.v1511, trip_k0_t1.sl.v1510, trip_k0_t1.sl.v1507, trip_k0_t1.sl.cst_537, trip_k0_t1.sl.v1228, trip_k0_t1.sl.v1227, trip_k0_t1.sl.v1225, trip_k0_t1.sl.r, trip_k0_t1.sl.v976, trip_k0_t1.sl.v1521, trip_k0_t1.sl.cst_542, trip_k0_t1.sl.v1523, trip_k0_t1.sl.cst_536]
      pointwise [k0_pay69]
      simp only [root arg2 X_arg2 k r R hR, scale_at arg2 arg3 X_arg2 X_arg3 k r R hR, row_load arg2 X_arg2 k r R hR _ _ _ (k0_off10_eq k) (by norm_num) l, wrow_load arg3 X_arg3 1152 _ (by norm_num) l]
      simp only [ext_normed, zero_add]
      rfl
  · exact tile_of arg2 arg3 X_arg2 X_arg3 k y _ 1024 (k0_off9_eq k) _ fun r R l hR => by
      simp only [trip_k0_t1.sl.v1645, trip_k0_t1.sl.v1644, trip_k0_t1.sl.v1642, trip_k0_t1.sl.v1640, trip_k0_t1.sl.v1512, trip_k0_t1.sl.v1511, trip_k0_t1.sl.v1510, trip_k0_t1.sl.v1507, trip_k0_t1.sl.cst_537, trip_k0_t1.sl.v1219, trip_k0_t1.sl.v1218, trip_k0_t1.sl.v1216, trip_k0_t1.sl.r, trip_k0_t1.sl.v971, trip_k0_t1.sl.v1521, trip_k0_t1.sl.cst_542, trip_k0_t1.sl.v1523, trip_k0_t1.sl.cst_536]
      pointwise [k0_pay69]
      simp only [root arg2 X_arg2 k r R hR, scale_at arg2 arg3 X_arg2 X_arg3 k r R hR, row_load arg2 X_arg2 k r R hR _ _ _ (k0_off9_eq k) (by norm_num) l, wrow_load arg3 X_arg3 1024 _ (by norm_num) l]
      simp only [ext_normed, zero_add]
      rfl
  · exact tile_of arg2 arg3 X_arg2 X_arg3 k y _ 896 (k0_off8_eq k) _ fun r R l hR => by
      simp only [trip_k0_t1.sl.v1630, trip_k0_t1.sl.v1629, trip_k0_t1.sl.v1627, trip_k0_t1.sl.v1625, trip_k0_t1.sl.v1512, trip_k0_t1.sl.v1511, trip_k0_t1.sl.v1510, trip_k0_t1.sl.v1507, trip_k0_t1.sl.cst_537, trip_k0_t1.sl.v1210, trip_k0_t1.sl.v1209, trip_k0_t1.sl.v1207, trip_k0_t1.sl.r, trip_k0_t1.sl.v966, trip_k0_t1.sl.v1521, trip_k0_t1.sl.cst_542, trip_k0_t1.sl.v1523, trip_k0_t1.sl.cst_536]
      pointwise [k0_pay69]
      simp only [root arg2 X_arg2 k r R hR, scale_at arg2 arg3 X_arg2 X_arg3 k r R hR, row_load arg2 X_arg2 k r R hR _ _ _ (k0_off8_eq k) (by norm_num) l, wrow_load arg3 X_arg3 896 _ (by norm_num) l]
      simp only [ext_normed, zero_add]
      rfl
  · exact tile_of arg2 arg3 X_arg2 X_arg3 k y _ 768 (k0_off7_eq k) _ fun r R l hR => by
      simp only [trip_k0_t1.sl.v1615, trip_k0_t1.sl.v1614, trip_k0_t1.sl.v1612, trip_k0_t1.sl.v1610, trip_k0_t1.sl.v1512, trip_k0_t1.sl.v1511, trip_k0_t1.sl.v1510, trip_k0_t1.sl.v1507, trip_k0_t1.sl.cst_537, trip_k0_t1.sl.v1609, trip_k0_t1.sl.v1608, trip_k0_t1.sl.r_2, trip_k0_t1.sl.v1198, trip_k0_t1.sl.r, trip_k0_t1.sl.v961, trip_k0_t1.sl.v1521, trip_k0_t1.sl.cst_542, trip_k0_t1.sl.v1523, trip_k0_t1.sl.cst_536]
      pointwise [k0_pay69]
      simp only [root arg2 X_arg2 k r R hR, scale_at arg2 arg3 X_arg2 X_arg3 k r R hR, row_load arg2 X_arg2 k r R hR _ _ _ (k0_off7_eq k) (by norm_num) l, wrow_load arg3 X_arg3 768 _ (by norm_num) l]
      simp only [ext_normed, zero_add]
      rfl
  · exact tile_of arg2 arg3 X_arg2 X_arg3 k y _ 640 (k0_off6_eq k) _ fun r R l hR => by
      simp only [trip_k0_t1.sl.v1600, trip_k0_t1.sl.v1599, trip_k0_t1.sl.v1597, trip_k0_t1.sl.v1595, trip_k0_t1.sl.v1512, trip_k0_t1.sl.v1511, trip_k0_t1.sl.v1510, trip_k0_t1.sl.v1507, trip_k0_t1.sl.cst_537, trip_k0_t1.sl.v1192, trip_k0_t1.sl.v1191, trip_k0_t1.sl.v1189, trip_k0_t1.sl.r, trip_k0_t1.sl.v956, trip_k0_t1.sl.v1521, trip_k0_t1.sl.cst_542, trip_k0_t1.sl.v1523, trip_k0_t1.sl.cst_536]
      pointwise [k0_pay69]
      simp only [root arg2 X_arg2 k r R hR, scale_at arg2 arg3 X_arg2 X_arg3 k r R hR, row_load arg2 X_arg2 k r R hR _ _ _ (k0_off6_eq k) (by norm_num) l, wrow_load arg3 X_arg3 640 _ (by norm_num) l]
      simp only [ext_normed, zero_add]
      rfl
  · exact tile_of arg2 arg3 X_arg2 X_arg3 k y _ 512 (k0_off5_eq k) _ fun r R l hR => by
      simp only [trip_k0_t1.sl.v1585, trip_k0_t1.sl.v1584, trip_k0_t1.sl.v1582, trip_k0_t1.sl.v1580, trip_k0_t1.sl.v1512, trip_k0_t1.sl.v1511, trip_k0_t1.sl.v1510, trip_k0_t1.sl.v1507, trip_k0_t1.sl.cst_537, trip_k0_t1.sl.v1183, trip_k0_t1.sl.v1182, trip_k0_t1.sl.v1180, trip_k0_t1.sl.r, trip_k0_t1.sl.v951, trip_k0_t1.sl.v1521, trip_k0_t1.sl.cst_542, trip_k0_t1.sl.v1523, trip_k0_t1.sl.cst_536]
      pointwise [k0_pay69]
      simp only [root arg2 X_arg2 k r R hR, scale_at arg2 arg3 X_arg2 X_arg3 k r R hR, row_load arg2 X_arg2 k r R hR _ _ _ (k0_off5_eq k) (by norm_num) l, wrow_load arg3 X_arg3 512 _ (by norm_num) l]
      simp only [ext_normed, zero_add]
      rfl
  · exact tile_of arg2 arg3 X_arg2 X_arg3 k y _ 384 (k0_off4_eq k) _ fun r R l hR => by
      simp only [trip_k0_t1.sl.v1570, trip_k0_t1.sl.v1569, trip_k0_t1.sl.v1567, trip_k0_t1.sl.v1565, trip_k0_t1.sl.v1512, trip_k0_t1.sl.v1511, trip_k0_t1.sl.v1510, trip_k0_t1.sl.v1507, trip_k0_t1.sl.cst_537, trip_k0_t1.sl.v1174, trip_k0_t1.sl.v1173, trip_k0_t1.sl.v1171, trip_k0_t1.sl.r, trip_k0_t1.sl.v946, trip_k0_t1.sl.v1521, trip_k0_t1.sl.cst_542, trip_k0_t1.sl.v1523, trip_k0_t1.sl.cst_536]
      pointwise [k0_pay69]
      simp only [root arg2 X_arg2 k r R hR, scale_at arg2 arg3 X_arg2 X_arg3 k r R hR, row_load arg2 X_arg2 k r R hR _ _ _ (k0_off4_eq k) (by norm_num) l, wrow_load arg3 X_arg3 384 _ (by norm_num) l]
      simp only [ext_normed, zero_add]
      rfl
  · exact tile_of arg2 arg3 X_arg2 X_arg3 k y _ 256 (k0_off3_eq k) _ fun r R l hR => by
      simp only [trip_k0_t1.sl.v1555, trip_k0_t1.sl.v1554, trip_k0_t1.sl.v1552, trip_k0_t1.sl.v1550, trip_k0_t1.sl.v1512, trip_k0_t1.sl.v1511, trip_k0_t1.sl.v1510, trip_k0_t1.sl.v1507, trip_k0_t1.sl.cst_537, trip_k0_t1.sl.v1549, trip_k0_t1.sl.v1548, trip_k0_t1.sl.v1546, trip_k0_t1.sl.r, trip_k0_t1.sl.v941, trip_k0_t1.sl.v1521, trip_k0_t1.sl.cst_542, trip_k0_t1.sl.v1523, trip_k0_t1.sl.cst_536]
      pointwise [k0_pay69]
      simp only [root arg2 X_arg2 k r R hR, scale_at arg2 arg3 X_arg2 X_arg3 k r R hR, row_load arg2 X_arg2 k r R hR _ _ _ (k0_off3_eq k) (by norm_num) l, wrow_load arg3 X_arg3 256 _ (by norm_num) l]
      simp only [ext_normed, zero_add]
      rfl
  · exact tile_of arg2 arg3 X_arg2 X_arg3 k y _ 128 (k0_off2_eq k) _ fun r R l hR => by
      simp only [trip_k0_t1.sl.v1540, trip_k0_t1.sl.v1539, trip_k0_t1.sl.v1537, trip_k0_t1.sl.v1535, trip_k0_t1.sl.v1512, trip_k0_t1.sl.v1511, trip_k0_t1.sl.v1510, trip_k0_t1.sl.v1507, trip_k0_t1.sl.cst_537, trip_k0_t1.sl.v1534, trip_k0_t1.sl.v1533, trip_k0_t1.sl.v1531, trip_k0_t1.sl.r, trip_k0_t1.sl.v936, trip_k0_t1.sl.v1521, trip_k0_t1.sl.cst_542, trip_k0_t1.sl.v1523, trip_k0_t1.sl.cst_536]
      pointwise [k0_pay69]
      simp only [root arg2 X_arg2 k r R hR, scale_at arg2 arg3 X_arg2 X_arg3 k r R hR, row_load arg2 X_arg2 k r R hR _ _ _ (k0_off2_eq k) (by norm_num) l, wrow_load arg3 X_arg3 128 _ (by norm_num) l]
      simp only [ext_normed, zero_add]
      rfl
  · exact tile_of arg2 arg3 X_arg2 X_arg3 k y _ 0 (k0_off1_eq k) _ fun r R l hR => by
      simp only [trip_k0_t1.sl.v1525, trip_k0_t1.sl.v1524, trip_k0_t1.sl.v1522, trip_k0_t1.sl.v1520, trip_k0_t1.sl.v1512, trip_k0_t1.sl.v1511, trip_k0_t1.sl.v1510, trip_k0_t1.sl.v1507, trip_k0_t1.sl.cst_537, trip_k0_t1.sl.v1519, trip_k0_t1.sl.v1518, trip_k0_t1.sl.v1516, trip_k0_t1.sl.r, trip_k0_t1.sl.v931, trip_k0_t1.sl.v1521, trip_k0_t1.sl.cst_542, trip_k0_t1.sl.v1523, trip_k0_t1.sl.cst_536]
      pointwise [k0_pay69]
      simp only [root arg2 X_arg2 k r R hR, scale_at arg2 arg3 X_arg2 X_arg3 k r R hR, row_load arg2 X_arg2 k r R hR _ _ _ (k0_off1_eq k) (by norm_num) l, wrow_load arg3 X_arg3 0 _ (by norm_num) l]
      simp only [ext_normed, zero_add]
      rfl

set_option maxHeartbeats 4000000 in
/-- A trip's tiles cover its rows. -/
theorem trip_cover (𝒱 : Variants) (c : Dev nD) (bd : Option 𝒱.V) (i : grid0.Coords) (harg2 : arg2.IsWhole) (harg3 : arg3.IsWhole) (arg4 : Memref sig .tc .vmem S5120x3584 .fp8e4m3) (harg4 : arg4.IsWhole) (arg5 : Memref sig .tc .vmem S1x3584 .f32) (harg5 : arg5.IsWhole) (arg6 : Memref sig .tc .vmem S512x64 .f32) (harg6 : arg6.IsWhole) (arg7 : Memref sig .tc .vmem S512x64 .f32) (harg7 : arg7.IsWhole) (arg8 : Memref sig .tc .vmem S512x5120 .fp8e4m3) (harg8 : arg8.IsWhole) (arg9 : Memref sig .tc .vmem S1x1x512 .f32) (harg9 : arg9.IsWhole) (arg10 : Memref sig .tc .vmem S1x2560x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S1x512x512 .bf16) (harg13 : arg13.IsWhole) (arg14 : Memref sig .tc .vmem S512x128 .f32) (harg14 : arg14.IsWhole) (k : Fin k0_t1_loop.trips) (y : S512x5120.Idx) (h0 : 32 * k.val ≤ (y 0).val ∧ (y 0).val < 32 * k.val + 32) :
    ∃ p ∈ (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 X_arg2 X_arg3 k).1, y ∈ p.1.set := by
  unfold trip_k0_t1
  dsimp only
  refine cover_step k y _ _ 4992 (k0_off40_eq k) _ _ h0 (show (y 1).val < 5120 from (y 1).isLt) fun h => ?_
  refine cover_step k y _ _ 4864 (k0_off39_eq k) _ _ h0 h fun h => ?_
  refine cover_step k y _ _ 4736 (k0_off38_eq k) _ _ h0 h fun h => ?_
  refine cover_step k y _ _ 4608 (k0_off37_eq k) _ _ h0 h fun h => ?_
  refine cover_step k y _ _ 4480 (k0_off36_eq k) _ _ h0 h fun h => ?_
  refine cover_step k y _ _ 4352 (k0_off35_eq k) _ _ h0 h fun h => ?_
  refine cover_step k y _ _ 4224 (k0_off34_eq k) _ _ h0 h fun h => ?_
  refine cover_step k y _ _ 4096 (k0_off33_eq k) _ _ h0 h fun h => ?_
  refine cover_step k y _ _ 3968 (k0_off32_eq k) _ _ h0 h fun h => ?_
  refine cover_step k y _ _ 3840 (k0_off31_eq k) _ _ h0 h fun h => ?_
  refine cover_step k y _ _ 3712 (k0_off30_eq k) _ _ h0 h fun h => ?_
  refine cover_step k y _ _ 3584 (k0_off29_eq k) _ _ h0 h fun h => ?_
  refine cover_step k y _ _ 3456 (k0_off28_eq k) _ _ h0 h fun h => ?_
  refine cover_step k y _ _ 3328 (k0_off27_eq k) _ _ h0 h fun h => ?_
  refine cover_step k y _ _ 3200 (k0_off26_eq k) _ _ h0 h fun h => ?_
  refine cover_step k y _ _ 3072 (k0_off25_eq k) _ _ h0 h fun h => ?_
  refine cover_step k y _ _ 2944 (k0_off24_eq k) _ _ h0 h fun h => ?_
  refine cover_step k y _ _ 2816 (k0_off23_eq k) _ _ h0 h fun h => ?_
  refine cover_step k y _ _ 2688 (k0_off22_eq k) _ _ h0 h fun h => ?_
  refine cover_step k y _ _ 2560 (k0_off21_eq k) _ _ h0 h fun h => ?_
  refine cover_step k y _ _ 2432 (k0_off20_eq k) _ _ h0 h fun h => ?_
  refine cover_step k y _ _ 2304 (k0_off19_eq k) _ _ h0 h fun h => ?_
  refine cover_step k y _ _ 2176 (k0_off18_eq k) _ _ h0 h fun h => ?_
  refine cover_step k y _ _ 2048 (k0_off17_eq k) _ _ h0 h fun h => ?_
  refine cover_step k y _ _ 1920 (k0_off16_eq k) _ _ h0 h fun h => ?_
  refine cover_step k y _ _ 1792 (k0_off15_eq k) _ _ h0 h fun h => ?_
  refine cover_step k y _ _ 1664 (k0_off14_eq k) _ _ h0 h fun h => ?_
  refine cover_step k y _ _ 1536 (k0_off13_eq k) _ _ h0 h fun h => ?_
  refine cover_step k y _ _ 1408 (k0_off12_eq k) _ _ h0 h fun h => ?_
  refine cover_step k y _ _ 1280 (k0_off11_eq k) _ _ h0 h fun h => ?_
  refine cover_step k y _ _ 1152 (k0_off10_eq k) _ _ h0 h fun h => ?_
  refine cover_step k y _ _ 1024 (k0_off9_eq k) _ _ h0 h fun h => ?_
  refine cover_step k y _ _ 896 (k0_off8_eq k) _ _ h0 h fun h => ?_
  refine cover_step k y _ _ 768 (k0_off7_eq k) _ _ h0 h fun h => ?_
  refine cover_step k y _ _ 640 (k0_off6_eq k) _ _ h0 h fun h => ?_
  refine cover_step k y _ _ 512 (k0_off5_eq k) _ _ h0 h fun h => ?_
  refine cover_step k y _ _ 384 (k0_off4_eq k) _ _ h0 h fun h => ?_
  refine cover_step k y _ _ 256 (k0_off3_eq k) _ _ h0 h fun h => ?_
  refine cover_step k y _ _ 128 (k0_off2_eq k) _ _ h0 h fun h => ?_
  refine cover_step k y _ _ 0 (k0_off1_eq k) _ _ h0 h fun h => ?_
  exact absurd h (Nat.not_lt_zero _)

/-- The scale of a row, as the scratch array keeps it: the same in every lane. -/
def scaleOf (y : S512x128.Idx) : EReal := scale (amax (normed (row arg2 X_arg2 (y 0)) (wrow arg3 X_arg3)))

/-- A trip stores the scales of its rows. -/
theorem trip_scales (𝒱 : Variants) (c : Dev nD) (bd : Option 𝒱.V) (i : grid0.Coords) (harg2 : arg2.IsWhole) (harg3 : arg3.IsWhole) (arg4 : Memref sig .tc .vmem S5120x3584 .fp8e4m3) (harg4 : arg4.IsWhole) (arg5 : Memref sig .tc .vmem S1x3584 .f32) (harg5 : arg5.IsWhole) (arg6 : Memref sig .tc .vmem S512x64 .f32) (harg6 : arg6.IsWhole) (arg7 : Memref sig .tc .vmem S512x64 .f32) (harg7 : arg7.IsWhole) (arg8 : Memref sig .tc .vmem S512x5120 .fp8e4m3) (harg8 : arg8.IsWhole) (arg9 : Memref sig .tc .vmem S1x1x512 .f32) (harg9 : arg9.IsWhole) (arg10 : Memref sig .tc .vmem S1x2560x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S1x512x512 .bf16) (harg13 : arg13.IsWhole) (arg14 : Memref sig .tc .vmem S512x128 .f32) (harg14 : arg14.IsWhole) (k : Fin k0_t1_loop.trips) (y : S512x128.Idx) :
    View.AllAt (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 X_arg2 X_arg3 k).2.1 y (scaleOf arg2 arg3 X_arg2 X_arg3 y) := by
  unfold trip_k0_t1
  dsimp only
  refine View.allAt_cons_unit _ _ _ _ _ (fun (x : S32x128.Idx) hx => ?_) (View.allAt_nil _ _)
  have h0 : (y 0).val = 32 * k.val + (x 0).val := by have := hx 0; rw [k0_off41_eq] at this; exact this
  have e : x = ix2 (x 0) (x 1) := by funext a; fin_cases a <;> rfl
  rw [e]
  refine Eq.trans ?_ (scale_at arg2 arg3 X_arg2 X_arg3 k (x 0) (y 0) h0)
  pointwise [k0_pay70]

/-- A trip's stores cover its rows of the scratch array. -/
theorem trip_scales_cover (𝒱 : Variants) (c : Dev nD) (bd : Option 𝒱.V) (i : grid0.Coords) (harg2 : arg2.IsWhole) (harg3 : arg3.IsWhole) (arg4 : Memref sig .tc .vmem S5120x3584 .fp8e4m3) (harg4 : arg4.IsWhole) (arg5 : Memref sig .tc .vmem S1x3584 .f32) (harg5 : arg5.IsWhole) (arg6 : Memref sig .tc .vmem S512x64 .f32) (harg6 : arg6.IsWhole) (arg7 : Memref sig .tc .vmem S512x64 .f32) (harg7 : arg7.IsWhole) (arg8 : Memref sig .tc .vmem S512x5120 .fp8e4m3) (harg8 : arg8.IsWhole) (arg9 : Memref sig .tc .vmem S1x1x512 .f32) (harg9 : arg9.IsWhole) (arg10 : Memref sig .tc .vmem S1x2560x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S1x512x512 .bf16) (harg13 : arg13.IsWhole) (arg14 : Memref sig .tc .vmem S512x128 .f32) (harg14 : arg14.IsWhole) (k : Fin k0_t1_loop.trips) (y : S512x128.Idx) (h0 : 32 * k.val ≤ (y 0).val ∧ (y 0).val < 32 * k.val + 32) :
    ∃ p ∈ (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 X_arg2 X_arg3 k).2.1, y ∈ p.1.set := by
  unfold trip_k0_t1
  dsimp only
  refine ⟨_, List.mem_cons_self, ?_⟩
  dsimp only
  refine Rect.mem_set_unit.mpr fun a => ?_
  rw [k0_off41_eq]
  fin_cases a
  · exact h0
  · exact ⟨Nat.zero_le _, show (y 1).val < 0 + 128 by have h : (y 1).val < 128 := (y 1).isLt; omega⟩

theorem trips_eq : k0_t1_loop.trips = 16 := by decide +kernel

/-- The pieces of the first `n` trips hold the codes and cover the trips' rows. -/
theorem pieces_codes (𝒱 : Variants) (c : Dev nD) (bd : Option 𝒱.V) (i : grid0.Coords) (harg2 : arg2.IsWhole) (harg3 : arg3.IsWhole) (arg4 : Memref sig .tc .vmem S5120x3584 .fp8e4m3) (harg4 : arg4.IsWhole) (arg5 : Memref sig .tc .vmem S1x3584 .f32) (harg5 : arg5.IsWhole) (arg6 : Memref sig .tc .vmem S512x64 .f32) (harg6 : arg6.IsWhole) (arg7 : Memref sig .tc .vmem S512x64 .f32) (harg7 : arg7.IsWhole) (arg8 : Memref sig .tc .vmem S512x5120 .fp8e4m3) (harg8 : arg8.IsWhole) (arg9 : Memref sig .tc .vmem S1x1x512 .f32) (harg9 : arg9.IsWhole) (arg10 : Memref sig .tc .vmem S1x2560x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S1x512x512 .bf16) (harg13 : arg13.IsWhole) (arg14 : Memref sig .tc .vmem S512x128 .f32) (harg14 : arg14.IsWhole) (y : S512x5120.Idx) (n : ℕ) (hn : n ≤ 16) :
    View.AllAt (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 X_arg2 X_arg3 n).1 y (codeOf arg2 arg3 X_arg2 X_arg3 y)
      ∧ ((y 0).val < 32 * n → ∃ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 X_arg2 X_arg3 n).1, y ∈ p.1.set) := by
  induction n with
  | zero =>
    rw [pb_k0_t1.eq_1]
    exact ⟨View.allAt_nil _ _, fun h => absurd h (Nat.not_lt_zero _)⟩
  | succ n ih =>
    obtain ⟨ih1, ih2⟩ := ih (Nat.le_of_succ_le hn)
    have hk : n < k0_t1_loop.trips := trips_eq ▸ hn
    rw [show n + 1 = (⟨n, hk⟩ : Fin k0_t1_loop.trips).val + 1 from rfl, pb_k0_t1_succ]
    refine ⟨fun p hp => (List.mem_append.mp hp).elim
      (trip_codes arg2 arg3 X_arg2 X_arg3 𝒱 c bd i harg2 harg3 arg4 harg4 arg5 harg5 arg6 harg6 arg7 harg7 arg8 harg8 arg9 harg9 arg10 harg10 arg11 harg11 arg12 harg12 arg13 harg13 arg14 harg14 ⟨n, hk⟩ y p) (ih1 p), fun h => ?_⟩
    rcases Nat.lt_or_ge (y 0).val (32 * n) with hlt | hge
    · obtain ⟨p, hp, hy⟩ := ih2 hlt
      exact ⟨p, List.mem_append_right _ hp, hy⟩
    · obtain ⟨p, hp, hy⟩ := trip_cover arg2 arg3 X_arg2 X_arg3 𝒱 c bd i harg2 harg3 arg4 harg4 arg5 harg5 arg6 harg6 arg7 harg7 arg8 harg8 arg9 harg9 arg10 harg10 arg11 harg11 arg12 harg12 arg13 harg13 arg14 harg14 ⟨n, hk⟩ y ⟨hge, by
        show (y 0).val < 32 * n + 32; omega⟩
      exact ⟨p, List.mem_append_left _ hp, hy⟩

/-- The pieces of the first `n` trips hold the scales and cover the trips' rows. -/
theorem pieces_scales (𝒱 : Variants) (c : Dev nD) (bd : Option 𝒱.V) (i : grid0.Coords) (harg2 : arg2.IsWhole) (harg3 : arg3.IsWhole) (arg4 : Memref sig .tc .vmem S5120x3584 .fp8e4m3) (harg4 : arg4.IsWhole) (arg5 : Memref sig .tc .vmem S1x3584 .f32) (harg5 : arg5.IsWhole) (arg6 : Memref sig .tc .vmem S512x64 .f32) (harg6 : arg6.IsWhole) (arg7 : Memref sig .tc .vmem S512x64 .f32) (harg7 : arg7.IsWhole) (arg8 : Memref sig .tc .vmem S512x5120 .fp8e4m3) (harg8 : arg8.IsWhole) (arg9 : Memref sig .tc .vmem S1x1x512 .f32) (harg9 : arg9.IsWhole) (arg10 : Memref sig .tc .vmem S1x2560x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S1x512x512 .bf16) (harg13 : arg13.IsWhole) (arg14 : Memref sig .tc .vmem S512x128 .f32) (harg14 : arg14.IsWhole) (y : S512x128.Idx) (n : ℕ) (hn : n ≤ 16) :
    View.AllAt (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 X_arg2 X_arg3 n).2 y (scaleOf arg2 arg3 X_arg2 X_arg3 y)
      ∧ ((y 0).val < 32 * n → ∃ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 X_arg2 X_arg3 n).2, y ∈ p.1.set) := by
  induction n with
  | zero =>
    rw [pb_k0_t1.eq_1]
    exact ⟨View.allAt_nil _ _, fun h => absurd h (Nat.not_lt_zero _)⟩
  | succ n ih =>
    obtain ⟨ih1, ih2⟩ := ih (Nat.le_of_succ_le hn)
    have hk : n < k0_t1_loop.trips := trips_eq ▸ hn
    rw [show n + 1 = (⟨n, hk⟩ : Fin k0_t1_loop.trips).val + 1 from rfl, pb_k0_t1_succ]
    refine ⟨fun p hp => (List.mem_append.mp hp).elim
      (trip_scales arg2 arg3 X_arg2 X_arg3 𝒱 c bd i harg2 harg3 arg4 harg4 arg5 harg5 arg6 harg6 arg7 harg7 arg8 harg8 arg9 harg9 arg10 harg10 arg11 harg11 arg12 harg12 arg13 harg13 arg14 harg14 ⟨n, hk⟩ y p) (ih1 p), fun h => ?_⟩
    rcases Nat.lt_or_ge (y 0).val (32 * n) with hlt | hge
    · obtain ⟨p, hp, hy⟩ := ih2 hlt
      exact ⟨p, List.mem_append_right _ hp, hy⟩
    · obtain ⟨p, hp, hy⟩ := trip_scales_cover arg2 arg3 X_arg2 X_arg3 𝒱 c bd i harg2 harg3 arg4 harg4 arg5 harg5 arg6 harg6 arg7 harg7 arg8 harg8 arg9 harg9 arg10 harg10 arg11 harg11 arg12 harg12 arg13 harg13 arg14 harg14 ⟨n, hk⟩ y ⟨hge, by
        show (y 0).val < 32 * n + 32; omega⟩
      exact ⟨p, List.mem_append_left _ hp, hy⟩

end Cert.Qkv1Ideal.Loop

end
-- ==== Proof.Qkv1Blocks.lean ====
module

public import proofs.«01_k».proof.Proof.Qkv1Loop

@[expose] public section

set_option maxRecDepth 16384

noncomputable section

/-! # What the body leaves in the blocks of codes and scales -/

namespace Cert.Qkv1Ideal.RefValue

open Idealize.ShloMosaic Idealize.ShloMosaic.TcCoe Idealize.SL.Sem
open Idealize.ShloMosaic.Pipeline (Dat)
open Cert.Qkv1Ideal Cert.Qkv1Ideal.Gen Cert.RowNorm Cert.Quantise
variable (m : (ℓ : Loc nD τ sig) → Buf (Elt Ideal) ℓ)

/-- The codes depend on the block's rows and the norm's weights alone. -/
theorem codeOf_congr (arg2 : Memref sig .tc .vmem S512x5120 .bf16) (arg3 : Memref sig .tc .vmem S1x5120 .f32)
    (X2 : BufTy.Contents (Elt Ideal) arg2.view.ty) (X3 : BufTy.Contents (Elt Ideal) arg3.view.ty)
    (f : Fin 512 → Fin 5120 → EReal) (g : Fin 5120 → EReal) (hf : ∀ R j, Loop.row arg2 X2 R j = f R j)
    (hg : ∀ j, Loop.wrow arg3 X3 j = g j) (y : S512x5120.Idx) :
    Loop.codeOf arg2 arg3 X2 X3 y = codeMul (normed (f (y 0)) g (y 1)) (scale (amax (normed (f (y 0)) g))) := by
  obtain rfl : Loop.row arg2 X2 = f := funext fun R => funext fun j => hf R j
  obtain rfl : Loop.wrow arg3 X3 = g := funext hg
  rfl

/-- So do the scales. -/
theorem scaleOf_congr (arg2 : Memref sig .tc .vmem S512x5120 .bf16) (arg3 : Memref sig .tc .vmem S1x5120 .f32)
    (X2 : BufTy.Contents (Elt Ideal) arg2.view.ty) (X3 : BufTy.Contents (Elt Ideal) arg3.view.ty)
    (f : Fin 512 → Fin 5120 → EReal) (g : Fin 5120 → EReal) (hf : ∀ R j, Loop.row arg2 X2 R j = f R j)
    (hg : ∀ j, Loop.wrow arg3 X3 j = g j) (y : S512x128.Idx) :
    Loop.scaleOf arg2 arg3 X2 X3 y = scale (amax (normed (f (y 0)) g)) := by
  obtain rfl : Loop.row arg2 X2 = f := funext fun R => funext fun j => hf R j
  obtain rfl : Loop.wrow arg3 X3 = g := funext hg
  rfl

/-- A row of the input block at point `t`. -/
def brow (c : Dev nD) (t : Fin cfg0.N) (R : Fin 512) (j : Fin 5120) : EReal := iblk m c 0 t (ix2 R j)

/-- The norm's weights at point `t`. -/
def bw (c : Dev nD) (t : Fin cfg0.N) (j : Fin 5120) : EReal := iblk m c 1 t (ix2 0 j)

/-- The code and the scale the loop leaves at point `t`. -/
def bcode (c : Dev nD) (t : Fin cfg0.N) (R : Fin 512) (j : Fin 5120) : EReal :=
  codeMul (normed (brow m c t R) (bw m c t) j) (scale (amax (normed (brow m c t R) (bw m c t))))
def bscale (c : Dev nD) (t : Fin cfg0.N) (R : Fin 512) : EReal := scale (amax (normed (brow m c t R) (bw m c t)))

/-- What the body leaves in the block of codes at point `t`. -/
theorem block6 (c : Dev nD) (t : Fin cfg0.N) (y : S512x5120.Idx) : (outsAt0 m c t).1 y = bcode m c t (y 0) (y 1) := by
  have hn : Scf.trips 0#32 (Scalar.addi 0#32 16#32) 1#32 = 16 := by decide +kernel
  unfold outsAt0
  frame_out
  refine (View.canon_eq_of_allAt _ _ _ ((Loop.pieces_codes _ _ _ _ _ _ _ _ _ _ _ _ _ _ _ _ _ _ _ _ _ _ _ _ _ _ _ _ _ _ _ _ y _ hn.le).2
      (by rw [hn]; exact (y 0).isLt))
    (Loop.pieces_codes _ _ _ _ _ _ _ _ _ _ _ _ _ _ _ _ _ _ _ _ _ _ _ _ _ _ _ _ _ _ _ _ y _ hn.le).1).trans ?_
  refine codeOf_congr _ _ _ _ (brow m c t) (bw m c t) (fun R j => ?_) (fun j => ?_) y
  · exact congrFun ((hs0_0 t).read_unread (iblk m c 0 t)) (ix2 R j)
  · exact congrFun ((hs0_1 t).read_unread (iblk m c 1 t)) (ix2 0 j)

/-- The codes as the body reads them back after the loop. -/
theorem codes_back (c : Dev nD) (t : Fin cfg0.N) (h) (R : Fin 512) (j : Fin 5120) :
    (ms0_6 t).view.readCov (pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _)
        ((hs0_0 t).unread (iblk m c 0 t)) ((hs0_1 t).unread (iblk m c 1 t)) (Scf.trips 0#32 (Scalar.addi 0#32 16#32) 1#32)).1
        (Rect.unit (s := S512x5120) ![0, 0] ![512, 5120] h).toLoadRect (ix2 R j) = bcode m c t R j := by
  have hn : Scf.trips 0#32 (Scalar.addi 0#32 16#32) 1#32 = 16 := by decide +kernel
  refine ((congrFun (View.readCov_eq_canon' _ _ _) _).trans ?_)
  refine (View.canon_eq_of_allAt _ _ _ ((Loop.pieces_codes _ _ _ _ _ _ _ _ _ _ _ _ _ _ _ _ _ _ _ _ _ _ _ _ _ _ _ _ _ _ _ _ _ _ hn.le).2
      (by rw [hn]; exact Fin.isLt _))
    (Loop.pieces_codes _ _ _ _ _ _ _ _ _ _ _ _ _ _ _ _ _ _ _ _ _ _ _ _ _ _ _ _ _ _ _ _ _ _ hn.le).1).trans ?_
  refine (codeOf_congr _ _ _ _ (brow m c t) (bw m c t) (fun R j => ?_) (fun j => ?_) _).trans ?_
  · exact congrFun ((hs0_0 t).read_unread (iblk m c 0 t)) (ix2 R j)
  · exact congrFun ((hs0_1 t).read_unread (iblk m c 1 t)) (ix2 0 j)
  · refine congrArg₂ (bcode m c t) (Fin.ext ?_) (Fin.ext ?_) <;> simp [Rect.unit]

/-- The scales as the body reads them back after the loop: every lane holds its row's scale. -/
theorem scales_back (c : Dev nD) (t : Fin cfg0.N) (h) (R : Fin 512) (l : Fin 128) :
    (View.whole cc0_scratch0).readCov (pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _)
        ((hs0_0 t).unread (iblk m c 0 t)) ((hs0_1 t).unread (iblk m c 1 t)) (Scf.trips 0#32 (Scalar.addi 0#32 16#32) 1#32)).2
        (Rect.unit (s := S512x128) ![0, 0] ![512, 128] h).toLoadRect (ix2 R l) = bscale m c t R := by
  have hn : Scf.trips 0#32 (Scalar.addi 0#32 16#32) 1#32 = 16 := by decide +kernel
  refine ((congrFun (View.readCov_eq_canon' _ _ _) _).trans ?_)
  refine (View.canon_eq_of_allAt _ _ _ ((Loop.pieces_scales _ _ _ _ _ _ _ _ _ _ _ _ _ _ _ _ _ _ _ _ _ _ _ _ _ _ _ _ _ _ _ _ _ _ hn.le).2
      (by rw [hn]; exact Fin.isLt _))
    (Loop.pieces_scales _ _ _ _ _ _ _ _ _ _ _ _ _ _ _ _ _ _ _ _ _ _ _ _ _ _ _ _ _ _ _ _ _ _ hn.le).1).trans ?_
  refine (scaleOf_congr _ _ _ _ (brow m c t) (bw m c t) (fun R j => ?_) (fun j => ?_) _).trans ?_
  · exact congrFun ((hs0_0 t).read_unread (iblk m c 0 t)) (ix2 R j)
  · exact congrFun ((hs0_1 t).read_unread (iblk m c 1 t)) (ix2 0 j)
  · refine congrArg (bscale m c t) (Fin.ext ?_)
    simp [Rect.unit]

/-- The stored scales are the first column of the loop's scales, as a row. -/
theorem scaleRow_at (v : FVec Ideal S512x128 .f32) (R : Fin 512) : k0_pay71 (F := Ideal) v (ix3 0 0 R) = v (ix2 R 0) := by
  pointwise [k0_pay71]

/-- What the body leaves in the block of scales at point `t`. -/
theorem block7 (c : Dev nD) (t : Fin cfg0.N) (R : Fin 512) : (outsAt0 m c t).2.1 (ix3 0 0 R) = bscale m c t R := by
  unfold outsAt0
  frame_out
  exact (scaleRow_at _ R).trans (scales_back m c t _ R 0)

end Cert.Qkv1Ideal.RefValue

end
-- ==== Proof.Qkv1Tiles.lean ====
module

public import proofs.«01_k».proof.Proof.Qkv1Blocks

public import proofs.«01_k».proof.Proof.Qkv1Heads

@[expose] public section

set_option maxRecDepth 16384

noncomputable section

/-! # The heads the body forms at a point -/

namespace Cert.Qkv1Ideal.RefValue

open Idealize.ShloMosaic Idealize.ShloMosaic.TcCoe Idealize.SL.Sem
open Idealize.ShloMosaic.Pipeline (Dat)
open Cert.Qkv1Ideal Cert.Qkv1Ideal.Gen Cert.RowNorm Cert.Quantise
variable (m : (ℓ : Loc nD τ sig) → Buf (Elt Ideal) ℓ)

/-- The codes and the scales as the body reads them back after the loop. -/
def codesBack (c : Dev nD) (t : Fin cfg0.N) : FVec Ideal S512x5120 .fp8e4m3 :=
  (ms0_6 t).view.readCov (pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _)
    ((hs0_0 t).unread (iblk m c 0 t)) ((hs0_1 t).unread (iblk m c 1 t)) (Scf.trips 0#32 (Scalar.addi 0#32 16#32) 1#32)).1 (Rect.unit (s := S512x5120) ![0, 0] ![512, 5120] inb_S512x5120_S512x5120_0_0).toLoadRect

def scalesBack (c : Dev nD) (t : Fin cfg0.N) : FVec Ideal S512x128 .f32 :=
  (View.whole cc0_scratch0).readCov (pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _)
    ((hs0_0 t).unread (iblk m c 0 t)) ((hs0_1 t).unread (iblk m c 1 t)) (Scf.trips 0#32 (Scalar.addi 0#32 16#32) 1#32)).2 (Rect.unit (s := S512x128) ![0, 0] ![512, 128] inb_S512x128_S512x128_0_0).toLoadRect

/-- An entry of the block's projection. -/
def bproj (c : Dev nD) (t : Fin cfg0.N) (r : Fin 512) (n : Fin 3584) : EReal :=
  (∑ k, bcode m c t r k * iblk m c 2 t (ix2 k n)) * bscale m c t r * iblk m c 3 t (ix2 0 n)

/-- The first head of a slab of 256 columns, and the second. -/
def head0 (c : Dev nD) (t : Fin cfg0.N) (o : ℕ)
    (hW : ∀ a : Fin S5120x3584.rank, (![0, o] : Fin 2 → ℕ) a + (![5120, 256] : Fin 2 → ℕ) a ≤ S5120x3584.size a)
    (hs : ∀ a : Fin S1x3584.rank, (![0, o] : Fin 2 → ℕ) a + (![1, 128] : Fin 2 → ℕ) a ≤ S1x3584.size a) : FVec Ideal S512x128 .f32 :=
  headT (codesBack m c t) (View.ld (iblk m c 2 t) (Rect.unit (s := S5120x3584) ![0, o] ![5120, 256] hW)) (scalesBack m c t)
    (View.ld (iblk m c 3 t) (Rect.unit (s := S1x3584) ![0, o] ![1, 128] hs)) 0 slices_S512x256_o0_0_S512x128

def head1 (c : Dev nD) (t : Fin cfg0.N) (o p : ℕ)
    (hW : ∀ a : Fin S5120x3584.rank, (![0, o] : Fin 2 → ℕ) a + (![5120, 256] : Fin 2 → ℕ) a ≤ S5120x3584.size a)
    (hs : ∀ a : Fin S1x3584.rank, (![0, p] : Fin 2 → ℕ) a + (![1, 128] : Fin 2 → ℕ) a ≤ S1x3584.size a) : FVec Ideal S512x128 .f32 :=
  headT (codesBack m c t) (View.ld (iblk m c 2 t) (Rect.unit (s := S5120x3584) ![0, o] ![5120, 256] hW)) (scalesBack m c t)
    (View.ld (iblk m c 3 t) (Rect.unit (s := S1x3584) ![0, p] ![1, 128] hs)) 128 slices_S512x256_o0_128_S512x128

theorem slab_at (W : Vec Ideal S5120x3584 .fp8e4m3) (o : ℕ)
    (hW : ∀ a : Fin S5120x3584.rank, (![0, o] : Fin 2 → ℕ) a + (![5120, 256] : Fin 2 → ℕ) a ≤ S5120x3584.size a) (k : Fin 5120) (j : Fin 256) (n : Fin 3584) (hn : n.val = o + j.val) :
    View.ld W (Rect.unit (s := S5120x3584) ![0, o] ![5120, 256] hW) (ix2 k j) = W (ix2 k n) := by
  refine congrArg W (funext fun a => Fin.ext ?_)
  fin_cases a
  · simp [Rect.unit]
  · simp [Rect.unit, hn]

theorem row_at (W : Vec Ideal S1x3584 .f32) (o : ℕ)
    (hs : ∀ a : Fin S1x3584.rank, (![0, o] : Fin 2 → ℕ) a + (![1, 128] : Fin 2 → ℕ) a ≤ S1x3584.size a) (j : Fin 128) (n : Fin 3584) (hn : n.val = o + j.val) :
    View.ld W (Rect.unit (s := S1x3584) ![0, o] ![1, 128] hs) (ix2 0 j) = W (ix2 0 n) := by
  refine congrArg W (funext fun a => Fin.ext ?_)
  fin_cases a
  · simp [Rect.unit]
  · simp [Rect.unit, hn]

theorem head0_at (c : Dev nD) (t : Fin cfg0.N) (o : ℕ)
    (hW : ∀ a : Fin S5120x3584.rank, (![0, o] : Fin 2 → ℕ) a + (![5120, 256] : Fin 2 → ℕ) a ≤ S5120x3584.size a)
    (hs : ∀ a : Fin S1x3584.rank, (![0, o] : Fin 2 → ℕ) a + (![1, 128] : Fin 2 → ℕ) a ≤ S1x3584.size a) (r : Fin 512) (l : Fin 128) (n : Fin 3584) (hn : n.val = o + l.val) :
    head0 m c t o hW hs (ix2 r l) = bproj m c t r n := by
  unfold head0
  rw [headT_at0, row_at _ o hs l n hn, scalesBack, scales_back]
  unfold bproj
  have e : (∑ k, codesBack m c t (ix2 r k) * View.ld (iblk m c 2 t) (Rect.unit (s := S5120x3584) ![0, o] ![5120, 256] hW) (ix2 k ⟨l.val, by omega⟩) : EReal)
      = ∑ k, bcode m c t r k * iblk m c 2 t (ix2 k n) :=
    Finset.sum_congr rfl fun k _ => by rw [codesBack, codes_back, slab_at _ o hW k _ n hn]
  rw [e]

theorem head1_at (c : Dev nD) (t : Fin cfg0.N) (o p : ℕ)
    (hW : ∀ a : Fin S5120x3584.rank, (![0, o] : Fin 2 → ℕ) a + (![5120, 256] : Fin 2 → ℕ) a ≤ S5120x3584.size a)
    (hs : ∀ a : Fin S1x3584.rank, (![0, p] : Fin 2 → ℕ) a + (![1, 128] : Fin 2 → ℕ) a ≤ S1x3584.size a) (hp : p = o + 128) (r : Fin 512) (l : Fin 128) (n : Fin 3584)
    (hn : n.val = p + l.val) : head1 m c t o p hW hs (ix2 r l) = bproj m c t r n := by
  unfold head1
  rw [headT_at1, row_at _ p hs l n hn, scalesBack, scales_back]
  unfold bproj
  have e : (∑ k, codesBack m c t (ix2 r k) * View.ld (iblk m c 2 t) (Rect.unit (s := S5120x3584) ![0, o] ![5120, 256] hW) (ix2 k ⟨128 + l.val, by omega⟩) : EReal)
      = ∑ k, bcode m c t r k * iblk m c 2 t (ix2 k n) :=
    Finset.sum_congr rfl fun k _ => by rw [codesBack, codes_back, slab_at _ o hW k _ n (by dsimp only; omega)]
  rw [e]

/-- A head of values as stored. -/
def valT (T : FVec Ideal S512x128 .f32) : FVec Ideal S512x128 .bf16 := truncf .bf16 T bitsLt_bf16_f32

theorem valT_at (T : FVec Ideal S512x128 .f32) (r : Fin 512) (l : Fin 128) : valT T (ix2 r l) = T (ix2 r l) := by
  pointwise [valT]

/-- A head stored with its rows as columns. -/
def turnT (V : FVec Ideal S512x128 .bf16) : FVec Ideal S1x128x512 .bf16 :=
  shapeCast S1x128x512 (transpose S128x512 [1, 0] V transposes_S512x128_p1_0_S128x512) shapeCasts_S128x512_S1x128x512

theorem turnT_at (V : FVec Ideal S512x128 .bf16) (l : Fin 128) (r : Fin 512) : turnT V (ix3 0 l r) = V (ix2 r l) := by
  pointwise [turnT]

/-- A head's angles at point `t`, and the head turned by them and divided by its root mean square. -/
def turned (c : Dev nD) (t : Fin cfg0.N) (T : FVec Ideal S512x128 .f32) : FVec Ideal S512x128 .bf16 :=
  normT (rotT T (k0_pay73 (iblk m c 4 t) (iblk m c 5 t)) (k0_pay76 (k0_pay74 (iblk m c 4 t) (iblk m c 5 t)) k0_pay75))

/-- An entry of a head of queries or keys at point `t`. -/
def bhead (c : Dev nD) (t : Fin cfg0.N) (r : Fin 512) (hd : Fin 28) (l : Fin 128) : EReal :=
  unitRow (rot (fun l => bproj m c t r ⟨128 * hd.val + l.val, by omega⟩) (fun i => iblk m c 4 t (ix2 r i)) (fun i => iblk m c 5 t (ix2 r i))) l

theorem turned_at (c : Dev nD) (t : Fin cfg0.N) (T : FVec Ideal S512x128 .f32) (r : Fin 512) (hd : Fin 28)
    (hT : ∀ l, T (ix2 r l) = bproj m c t r ⟨128 * hd.val + l.val, by omega⟩) (l : Fin 128) :
    turned m c t T (ix2 r l) = bhead m c t r hd l := by
  unfold turned bhead
  rw [normT_at]
  refine congrArg (fun g => unitRow g l) (funext fun l => ?_)
  rw [rotT_at]
  exact congrArg (fun f => rot f _ _ l) (funext hT)

theorem turned0 (c : Dev nD) (t : Fin cfg0.N) (o : ℕ)
    (hW : ∀ a : Fin S5120x3584.rank, (![0, o] : Fin 2 → ℕ) a + (![5120, 256] : Fin 2 → ℕ) a ≤ S5120x3584.size a)
    (hs : ∀ a : Fin S1x3584.rank, (![0, o] : Fin 2 → ℕ) a + (![1, 128] : Fin 2 → ℕ) a ≤ S1x3584.size a) (hd : Fin 28) (ho : 128 * hd.val = o) (r : Fin 512) (l : Fin 128) :
    turned m c t (head0 m c t o hW hs) (ix2 r l) = bhead m c t r hd l :=
  turned_at m c t _ r hd (fun l => head0_at m c t o hW hs r l _ (by dsimp only; omega)) l

theorem turned1 (c : Dev nD) (t : Fin cfg0.N) (o p : ℕ)
    (hW : ∀ a : Fin S5120x3584.rank, (![0, o] : Fin 2 → ℕ) a + (![5120, 256] : Fin 2 → ℕ) a ≤ S5120x3584.size a)
    (hs : ∀ a : Fin S1x3584.rank, (![0, p] : Fin 2 → ℕ) a + (![1, 128] : Fin 2 → ℕ) a ≤ S1x3584.size a) (hp : p = o + 128) (hd : Fin 28) (ho : 128 * hd.val = p) (r : Fin 512) (l : Fin 128) :
    turned m c t (head1 m c t o p hW hs) (ix2 r l) = bhead m c t r hd l :=
  turned_at m c t _ r hd (fun l => head1_at m c t o p hW hs hp r l _ (by dsimp only; omega)) l

end Cert.Qkv1Ideal.RefValue

end
-- ==== Proof.Qkv1Values.lean ====
module

public import proofs.«01_k».proof.Proof.Qkv1Tiles

@[expose] public section

set_option maxRecDepth 16384

noncomputable section

/-! # What the body leaves in the blocks of values -/

namespace Cert.Qkv1Ideal.RefValue

open Idealize.ShloMosaic Idealize.ShloMosaic.TcCoe Idealize.SL.Sem
open Idealize.ShloMosaic.Pipeline (Dat)
open Cert.Qkv1Ideal Cert.Qkv1Ideal.Gen Cert.RowNorm Cert.Quantise
variable (m : (ℓ : Loc nD τ sig) → Buf (Elt Ideal) ℓ)

/-- What the body leaves in the block of values at point `t`. -/
theorem block10 (c : Dev nD) (t : Fin cfg0.N) (y : S512x512.Idx) :
    (outsAt0 m c t).2.2.2.2.1 y = bproj m c t (y 0) ⟨3072 + (y 1).val, by have := (y 1).isLt; change _ < 512 at this; omega⟩ := by
  unfold outsAt0
  frame_out
  canon_tiles x h
  · rw [show x = ix2 (x 0) (x 1) from by funext a; fin_cases a <;> rfl]
    refine (show _ = valT (head1 m c t 3328 3456 inb_S5120x3584_S5120x256_0_3328 inb_S1x3584_S1x128_0_3456) (ix2 (x 0) (x 1)) from rfl).trans ((valT_at _ _ _).trans ?_)
    rw [show y 0 = x 0 from Fin.ext h0]
    exact head1_at m c t 3328 3456 inb_S5120x3584_S5120x256_0_3328 inb_S1x3584_S1x128_0_3456 rfl _ _ _ (by dsimp only; omega)
  · rw [show x = ix2 (x 0) (x 1) from by funext a; fin_cases a <;> rfl]
    refine (show _ = valT (head0 m c t 3328 inb_S5120x3584_S5120x256_0_3328 inb_S1x3584_S1x128_0_3328) (ix2 (x 0) (x 1)) from rfl).trans ((valT_at _ _ _).trans ?_)
    rw [show y 0 = x 0 from Fin.ext h0]
    exact head0_at m c t 3328 inb_S5120x3584_S5120x256_0_3328 inb_S1x3584_S1x128_0_3328 _ _ _ (by dsimp only; omega)
  · rw [show x = ix2 (x 0) (x 1) from by funext a; fin_cases a <;> rfl]
    refine (show _ = valT (head1 m c t 3072 3200 inb_S5120x3584_S5120x256_0_3072 inb_S1x3584_S1x128_0_3200) (ix2 (x 0) (x 1)) from rfl).trans ((valT_at _ _ _).trans ?_)
    rw [show y 0 = x 0 from Fin.ext h0]
    exact head1_at m c t 3072 3200 inb_S5120x3584_S5120x256_0_3072 inb_S1x3584_S1x128_0_3200 rfl _ _ _ (by dsimp only; omega)
  · rw [show x = ix2 (x 0) (x 1) from by funext a; fin_cases a <;> rfl]
    refine (show _ = valT (head0 m c t 3072 inb_S5120x3584_S5120x256_0_3072 inb_S1x3584_S1x128_0_3072) (ix2 (x 0) (x 1)) from rfl).trans ((valT_at _ _ _).trans ?_)
    rw [show y 0 = x 0 from Fin.ext h0]
    exact head0_at m c t 3072 inb_S5120x3584_S5120x256_0_3072 inb_S1x3584_S1x128_0_3072 _ _ _ (by dsimp only; omega)

/-- What the body leaves in the block of transposed values at point `t`. -/
theorem block11 (c : Dev nD) (t : Fin cfg0.N) (y : S1x512x512.Idx) :
    (outsAt0 m c t).2.2.2.2.2 y = bproj m c t (y 2) ⟨3072 + (y 1).val, by have := (y 1).isLt; change _ < 512 at this; omega⟩ := by
  unfold outsAt0
  frame_out
  canon_tiles x h
  · rw [show x = ix3 0 (x 1) (x 2) from by funext a; fin_cases a; exacts [Subsingleton.elim (α := Fin 1) _ _, rfl, rfl]]
    refine (show _ = turnT (valT (head1 m c t 3328 3456 inb_S5120x3584_S5120x256_0_3328 inb_S1x3584_S1x128_0_3456)) (ix3 0 (x 1) (x 2)) from rfl).trans ((turnT_at _ _ _).trans ((valT_at _ _ _).trans ?_))
    rw [show y 2 = x 2 from Fin.ext h2]
    exact head1_at m c t 3328 3456 inb_S5120x3584_S5120x256_0_3328 inb_S1x3584_S1x128_0_3456 rfl _ _ _ (by dsimp only; omega)
  · rw [show x = ix3 0 (x 1) (x 2) from by funext a; fin_cases a; exacts [Subsingleton.elim (α := Fin 1) _ _, rfl, rfl]]
    refine (show _ = turnT (valT (head0 m c t 3328 inb_S5120x3584_S5120x256_0_3328 inb_S1x3584_S1x128_0_3328)) (ix3 0 (x 1) (x 2)) from rfl).trans ((turnT_at _ _ _).trans ((valT_at _ _ _).trans ?_))
    rw [show y 2 = x 2 from Fin.ext h2]
    exact head0_at m c t 3328 inb_S5120x3584_S5120x256_0_3328 inb_S1x3584_S1x128_0_3328 _ _ _ (by dsimp only; omega)
  · rw [show x = ix3 0 (x 1) (x 2) from by funext a; fin_cases a; exacts [Subsingleton.elim (α := Fin 1) _ _, rfl, rfl]]
    refine (show _ = turnT (valT (head1 m c t 3072 3200 inb_S5120x3584_S5120x256_0_3072 inb_S1x3584_S1x128_0_3200)) (ix3 0 (x 1) (x 2)) from rfl).trans ((turnT_at _ _ _).trans ((valT_at _ _ _).trans ?_))
    rw [show y 2 = x 2 from Fin.ext h2]
    exact head1_at m c t 3072 3200 inb_S5120x3584_S5120x256_0_3072 inb_S1x3584_S1x128_0_3200 rfl _ _ _ (by dsimp only; omega)
  · rw [show x = ix3 0 (x 1) (x 2) from by funext a; fin_cases a; exacts [Subsingleton.elim (α := Fin 1) _ _, rfl, rfl]]
    refine (show _ = turnT (valT (head0 m c t 3072 inb_S5120x3584_S5120x256_0_3072 inb_S1x3584_S1x128_0_3072)) (ix3 0 (x 1) (x 2)) from rfl).trans ((turnT_at _ _ _).trans ((valT_at _ _ _).trans ?_))
    rw [show y 2 = x 2 from Fin.ext h2]
    exact head0_at m c t 3072 inb_S5120x3584_S5120x256_0_3072 inb_S1x3584_S1x128_0_3072 _ _ _ (by dsimp only; omega)

end Cert.Qkv1Ideal.RefValue

end
-- ==== Proof.Qkv1Keys.lean ====
module

public import proofs.«01_k».proof.Proof.Qkv1Tiles

@[expose] public section

set_option maxRecDepth 16384

noncomputable section

/-! # What the body leaves in the block of keys -/

namespace Cert.Qkv1Ideal.RefValue

open Idealize.ShloMosaic Idealize.ShloMosaic.TcCoe Idealize.SL.Sem
open Idealize.ShloMosaic.Pipeline (Dat)
open Cert.Qkv1Ideal Cert.Qkv1Ideal.Gen Cert.RowNorm Cert.Quantise
variable (m : (ℓ : Loc nD τ sig) → Buf (Elt Ideal) ℓ)

/-- What the body leaves in the block of keys at point `t`. -/
theorem block9 (c : Dev nD) (t : Fin cfg0.N) (y : S512x512.Idx) :
    (outsAt0 m c t).2.2.2.1 y = bhead m c t (y 0) ⟨20 + (y 1).val / 128, by have := (y 1).isLt; change _ < 512 at this; omega⟩ ⟨(y 1).val % 128, by omega⟩ := by
  unfold outsAt0
  frame_out
  canon_tiles x h
  · rw [show x = ix2 (x 0) (x 1) from by funext a; fin_cases a <;> rfl]
    refine (show _ = turned m c t (head1 m c t 2816 2944 inb_S5120x3584_S5120x256_0_2816 inb_S1x3584_S1x128_0_2944) (ix2 (x 0) (x 1)) from rfl).trans ((turned1 m c t 2816 2944 inb_S5120x3584_S5120x256_0_2816 inb_S1x3584_S1x128_0_2944 rfl 23 rfl _ _).trans ?_)
    congr 1 <;> refine Fin.ext ?_ <;> dsimp only <;> omega
  · rw [show x = ix2 (x 0) (x 1) from by funext a; fin_cases a <;> rfl]
    refine (show _ = turned m c t (head0 m c t 2816 inb_S5120x3584_S5120x256_0_2816 inb_S1x3584_S1x128_0_2816) (ix2 (x 0) (x 1)) from rfl).trans ((turned0 m c t 2816 inb_S5120x3584_S5120x256_0_2816 inb_S1x3584_S1x128_0_2816 22 rfl _ _).trans ?_)
    congr 1 <;> refine Fin.ext ?_ <;> dsimp only <;> omega
  · rw [show x = ix2 (x 0) (x 1) from by funext a; fin_cases a <;> rfl]
    refine (show _ = turned m c t (head1 m c t 2560 2688 inb_S5120x3584_S5120x256_0_2560 inb_S1x3584_S1x128_0_2688) (ix2 (x 0) (x 1)) from rfl).trans ((turned1 m c t 2560 2688 inb_S5120x3584_S5120x256_0_2560 inb_S1x3584_S1x128_0_2688 rfl 21 rfl _ _).trans ?_)
    congr 1 <;> refine Fin.ext ?_ <;> dsimp only <;> omega
  · rw [show x = ix2 (x 0) (x 1) from by funext a; fin_cases a <;> rfl]
    refine (show _ = turned m c t (head0 m c t 2560 inb_S5120x3584_S5120x256_0_2560 inb_S1x3584_S1x128_0_2560) (ix2 (x 0) (x 1)) from rfl).trans ((turned0 m c t 2560 inb_S5120x3584_S5120x256_0_2560 inb_S1x3584_S1x128_0_2560 20 rfl _ _).trans ?_)
    congr 1 <;> refine Fin.ext ?_ <;> dsimp only <;> omega

end Cert.Qkv1Ideal.RefValue

end
-- ==== Proof.Qkv1Queries.lean ====
module

public import proofs.«01_k».proof.Proof.Qkv1Tiles

@[expose] public section

set_option maxRecDepth 16384

noncomputable section

/-! # What the body leaves in the block of transposed queries -/

namespace Cert.Qkv1Ideal.RefValue

open Idealize.ShloMosaic Idealize.ShloMosaic.TcCoe Idealize.SL.Sem
open Idealize.ShloMosaic.Pipeline (Dat)
open Cert.Qkv1Ideal Cert.Qkv1Ideal.Gen Cert.RowNorm Cert.Quantise
variable (m : (ℓ : Loc nD τ sig) → Buf (Elt Ideal) ℓ)

/-- What the body leaves in the block of transposed queries at point `t`. -/
theorem block8 (c : Dev nD) (t : Fin cfg0.N) (y : S1x2560x512.Idx) :
    (outsAt0 m c t).2.2.1 y = bhead m c t (y 2) ⟨(y 1).val / 128, by have := (y 1).isLt; change _ < 2560 at this; omega⟩ ⟨(y 1).val % 128, by omega⟩ := by
  unfold outsAt0
  frame_out
  canon_tiles x h
  · rw [show x = ix3 0 (x 1) (x 2) from by funext a; fin_cases a; exacts [Subsingleton.elim (α := Fin 1) _ _, rfl, rfl]]
    refine (show _ = turnT (turned m c t (head1 m c t 2304 2432 inb_S5120x3584_S5120x256_0_2304 inb_S1x3584_S1x128_0_2432)) (ix3 0 (x 1) (x 2)) from rfl).trans ((turnT_at _ _ _).trans ((turned1 m c t 2304 2432 inb_S5120x3584_S5120x256_0_2304 inb_S1x3584_S1x128_0_2432 rfl 19 rfl _ _).trans ?_))
    congr 1 <;> refine Fin.ext ?_ <;> dsimp only <;> omega
  · rw [show x = ix3 0 (x 1) (x 2) from by funext a; fin_cases a; exacts [Subsingleton.elim (α := Fin 1) _ _, rfl, rfl]]
    refine (show _ = turnT (turned m c t (head0 m c t 2304 inb_S5120x3584_S5120x256_0_2304 inb_S1x3584_S1x128_0_2304)) (ix3 0 (x 1) (x 2)) from rfl).trans ((turnT_at _ _ _).trans ((turned0 m c t 2304 inb_S5120x3584_S5120x256_0_2304 inb_S1x3584_S1x128_0_2304 18 rfl _ _).trans ?_))
    congr 1 <;> refine Fin.ext ?_ <;> dsimp only <;> omega
  · rw [show x = ix3 0 (x 1) (x 2) from by funext a; fin_cases a; exacts [Subsingleton.elim (α := Fin 1) _ _, rfl, rfl]]
    refine (show _ = turnT (turned m c t (head1 m c t 2048 2176 inb_S5120x3584_S5120x256_0_2048 inb_S1x3584_S1x128_0_2176)) (ix3 0 (x 1) (x 2)) from rfl).trans ((turnT_at _ _ _).trans ((turned1 m c t 2048 2176 inb_S5120x3584_S5120x256_0_2048 inb_S1x3584_S1x128_0_2176 rfl 17 rfl _ _).trans ?_))
    congr 1 <;> refine Fin.ext ?_ <;> dsimp only <;> omega
  · rw [show x = ix3 0 (x 1) (x 2) from by funext a; fin_cases a; exacts [Subsingleton.elim (α := Fin 1) _ _, rfl, rfl]]
    refine (show _ = turnT (turned m c t (head0 m c t 2048 inb_S5120x3584_S5120x256_0_2048 inb_S1x3584_S1x128_0_2048)) (ix3 0 (x 1) (x 2)) from rfl).trans ((turnT_at _ _ _).trans ((turned0 m c t 2048 inb_S5120x3584_S5120x256_0_2048 inb_S1x3584_S1x128_0_2048 16 rfl _ _).trans ?_))
    congr 1 <;> refine Fin.ext ?_ <;> dsimp only <;> omega
  · rw [show x = ix3 0 (x 1) (x 2) from by funext a; fin_cases a; exacts [Subsingleton.elim (α := Fin 1) _ _, rfl, rfl]]
    refine (show _ = turnT (turned m c t (head1 m c t 1792 1920 inb_S5120x3584_S5120x256_0_1792 inb_S1x3584_S1x128_0_1920)) (ix3 0 (x 1) (x 2)) from rfl).trans ((turnT_at _ _ _).trans ((turned1 m c t 1792 1920 inb_S5120x3584_S5120x256_0_1792 inb_S1x3584_S1x128_0_1920 rfl 15 rfl _ _).trans ?_))
    congr 1 <;> refine Fin.ext ?_ <;> dsimp only <;> omega
  · rw [show x = ix3 0 (x 1) (x 2) from by funext a; fin_cases a; exacts [Subsingleton.elim (α := Fin 1) _ _, rfl, rfl]]
    refine (show _ = turnT (turned m c t (head0 m c t 1792 inb_S5120x3584_S5120x256_0_1792 inb_S1x3584_S1x128_0_1792)) (ix3 0 (x 1) (x 2)) from rfl).trans ((turnT_at _ _ _).trans ((turned0 m c t 1792 inb_S5120x3584_S5120x256_0_1792 inb_S1x3584_S1x128_0_1792 14 rfl _ _).trans ?_))
    congr 1 <;> refine Fin.ext ?_ <;> dsimp only <;> omega
  · rw [show x = ix3 0 (x 1) (x 2) from by funext a; fin_cases a; exacts [Subsingleton.elim (α := Fin 1) _ _, rfl, rfl]]
    refine (show _ = turnT (turned m c t (head1 m c t 1536 1664 inb_S5120x3584_S5120x256_0_1536 inb_S1x3584_S1x128_0_1664)) (ix3 0 (x 1) (x 2)) from rfl).trans ((turnT_at _ _ _).trans ((turned1 m c t 1536 1664 inb_S5120x3584_S5120x256_0_1536 inb_S1x3584_S1x128_0_1664 rfl 13 rfl _ _).trans ?_))
    congr 1 <;> refine Fin.ext ?_ <;> dsimp only <;> omega
  · rw [show x = ix3 0 (x 1) (x 2) from by funext a; fin_cases a; exacts [Subsingleton.elim (α := Fin 1) _ _, rfl, rfl]]
    refine (show _ = turnT (turned m c t (head0 m c t 1536 inb_S5120x3584_S5120x256_0_1536 inb_S1x3584_S1x128_0_1536)) (ix3 0 (x 1) (x 2)) from rfl).trans ((turnT_at _ _ _).trans ((turned0 m c t 1536 inb_S5120x3584_S5120x256_0_1536 inb_S1x3584_S1x128_0_1536 12 rfl _ _).trans ?_))
    congr 1 <;> refine Fin.ext ?_ <;> dsimp only <;> omega
  · rw [show x = ix3 0 (x 1) (x 2) from by funext a; fin_cases a; exacts [Subsingleton.elim (α := Fin 1) _ _, rfl, rfl]]
    refine (show _ = turnT (turned m c t (head1 m c t 1280 1408 inb_S5120x3584_S5120x256_0_1280 inb_S1x3584_S1x128_0_1408)) (ix3 0 (x 1) (x 2)) from rfl).trans ((turnT_at _ _ _).trans ((turned1 m c t 1280 1408 inb_S5120x3584_S5120x256_0_1280 inb_S1x3584_S1x128_0_1408 rfl 11 rfl _ _).trans ?_))
    congr 1 <;> refine Fin.ext ?_ <;> dsimp only <;> omega
  · rw [show x = ix3 0 (x 1) (x 2) from by funext a; fin_cases a; exacts [Subsingleton.elim (α := Fin 1) _ _, rfl, rfl]]
    refine (show _ = turnT (turned m c t (head0 m c t 1280 inb_S5120x3584_S5120x256_0_1280 inb_S1x3584_S1x128_0_1280)) (ix3 0 (x 1) (x 2)) from rfl).trans ((turnT_at _ _ _).trans ((turned0 m c t 1280 inb_S5120x3584_S5120x256_0_1280 inb_S1x3584_S1x128_0_1280 10 rfl _ _).trans ?_))
    congr 1 <;> refine Fin.ext ?_ <;> dsimp only <;> omega
  · rw [show x = ix3 0 (x 1) (x 2) from by funext a; fin_cases a; exacts [Subsingleton.elim (α := Fin 1) _ _, rfl, rfl]]
    refine (show _ = turnT (turned m c t (head1 m c t 1024 1152 inb_S5120x3584_S5120x256_0_1024 inb_S1x3584_S1x128_0_1152)) (ix3 0 (x 1) (x 2)) from rfl).trans ((turnT_at _ _ _).trans ((turned1 m c t 1024 1152 inb_S5120x3584_S5120x256_0_1024 inb_S1x3584_S1x128_0_1152 rfl 9 rfl _ _).trans ?_))
    congr 1 <;> refine Fin.ext ?_ <;> dsimp only <;> omega
  · rw [show x = ix3 0 (x 1) (x 2) from by funext a; fin_cases a; exacts [Subsingleton.elim (α := Fin 1) _ _, rfl, rfl]]
    refine (show _ = turnT (turned m c t (head0 m c t 1024 inb_S5120x3584_S5120x256_0_1024 inb_S1x3584_S1x128_0_1024)) (ix3 0 (x 1) (x 2)) from rfl).trans ((turnT_at _ _ _).trans ((turned0 m c t 1024 inb_S5120x3584_S5120x256_0_1024 inb_S1x3584_S1x128_0_1024 8 rfl _ _).trans ?_))
    congr 1 <;> refine Fin.ext ?_ <;> dsimp only <;> omega
  · rw [show x = ix3 0 (x 1) (x 2) from by funext a; fin_cases a; exacts [Subsingleton.elim (α := Fin 1) _ _, rfl, rfl]]
    refine (show _ = turnT (turned m c t (head1 m c t 768 896 inb_S5120x3584_S5120x256_0_768 inb_S1x3584_S1x128_0_896)) (ix3 0 (x 1) (x 2)) from rfl).trans ((turnT_at _ _ _).trans ((turned1 m c t 768 896 inb_S5120x3584_S5120x256_0_768 inb_S1x3584_S1x128_0_896 rfl 7 rfl _ _).trans ?_))
    congr 1 <;> refine Fin.ext ?_ <;> dsimp only <;> omega
  · rw [show x = ix3 0 (x 1) (x 2) from by funext a; fin_cases a; exacts [Subsingleton.elim (α := Fin 1) _ _, rfl, rfl]]
    refine (show _ = turnT (turned m c t (head0 m c t 768 inb_S5120x3584_S5120x256_0_768 inb_S1x3584_S1x128_0_768)) (ix3 0 (x 1) (x 2)) from rfl).trans ((turnT_at _ _ _).trans ((turned0 m c t 768 inb_S5120x3584_S5120x256_0_768 inb_S1x3584_S1x128_0_768 6 rfl _ _).trans ?_))
    congr 1 <;> refine Fin.ext ?_ <;> dsimp only <;> omega
  · rw [show x = ix3 0 (x 1) (x 2) from by funext a; fin_cases a; exacts [Subsingleton.elim (α := Fin 1) _ _, rfl, rfl]]
    refine (show _ = turnT (turned m c t (head1 m c t 512 640 inb_S5120x3584_S5120x256_0_512 inb_S1x3584_S1x128_0_640)) (ix3 0 (x 1) (x 2)) from rfl).trans ((turnT_at _ _ _).trans ((turned1 m c t 512 640 inb_S5120x3584_S5120x256_0_512 inb_S1x3584_S1x128_0_640 rfl 5 rfl _ _).trans ?_))
    congr 1 <;> refine Fin.ext ?_ <;> dsimp only <;> omega
  · rw [show x = ix3 0 (x 1) (x 2) from by funext a; fin_cases a; exacts [Subsingleton.elim (α := Fin 1) _ _, rfl, rfl]]
    refine (show _ = turnT (turned m c t (head0 m c t 512 inb_S5120x3584_S5120x256_0_512 inb_S1x3584_S1x128_0_512)) (ix3 0 (x 1) (x 2)) from rfl).trans ((turnT_at _ _ _).trans ((turned0 m c t 512 inb_S5120x3584_S5120x256_0_512 inb_S1x3584_S1x128_0_512 4 rfl _ _).trans ?_))
    congr 1 <;> refine Fin.ext ?_ <;> dsimp only <;> omega
  · rw [show x = ix3 0 (x 1) (x 2) from by funext a; fin_cases a; exacts [Subsingleton.elim (α := Fin 1) _ _, rfl, rfl]]
    refine (show _ = turnT (turned m c t (head1 m c t 256 384 inb_S5120x3584_S5120x256_0_256 inb_S1x3584_S1x128_0_384)) (ix3 0 (x 1) (x 2)) from rfl).trans ((turnT_at _ _ _).trans ((turned1 m c t 256 384 inb_S5120x3584_S5120x256_0_256 inb_S1x3584_S1x128_0_384 rfl 3 rfl _ _).trans ?_))
    congr 1 <;> refine Fin.ext ?_ <;> dsimp only <;> omega
  · rw [show x = ix3 0 (x 1) (x 2) from by funext a; fin_cases a; exacts [Subsingleton.elim (α := Fin 1) _ _, rfl, rfl]]
    refine (show _ = turnT (turned m c t (head0 m c t 256 inb_S5120x3584_S5120x256_0_256 inb_S1x3584_S1x128_0_256)) (ix3 0 (x 1) (x 2)) from rfl).trans ((turnT_at _ _ _).trans ((turned0 m c t 256 inb_S5120x3584_S5120x256_0_256 inb_S1x3584_S1x128_0_256 2 rfl _ _).trans ?_))
    congr 1 <;> refine Fin.ext ?_ <;> dsimp only <;> omega
  · rw [show x = ix3 0 (x 1) (x 2) from by funext a; fin_cases a; exacts [Subsingleton.elim (α := Fin 1) _ _, rfl, rfl]]
    refine (show _ = turnT (turned m c t (head1 m c t 0 128 inb_S5120x3584_S5120x256_0_0 inb_S1x3584_S1x128_0_128)) (ix3 0 (x 1) (x 2)) from rfl).trans ((turnT_at _ _ _).trans ((turned1 m c t 0 128 inb_S5120x3584_S5120x256_0_0 inb_S1x3584_S1x128_0_128 rfl 1 rfl _ _).trans ?_))
    congr 1 <;> refine Fin.ext ?_ <;> dsimp only <;> omega
  · rw [show x = ix3 0 (x 1) (x 2) from by funext a; fin_cases a; exacts [Subsingleton.elim (α := Fin 1) _ _, rfl, rfl]]
    refine (show _ = turnT (turned m c t (head0 m c t 0 inb_S5120x3584_S5120x256_0_0 inb_S1x3584_S1x128_0_0)) (ix3 0 (x 1) (x 2)) from rfl).trans ((turnT_at _ _ _).trans ((turned0 m c t 0 inb_S5120x3584_S5120x256_0_0 inb_S1x3584_S1x128_0_0 0 rfl _ _).trans ?_))
    congr 1 <;> refine Fin.ext ?_ <;> dsimp only <;> omega

end Cert.Qkv1Ideal.RefValue

end
-- ==== Proof.Qkv1Value.lean ====
module

public import proofs.«01_k».proof.Proof.Qkv1RefHeads
public import proofs.«01_k».proof.Proof.Qkv1Values
public import proofs.«01_k».proof.Proof.Qkv1Keys
public import proofs.«01_k».proof.Proof.Qkv1Queries

@[expose] public section

set_option maxRecDepth 16384

noncomputable section

/-! # The first projection's six arrays after the run -/

namespace Cert.Qkv1Ideal.RefValue

open Idealize.ShloMosaic Idealize.ShloMosaic.TcCoe Idealize.SL.Sem
open Idealize.ShloMosaic.Pipeline (Dat)
open Cert.Qkv1Ideal Cert.Qkv1Ideal.Gen Cert.RowNorm Cert.Quantise
variable (m : (ℓ : Loc nD τ sig) → Buf (Elt Ideal) ℓ)

/-- The grid's 32 points walk the row blocks: point `t` has rows `512 t … 512 t + 511`. -/
theorem idx : ∀ t : Fin cfg0.N, win0_0.index t = ![t.val, 0] ∧ win0_1.index t = ![0, 0]
    ∧ win0_2.index t = ![0, 0] ∧ win0_3.index t = ![0, 0] ∧ win0_4.index t = ![t.val, 0] ∧ win0_5.index t = ![t.val, 0]
    ∧ win0_6.index t = ![t.val, 0] ∧ win0_7.index t = ![t.val / 16, 0, t.val % 16]
    ∧ win0_8.index t = ![t.val / 16, 0, t.val % 16] ∧ win0_9.index t = ![t.val, 0] ∧ win0_10.index t = ![t.val, 0]
    ∧ win0_11.index t = ![t.val / 16, 0, t.val % 16] ∧ t.val < 32 :=
  (by decide +kernel : ∀ t : Fin grid0.N, _)

section
open Cert.Qkv1RefIdeal.Run

variable (a0 : Vec Ideal S16384x5120 .bf16) (a1 : Vec Ideal S1x5120 .f32) (a2 : Vec Ideal S5120x3584 .fp8e4m3)
  (a3 : Vec Ideal S1x3584 .f32) (a4 a5 : Vec Ideal S16384x64 .f32)

/-- The reference's product, its spread scales and its projection, with the loads of whole arrays read. -/
theorem ref_load16 : Cert.Qkv1RefIdeal.Gen.k0_pay16 (F := Ideal) a0 a1 a2 a3 a4 a5 = Cert.Qkv1RefIdeal.Gen.k0_pay9 (F := Ideal) a0 a1 a2 := by
  unfold Cert.Qkv1RefIdeal.Gen.k0_pay16
  rw [View.ld_unit_zero (S := S16384x5120) hz0 _ a0, View.ld_unit_zero (S := S1x5120) hz1 _ a1, View.ld_unit_zero (S := S5120x3584) hz2 _ a2]

theorem ref_load17 : Cert.Qkv1RefIdeal.Gen.k0_pay17 (F := Ideal) a0 a1 a2 a3 a4 a5 = Cert.Qkv1RefIdeal.Gen.k0_pay10 (F := Ideal) a0 a1 := by
  unfold Cert.Qkv1RefIdeal.Gen.k0_pay17
  rw [View.ld_unit_zero (S := S16384x5120) hz0 _ a0, View.ld_unit_zero (S := S1x5120) hz1 _ a1]

theorem ref_load18 : Cert.Qkv1RefIdeal.Gen.k0_pay18 (F := Ideal) a0 a1 a2 a3 a4 a5
    = Cert.Qkv1RefIdeal.Gen.k0_pay11 (F := Ideal) (Cert.Qkv1RefIdeal.Gen.k0_pay9 (F := Ideal) a0 a1 a2) (Cert.Qkv1RefIdeal.Gen.k0_pay10 (F := Ideal) a0 a1) a3 := by
  unfold Cert.Qkv1RefIdeal.Gen.k0_pay18
  rw [View.ld_unit_zero (S := S1x3584) hz3 _ a3, ref_load16, ref_load17]

end

/-- The blocks' entries are the arguments' entries at the point's rows. -/
theorem brow_eq (c : Dev nD) (t : Fin cfg0.N) (r : Fin 512) (R : Fin 16384) (hR : R.val = t.val * 512 + r.val) :
    brow m c t r = fun j => m ((c : Thread nD τ).loc main_arg0) (ix2 R j) := by
  funext j
  unfold brow
  blk_point [iblk, V, idx t]

theorem bw_eq (c : Dev nD) (t : Fin cfg0.N) : bw m c t = fun j => m ((c : Thread nD τ).loc main_arg1) (ix2 0 j) := by
  funext j
  unfold bw
  blk_point [iblk, V, idx t]

theorem bweight_eq (c : Dev nD) (t : Fin cfg0.N) (k : Fin 5120) (n : Fin 3584) : iblk m c 2 t (ix2 k n) = m ((c : Thread nD τ).loc main_arg2) (ix2 k n) := by
  blk_point [iblk, V, idx t]

theorem bwscale_eq (c : Dev nD) (t : Fin cfg0.N) (n : Fin 3584) : iblk m c 3 t (ix2 0 n) = m ((c : Thread nD τ).loc main_arg3) (ix2 0 n) := by
  blk_point [iblk, V, idx t]

theorem bcos_eq (c : Dev nD) (t : Fin cfg0.N) (r : Fin 512) (R : Fin 16384) (hR : R.val = t.val * 512 + r.val) (i : Fin 64) :
    iblk m c 4 t (ix2 r i) = m ((c : Thread nD τ).loc main_arg4) (ix2 R i) := by
  blk_point [iblk, V, idx t]

theorem bsin_eq (c : Dev nD) (t : Fin cfg0.N) (r : Fin 512) (R : Fin 16384) (hR : R.val = t.val * 512 + r.val) (i : Fin 64) :
    iblk m c 5 t (ix2 r i) = m ((c : Thread nD τ).loc main_arg5) (ix2 R i) := by
  blk_point [iblk, V, idx t]

theorem bcode_eq (c : Dev nD) (t : Fin cfg0.N) (r : Fin 512) (R : Fin 16384) (hR : R.val = t.val * 512 + r.val) (j : Fin 5120) :
    bcode m c t r j = Cert.Qkv1RefIdeal.Gen.k0_pay7 (F := Ideal) (m ((c : Thread nD τ).loc main_arg0)) (m ((c : Thread nD τ).loc main_arg1)) (ix2 R j) := by
  unfold bcode
  rw [codeMul_eq, brow_eq m c t r R hR, bw_eq, ← ref_code]

theorem bscale_eq (c : Dev nD) (t : Fin cfg0.N) (r : Fin 512) (R : Fin 16384) (hR : R.val = t.val * 512 + r.val) :
    bscale m c t r = Cert.Qkv1RefIdeal.Gen.k0_pay6 (F := Ideal) (m ((c : Thread nD τ).loc main_arg0)) (m ((c : Thread nD τ).loc main_arg1)) (ix2 R 0) := by
  unfold bscale
  rw [brow_eq m c t r R hR, bw_eq, ← ref_scale]

/-- A block's projection is the reference's at the point's rows. -/
theorem bproj_eq (c : Dev nD) (t : Fin cfg0.N) (r : Fin 512) (R : Fin 16384) (hR : R.val = t.val * 512 + r.val) (n : Fin 3584) :
    bproj m c t r n = Cert.Qkv1RefIdeal.Gen.k0_pay11 (F := Ideal) (Cert.Qkv1RefIdeal.Gen.k0_pay9 (F := Ideal) (m ((c : Thread nD τ).loc main_arg0)) (m ((c : Thread nD τ).loc main_arg1)) (m ((c : Thread nD τ).loc main_arg2))) (Cert.Qkv1RefIdeal.Gen.k0_pay10 (F := Ideal) (m ((c : Thread nD τ).loc main_arg0)) (m ((c : Thread nD τ).loc main_arg1))) (m ((c : Thread nD τ).loc main_arg3)) (ix2 R n) := by
  rw [ref_proj]
  unfold bproj proj
  rw [bwscale_eq, bscale_eq m c t r R hR, ref_scale]
  have e : (∑ k, bcode m c t r k * iblk m c 2 t (ix2 k n) : EReal)
      = ∑ k, code (normed (fun j => m ((c : Thread nD τ).loc main_arg0) (ix2 R j)) (fun j => m ((c : Thread nD τ).loc main_arg1) (ix2 0 j)) k) (scale (amax (normed (fun j => m ((c : Thread nD τ).loc main_arg0) (ix2 R j)) (fun j => m ((c : Thread nD τ).loc main_arg1) (ix2 0 j))))) * m ((c : Thread nD τ).loc main_arg2) (ix2 k n) :=
    Finset.sum_congr rfl fun k _ => by rw [bcode_eq m c t r R hR, ref_code, bweight_eq]
  rw [e]

/-- A block's head of queries or keys is the reference's at the point's rows. -/
theorem bhead_eq (c : Dev nD) (t : Fin cfg0.N) (r : Fin 512) (R : Fin 16384) (hR : R.val = t.val * 512 + r.val) (hd : Fin 28) (o : ℕ)
    (ho : o = 128 * hd.val) (hlt : ∀ l : Fin 128, o + l.val < 3584) (l : Fin 128) :
    bhead m c t r hd l = unitRow (rot (fun l => Cert.Qkv1RefIdeal.Gen.k0_pay11 (F := Ideal) (Cert.Qkv1RefIdeal.Gen.k0_pay9 (F := Ideal) (m ((c : Thread nD τ).loc main_arg0)) (m ((c : Thread nD τ).loc main_arg1)) (m ((c : Thread nD τ).loc main_arg2))) (Cert.Qkv1RefIdeal.Gen.k0_pay10 (F := Ideal) (m ((c : Thread nD τ).loc main_arg0)) (m ((c : Thread nD τ).loc main_arg1))) (m ((c : Thread nD τ).loc main_arg3))
        (ix2 R ⟨o + l.val, hlt l⟩)) (fun i => m ((c : Thread nD τ).loc main_arg4) (ix2 R i)) (fun i => m ((c : Thread nD τ).loc main_arg5) (ix2 R i))) l := by
  subst ho
  unfold bhead
  rw [show (fun i => iblk m c 4 t (ix2 r i)) = fun i => m ((c : Thread nD τ).loc main_arg4) (ix2 R i) from funext (bcos_eq m c t r R hR),
    show (fun i => iblk m c 5 t (ix2 r i)) = fun i => m ((c : Thread nD τ).loc main_arg5) (ix2 R i) from funext (bsin_eq m c t r R hR)]
  exact congrArg (fun f => unitRow (rot f _ _) l) (funext fun l => bproj_eq m c t r R hR _)

theorem tile6 (c : Dev nD) (t : Fin cfg0.N) (y : S512x5120.Idx) :
    (outsAt0 m c t).1 y = Cert.Qkv1RefIdeal.Run.G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 6).blk t).view.emb y) := by
  have ht : t.val < 32 := (idx t).2.2.2.2.2.2.2.2.2.2.2.2
  obtain_idx R : S16384x5120 := [t.val * 512 + (y 0 : ℕ), (y 1 : ℕ)] with hR
  have e : ((cfg0.win 6).blk t).view.emb y = ix2 (R 0) (y 1) := by blk_ext [idx t]
  rw [e]
  exact (block6 m c t y).trans (bcode_eq m c t (y 0) (R 0) hR0 (y 1))

theorem tile7 (c : Dev nD) (t : Fin cfg0.N) (y : S1x1x512.Idx) :
    (outsAt0 m c t).2.1 y = Cert.Qkv1RefIdeal.Run.G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 7).blk t).view.emb y) := by
  have ht : t.val < 32 := (idx t).2.2.2.2.2.2.2.2.2.2.2.2
  have hy : (y 2).val < 512 := (y 2).isLt
  obtain_idx R : S2x1x8192 := [t.val / 16, 0, t.val % 16 * 512 + (y 2 : ℕ)] with hR
  have e : ((cfg0.win 7).blk t).view.emb y = ix3 (R 0) 0 (R 2) := by blk_ext [idx t]
  have e' : y = ix3 0 0 (y 2) := by
    funext a
    fin_cases a
    · exact Subsingleton.elim (α := Fin 1) _ _
    · exact Subsingleton.elim (α := Fin 1) _ _
    · rfl
  rw [e]
  have hs := ref_scales_of (m ((c : Thread nD τ).loc main_arg0)) (m ((c : Thread nD τ).loc main_arg1)) (R 0) (R 2) ⟨t.val * 512 + (y 2).val, by omega⟩ (by dsimp only; omega)
  exact (congrArg (outsAt0 m c t).2.1 e').trans ((block7 m c t (y 2)).trans
    ((bscale_eq m c t (y 2) ⟨t.val * 512 + (y 2).val, by omega⟩ rfl).trans hs.symm))

theorem tile8_at (c : Dev nD) (t : Fin cfg0.N) (b : Fin 2) (n : Fin 2560) (s : Fin 8192) (r : Fin 512) (R : Fin 16384)
    (hR : R.val = t.val * 512 + r.val) (h : R.val = b.val * 8192 + s.val) :
    bhead m c t r ⟨n.val / 128, by omega⟩ ⟨n.val % 128, by omega⟩ = Cert.Qkv1RefIdeal.Run.G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 b n s) := by
  unfold Cert.Qkv1RefIdeal.Run.G8
  rw [ref_load16, ref_load17, ref_qt _ _ _ _ _ b n s R h]
  exact bhead_eq m c t r R hR _ _ (by dsimp only; omega) (fun l => by omega) _

theorem tile8 (c : Dev nD) (t : Fin cfg0.N) (y : S1x2560x512.Idx) :
    (outsAt0 m c t).2.2.1 y = Cert.Qkv1RefIdeal.Run.G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 8).blk t).view.emb y) := by
  have ht : t.val < 32 := (idx t).2.2.2.2.2.2.2.2.2.2.2.2
  have hy : (y 2).val < 512 := (y 2).isLt
  obtain_idx R : S2x2560x8192 := [t.val / 16, (y 1 : ℕ), t.val % 16 * 512 + (y 2 : ℕ)] with hR
  have e : ((cfg0.win 8).blk t).view.emb y = ix3 (R 0) (y 1) (R 2) := by blk_ext [idx t]
  rw [e]
  exact (block8 m c t y).trans (tile8_at m c t (R 0) (y 1) (R 2) (y 2) ⟨t.val * 512 + (y 2).val, by omega⟩ rfl (by dsimp only; omega))

theorem tile9_at (c : Dev nD) (t : Fin cfg0.N) (n : Fin 512) (r : Fin 512) (R : Fin 16384) (hR : R.val = t.val * 512 + r.val) :
    bhead m c t r ⟨20 + n.val / 128, by omega⟩ ⟨n.val % 128, by omega⟩ = Cert.Qkv1RefIdeal.Run.G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 R n) := by
  unfold Cert.Qkv1RefIdeal.Run.G9
  rw [ref_load16, ref_load17, ref_k]
  exact bhead_eq m c t r R hR _ _ (by dsimp only; omega) (fun l => by omega) _

theorem tile9 (c : Dev nD) (t : Fin cfg0.N) (y : S512x512.Idx) :
    (outsAt0 m c t).2.2.2.1 y = Cert.Qkv1RefIdeal.Run.G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 9).blk t).view.emb y) := by
  have ht : t.val < 32 := (idx t).2.2.2.2.2.2.2.2.2.2.2.2
  obtain_idx R : S16384x512 := [t.val * 512 + (y 0 : ℕ), (y 1 : ℕ)] with hR
  have e : ((cfg0.win 9).blk t).view.emb y = ix2 (R 0) (y 1) := by blk_ext [idx t]
  rw [e]
  exact (block9 m c t y).trans (tile9_at m c t (y 1) (y 0) (R 0) hR0)

theorem tile10_at (c : Dev nD) (t : Fin cfg0.N) (n : Fin 512) (r : Fin 512) (R : Fin 16384) (hR : R.val = t.val * 512 + r.val) :
    bproj m c t r ⟨3072 + n.val, by omega⟩ = Cert.Qkv1RefIdeal.Run.G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 R n) := by
  unfold Cert.Qkv1RefIdeal.Run.G10
  rw [ref_load18, ref_v]
  exact bproj_eq m c t r R hR _

theorem tile10 (c : Dev nD) (t : Fin cfg0.N) (y : S512x512.Idx) :
    (outsAt0 m c t).2.2.2.2.1 y = Cert.Qkv1RefIdeal.Run.G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 10).blk t).view.emb y) := by
  have ht : t.val < 32 := (idx t).2.2.2.2.2.2.2.2.2.2.2.2
  obtain_idx R : S16384x512 := [t.val * 512 + (y 0 : ℕ), (y 1 : ℕ)] with hR
  have e : ((cfg0.win 10).blk t).view.emb y = ix2 (R 0) (y 1) := by blk_ext [idx t]
  rw [e]
  exact (block10 m c t y).trans (tile10_at m c t (y 1) (y 0) (R 0) hR0)

theorem tile11_at (c : Dev nD) (t : Fin cfg0.N) (b : Fin 2) (n : Fin 512) (s : Fin 8192) (r : Fin 512) (R : Fin 16384)
    (hR : R.val = t.val * 512 + r.val) (h : R.val = b.val * 8192 + s.val) :
    bproj m c t r ⟨3072 + n.val, by omega⟩ = Cert.Qkv1RefIdeal.Run.G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 b n s) := by
  unfold Cert.Qkv1RefIdeal.Run.G11
  rw [ref_load18, ref_vt _ b n s R h]
  exact bproj_eq m c t r R hR _

theorem tile11 (c : Dev nD) (t : Fin cfg0.N) (y : S1x512x512.Idx) :
    (outsAt0 m c t).2.2.2.2.2 y = Cert.Qkv1RefIdeal.Run.G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 11).blk t).view.emb y) := by
  have ht : t.val < 32 := (idx t).2.2.2.2.2.2.2.2.2.2.2.2
  have hy : (y 2).val < 512 := (y 2).isLt
  obtain_idx R : S2x512x8192 := [t.val / 16, (y 1 : ℕ), t.val % 16 * 512 + (y 2 : ℕ)] with hR
  have e : ((cfg0.win 11).blk t).view.emb y = ix3 (R 0) (y 1) (R 2) := by blk_ext [idx t]
  rw [e]
  exact (block11 m c t y).trans (tile11_at m c t (R 0) (y 1) (R 2) (y 2) ⟨t.val * 512 + (y 2).val, by omega⟩ rfl (by dsimp only; omega))

/-- The array of codes after the run. -/
theorem final6 (c : Dev nD) : (dats m 0 c).arrAt 6 cfg0.N
    = Cert.Qkv1RefIdeal.Run.G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  exact tile6 m c t y

/-- The array of scales after the run. -/
theorem final7 (c : Dev nD) : (dats m 0 c).arrAt 7 cfg0.N
    = Cert.Qkv1RefIdeal.Run.G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  exact tile7 m c t y

/-- The array of transposed queries after the run. -/
theorem final8 (c : Dev nD) : (dats m 0 c).arrAt 8 cfg0.N
    = Cert.Qkv1RefIdeal.Run.G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t _ y => ?_
  blk_simp
  rw [after0_8]
  exact tile8 m c t y

/-- The array of keys after the run. -/
theorem final9 (c : Dev nD) : (dats m 0 c).arrAt 9 cfg0.N
    = Cert.Qkv1RefIdeal.Run.G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t _ y => ?_
  blk_simp
  rw [after0_9]
  exact tile9 m c t y

/-- The array of values after the run. -/
theorem final10 (c : Dev nD) : (dats m 0 c).arrAt 10 cfg0.N
    = Cert.Qkv1RefIdeal.Run.G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 10 _ (by decide +kernel) fun t _ y => ?_
  blk_simp
  rw [after0_10]
  exact tile10 m c t y

/-- The array of transposed values after the run. -/
theorem final11 (c : Dev nD) : (dats m 0 c).arrAt 11 cfg0.N
    = Cert.Qkv1RefIdeal.Run.G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 11 _ (by decide +kernel) fun t _ y => ?_
  blk_simp
  rw [after0_11]
  exact tile11 m c t y

end Cert.Qkv1Ideal.RefValue

end
-- ==== Proof.Qkv1Claim.lean ====
module

public import proofs.«01_k».proof.Defs
public import proofs.«01_k».proof.Proof.Gen.Qkv1Ideal.Value
public import proofs.«01_k».proof.Proof.Qkv1RefRun
public import proofs.«01_k».proof.Proof.Qkv1Value

/-! The first query, key and value projection and its reference end with the same six arrays, at the ideal instance. -/

@[expose] public section

set_option maxRecDepth 16384

noncomputable section

namespace Cert.Proof.Qkv1Claims

open Idealize.ShloMosaic Idealize.SL.Sem

/-- Kernel and reference end with the same codes, scales, queries, keys and values. -/
theorem algebraic : Cert.algebraic_Qkv1Ideal_Qkv1RefIdeal := by
  pair_intro
  · run_from Cert.Qkv1Ideal.Value.run_blocks m g
  · refine Idealize.ShloMosaic.θ_run_mono (Cert.Qkv1RefIdeal.Run.run m' g') ?_
    intro r hr c
    obtain ⟨a0, a1, a2, a3, a4, a5⟩ := hagree c
    obtain ⟨h0, h1, h2, h3, h4, h5, kept⟩ := hr c
    rw [a0, a1, a2, a3, a4, a5] at h0 h1 h2 h3 h4 h5
    exact ⟨h0.trans (Cert.Qkv1Ideal.RefValue.final6 m c).symm, h1.trans (Cert.Qkv1Ideal.RefValue.final7 m c).symm,
      h2.trans (Cert.Qkv1Ideal.RefValue.final8 m c).symm, h3.trans (Cert.Qkv1Ideal.RefValue.final9 m c).symm,
      h4.trans (Cert.Qkv1Ideal.RefValue.final10 m c).symm, h5.trans (Cert.Qkv1Ideal.RefValue.final11 m c).symm, kept⟩

end Cert.Proof.Qkv1Claims

end
-- ==== Proof.lean ====
module

public import proofs.«01_k».proof.Defs
public import proofs.«01_k».proof.Proof.Gen.Out2
public import proofs.«01_k».proof.Proof.Gen.Out2.Frame
public import proofs.«01_k».proof.Proof.Gen.Out2Ideal
public import proofs.«01_k».proof.Proof.Gen.Out2Ideal.Frame
public import proofs.«01_k».proof.Proof.Gen.Out2RefIdeal
public import proofs.«01_k».proof.Proof.Gen.Out2RefIdeal.Frame
public import proofs.«01_k».proof.Proof.Out2Claim
public import proofs.«01_k».proof.Proof.Gen.Qkv2
public import proofs.«01_k».proof.Proof.Gen.Qkv2.Frame
public import proofs.«01_k».proof.Proof.Gen.Qkv2Ideal
public import proofs.«01_k».proof.Proof.Gen.Qkv2Ideal.Frame
public import proofs.«01_k».proof.Proof.Gen.Qkv2RefIdeal
public import proofs.«01_k».proof.Proof.Gen.Qkv2RefIdeal.Frame
public import proofs.«01_k».proof.Proof.Qkv2Claim
public import proofs.«01_k».proof.Proof.Gen.Out1
public import proofs.«01_k».proof.Proof.Gen.Out1.Frame
public import proofs.«01_k».proof.Proof.Gen.Out1Ideal
public import proofs.«01_k».proof.Proof.Gen.Out1Ideal.Frame
public import proofs.«01_k».proof.Proof.Gen.Out1RefIdeal
public import proofs.«01_k».proof.Proof.Gen.Out1RefIdeal.Frame
public import proofs.«01_k».proof.Proof.Out1Claim
public import proofs.«01_k».proof.Proof.Gen.Qkv1
public import proofs.«01_k».proof.Proof.Gen.Qkv1.Frame
public import proofs.«01_k».proof.Proof.Gen.Qkv1Ideal
public import proofs.«01_k».proof.Proof.Gen.Qkv1Ideal.Frame
public import proofs.«01_k».proof.Proof.Gen.Qkv1RefIdeal
public import proofs.«01_k».proof.Proof.Gen.Qkv1RefIdeal.Frame
public import proofs.«01_k».proof.Proof.Qkv1Claim
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.Out2.Gen.facts,
    Cert.Out2Ideal.Gen.facts,
    Cert.Out2RefIdeal.Gen.facts,
    Cert.Qkv2.Gen.facts,
    Cert.Qkv2Ideal.Gen.facts,
    Cert.Qkv2RefIdeal.Gen.facts,
    Cert.Out1.Gen.facts,
    Cert.Out1Ideal.Gen.facts,
    Cert.Out1RefIdeal.Gen.facts,
    Cert.Qkv1.Gen.facts,
    Cert.Qkv1Ideal.Gen.facts,
    Cert.Qkv1RefIdeal.Gen.facts,
    fun m ρ _ => Cert.Out2.Gen.frame m ρ,
    fun m ρ _ => Cert.Out2Ideal.Gen.frame m ρ,
    fun m ρ _ => Cert.Out2RefIdeal.Gen.frame m ρ,
    fun m ρ _ => Cert.Qkv2.Gen.frame m ρ,
    fun m ρ _ => Cert.Qkv2Ideal.Gen.frame m ρ,
    fun m ρ _ => Cert.Qkv2RefIdeal.Gen.frame m ρ,
    fun m ρ _ => Cert.Out1.Gen.frame m ρ,
    fun m ρ _ => Cert.Out1Ideal.Gen.frame m ρ,
    fun m ρ _ => Cert.Out1RefIdeal.Gen.frame m ρ,
    fun m ρ _ => Cert.Qkv1.Gen.frame m ρ,
    fun m ρ _ => Cert.Qkv1Ideal.Gen.frame m ρ,
    fun m ρ _ => Cert.Qkv1RefIdeal.Gen.frame m ρ,
    trivial,
    Out2Claims.algebraic,
    trivial,
    Qkv2Claims.algebraic,
    IdealRules.named_const.statement Cert.Out1Ideal.κ "inv_d" .f32 0x394CCCCD#32 ((1 / 5120 : ℝ) : EReal) rfl,
    Out1Claims.algebraic,
    IdealRules.named_const.statement Cert.Qkv1Ideal.κ "inv_d" .f32 0x394CCCCD#32 ((1 / 5120 : ℝ) : EReal) rfl,
    Qkv1Claims.algebraic⟩

end Cert.Proof

end
